-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideReferenceIdeal (m : (ℓ : Loc Cert.WideReferenceIdeal.nD Cert.WideReferenceIdeal.τ Cert.WideReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Up [hPre_up_experts : Cert.Pre_up_experts.Facts] (m : (ℓ : Loc Cert.Up.nD Cert.Up.τ Cert.Up.sig) → Buf (Elt Bits) ℓ) : Prop :=
  ∀ c : Dev Cert.Up.nD,
    (Cert.Pre_up_experts.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5))) = (fun _ => 1#1)

def Pre_UpIdeal [hPre_up_experts : Cert.Pre_up_experts.Facts] (m : (ℓ : Loc Cert.UpIdeal.nD Cert.UpIdeal.τ Cert.UpIdeal.sig) → Buf (Elt Ideal) ℓ) : Prop :=
  ∀ c : Dev Cert.UpIdeal.nD,
    (Cert.Pre_up_experts.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_experts [hPre_up_experts : Cert.Pre_up_experts.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_experts.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))) = (fun _ => 1#1)

def Pre_Down [hPre_down_experts : Cert.Pre_down_experts.Facts] (m : (ℓ : Loc Cert.Down.nD Cert.Down.τ Cert.Down.sig) → Buf (Elt Bits) ℓ) : Prop :=
  ∀ c : Dev Cert.Down.nD,
    (Cert.Pre_down_experts.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_experts : Cert.Pre_down_experts.Facts] (m : (ℓ : Loc Cert.DownIdeal.nD Cert.DownIdeal.τ Cert.DownIdeal.sig) → Buf (Elt Ideal) ℓ) : Prop :=
  ∀ c : Dev Cert.DownIdeal.nD,
    (Cert.Pre_down_experts.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_experts [hPre_down_experts : Cert.Pre_down_experts.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_experts.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_numbers [hPre_numbers : Cert.Pre_numbers.Facts] (m : (ℓ : Loc Cert.RouterIdeal.nD Cert.RouterIdeal.τ Cert.RouterIdeal.sig) → Buf (Elt Ideal) ℓ) : Prop :=
  ∀ c : Dev Cert.RouterIdeal.nD,
    (Cert.Pre_numbers.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_numbers [hPre_numbers : Cert.Pre_numbers.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_numbers.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1)
      ∧ r.2.mem ((c.tc : Thread Cert.Wide.nD Cert.Wide.τ).loc Cert.Wide.main_arg2) = m ((c.tc : Thread Cert.Wide.nD Cert.Wide.τ).loc Cert.Wide.main_arg2))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
      ∧ r.2.mem ((c.tc : Thread Cert.WideIdeal.nD Cert.WideIdeal.τ).loc Cert.WideIdeal.main_arg2) = m ((c.tc : Thread Cert.WideIdeal.nD Cert.WideIdeal.τ).loc Cert.WideIdeal.main_arg2))
      ∧ r.2.sem = fun _ => 0)

def quiescent_WideReferenceIdeal [hWideReferenceIdeal : Cert.WideReferenceIdeal.Facts] : Prop :=
  ∀ (m : (ℓ : Loc Cert.WideReferenceIdeal.nD Cert.WideReferenceIdeal.τ Cert.WideReferenceIdeal.sig) → Buf (Elt Ideal) ℓ) (g : Dev Cert.WideReferenceIdeal.nD → PrngReg), Pre_WideReferenceIdeal m →
    θ_run (Cert.WideReferenceIdeal.defs (F := Ideal)) (onTc (τ := Cert.WideReferenceIdeal.τ) (Cert.WideReferenceIdeal.main (F := Ideal))) ⟨m, fun _ => 0, g⟩ (fun r => (∀ c : Dev Cert.WideReferenceIdeal.nD,
      r.2.mem ((c.tc : Thread Cert.WideReferenceIdeal.nD Cert.WideReferenceIdeal.τ).loc Cert.WideReferenceIdeal.main_arg0) = m ((c.tc : Thread Cert.WideReferenceIdeal.nD Cert.WideReferenceIdeal.τ).loc Cert.WideReferenceIdeal.main_arg0)
      ∧ r.2.mem ((c.tc : Thread Cert.WideReferenceIdeal.nD Cert.WideReferenceIdeal.τ).loc Cert.WideReferenceIdeal.main_arg1) = m ((c.tc : Thread Cert.WideReferenceIdeal.nD Cert.WideReferenceIdeal.τ).loc Cert.WideReferenceIdeal.main_arg1)
      ∧ r.2.mem ((c.tc : Thread Cert.WideReferenceIdeal.nD Cert.WideReferenceIdeal.τ).loc Cert.WideReferenceIdeal.main_arg2) = m ((c.tc : Thread Cert.WideReferenceIdeal.nD Cert.WideReferenceIdeal.τ).loc Cert.WideReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_Up [hUp : Cert.Up.Facts] [hPre_up_experts : Cert.Pre_up_experts.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] [hPre_up_experts : Cert.Pre_up_experts.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_UpReferenceIdeal_pre_up_experts [hUpReferenceIdeal : Cert.UpReferenceIdeal.Facts] [hPre_up_experts : Cert.Pre_up_experts.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_experts m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_Down [hDown : Cert.Down.Facts] [hPre_down_experts : Cert.Pre_down_experts.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_experts : Cert.Pre_down_experts.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_down_experts [hDownReferenceIdeal : Cert.DownReferenceIdeal.Facts] [hPre_down_experts : Cert.Pre_down_experts.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_experts m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4)
      ∧ r.2.mem ((c.tc : Thread Cert.HeadsReferenceIdeal.nD Cert.HeadsReferenceIdeal.τ).loc Cert.HeadsReferenceIdeal.main_arg5) = m ((c.tc : Thread Cert.HeadsReferenceIdeal.nD Cert.HeadsReferenceIdeal.τ).loc Cert.HeadsReferenceIdeal.main_arg5)
      ∧ r.2.mem ((c.tc : Thread Cert.HeadsReferenceIdeal.nD Cert.HeadsReferenceIdeal.τ).loc Cert.HeadsReferenceIdeal.main_arg6) = m ((c.tc : Thread Cert.HeadsReferenceIdeal.nD Cert.HeadsReferenceIdeal.τ).loc Cert.HeadsReferenceIdeal.main_arg6)
      ∧ r.2.mem ((c.tc : Thread Cert.HeadsReferenceIdeal.nD Cert.HeadsReferenceIdeal.τ).loc Cert.HeadsReferenceIdeal.main_arg7) = m ((c.tc : Thread Cert.HeadsReferenceIdeal.nD Cert.HeadsReferenceIdeal.τ).loc Cert.HeadsReferenceIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterIdeal_pre_numbers [hRouterIdeal : Cert.RouterIdeal.Facts] [hPre_numbers : Cert.Pre_numbers.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_numbers m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4))
      ∧ r.2.sem = fun _ => 0)

def quiescent_RouterReferenceIdeal_pre_numbers [hRouterReferenceIdeal : Cert.RouterReferenceIdeal.Facts] [hPre_numbers : Cert.Pre_numbers.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_numbers m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Wide_WideIdeal : Prop :=
  True

def algebraic_WideIdeal_WideReferenceIdeal [hWideIdeal : Cert.WideIdeal.Facts] [hWideReferenceIdeal : Cert.WideReferenceIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideReferenceIdeal.nD Cert.WideReferenceIdeal.τ Cert.WideReferenceIdeal.sig) → Buf (Elt Ideal) ℓ) (g' : Dev Cert.WideReferenceIdeal.nD → PrngReg), Pre_WideIdeal m →
    (∀ c : Dev Cert.WideIdeal.nD,
      m' ((c.tc : Thread Cert.WideReferenceIdeal.nD Cert.WideReferenceIdeal.τ).loc Cert.WideReferenceIdeal.main_arg0) = m ((c.tc : Thread Cert.WideIdeal.nD Cert.WideIdeal.τ).loc Cert.WideIdeal.main_arg0)
      ∧ m' ((c.tc : Thread Cert.WideReferenceIdeal.nD Cert.WideReferenceIdeal.τ).loc Cert.WideReferenceIdeal.main_arg1) = m ((c.tc : Thread Cert.WideIdeal.nD Cert.WideIdeal.τ).loc Cert.WideIdeal.main_arg1)
      ∧ m' ((c.tc : Thread Cert.WideReferenceIdeal.nD Cert.WideReferenceIdeal.τ).loc Cert.WideReferenceIdeal.main_arg2) = m ((c.tc : Thread Cert.WideIdeal.nD Cert.WideIdeal.τ).loc Cert.WideIdeal.main_arg2)) →
    ∃ (v0 : (c : Dev Cert.WideIdeal.nD) → Buf (Elt Ideal) ((c.tc : Thread Cert.WideIdeal.nD Cert.WideIdeal.τ).loc Cert.WideIdeal.main_v11)) (v1 : (c : Dev Cert.WideIdeal.nD) → Buf (Elt Ideal) ((c.tc : Thread Cert.WideIdeal.nD Cert.WideIdeal.τ).loc Cert.WideIdeal.main_v14)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v11) = v0 c
          ∧ r.2.mem ((c.tc : Thread Cert.WideIdeal.nD Cert.WideIdeal.τ).loc Cert.WideIdeal.main_v14) = v1 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
          ∧ r.2.mem ((c.tc : Thread Cert.WideIdeal.nD Cert.WideIdeal.τ).loc Cert.WideIdeal.main_arg2) = m ((c.tc : Thread Cert.WideIdeal.nD Cert.WideIdeal.τ).loc Cert.WideIdeal.main_arg2))
      ∧ θ_run (Cert.WideReferenceIdeal.defs (F := Ideal)) (onTc (τ := Cert.WideReferenceIdeal.τ) (Cert.WideReferenceIdeal.main (F := Ideal))) ⟨m', fun _ => 0, g'⟩ (fun r => ∀ c : Dev Cert.WideReferenceIdeal.nD,
          r.2.mem ((c.tc : Thread Cert.WideReferenceIdeal.nD Cert.WideReferenceIdeal.τ).loc Cert.WideReferenceIdeal.main_v1) = v0 c
          ∧ r.2.mem ((c.tc : Thread Cert.WideReferenceIdeal.nD Cert.WideReferenceIdeal.τ).loc Cert.WideReferenceIdeal.main_v3) = v1 c
          ∧ r.2.mem ((c.tc : Thread Cert.WideReferenceIdeal.nD Cert.WideReferenceIdeal.τ).loc Cert.WideReferenceIdeal.main_arg0) = m' ((c.tc : Thread Cert.WideReferenceIdeal.nD Cert.WideReferenceIdeal.τ).loc Cert.WideReferenceIdeal.main_arg0)
          ∧ r.2.mem ((c.tc : Thread Cert.WideReferenceIdeal.nD Cert.WideReferenceIdeal.τ).loc Cert.WideReferenceIdeal.main_arg1) = m' ((c.tc : Thread Cert.WideReferenceIdeal.nD Cert.WideReferenceIdeal.τ).loc Cert.WideReferenceIdeal.main_arg1)
          ∧ r.2.mem ((c.tc : Thread Cert.WideReferenceIdeal.nD Cert.WideReferenceIdeal.τ).loc Cert.WideReferenceIdeal.main_arg2) = m' ((c.tc : Thread Cert.WideReferenceIdeal.nD Cert.WideReferenceIdeal.τ).loc Cert.WideReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v15)) (v1 : (c : Dev Cert.OutIdeal.nD) → Buf (Elt Ideal) ((c.tc : Thread Cert.OutIdeal.nD Cert.OutIdeal.τ).loc Cert.OutIdeal.main_v18)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v15) = v0 c
          ∧ r.2.mem ((c.tc : Thread Cert.OutIdeal.nD Cert.OutIdeal.τ).loc Cert.OutIdeal.main_v18) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v3) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)) →
    ∃ (v0 : (c : Dev Cert.LatentIdeal.nD) → Buf (Elt Ideal) ((c.tc : Thread Cert.LatentIdeal.nD Cert.LatentIdeal.τ).loc Cert.LatentIdeal.main_v15)) (v1 : (c : Dev Cert.LatentIdeal.nD) → Buf (Elt Ideal) ((c.tc : Thread Cert.LatentIdeal.nD Cert.LatentIdeal.τ).loc Cert.LatentIdeal.main_v19)) (v2 : (c : Dev Cert.LatentIdeal.nD) → Buf (Elt Ideal) ((c.tc : Thread Cert.LatentIdeal.nD Cert.LatentIdeal.τ).loc Cert.LatentIdeal.main_v23)) (v3 : (c : Dev Cert.LatentIdeal.nD) → Buf (Elt Ideal) ((c.tc : Thread Cert.LatentIdeal.nD Cert.LatentIdeal.τ).loc Cert.LatentIdeal.main_v27)) (v4 : (c : Dev Cert.LatentIdeal.nD) → Buf (Elt Ideal) ((c.tc : Thread Cert.LatentIdeal.nD Cert.LatentIdeal.τ).loc Cert.LatentIdeal.main_v31)) (v5 : (c : Dev Cert.LatentIdeal.nD) → Buf (Elt Ideal) ((c.tc : Thread Cert.LatentIdeal.nD Cert.LatentIdeal.τ).loc Cert.LatentIdeal.main_v34)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v15) = v0 c
          ∧ r.2.mem ((c.tc : Thread Cert.LatentIdeal.nD Cert.LatentIdeal.τ).loc Cert.LatentIdeal.main_v19) = v1 c
          ∧ r.2.mem ((c.tc : Thread Cert.LatentIdeal.nD Cert.LatentIdeal.τ).loc Cert.LatentIdeal.main_v23) = v2 c
          ∧ r.2.mem ((c.tc : Thread Cert.LatentIdeal.nD Cert.LatentIdeal.τ).loc Cert.LatentIdeal.main_v27) = v3 c
          ∧ r.2.mem ((c.tc : Thread Cert.LatentIdeal.nD Cert.LatentIdeal.τ).loc Cert.LatentIdeal.main_v31) = v4 c
          ∧ r.2.mem ((c.tc : Thread Cert.LatentIdeal.nD Cert.LatentIdeal.τ).loc Cert.LatentIdeal.main_v34) = v5 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v15) = v0 c
          ∧ r.2.mem ((c.tc : Thread Cert.LatentReferenceIdeal.nD Cert.LatentReferenceIdeal.τ).loc Cert.LatentReferenceIdeal.main_v29) = v1 c
          ∧ r.2.mem ((c.tc : Thread Cert.LatentReferenceIdeal.nD Cert.LatentReferenceIdeal.τ).loc Cert.LatentReferenceIdeal.main_v43) = v2 c
          ∧ r.2.mem ((c.tc : Thread Cert.LatentReferenceIdeal.nD Cert.LatentReferenceIdeal.τ).loc Cert.LatentReferenceIdeal.main_v57) = v3 c
          ∧ r.2.mem ((c.tc : Thread Cert.LatentReferenceIdeal.nD Cert.LatentReferenceIdeal.τ).loc Cert.LatentReferenceIdeal.main_v58) = v4 c
          ∧ r.2.mem ((c.tc : Thread Cert.LatentReferenceIdeal.nD Cert.LatentReferenceIdeal.τ).loc Cert.LatentReferenceIdeal.main_v59) = v5 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4))

def preserves_Up_UpIdeal : Prop :=
  True

def algebraic_UpIdeal_UpReferenceIdeal [hUpIdeal : Cert.UpIdeal.Facts] [hUpReferenceIdeal : Cert.UpReferenceIdeal.Facts] [hPre_up_experts : Cert.Pre_up_experts.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v31) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_Down_DownIdeal : Prop :=
  True

def algebraic_DownIdeal_DownReferenceIdeal [hDownIdeal : Cert.DownIdeal.Facts] [hDownReferenceIdeal : Cert.DownReferenceIdeal.Facts] [hPre_down_experts : Cert.Pre_down_experts.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v18) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Heads_HeadsIdeal : Prop :=
  IdealRules.named_const.Statement Cert.HeadsIdeal.κ "part" .f32 0x3BAAAAAB#32 ((192⁻¹ : ℝ) : EReal)

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)
      ∧ m' ((c.tc : Thread Cert.HeadsReferenceIdeal.nD Cert.HeadsReferenceIdeal.τ).loc Cert.HeadsReferenceIdeal.main_arg4) = m ((c.tc : Thread Cert.HeadsIdeal.nD Cert.HeadsIdeal.τ).loc Cert.HeadsIdeal.main_arg4)
      ∧ m' ((c.tc : Thread Cert.HeadsReferenceIdeal.nD Cert.HeadsReferenceIdeal.τ).loc Cert.HeadsReferenceIdeal.main_arg5) = m ((c.tc : Thread Cert.HeadsIdeal.nD Cert.HeadsIdeal.τ).loc Cert.HeadsIdeal.main_arg5)
      ∧ m' ((c.tc : Thread Cert.HeadsReferenceIdeal.nD Cert.HeadsReferenceIdeal.τ).loc Cert.HeadsReferenceIdeal.main_arg6) = m ((c.tc : Thread Cert.HeadsIdeal.nD Cert.HeadsIdeal.τ).loc Cert.HeadsIdeal.main_arg6)
      ∧ m' ((c.tc : Thread Cert.HeadsReferenceIdeal.nD Cert.HeadsReferenceIdeal.τ).loc Cert.HeadsReferenceIdeal.main_arg7) = m ((c.tc : Thread Cert.HeadsIdeal.nD Cert.HeadsIdeal.τ).loc Cert.HeadsIdeal.main_arg7)) →
    ∃ (v0 : (c : Dev Cert.HeadsIdeal.nD) → Buf (Elt Ideal) ((c.tc : Thread Cert.HeadsIdeal.nD Cert.HeadsIdeal.τ).loc Cert.HeadsIdeal.main_v56)) (v1 : (c : Dev Cert.HeadsIdeal.nD) → Buf (Elt Ideal) ((c.tc : Thread Cert.HeadsIdeal.nD Cert.HeadsIdeal.τ).loc Cert.HeadsIdeal.main_v61)) (v2 : (c : Dev Cert.HeadsIdeal.nD) → Buf (Elt Ideal) ((c.tc : Thread Cert.HeadsIdeal.nD Cert.HeadsIdeal.τ).loc Cert.HeadsIdeal.main_v65)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v56) = v0 c
          ∧ r.2.mem ((c.tc : Thread Cert.HeadsIdeal.nD Cert.HeadsIdeal.τ).loc Cert.HeadsIdeal.main_v61) = v1 c
          ∧ r.2.mem ((c.tc : Thread Cert.HeadsIdeal.nD Cert.HeadsIdeal.τ).loc Cert.HeadsIdeal.main_v65) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v67) = v0 c
          ∧ r.2.mem ((c.tc : Thread Cert.HeadsReferenceIdeal.nD Cert.HeadsReferenceIdeal.τ).loc Cert.HeadsReferenceIdeal.main_v84) = v1 c
          ∧ r.2.mem ((c.tc : Thread Cert.HeadsReferenceIdeal.nD Cert.HeadsReferenceIdeal.τ).loc Cert.HeadsReferenceIdeal.main_v5) = v2 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4)
          ∧ r.2.mem ((c.tc : Thread Cert.HeadsReferenceIdeal.nD Cert.HeadsReferenceIdeal.τ).loc Cert.HeadsReferenceIdeal.main_arg5) = m' ((c.tc : Thread Cert.HeadsReferenceIdeal.nD Cert.HeadsReferenceIdeal.τ).loc Cert.HeadsReferenceIdeal.main_arg5)
          ∧ r.2.mem ((c.tc : Thread Cert.HeadsReferenceIdeal.nD Cert.HeadsReferenceIdeal.τ).loc Cert.HeadsReferenceIdeal.main_arg6) = m' ((c.tc : Thread Cert.HeadsReferenceIdeal.nD Cert.HeadsReferenceIdeal.τ).loc Cert.HeadsReferenceIdeal.main_arg6)
          ∧ r.2.mem ((c.tc : Thread Cert.HeadsReferenceIdeal.nD Cert.HeadsReferenceIdeal.τ).loc Cert.HeadsReferenceIdeal.main_arg7) = m' ((c.tc : Thread Cert.HeadsReferenceIdeal.nD Cert.HeadsReferenceIdeal.τ).loc Cert.HeadsReferenceIdeal.main_arg7))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v10)) (v1 : (c : Dev Cert.NormIdeal.nD) → Buf (Elt Ideal) ((c.tc : Thread Cert.NormIdeal.nD Cert.NormIdeal.τ).loc Cert.NormIdeal.main_v14)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v10) = v0 c
          ∧ r.2.mem ((c.tc : Thread Cert.NormIdeal.nD Cert.NormIdeal.τ).loc Cert.NormIdeal.main_v14) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_v25) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v8)) (v1 : (c : Dev Cert.ConvIdeal.nD) → Buf (Elt Ideal) ((c.tc : Thread Cert.ConvIdeal.nD Cert.ConvIdeal.τ).loc Cert.ConvIdeal.main_v12)) (v2 : (c : Dev Cert.ConvIdeal.nD) → Buf (Elt Ideal) ((c.tc : Thread Cert.ConvIdeal.nD Cert.ConvIdeal.τ).loc Cert.ConvIdeal.main_v16)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8) = v0 c
          ∧ r.2.mem ((c.tc : Thread Cert.ConvIdeal.nD Cert.ConvIdeal.τ).loc Cert.ConvIdeal.main_v12) = v1 c
          ∧ r.2.mem ((c.tc : Thread Cert.ConvIdeal.nD Cert.ConvIdeal.τ).loc Cert.ConvIdeal.main_v16) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v24) = v0 c
          ∧ r.2.mem ((c.tc : Thread Cert.ConvReferenceIdeal.nD Cert.ConvReferenceIdeal.τ).loc Cert.ConvReferenceIdeal.main_v25) = v1 c
          ∧ r.2.mem ((c.tc : Thread Cert.ConvReferenceIdeal.nD Cert.ConvReferenceIdeal.τ).loc Cert.ConvReferenceIdeal.main_v26) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Router_RouterIdeal : Prop :=
  True

def algebraic_RouterIdeal_RouterReferenceIdeal_pre_numbers [hRouterIdeal : Cert.RouterIdeal.Facts] [hRouterReferenceIdeal : Cert.RouterReferenceIdeal.Facts] [hPre_numbers : Cert.Pre_numbers.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_numbers m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v15)) (v1 : (c : Dev Cert.RouterIdeal.nD) → Buf (Elt Ideal) ((c.tc : Thread Cert.RouterIdeal.nD Cert.RouterIdeal.τ).loc Cert.RouterIdeal.main_v18)) (v2 : (c : Dev Cert.RouterIdeal.nD) → Buf (Elt Ideal) ((c.tc : Thread Cert.RouterIdeal.nD Cert.RouterIdeal.τ).loc Cert.RouterIdeal.main_v25)) (v3 : (c : Dev Cert.RouterIdeal.nD) → Buf (Elt Ideal) ((c.tc : Thread Cert.RouterIdeal.nD Cert.RouterIdeal.τ).loc Cert.RouterIdeal.main_v26)) (v4 : (c : Dev Cert.RouterIdeal.nD) → Buf (Elt Ideal) ((c.tc : Thread Cert.RouterIdeal.nD Cert.RouterIdeal.τ).loc Cert.RouterIdeal.main_v27)) (v5 : (c : Dev Cert.RouterIdeal.nD) → Buf (Elt Ideal) ((c.tc : Thread Cert.RouterIdeal.nD Cert.RouterIdeal.τ).loc Cert.RouterIdeal.main_v28)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v15) = v0 c
          ∧ r.2.mem ((c.tc : Thread Cert.RouterIdeal.nD Cert.RouterIdeal.τ).loc Cert.RouterIdeal.main_v18) = v1 c
          ∧ r.2.mem ((c.tc : Thread Cert.RouterIdeal.nD Cert.RouterIdeal.τ).loc Cert.RouterIdeal.main_v25) = v2 c
          ∧ r.2.mem ((c.tc : Thread Cert.RouterIdeal.nD Cert.RouterIdeal.τ).loc Cert.RouterIdeal.main_v26) = v3 c
          ∧ r.2.mem ((c.tc : Thread Cert.RouterIdeal.nD Cert.RouterIdeal.τ).loc Cert.RouterIdeal.main_v27) = v4 c
          ∧ r.2.mem ((c.tc : Thread Cert.RouterIdeal.nD Cert.RouterIdeal.τ).loc Cert.RouterIdeal.main_v28) = v5 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v12) = v0 c
          ∧ r.2.mem ((c.tc : Thread Cert.RouterReferenceIdeal.nD Cert.RouterReferenceIdeal.τ).loc Cert.RouterReferenceIdeal.main_v25) = v1 c
          ∧ r.2.mem ((c.tc : Thread Cert.RouterReferenceIdeal.nD Cert.RouterReferenceIdeal.τ).loc Cert.RouterReferenceIdeal.main_v26) = v2 c
          ∧ r.2.mem ((c.tc : Thread Cert.RouterReferenceIdeal.nD Cert.RouterReferenceIdeal.τ).loc Cert.RouterReferenceIdeal.main_v27) = v3 c
          ∧ r.2.mem ((c.tc : Thread Cert.RouterReferenceIdeal.nD Cert.RouterReferenceIdeal.τ).loc Cert.RouterReferenceIdeal.main_v28) = v4 c
          ∧ r.2.mem ((c.tc : Thread Cert.RouterReferenceIdeal.nD Cert.RouterReferenceIdeal.τ).loc Cert.RouterReferenceIdeal.main_v29) = v5 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4))

def Claim : Prop :=
  ∃ (hKernel : Cert.Kernel.Facts) (hKernelIdeal : Cert.KernelIdeal.Facts) (hReferenceIdeal : Cert.ReferenceIdeal.Facts) (hWide : Cert.Wide.Facts) (hWideIdeal : Cert.WideIdeal.Facts) (hWideReferenceIdeal : Cert.WideReferenceIdeal.Facts) (hOut : Cert.Out.Facts) (hOutIdeal : Cert.OutIdeal.Facts) (hOutReferenceIdeal : Cert.OutReferenceIdeal.Facts) (hLatent : Cert.Latent.Facts) (hLatentIdeal : Cert.LatentIdeal.Facts) (hLatentReferenceIdeal : Cert.LatentReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hHeads : Cert.Heads.Facts) (hHeadsIdeal : Cert.HeadsIdeal.Facts) (hHeadsReferenceIdeal : Cert.HeadsReferenceIdeal.Facts) (hNorm : Cert.Norm.Facts) (hNormIdeal : Cert.NormIdeal.Facts) (hNormReferenceIdeal : Cert.NormReferenceIdeal.Facts) (hConv : Cert.Conv.Facts) (hConvIdeal : Cert.ConvIdeal.Facts) (hConvReferenceIdeal : Cert.ConvReferenceIdeal.Facts) (hRouter : Cert.Router.Facts) (hRouterIdeal : Cert.RouterIdeal.Facts) (hRouterReferenceIdeal : Cert.RouterReferenceIdeal.Facts) (hPre_finite : Cert.Pre_finite.Facts) (hPre_up_experts : Cert.Pre_up_experts.Facts) (hPre_down_experts : Cert.Pre_down_experts.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Wide (hWide := hWide)
    ∧ quiescent_WideIdeal (hWideIdeal := hWideIdeal)
    ∧ quiescent_WideReferenceIdeal (hWideReferenceIdeal := hWideReferenceIdeal)
    ∧ quiescent_Out (hOut := hOut)
    ∧ quiescent_OutIdeal (hOutIdeal := hOutIdeal)
    ∧ quiescent_OutReferenceIdeal (hOutReferenceIdeal := hOutReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Up (hUp := hUp) (hPre_up_experts := hPre_up_experts)
    ∧ quiescent_UpIdeal (hUpIdeal := hUpIdeal) (hPre_up_experts := hPre_up_experts)
    ∧ quiescent_UpReferenceIdeal (hUpReferenceIdeal := hUpReferenceIdeal)
    ∧ quiescent_UpReferenceIdeal_pre_up_experts (hUpReferenceIdeal := hUpReferenceIdeal) (hPre_up_experts := hPre_up_experts)
    ∧ quiescent_Down (hDown := hDown) (hPre_down_experts := hPre_down_experts)
    ∧ quiescent_DownIdeal (hDownIdeal := hDownIdeal) (hPre_down_experts := hPre_down_experts)
    ∧ quiescent_DownReferenceIdeal (hDownReferenceIdeal := hDownReferenceIdeal)
    ∧ quiescent_DownReferenceIdeal_pre_down_experts (hDownReferenceIdeal := hDownReferenceIdeal) (hPre_down_experts := hPre_down_experts)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Router (hRouter := hRouter)
    ∧ quiescent_RouterIdeal (hRouterIdeal := hRouterIdeal)
    ∧ quiescent_RouterIdeal_pre_numbers (hRouterIdeal := hRouterIdeal) (hPre_numbers := hPre_numbers)
    ∧ quiescent_RouterReferenceIdeal (hRouterReferenceIdeal := hRouterReferenceIdeal)
    ∧ quiescent_RouterReferenceIdeal_pre_numbers (hRouterReferenceIdeal := hRouterReferenceIdeal) (hPre_numbers := hPre_numbers)
    ∧ preserves_Kernel_KernelIdeal
    ∧ algebraic_KernelIdeal_ReferenceIdeal_pre_finite (hKernelIdeal := hKernelIdeal) (hReferenceIdeal := hReferenceIdeal) (hPre_finite := hPre_finite)
    ∧ preserves_Wide_WideIdeal
    ∧ algebraic_WideIdeal_WideReferenceIdeal (hWideIdeal := hWideIdeal) (hWideReferenceIdeal := hWideReferenceIdeal)
    ∧ preserves_Out_OutIdeal
    ∧ algebraic_OutIdeal_OutReferenceIdeal (hOutIdeal := hOutIdeal) (hOutReferenceIdeal := hOutReferenceIdeal)
    ∧ preserves_Latent_LatentIdeal
    ∧ algebraic_LatentIdeal_LatentReferenceIdeal (hLatentIdeal := hLatentIdeal) (hLatentReferenceIdeal := hLatentReferenceIdeal)
    ∧ preserves_Up_UpIdeal
    ∧ algebraic_UpIdeal_UpReferenceIdeal (hUpIdeal := hUpIdeal) (hUpReferenceIdeal := hUpReferenceIdeal) (hPre_up_experts := hPre_up_experts)
    ∧ preserves_Down_DownIdeal
    ∧ algebraic_DownIdeal_DownReferenceIdeal (hDownIdeal := hDownIdeal) (hDownReferenceIdeal := hDownReferenceIdeal) (hPre_down_experts := hPre_down_experts)
    ∧ preserves_Heads_HeadsIdeal
    ∧ algebraic_HeadsIdeal_HeadsReferenceIdeal (hHeadsIdeal := hHeadsIdeal) (hHeadsReferenceIdeal := hHeadsReferenceIdeal)
    ∧ preserves_Norm_NormIdeal
    ∧ algebraic_NormIdeal_NormReferenceIdeal (hNormIdeal := hNormIdeal) (hNormReferenceIdeal := hNormReferenceIdeal)
    ∧ preserves_Conv_ConvIdeal
    ∧ algebraic_ConvIdeal_ConvReferenceIdeal (hConvIdeal := hConvIdeal) (hConvReferenceIdeal := hConvReferenceIdeal)
    ∧ preserves_Router_RouterIdeal
    ∧ algebraic_RouterIdeal_RouterReferenceIdeal_pre_numbers (hRouterIdeal := hRouterIdeal) (hRouterReferenceIdeal := hRouterReferenceIdeal) (hPre_numbers := hPre_numbers)
-- ==== Pre_down_experts.lean ====
abbrev S82432x1024 : Shape := ⟨2, ![82432, 1024]⟩
abbrev S161 : Shape := ⟨1, ![161]⟩
abbrev S1 : Shape := ⟨1, ![1]⟩
abbrev S2x64x1024x4096 : Shape := ⟨4, ![2, 64, 1024, 4096]⟩
abbrev S_ : Shape := ⟨0, ![]⟩
abbrev S160 : Shape := ⟨1, ![160]⟩

class Facts : Prop where
  bcast_S_S161 : S_.BroadcastsInDim S161 (![] : Fin 0 → Fin S161.rank)
  reducesTo_S161_S_d0 : S161.ReducesTo [0] S_
  h_S_ : 0 < S_.numel
  slices_S161_S1_0 : S161.Slices ![0] S1
  bcast_S_S1 : S_.BroadcastsInDim S1 (![] : Fin 0 → Fin S1.rank)
  reducesTo_S1_S_d0 : S1.ReducesTo [0] S_
  slices_S161_S160_1 : S161.Slices ![1] S160
  slices_S161_S160_0 : S161.Slices ![0] S160
  bcast_S_S160 : S_.BroadcastsInDim S160 (![] : Fin 0 → Fin S160.rank)
  reducesTo_S160_S_d0 : S160.ReducesTo [0] S_

variable [Facts]

def fn_part1 {F : FTy → Type} [FloatOps F] (main_v11 : IVec S_ 1) (main_v14 : IVec S160 1) (main_v15 : IVec S160 32) (main_v16 : IVec S160 32) : IVec S_ 1 :=
  let main_v17 : IVec S160 1 := cmpi .eq main_v15 main_v16
  let main_v18 : IVec S160 1 := ori main_v14 main_v17
  let main_c_6 : IVec S_ 1 := constantI S_ 1 1#1
  let main_v19 : IVec S_ 1 := (fun x v => Host.reduce IntOp.andi x v reducesTo_S160_S_d0 h_S_) main_v18 main_c_6
  let main_v20 : IVec S_ 1 := andi main_v11 main_v19
  main_v20

def fn {F : FTy → Type} [FloatOps F] (main_arg0 : FVec F S82432x1024 .bf16) (main_arg1 : IVec S161 32) (main_arg2 : IVec S161 32) (main_arg3 : IVec S1 32) (main_arg4 : FVec F S2x64x1024x4096 .f32) : IVec S_ 1 :=
  let main_c : IVec S_ 32 := constantI S_ 32 0#32
  let main_v0 : IVec S161 32 := broadcastInDim S161 ![] bcast_S_S161 main_c
  let main_v1 : IVec S161 1 := cmpi .sge main_arg1 main_v0
  let main_c_0 : IVec S_ 1 := constantI S_ 1 1#1
  let main_v2 : IVec S_ 1 := (fun x v => Host.reduce IntOp.andi x v reducesTo_S161_S_d0 h_S_) main_v1 main_c_0
  let main_c_1 : IVec S_ 32 := constantI S_ 32 64#32
  let main_v3 : IVec S161 32 := broadcastInDim S161 ![] bcast_S_S161 main_c_1
  let main_v4 : IVec S161 1 := cmpi .slt main_arg1 main_v3
  let main_c_2 : IVec S_ 1 := constantI S_ 1 1#1
  let main_v5 : IVec S_ 1 := (fun x v => Host.reduce IntOp.andi x v reducesTo_S161_S_d0 h_S_) main_v4 main_c_2
  let main_v6 : IVec S_ 1 := andi main_v2 main_v5
  let main_v7 : IVec S1 32 := (extractStridedSlice S1 ![0] · slices_S161_S1_0) main_arg2
  let main_c_3 : IVec S_ 32 := constantI S_ 32 1#32
  let main_v8 : IVec S1 32 := broadcastInDim S1 ![] bcast_S_S1 main_c_3
  let main_v9 : IVec S1 1 := cmpi .eq main_v7 main_v8
  let main_c_4 : IVec S_ 1 := constantI S_ 1 1#1
  let main_v10 : IVec S_ 1 := (fun x v => Host.reduce IntOp.andi x v reducesTo_S1_S_d0 h_S_) main_v9 main_c_4
  let main_v11 : IVec S_ 1 := andi main_v6 main_v10
  let main_v12 : IVec S160 32 := (extractStridedSlice S160 ![1] · slices_S161_S160_1) main_arg1
  let main_v13 : IVec S160 32 := (extractStridedSlice S160 ![0] · slices_S161_S160_0) main_arg1
  let main_v14 : IVec S160 1 := cmpi .eq main_v12 main_v13
  let main_v15 : IVec S160 32 := (extractStridedSlice S160 ![1] · slices_S161_S160_1) main_arg2
  let main_c_5 : IVec S_ 32 := constantI S_ 32 1#32
  let main_v16 : IVec S160 32 := broadcastInDim S160 ![] bcast_S_S160 main_c_5
  fn_part1 (F := F) main_v11 main_v14 main_v15 main_v16
-- ==== Pre_finite.lean ====
abbrev S2x8208x16x192 : Shape := ⟨4, ![2, 8208, 16, 192]⟩
abbrev S2x8208x16x128 : Shape := ⟨4, ![2, 8208, 16, 128]⟩
abbrev S_ : Shape := ⟨0, ![]⟩

class Facts : Prop where
  bcast_S_S2x8208x16x192 : S_.BroadcastsInDim S2x8208x16x192 (![] : Fin 0 → Fin S2x8208x16x192.rank)
  reducesTo_S2x8208x16x192_S_d0_1_2_3 : S2x8208x16x192.ReducesTo [0, 1, 2, 3] S_
  h_S_ : 0 < S_.numel

variable [Facts]

def fn {F : FTy → Type} [FloatOps F] (main_arg0 : FVec F S2x8208x16x192 .f32) (main_arg1 : FVec F S2x8208x16x192 .f32) (main_arg2 : FVec F S2x8208x16x128 .f32) : IVec S_ 1 :=
  let main_v0 : FVec F S2x8208x16x192 .f32 := Host.absf main_arg0
  let main_cst : FVec F S_ .f32 := constant S_ .f32 0x7F800000#32
  let main_v1 : FVec F S2x8208x16x192 .f32 := broadcastInDim S2x8208x16x192 ![] bcast_S_S2x8208x16x192 main_cst
  let main_v2 : IVec S2x8208x16x192 1 := cmpf .olt main_v0 main_v1
  let main_c : IVec S_ 1 := constantI S_ 1 1#1
  let main_v3 : IVec S_ 1 := (fun x v => Host.reduce IntOp.andi x v reducesTo_S2x8208x16x192_S_d0_1_2_3 h_S_) main_v2 main_c
  let main_v4 : FVec F S2x8208x16x192 .f32 := Host.absf main_arg1
  let main_cst_0 : FVec F S_ .f32 := constant S_ .f32 0x7F800000#32
  let main_v5 : FVec F S2x8208x16x192 .f32 := broadcastInDim S2x8208x16x192 ![] bcast_S_S2x8208x16x192 main_cst_0
  let main_v6 : IVec S2x8208x16x192 1 := cmpf .olt main_v4 main_v5
  let main_c_1 : IVec S_ 1 := constantI S_ 1 1#1
  let main_v7 : IVec S_ 1 := (fun x v => Host.reduce IntOp.andi x v reducesTo_S2x8208x16x192_S_d0_1_2_3 h_S_) main_v6 main_c_1
  let main_v8 : IVec S_ 1 := andi main_v3 main_v7
  main_v8
-- ==== Pre_numbers.lean ====
abbrev S2x4112x4096 : Shape := ⟨3, ![2, 4112, 4096]⟩
abbrev S2x8208x4096 : Shape := ⟨3, ![2, 8208, 4096]⟩
abbrev S4096 : Shape := ⟨1, ![4096]⟩
abbrev S4096x8 : Shape := ⟨2, ![4096, 8]⟩
abbrev S4096x64 : Shape := ⟨2, ![4096, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S2x4112x4096 .f32) (main_arg1 : FVec F S2x8208x4096 .f32) (main_arg2 : FVec F S4096 .f32) (main_arg3 : FVec F S4096x8 .f32) (main_arg4 : FVec F S4096x64 .f32) : IVec S_ 1 :=
  let main_v0 : FVec F S4096 .f32 := Host.absf main_arg2
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8 .f32 := Host.absf main_arg3
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x64 .f32 := Host.absf main_arg4
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Pre_up_experts.lean ====
abbrev S82432x4096 : Shape := ⟨2, ![82432, 4096]⟩
abbrev S161 : Shape := ⟨1, ![161]⟩
abbrev S1 : Shape := ⟨1, ![1]⟩
abbrev S2x64x4096x1024 : Shape := ⟨4, ![2, 64, 4096, 1024]⟩
abbrev S_ : Shape := ⟨0, ![]⟩
abbrev S160 : Shape := ⟨1, ![160]⟩

class Facts : Prop where
  bcast_S_S161 : S_.BroadcastsInDim S161 (![] : Fin 0 → Fin S161.rank)
  reducesTo_S161_S_d0 : S161.ReducesTo [0] S_
  h_S_ : 0 < S_.numel
  slices_S161_S1_0 : S161.Slices ![0] S1
  bcast_S_S1 : S_.BroadcastsInDim S1 (![] : Fin 0 → Fin S1.rank)
  reducesTo_S1_S_d0 : S1.ReducesTo [0] S_
  slices_S161_S160_1 : S161.Slices ![1] S160
  slices_S161_S160_0 : S161.Slices ![0] S160
  bcast_S_S160 : S_.BroadcastsInDim S160 (![] : Fin 0 → Fin S160.rank)
  reducesTo_S160_S_d0 : S160.ReducesTo [0] S_

variable [Facts]

def fn_part1 {F : FTy → Type} [FloatOps F] (main_v11 : IVec S_ 1) (main_v14 : IVec S160 1) (main_v15 : IVec S160 32) (main_v16 : IVec S160 32) : IVec S_ 1 :=
  let main_v17 : IVec S160 1 := cmpi .eq main_v15 main_v16
  let main_v18 : IVec S160 1 := ori main_v14 main_v17
  let main_c_6 : IVec S_ 1 := constantI S_ 1 1#1
  let main_v19 : IVec S_ 1 := (fun x v => Host.reduce IntOp.andi x v reducesTo_S160_S_d0 h_S_) main_v18 main_c_6
  let main_v20 : IVec S_ 1 := andi main_v11 main_v19
  main_v20

def fn {F : FTy → Type} [FloatOps F] (main_arg0 : FVec F S82432x4096 .bf16) (main_arg1 : IVec S161 32) (main_arg2 : IVec S161 32) (main_arg3 : IVec S1 32) (main_arg4 : FVec F S2x64x4096x1024 .f32) (main_arg5 : FVec F S2x64x4096x1024 .f32) : IVec S_ 1 :=
  let main_c : IVec S_ 32 := constantI S_ 32 0#32
  let main_v0 : IVec S161 32 := broadcastInDim S161 ![] bcast_S_S161 main_c
  let main_v1 : IVec S161 1 := cmpi .sge main_arg1 main_v0
  let main_c_0 : IVec S_ 1 := constantI S_ 1 1#1
  let main_v2 : IVec S_ 1 := (fun x v => Host.reduce IntOp.andi x v reducesTo_S161_S_d0 h_S_) main_v1 main_c_0
  let main_c_1 : IVec S_ 32 := constantI S_ 32 64#32
  let main_v3 : IVec S161 32 := broadcastInDim S161 ![] bcast_S_S161 main_c_1
  let main_v4 : IVec S161 1 := cmpi .slt main_arg1 main_v3
  let main_c_2 : IVec S_ 1 := constantI S_ 1 1#1
  let main_v5 : IVec S_ 1 := (fun x v => Host.reduce IntOp.andi x v reducesTo_S161_S_d0 h_S_) main_v4 main_c_2
  let main_v6 : IVec S_ 1 := andi main_v2 main_v5
  let main_v7 : IVec S1 32 := (extractStridedSlice S1 ![0] · slices_S161_S1_0) main_arg2
  let main_c_3 : IVec S_ 32 := constantI S_ 32 1#32
  let main_v8 : IVec S1 32 := broadcastInDim S1 ![] bcast_S_S1 main_c_3
  let main_v9 : IVec S1 1 := cmpi .eq main_v7 main_v8
  let main_c_4 : IVec S_ 1 := constantI S_ 1 1#1
  let main_v10 : IVec S_ 1 := (fun x v => Host.reduce IntOp.andi x v reducesTo_S1_S_d0 h_S_) main_v9 main_c_4
  let main_v11 : IVec S_ 1 := andi main_v6 main_v10
  let main_v12 : IVec S160 32 := (extractStridedSlice S160 ![1] · slices_S161_S160_1) main_arg1
  let main_v13 : IVec S160 32 := (extractStridedSlice S160 ![0] · slices_S161_S160_0) main_arg1
  let main_v14 : IVec S160 1 := cmpi .eq main_v12 main_v13
  let main_v15 : IVec S160 32 := (extractStridedSlice S160 ![1] · slices_S161_S160_1) main_arg2
  let main_c_5 : IVec S_ 32 := constantI S_ 32 1#32
  let main_v16 : IVec S160 32 := broadcastInDim S160 ![] bcast_S_S160 main_c_5
  fn_part1 (F := F) main_v11 main_v14 main_v15 main_v16
-- ==== Kernel.lean ====
abbrev S2x8208x16x192 : Shape := ⟨4, ![2, 8208, 16, 192]⟩
abbrev S2x8208x16x128 : Shape := ⟨4, ![2, 8208, 16, 128]⟩
abbrev S_ : Shape := ⟨0, ![]⟩
abbrev S2x8448x16x256 : Shape := ⟨4, ![2, 8448, 16, 256]⟩
abbrev S16896x4096 : Shape := ⟨2, ![16896, 4096]⟩
abbrev S2x8448x16x128 : Shape := ⟨4, ![2, 8448, 16, 128]⟩
abbrev S16896x2048 : Shape := ⟨2, ![16896, 2048]⟩
abbrev S1056x256 : Shape := ⟨2, ![1056, 256]⟩
abbrev S8448x256 : Shape := ⟨2, ![8448, 256]⟩
abbrev S8448x128 : Shape := ⟨2, ![8448, 128]⟩
abbrev S1056x128 : Shape := ⟨2, ![1056, 128]⟩
abbrev S1056x1 : Shape := ⟨2, ![1056, 1]⟩
abbrev S512x256 : Shape := ⟨2, ![512, 256]⟩
abbrev S512x128 : Shape := ⟨2, ![512, 128]⟩
abbrev S1056x512 : Shape := ⟨2, ![1056, 512]⟩
abbrev S1056 : Shape := ⟨1, ![1056]⟩
abbrev S256x256 : Shape := ⟨2, ![256, 256]⟩
abbrev S256x128 : Shape := ⟨2, ![256, 128]⟩
abbrev S2x8448x2048 : Shape := ⟨3, ![2, 8448, 2048]⟩
abbrev S2x8208x2048 : Shape := ⟨3, ![2, 8208, 2048]⟩

abbrev nBuf : Space → Nat
  | .hbm => 24
  | .vmem => 8
  | .smem => 0
  | _ => 0

abbrev bufTy : (tb : Table) → Fin (tcTables nBuf tb) → BufTy
  | .hbm, ⟨0, _⟩ => ⟨S2x8208x16x192, .f32⟩
  | .hbm, ⟨1, _⟩ => ⟨S2x8208x16x192, .f32⟩
  | .hbm, ⟨2, _⟩ => ⟨S2x8208x16x128, .f32⟩
  | .hbm, ⟨3, _⟩ => ⟨S_, .f32⟩
  | .hbm, ⟨4, _⟩ => ⟨S2x8208x16x192, .f32⟩
  | .hbm, ⟨5, _⟩ => ⟨S2x8208x16x192, .f32⟩
  | .hbm, ⟨6, _⟩ => ⟨S_, .i32⟩
  | .hbm, ⟨7, _⟩ => ⟨S_, .f32⟩
  | .hbm, ⟨8, _⟩ => ⟨S2x8448x16x256, .f32⟩
  | .hbm, ⟨9, _⟩ => ⟨S16896x4096, .f32⟩
  | .hbm, ⟨10, _⟩ => ⟨S16896x4096, .bf16⟩
  | .hbm, ⟨11, _⟩ => ⟨S_, .i32⟩
  | .hbm, ⟨12, _⟩ => ⟨S_, .f32⟩
  | .hbm, ⟨13, _⟩ => ⟨S2x8448x16x256, .f32⟩
  | .hbm, ⟨14, _⟩ => ⟨S16896x4096, .f32⟩
  | .hbm, ⟨15, _⟩ => ⟨S16896x4096, .bf16⟩
  | .hbm, ⟨16, _⟩ => ⟨S_, .i32⟩
  | .hbm, ⟨17, _⟩ => ⟨S_, .f32⟩
  | .hbm, ⟨18, _⟩ => ⟨S2x8448x16x128, .f32⟩
  | .hbm, ⟨19, _⟩ => ⟨S16896x2048, .f32⟩
  | .hbm, ⟨20, _⟩ => ⟨S16896x2048, .bf16⟩
  | .hbm, ⟨21, _⟩ => ⟨S16896x2048, .f32⟩
  | .hbm, ⟨22, _⟩ => ⟨S2x8448x2048, .f32⟩
  | .hbm, ⟨23, _⟩ => ⟨S2x8208x2048, .f32⟩
  | .local _ .vmem, ⟨0, _⟩ => ⟨S1056x256, .bf16⟩
  | .local _ .vmem, ⟨1, _⟩ => ⟨S1056x256, .bf16⟩
  | .local _ .vmem, ⟨2, _⟩ => ⟨S8448x256, .bf16⟩
  | .local _ .vmem, ⟨3, _⟩ => ⟨S8448x256, .bf16⟩
  | .local _ .vmem, ⟨4, _⟩ => ⟨S8448x128, .bf16⟩
  | .local _ .vmem, ⟨5, _⟩ => ⟨S8448x128, .bf16⟩
  | .local _ .vmem, ⟨6, _⟩ => ⟨S1056x128, .f32⟩
  | .local _ .vmem, ⟨7, _⟩ => ⟨S1056x128, .f32⟩
  | _, _ => ⟨S2x8208x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v37 : BitVec 32 := Scalar.muli arg7 c512_i32
  v37
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v37 : BitVec 32 := Scalar.muli arg7 c512_i32
  let v38 : BitVec 32 := v37
  let v39 : Index := Scalar.indexCast v38
  let c0_15 : Index := 0#32
  ![v39.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v37 : BitVec 32 := Scalar.muli arg7 c512_i32
  let v38 : BitVec 32 := v37
  let v42 : Index := Scalar.indexCast v38
  let c0_16 : Index := 0#32
  ![v42.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1056x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8208x16x192 : Shape := ⟨4, ![2, 8208, 16, 192]⟩
abbrev S2x8208x16x128 : Shape := ⟨4, ![2, 8208, 16, 128]⟩
abbrev S2x16x8208x8208 : Shape := ⟨4, ![2, 16, 8208, 8208]⟩
abbrev S_ : Shape := ⟨0, ![]⟩
abbrev S2x16x8208 : Shape := ⟨3, ![2, 16, 8208]⟩
abbrev S2x16x8208x1 : Shape := ⟨4, ![2, 16, 8208, 1]⟩
abbrev S2x16x128x8208 : Shape := ⟨4, ![2, 16, 128, 8208]⟩
abbrev S2x8208x2048 : Shape := ⟨3, ![2, 8208, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x8208x16x192, .f32⟩
  | .hbm, ⟨1, _⟩ => ⟨S2x8208x16x192, .f32⟩
  | .hbm, ⟨2, _⟩ => ⟨S2x8208x16x128, .f32⟩
  | .hbm, ⟨3, _⟩ => ⟨S2x16x8208x8208, .f32⟩
  | .hbm, ⟨4, _⟩ => ⟨S_, .f32⟩
  | .hbm, ⟨5, _⟩ => ⟨S2x16x8208x8208, .f32⟩
  | .hbm, ⟨6, _⟩ => ⟨S2x16x8208x8208, .f32⟩
  | .hbm, ⟨7, _⟩ => ⟨S_, .f32⟩
  | .hbm, ⟨8, _⟩ => ⟨S2x16x8208, .f32⟩
  | .hbm, ⟨9, _⟩ => ⟨S_, .f32⟩
  | .hbm, ⟨10, _⟩ => ⟨S2x16x8208, .f32⟩
  | .hbm, ⟨11, _⟩ => ⟨S2x16x8208, .f32⟩
  | .hbm, ⟨12, _⟩ => ⟨S2x16x8208x1, .f32⟩
  | .hbm, ⟨13, _⟩ => ⟨S2x16x8208x8208, .f32⟩
  | .hbm, ⟨14, _⟩ => ⟨S2x16x8208x8208, .f32⟩
  | .hbm, ⟨15, _⟩ => ⟨S2x16x8208x8208, .f32⟩
  | .hbm, ⟨16, _⟩ => ⟨S_, .f32⟩
  | .hbm, ⟨17, _⟩ => ⟨S2x16x8208, .f32⟩
  | .hbm, ⟨18, _⟩ => ⟨S2x16x8208x1, .f32⟩
  | .hbm, ⟨19, _⟩ => ⟨S2x16x8208x8208, .f32⟩
  | .hbm, ⟨20, _⟩ => ⟨S2x16x8208x8208, .f32⟩
  | .hbm, ⟨21, _⟩ => ⟨S2x16x128x8208, .f32⟩
  | .hbm, ⟨22, _⟩ => ⟨S2x8208x16x128, .f32⟩
  | .hbm, ⟨23, _⟩ => ⟨S2x8208x2048, .f32⟩
  | _, _ => ⟨S2x8208x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Wide.lean ====
abbrev S2x4112x4096 : Shape := ⟨3, ![2, 4112, 4096]⟩
abbrev S2x8208x4096 : Shape := ⟨3, ![2, 8208, 4096]⟩
abbrev S4096x7744 : Shape := ⟨2, ![4096, 7744]⟩
abbrev S_ : Shape := ⟨0, ![]⟩
abbrev S2x4352x4096 : Shape := ⟨3, ![2, 4352, 4096]⟩
abbrev S8704x4096 : Shape := ⟨2, ![8704, 4096]⟩
abbrev S2x8448x4096 : Shape := ⟨3, ![2, 8448, 4096]⟩
abbrev S16896x4096 : Shape := ⟨2, ![16896, 4096]⟩
abbrev S25600x4096 : Shape := ⟨2, ![25600, 4096]⟩
abbrev S4096x6144 : Shape := ⟨2, ![4096, 6144]⟩
abbrev S25600x6144 : Shape := ⟨2, ![25600, 6144]⟩
abbrev S512x4096 : Shape := ⟨2, ![512, 4096]⟩
abbrev S4096x1024 : Shape := ⟨2, ![4096, 1024]⟩
abbrev S512x1024 : Shape := ⟨2, ![512, 1024]⟩
abbrev S8704x6144 : Shape := ⟨2, ![8704, 6144]⟩
abbrev S2x4352x6144 : Shape := ⟨3, ![2, 4352, 6144]⟩
abbrev S2x4112x6144 : Shape := ⟨3, ![2, 4112, 6144]⟩
abbrev S16896x6144 : Shape := ⟨2, ![16896, 6144]⟩
abbrev S2x8448x6144 : Shape := ⟨3, ![2, 8448, 6144]⟩
abbrev S2x8208x6144 : Shape := ⟨3, ![2, 8208, 6144]⟩

abbrev nBuf : Space → Nat
  | .hbm => 22
  | .vmem => 6
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096x7744, .f32⟩
  | .hbm, ⟨3, _⟩ => ⟨S_, .i32⟩
  | .hbm, ⟨4, _⟩ => ⟨S_, .f32⟩
  | .hbm, ⟨5, _⟩ => ⟨S2x4352x4096, .f32⟩
  | .hbm, ⟨6, _⟩ => ⟨S8704x4096, .f32⟩
  | .hbm, ⟨7, _⟩ => ⟨S_, .i32⟩
  | .hbm, ⟨8, _⟩ => ⟨S_, .f32⟩
  | .hbm, ⟨9, _⟩ => ⟨S2x8448x4096, .f32⟩
  | .hbm, ⟨10, _⟩ => ⟨S16896x4096, .f32⟩
  | .hbm, ⟨11, _⟩ => ⟨S25600x4096, .f32⟩
  | .hbm, ⟨12, _⟩ => ⟨S25600x4096, .bf16⟩
  | .hbm, ⟨13, _⟩ => ⟨S4096x6144, .f32⟩
  | .hbm, ⟨14, _⟩ => ⟨S4096x6144, .bf16⟩
  | .hbm, ⟨15, _⟩ => ⟨S25600x6144, .f32⟩
  | .hbm, ⟨16, _⟩ => ⟨S8704x6144, .f32⟩
  | .hbm, ⟨17, _⟩ => ⟨S2x4352x6144, .f32⟩
  | .hbm, ⟨18, _⟩ => ⟨S2x4112x6144, .f32⟩
  | .hbm, ⟨19, _⟩ => ⟨S16896x6144, .f32⟩
  | .hbm, ⟨20, _⟩ => ⟨S2x8448x6144, .f32⟩
  | .hbm, ⟨21, _⟩ => ⟨S2x8208x6144, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![50, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WideReferenceIdeal.lean ====
abbrev S2x4112x4096 : Shape := ⟨3, ![2, 4112, 4096]⟩
abbrev S2x8208x4096 : Shape := ⟨3, ![2, 8208, 4096]⟩
abbrev S4096x7744 : Shape := ⟨2, ![4096, 7744]⟩
abbrev S2x4112x7744 : Shape := ⟨3, ![2, 4112, 7744]⟩
abbrev S2x4112x6144 : Shape := ⟨3, ![2, 4112, 6144]⟩
abbrev S2x8208x7744 : Shape := ⟨3, ![2, 8208, 7744]⟩
abbrev S2x8208x6144 : Shape := ⟨3, ![2, 8208, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096x7744, .f32⟩
  | .hbm, ⟨3, _⟩ => ⟨S2x4112x7744, .f32⟩
  | .hbm, ⟨4, _⟩ => ⟨S2x4112x6144, .f32⟩
  | .hbm, ⟨5, _⟩ => ⟨S2x8208x7744, .f32⟩
  | .hbm, ⟨6, _⟩ => ⟨S2x8208x6144, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S2x4112x4096 : Shape := ⟨3, ![2, 4112, 4096]⟩
abbrev S2x8208x4096 : Shape := ⟨3, ![2, 8208, 4096]⟩
abbrev S4096x4096 : Shape := ⟨2, ![4096, 4096]⟩
abbrev S_ : Shape := ⟨0, ![]⟩
abbrev S2x4352x4096 : Shape := ⟨3, ![2, 4352, 4096]⟩
abbrev S8704x4096 : Shape := ⟨2, ![8704, 4096]⟩
abbrev S2x8448x4096 : Shape := ⟨3, ![2, 8448, 4096]⟩
abbrev S16896x4096 : Shape := ⟨2, ![16896, 4096]⟩
abbrev S25600x4096 : Shape := ⟨2, ![25600, 4096]⟩
abbrev S512x4096 : Shape := ⟨2, ![512, 4096]⟩
abbrev S4096x1024 : Shape := ⟨2, ![4096, 1024]⟩
abbrev S512x1024 : Shape := ⟨2, ![512, 1024]⟩
abbrev S512x1 : Shape := ⟨2, ![512, 1]⟩

abbrev nBuf : Space → Nat
  | .hbm => 32
  | .vmem => 8
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S2x4112x4096, .f32⟩
  | .hbm, ⟨3, _⟩ => ⟨S2x8208x4096, .f32⟩
  | .hbm, ⟨4, _⟩ => ⟨S4096x4096, .f32⟩
  | .hbm, ⟨5, _⟩ => ⟨S_, .i32⟩
  | .hbm, ⟨6, _⟩ => ⟨S_, .f32⟩
  | .hbm, ⟨7, _⟩ => ⟨S2x4352x4096, .f32⟩
  | .hbm, ⟨8, _⟩ => ⟨S8704x4096, .f32⟩
  | .hbm, ⟨9, _⟩ => ⟨S_, .i32⟩
  | .hbm, ⟨10, _⟩ => ⟨S_, .f32⟩
  | .hbm, ⟨11, _⟩ => ⟨S2x8448x4096, .f32⟩
  | .hbm, ⟨12, _⟩ => ⟨S16896x4096, .f32⟩
  | .hbm, ⟨13, _⟩ => ⟨S25600x4096, .f32⟩
  | .hbm, ⟨14, _⟩ => ⟨S25600x4096, .bf16⟩
  | .hbm, ⟨15, _⟩ => ⟨S4096x4096, .bf16⟩
  | .hbm, ⟨16, _⟩ => ⟨S_, .i32⟩
  | .hbm, ⟨17, _⟩ => ⟨S_, .f32⟩
  | .hbm, ⟨18, _⟩ => ⟨S2x4352x4096, .f32⟩
  | .hbm, ⟨19, _⟩ => ⟨S8704x4096, .f32⟩
  | .hbm, ⟨20, _⟩ => ⟨S_, .i32⟩
  | .hbm, ⟨21, _⟩ => ⟨S_, .f32⟩
  | .hbm, ⟨22, _⟩ => ⟨S2x8448x4096, .f32⟩
  | .hbm, ⟨23, _⟩ => ⟨S16896x4096, .f32⟩
  | .hbm, ⟨24, _⟩ => ⟨S25600x4096, .f32⟩
  | .hbm, ⟨25, _⟩ => ⟨S25600x4096, .f32⟩
  | .hbm, ⟨26, _⟩ => ⟨S8704x4096, .f32⟩
  | .hbm, ⟨27, _⟩ => ⟨S2x4352x4096, .f32⟩
  | .hbm, ⟨28, _⟩ => ⟨S2x4112x4096, .f32⟩
  | .hbm, ⟨29, _⟩ => ⟨S16896x4096, .f32⟩
  | .hbm, ⟨30, _⟩ => ⟨S2x8448x4096, .f32⟩
  | .hbm, ⟨31, _⟩ => ⟨S2x8208x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_call3_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![50, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S2x4112x4096 : Shape := ⟨3, ![2, 4112, 4096]⟩
abbrev S2x8208x4096 : Shape := ⟨3, ![2, 8208, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S2x4112x4096, .f32⟩
  | .hbm, ⟨3, _⟩ => ⟨S2x8208x4096, .f32⟩
  | .hbm, ⟨4, _⟩ => ⟨S4096x4096, .f32⟩
  | .hbm, ⟨5, _⟩ => ⟨S2x4112x4096, .f32⟩
  | .hbm, ⟨6, _⟩ => ⟨S2x4112x4096, .f32⟩
  | .hbm, ⟨7, _⟩ => ⟨S2x8208x4096, .f32⟩
  | .hbm, ⟨8, _⟩ => ⟨S2x8208x4096, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Latent.lean ====
abbrev S2x4112x4096 : Shape := ⟨3, ![2, 4112, 4096]⟩
abbrev S2x8208x4096 : Shape := ⟨3, ![2, 8208, 4096]⟩
abbrev S4096x7744 : Shape := ⟨2, ![4096, 7744]⟩
abbrev S1024 : Shape := ⟨1, ![1024]⟩
abbrev S512 : Shape := ⟨1, ![512]⟩
abbrev S4096x1600 : Shape := ⟨2, ![4096, 1600]⟩
abbrev S_ : Shape := ⟨0, ![]⟩
abbrev S4096x1664 : Shape := ⟨2, ![4096, 1664]⟩
abbrev S2x4352x4096 : Shape := ⟨3, ![2, 4352, 4096]⟩
abbrev S8704x4096 : Shape := ⟨2, ![8704, 4096]⟩
abbrev S2x8448x4096 : Shape := ⟨3, ![2, 8448, 4096]⟩
abbrev S16896x4096 : Shape := ⟨2, ![16896, 4096]⟩
abbrev S25600x4096 : Shape := ⟨2, ![25600, 4096]⟩
abbrev S1x1024 : Shape := ⟨2, ![1, 1024]⟩
abbrev S1x512 : Shape := ⟨2, ![1, 512]⟩
abbrev S25600x1024 : Shape := ⟨2, ![25600, 1024]⟩
abbrev S25600x512 : Shape := ⟨2, ![25600, 512]⟩
abbrev S25600x128 : Shape := ⟨2, ![25600, 128]⟩
abbrev S256x4096 : Shape := ⟨2, ![256, 4096]⟩
abbrev S256x1024 : Shape := ⟨2, ![256, 1024]⟩
abbrev S256x512 : Shape := ⟨2, ![256, 512]⟩
abbrev S256x128 : Shape := ⟨2, ![256, 128]⟩
abbrev S256x1664 : Shape := ⟨2, ![256, 1664]⟩
abbrev S256 : Shape := ⟨1, ![256]⟩
abbrev S256x1 : Shape := ⟨2, ![256, 1]⟩
abbrev S8704x1024 : Shape := ⟨2, ![8704, 1024]⟩
abbrev S2x4352x1024 : Shape := ⟨3, ![2, 4352, 1024]⟩
abbrev S2x4112x1024 : Shape := ⟨3, ![2, 4112, 1024]⟩
abbrev S16896x1024 : Shape := ⟨2, ![16896, 1024]⟩
abbrev S2x8448x1024 : Shape := ⟨3, ![2, 8448, 1024]⟩
abbrev S2x8208x1024 : Shape := ⟨3, ![2, 8208, 1024]⟩
abbrev S8704x512 : Shape := ⟨2, ![8704, 512]⟩
abbrev S2x4352x512 : Shape := ⟨3, ![2, 4352, 512]⟩
abbrev S2x4112x512 : Shape := ⟨3, ![2, 4112, 512]⟩
abbrev S16896x512 : Shape := ⟨2, ![16896, 512]⟩
abbrev S2x8448x512 : Shape := ⟨3, ![2, 8448, 512]⟩
abbrev S2x8208x512 : Shape := ⟨3, ![2, 8208, 512]⟩
abbrev S25600x64 : Shape := ⟨2, ![25600, 64]⟩
abbrev S8704x64 : Shape := ⟨2, ![8704, 64]⟩
abbrev S2x4352x64 : Shape := ⟨3, ![2, 4352, 64]⟩
abbrev S2x4112x64 : Shape := ⟨3, ![2, 4112, 64]⟩
abbrev S16896x64 : Shape := ⟨2, ![16896, 64]⟩
abbrev S2x8448x64 : Shape := ⟨3, ![2, 8448, 64]⟩
abbrev S2x8208x64 : Shape := ⟨3, ![2, 8208, 64]⟩

abbrev nBuf : Space → Nat
  | .hbm => 48
  | .vmem => 11
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096x7744, .f32⟩
  | .hbm, ⟨3, _⟩ => ⟨S1024, .f32⟩
  | .hbm, ⟨4, _⟩ => ⟨S512, .f32⟩
  | .hbm, ⟨5, _⟩ => ⟨S4096x1600, .f32⟩
  | .hbm, ⟨6, _⟩ => ⟨S_, .i32⟩
  | .hbm, ⟨7, _⟩ => ⟨S_, .f32⟩
  | .hbm, ⟨8, _⟩ => ⟨S4096x1664, .f32⟩
  | .hbm, ⟨9, _⟩ => ⟨S4096x1664, .bf16⟩
  | .hbm, ⟨10, _⟩ => ⟨S_, .i32⟩
  | .hbm, ⟨11, _⟩ => ⟨S_, .f32⟩
  | .hbm, ⟨12, _⟩ => ⟨S2x4352x4096, .f32⟩
  | .hbm, ⟨13, _⟩ => ⟨S8704x4096, .f32⟩
  | .hbm, ⟨14, _⟩ => ⟨S_, .i32⟩
  | .hbm, ⟨15, _⟩ => ⟨S_, .f32⟩
  | .hbm, ⟨16, _⟩ => ⟨S2x8448x4096, .f32⟩
  | .hbm, ⟨17, _⟩ => ⟨S16896x4096, .f32⟩
  | .hbm, ⟨18, _⟩ => ⟨S25600x4096, .f32⟩
  | .hbm, ⟨19, _⟩ => ⟨S25600x4096, .bf16⟩
  | .hbm, ⟨20, _⟩ => ⟨S1x1024, .f32⟩
  | .hbm, ⟨21, _⟩ => ⟨S1x512, .f32⟩
  | .hbm, ⟨22, _⟩ => ⟨S25600x1024, .bf16⟩
  | .hbm, ⟨23, _⟩ => ⟨S25600x512, .bf16⟩
  | .hbm, ⟨24, _⟩ => ⟨S25600x128, .f32⟩
  | .hbm, ⟨25, _⟩ => ⟨S8704x1024, .bf16⟩
  | .hbm, ⟨26, _⟩ => ⟨S2x4352x1024, .bf16⟩
  | .hbm, ⟨27, _⟩ => ⟨S2x4112x1024, .bf16⟩
  | .hbm, ⟨28, _⟩ => ⟨S2x4112x1024, .f32⟩
  | .hbm, ⟨29, _⟩ => ⟨S16896x1024, .bf16⟩
  | .hbm, ⟨30, _⟩ => ⟨S2x8448x1024, .bf16⟩
  | .hbm, ⟨31, _⟩ => ⟨S2x8208x1024, .bf16⟩
  | .hbm, ⟨32, _⟩ => ⟨S2x8208x1024, .f32⟩
  | .hbm, ⟨33, _⟩ => ⟨S8704x512, .bf16⟩
  | .hbm, ⟨34, _⟩ => ⟨S2x4352x512, .bf16⟩
  | .hbm, ⟨35, _⟩ => ⟨S2x4112x512, .bf16⟩
  | .hbm, ⟨36, _⟩ => ⟨S2x4112x512, .f32⟩
  | .hbm, ⟨37, _⟩ => ⟨S16896x512, .bf16⟩
  | .hbm, ⟨38, _⟩ => ⟨S2x8448x512, .bf16⟩
  | .hbm, ⟨39, _⟩ => ⟨S2x8208x512, .bf16⟩
  | .hbm, ⟨40, _⟩ => ⟨S2x8208x512, .f32⟩
  | .hbm, ⟨41, _⟩ => ⟨S25600x64, .f32⟩
  | .hbm, ⟨42, _⟩ => ⟨S8704x64, .f32⟩
  | .hbm, ⟨43, _⟩ => ⟨S2x4352x64, .f32⟩
  | .hbm, ⟨44, _⟩ => ⟨S2x4112x64, .f32⟩
  | .hbm, ⟨45, _⟩ => ⟨S16896x64, .f32⟩
  | .hbm, ⟨46, _⟩ => ⟨S2x8448x64, .f32⟩
  | .hbm, ⟨47, _⟩ => ⟨S2x8208x64, .f32⟩
  | .local _ .vmem, ⟨0, _⟩ => ⟨S256x4096, .bf16⟩
  | .local _ .vmem, ⟨1, _⟩ => ⟨S256x4096, .bf16⟩
  | .local _ .vmem, ⟨2, _⟩ => ⟨S4096x1664, .bf16⟩
  | .local _ .vmem, ⟨3, _⟩ => ⟨S1x1024, .f32⟩
  | .local _ .vmem, ⟨4, _⟩ => ⟨S1x512, .f32⟩
  | .local _ .vmem, ⟨5, _⟩ => ⟨S256x1024, .bf16⟩
  | .local _ .vmem, ⟨6, _⟩ => ⟨S256x1024, .bf16⟩
  | .local _ .vmem, ⟨7, _⟩ => ⟨S256x512, .bf16⟩
  | .local _ .vmem, ⟨8, _⟩ => ⟨S256x512, .bf16⟩
  | .local _ .vmem, ⟨9, _⟩ => ⟨S256x128, .f32⟩
  | .local _ .vmem, ⟨10, _⟩ => ⟨S256x128, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LatentReferenceIdeal.lean ====
abbrev S2x4112x4096 : Shape := ⟨3, ![2, 4112, 4096]⟩
abbrev S2x8208x4096 : Shape := ⟨3, ![2, 8208, 4096]⟩
abbrev S4096x7744 : Shape := ⟨2, ![4096, 7744]⟩
abbrev S1024 : Shape := ⟨1, ![1024]⟩
abbrev S512 : Shape := ⟨1, ![512]⟩
abbrev S2x4112x7744 : Shape := ⟨3, ![2, 4112, 7744]⟩
abbrev S2x8208x7744 : Shape := ⟨3, ![2, 8208, 7744]⟩
abbrev S2x4112x1024 : Shape := ⟨3, ![2, 4112, 1024]⟩
abbrev S_ : Shape := ⟨0, ![]⟩
abbrev S2x4112 : Shape := ⟨2, ![2, 4112]⟩
abbrev S2x4112x1 : Shape := ⟨3, ![2, 4112, 1]⟩
abbrev S1x1x1024 : Shape := ⟨3, ![1, 1, 1024]⟩
abbrev S2x8208x1024 : Shape := ⟨3, ![2, 8208, 1024]⟩
abbrev S2x8208 : Shape := ⟨2, ![2, 8208]⟩
abbrev S2x8208x1 : Shape := ⟨3, ![2, 8208, 1]⟩
abbrev S2x4112x512 : Shape := ⟨3, ![2, 4112, 512]⟩
abbrev S1x1x512 : Shape := ⟨3, ![1, 1, 512]⟩
abbrev S2x8208x512 : Shape := ⟨3, ![2, 8208, 512]⟩
abbrev S2x4112x64 : Shape := ⟨3, ![2, 4112, 64]⟩
abbrev S2x8208x64 : Shape := ⟨3, ![2, 8208, 64]⟩

abbrev nBuf : Space → Nat
  | .hbm => 77
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096x7744, .f32⟩
  | .hbm, ⟨3, _⟩ => ⟨S1024, .f32⟩
  | .hbm, ⟨4, _⟩ => ⟨S512, .f32⟩
  | .hbm, ⟨5, _⟩ => ⟨S2x4112x7744, .f32⟩
  | .hbm, ⟨6, _⟩ => ⟨S2x8208x7744, .f32⟩
  | .hbm, ⟨7, _⟩ => ⟨S2x4112x1024, .f32⟩
  | .hbm, ⟨8, _⟩ => ⟨S2x4112x1024, .f32⟩
  | .hbm, ⟨9, _⟩ => ⟨S_, .f32⟩
  | .hbm, ⟨10, _⟩ => ⟨S2x4112, .f32⟩
  | .hbm, ⟨11, _⟩ => ⟨S2x4112x1, .f32⟩
  | .hbm, ⟨12, _⟩ => ⟨S_, .f32⟩
  | .hbm, ⟨13, _⟩ => ⟨S2x4112x1, .f32⟩
  | .hbm, ⟨14, _⟩ => ⟨S2x4112x1, .f32⟩
  | .hbm, ⟨15, _⟩ => ⟨S_, .f32⟩
  | .hbm, ⟨16, _⟩ => ⟨S2x4112x1, .f32⟩
  | .hbm, ⟨17, _⟩ => ⟨S2x4112x1, .f32⟩
  | .hbm, ⟨18, _⟩ => ⟨S2x4112x1, .f32⟩
  | .hbm, ⟨19, _⟩ => ⟨S2x4112x1024, .f32⟩
  | .hbm, ⟨20, _⟩ => ⟨S2x4112x1024, .f32⟩
  | .hbm, ⟨21, _⟩ => ⟨S1x1x1024, .f32⟩
  | .hbm, ⟨22, _⟩ => ⟨S2x4112x1024, .f32⟩
  | .hbm, ⟨23, _⟩ => ⟨S2x4112x1024, .f32⟩
  | .hbm, ⟨24, _⟩ => ⟨S2x8208x1024, .f32⟩
  | .hbm, ⟨25, _⟩ => ⟨S2x8208x1024, .f32⟩
  | .hbm, ⟨26, _⟩ => ⟨S_, .f32⟩
  | .hbm, ⟨27, _⟩ => ⟨S2x8208, .f32⟩
  | .hbm, ⟨28, _⟩ => ⟨S2x8208x1, .f32⟩
  | .hbm, ⟨29, _⟩ => ⟨S_, .f32⟩
  | .hbm, ⟨30, _⟩ => ⟨S2x8208x1, .f32⟩
  | .hbm, ⟨31, _⟩ => ⟨S2x8208x1, .f32⟩
  | .hbm, ⟨32, _⟩ => ⟨S_, .f32⟩
  | .hbm, ⟨33, _⟩ => ⟨S2x8208x1, .f32⟩
  | .hbm, ⟨34, _⟩ => ⟨S2x8208x1, .f32⟩
  | .hbm, ⟨35, _⟩ => ⟨S2x8208x1, .f32⟩
  | .hbm, ⟨36, _⟩ => ⟨S2x8208x1024, .f32⟩
  | .hbm, ⟨37, _⟩ => ⟨S2x8208x1024, .f32⟩
  | .hbm, ⟨38, _⟩ => ⟨S1x1x1024, .f32⟩
  | .hbm, ⟨39, _⟩ => ⟨S2x8208x1024, .f32⟩
  | .hbm, ⟨40, _⟩ => ⟨S2x8208x1024, .f32⟩
  | .hbm, ⟨41, _⟩ => ⟨S2x4112x512, .f32⟩
  | .hbm, ⟨42, _⟩ => ⟨S2x4112x512, .f32⟩
  | .hbm, ⟨43, _⟩ => ⟨S_, .f32⟩
  | .hbm, ⟨44, _⟩ => ⟨S2x4112, .f32⟩
  | .hbm, ⟨45, _⟩ => ⟨S2x4112x1, .f32⟩
  | .hbm, ⟨46, _⟩ => ⟨S_, .f32⟩
  | .hbm, ⟨47, _⟩ => ⟨S2x4112x1, .f32⟩
  | .hbm, ⟨48, _⟩ => ⟨S2x4112x1, .f32⟩
  | .hbm, ⟨49, _⟩ => ⟨S_, .f32⟩
  | .hbm, ⟨50, _⟩ => ⟨S2x4112x1, .f32⟩
  | .hbm, ⟨51, _⟩ => ⟨S2x4112x1, .f32⟩
  | .hbm, ⟨52, _⟩ => ⟨S2x4112x1, .f32⟩
  | .hbm, ⟨53, _⟩ => ⟨S2x4112x512, .f32⟩
  | .hbm, ⟨54, _⟩ => ⟨S2x4112x512, .f32⟩
  | .hbm, ⟨55, _⟩ => ⟨S1x1x512, .f32⟩
  | .hbm, ⟨56, _⟩ => ⟨S2x4112x512, .f32⟩
  | .hbm, ⟨57, _⟩ => ⟨S2x4112x512, .f32⟩
  | .hbm, ⟨58, _⟩ => ⟨S2x8208x512, .f32⟩
  | .hbm, ⟨59, _⟩ => ⟨S2x8208x512, .f32⟩
  | .hbm, ⟨60, _⟩ => ⟨S_, .f32⟩
  | .hbm, ⟨61, _⟩ => ⟨S2x8208, .f32⟩
  | .hbm, ⟨62, _⟩ => ⟨S2x8208x1, .f32⟩
  | .hbm, ⟨63, _⟩ => ⟨S_, .f32⟩
  | .hbm, ⟨64, _⟩ => ⟨S2x8208x1, .f32⟩
  | .hbm, ⟨65, _⟩ => ⟨S2x8208x1, .f32⟩
  | .hbm, ⟨66, _⟩ => ⟨S_, .f32⟩
  | .hbm, ⟨67, _⟩ => ⟨S2x8208x1, .f32⟩
  | .hbm, ⟨68, _⟩ => ⟨S2x8208x1, .f32⟩
  | .hbm, ⟨69, _⟩ => ⟨S2x8208x1, .f32⟩
  | .hbm, ⟨70, _⟩ => ⟨S2x8208x512, .f32⟩
  | .hbm, ⟨71, _⟩ => ⟨S2x8208x512, .f32⟩
  | .hbm, ⟨72, _⟩ => ⟨S1x1x512, .f32⟩
  | .hbm, ⟨73, _⟩ => ⟨S2x8208x512, .f32⟩
  | .hbm, ⟨74, _⟩ => ⟨S2x8208x512, .f32⟩
  | .hbm, ⟨75, _⟩ => ⟨S2x4112x64, .f32⟩
  | .hbm, ⟨76, _⟩ => ⟨S2x8208x64, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Up.lean ====
abbrev S82432x4096 : Shape := ⟨2, ![82432, 4096]⟩
abbrev S161 : Shape := ⟨1, ![161]⟩
abbrev S1 : Shape := ⟨1, ![1]⟩
abbrev S2x64x4096x1024 : Shape := ⟨4, ![2, 64, 4096, 1024]⟩
abbrev S82432x1024 : Shape := ⟨2, ![82432, 1024]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 4
  | .vmem => 10
  | .smem => 3
  | _ => 0

abbrev bufTy : (tb : Table) → Fin (tcTables nBuf tb) → BufTy
  | .hbm, ⟨0, _⟩ => ⟨S82432x4096, .bf16⟩
  | .hbm, ⟨1, _⟩ => ⟨S2x64x4096x1024, .f32⟩
  | .hbm, ⟨2, _⟩ => ⟨S2x64x4096x1024, .f32⟩
  | .hbm, ⟨3, _⟩ => ⟨S82432x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S161, .i32⟩
  | .local _ .smem, ⟨1, _⟩ => ⟨S161, .i32⟩
  | .local _ .smem, ⟨2, _⟩ => ⟨S1, .i32⟩
  | _, _ => ⟨S82432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 161], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S82432x4096 : Shape := ⟨2, ![82432, 4096]⟩
abbrev S161 : Shape := ⟨1, ![161]⟩
abbrev S1 : Shape := ⟨1, ![1]⟩
abbrev S2x64x4096x1024 : Shape := ⟨4, ![2, 64, 4096, 1024]⟩
abbrev S161x512x4096 : Shape := ⟨3, ![161, 512, 4096]⟩
abbrev S1x64x4096x1024 : Shape := ⟨4, ![1, 64, 4096, 1024]⟩
abbrev S64x4096x1024 : Shape := ⟨3, ![64, 4096, 1024]⟩
abbrev S_ : Shape := ⟨0, ![]⟩
abbrev S161x1 : Shape := ⟨2, ![161, 1]⟩
abbrev S161x4096x1024 : Shape := ⟨3, ![161, 4096, 1024]⟩
abbrev S161x512x1024 : Shape := ⟨3, ![161, 512, 1024]⟩
abbrev S161x1x1 : Shape := ⟨3, ![161, 1, 1]⟩
abbrev S1x1x1 : Shape := ⟨3, ![1, 1, 1]⟩
abbrev S82432x1024 : Shape := ⟨2, ![82432, 1024]⟩

abbrev nBuf : Space → Nat
  | .hbm => 54
  | .vmem => 0
  | .smem => 0
  | _ => 0

abbrev bufTy : (tb : Table) → Fin (tcTables nBuf tb) → BufTy
  | .hbm, ⟨0, _⟩ => ⟨S82432x4096, .bf16⟩
  | .hbm, ⟨1, _⟩ => ⟨S161, .i32⟩
  | .hbm, ⟨2, _⟩ => ⟨S161, .i32⟩
  | .hbm, ⟨3, _⟩ => ⟨S1, .i32⟩
  | .hbm, ⟨4, _⟩ => ⟨S2x64x4096x1024, .f32⟩
  | .hbm, ⟨5, _⟩ => ⟨S2x64x4096x1024, .f32⟩
  | .hbm, ⟨6, _⟩ => ⟨S161x512x4096, .bf16⟩
  | .hbm, ⟨7, _⟩ => ⟨S161x512x4096, .f32⟩
  | .hbm, ⟨8, _⟩ => ⟨S1x64x4096x1024, .f32⟩
  | .hbm, ⟨9, _⟩ => ⟨S64x4096x1024, .f32⟩
  | .hbm, ⟨10, _⟩ => ⟨S_, .i32⟩
  | .hbm, ⟨11, _⟩ => ⟨S161, .i32⟩
  | .hbm, ⟨12, _⟩ => ⟨S161, .i1⟩
  | .hbm, ⟨13, _⟩ => ⟨S_, .i32⟩
  | .hbm, ⟨14, _⟩ => ⟨S161, .i32⟩
  | .hbm, ⟨15, _⟩ => ⟨S161, .i32⟩
  | .hbm, ⟨16, _⟩ => ⟨S161, .i32⟩
  | .hbm, ⟨17, _⟩ => ⟨S161x1, .i32⟩
  | .hbm, ⟨18, _⟩ => ⟨S161x4096x1024, .f32⟩
  | .hbm, ⟨19, _⟩ => ⟨S161x512x1024, .f32⟩
  | .hbm, ⟨20, _⟩ => ⟨S1x64x4096x1024, .f32⟩
  | .hbm, ⟨21, _⟩ => ⟨S64x4096x1024, .f32⟩
  | .hbm, ⟨22, _⟩ => ⟨S_, .i32⟩
  | .hbm, ⟨23, _⟩ => ⟨S161, .i32⟩
  | .hbm, ⟨24, _⟩ => ⟨S161, .i1⟩
  | .hbm, ⟨25, _⟩ => ⟨S_, .i32⟩
  | .hbm, ⟨26, _⟩ => ⟨S161, .i32⟩
  | .hbm, ⟨27, _⟩ => ⟨S161, .i32⟩
  | .hbm, ⟨28, _⟩ => ⟨S161, .i32⟩
  | .hbm, ⟨29, _⟩ => ⟨S161x1, .i32⟩
  | .hbm, ⟨30, _⟩ => ⟨S161x4096x1024, .f32⟩
  | .hbm, ⟨31, _⟩ => ⟨S161x512x1024, .f32⟩
  | .hbm, ⟨32, _⟩ => ⟨S161, .i32⟩
  | .hbm, ⟨33, _⟩ => ⟨S161x1x1, .i32⟩
  | .hbm, ⟨34, _⟩ => ⟨S1x1x1, .i32⟩
  | .hbm, ⟨35, _⟩ => ⟨S161x1x1, .i32⟩
  | .hbm, ⟨36, _⟩ => ⟨S161x1x1, .i1⟩
  | .hbm, ⟨37, _⟩ => ⟨S161x512x1024, .f32⟩
  | .hbm, ⟨38, _⟩ => ⟨S161x512x1024, .f32⟩
  | .hbm, ⟨39, _⟩ => ⟨S_, .f32⟩
  | .hbm, ⟨40, _⟩ => ⟨S161x512x1024, .f32⟩
  | .hbm, ⟨41, _⟩ => ⟨S161x512x1024, .f32⟩
  | .hbm, ⟨42, _⟩ => ⟨S_, .f32⟩
  | .hbm, ⟨43, _⟩ => ⟨S161x512x1024, .f32⟩
  | .hbm, ⟨44, _⟩ => ⟨S161x512x1024, .f32⟩
  | .hbm, ⟨45, _⟩ => ⟨S161x512x1024, .f32⟩
  | .hbm, ⟨46, _⟩ => ⟨S161x512x1024, .f32⟩
  | .hbm, ⟨47, _⟩ => ⟨S_, .f32⟩
  | .hbm, ⟨48, _⟩ => ⟨S_, .f32⟩
  | .hbm, ⟨49, _⟩ => ⟨S161x512x1024, .i1⟩
  | .hbm, ⟨50, _⟩ => ⟨S161x512x1024, .f32⟩
  | .hbm, ⟨51, _⟩ => ⟨S161x512x1024, .f32⟩
  | .hbm, ⟨52, _⟩ => ⟨S82432x1024, .f32⟩
  | .hbm, ⟨53, _⟩ => ⟨S82432x1024, .bf16⟩
  | _, _ => ⟨S82432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Down.lean ====
abbrev S82432x1024 : Shape := ⟨2, ![82432, 1024]⟩
abbrev S161 : Shape := ⟨1, ![161]⟩
abbrev S1 : Shape := ⟨1, ![1]⟩
abbrev S2x64x1024x4096 : Shape := ⟨4, ![2, 64, 1024, 4096]⟩
abbrev S82432x4096 : Shape := ⟨2, ![82432, 4096]⟩
abbrev S512x1024 : Shape := ⟨2, ![512, 1024]⟩
abbrev S1x1x1024x2048 : Shape := ⟨4, ![1, 1, 1024, 2048]⟩
abbrev S512x2048 : Shape := ⟨2, ![512, 2048]⟩
abbrev S1024x2048 : Shape := ⟨2, ![1024, 2048]⟩

abbrev nBuf : Space → Nat
  | .hbm => 3
  | .vmem => 7
  | .smem => 3
  | _ => 0

abbrev bufTy : (tb : Table) → Fin (tcTables nBuf tb) → BufTy
  | .hbm, ⟨0, _⟩ => ⟨S82432x1024, .bf16⟩
  | .hbm, ⟨1, _⟩ => ⟨S2x64x1024x4096, .f32⟩
  | .hbm, ⟨2, _⟩ => ⟨S82432x4096, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .smem, ⟨0, _⟩ => ⟨S161, .i32⟩
  | .local _ .smem, ⟨1, _⟩ => ⟨S161, .i32⟩
  | .local _ .smem, ⟨2, _⟩ => ⟨S1, .i32⟩
  | _, _ => ⟨S82432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 161], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S82432x1024 : Shape := ⟨2, ![82432, 1024]⟩
abbrev S161 : Shape := ⟨1, ![161]⟩
abbrev S1 : Shape := ⟨1, ![1]⟩
abbrev S2x64x1024x4096 : Shape := ⟨4, ![2, 64, 1024, 4096]⟩
abbrev S161x512x1024 : Shape := ⟨3, ![161, 512, 1024]⟩
abbrev S1x64x1024x4096 : Shape := ⟨4, ![1, 64, 1024, 4096]⟩
abbrev S64x1024x4096 : Shape := ⟨3, ![64, 1024, 4096]⟩
abbrev S_ : Shape := ⟨0, ![]⟩
abbrev S161x1 : Shape := ⟨2, ![161, 1]⟩
abbrev S161x1024x4096 : Shape := ⟨3, ![161, 1024, 4096]⟩
abbrev S161x512x4096 : Shape := ⟨3, ![161, 512, 4096]⟩
abbrev S161x1x1 : Shape := ⟨3, ![161, 1, 1]⟩
abbrev S1x1x1 : Shape := ⟨3, ![1, 1, 1]⟩
abbrev S82432x4096 : Shape := ⟨2, ![82432, 4096]⟩

abbrev nBuf : Space → Nat
  | .hbm => 30
  | .vmem => 0
  | .smem => 0
  | _ => 0

abbrev bufTy : (tb : Table) → Fin (tcTables nBuf tb) → BufTy
  | .hbm, ⟨0, _⟩ => ⟨S82432x1024, .bf16⟩
  | .hbm, ⟨1, _⟩ => ⟨S161, .i32⟩
  | .hbm, ⟨2, _⟩ => ⟨S161, .i32⟩
  | .hbm, ⟨3, _⟩ => ⟨S1, .i32⟩
  | .hbm, ⟨4, _⟩ => ⟨S2x64x1024x4096, .f32⟩
  | .hbm, ⟨5, _⟩ => ⟨S161x512x1024, .bf16⟩
  | .hbm, ⟨6, _⟩ => ⟨S161x512x1024, .f32⟩
  | .hbm, ⟨7, _⟩ => ⟨S1x64x1024x4096, .f32⟩
  | .hbm, ⟨8, _⟩ => ⟨S64x1024x4096, .f32⟩
  | .hbm, ⟨9, _⟩ => ⟨S_, .i32⟩
  | .hbm, ⟨10, _⟩ => ⟨S161, .i32⟩
  | .hbm, ⟨11, _⟩ => ⟨S161, .i1⟩
  | .hbm, ⟨12, _⟩ => ⟨S_, .i32⟩
  | .hbm, ⟨13, _⟩ => ⟨S161, .i32⟩
  | .hbm, ⟨14, _⟩ => ⟨S161, .i32⟩
  | .hbm, ⟨15, _⟩ => ⟨S161, .i32⟩
  | .hbm, ⟨16, _⟩ => ⟨S161x1, .i32⟩
  | .hbm, ⟨17, _⟩ => ⟨S161x1024x4096, .f32⟩
  | .hbm, ⟨18, _⟩ => ⟨S161x512x4096, .f32⟩
  | .hbm, ⟨19, _⟩ => ⟨S161, .i32⟩
  | .hbm, ⟨20, _⟩ => ⟨S161x1x1, .i32⟩
  | .hbm, ⟨21, _⟩ => ⟨S1x1x1, .i32⟩
  | .hbm, ⟨22, _⟩ => ⟨S161x1x1, .i32⟩
  | .hbm, ⟨23, _⟩ => ⟨S161x1x1, .i1⟩
  | .hbm, ⟨24, _⟩ => ⟨S_, .f32⟩
  | .hbm, ⟨25, _⟩ => ⟨S_, .f32⟩
  | .hbm, ⟨26, _⟩ => ⟨S161x512x4096, .i1⟩
  | .hbm, ⟨27, _⟩ => ⟨S161x512x4096, .f32⟩
  | .hbm, ⟨28, _⟩ => ⟨S161x512x4096, .f32⟩
  | .hbm, ⟨29, _⟩ => ⟨S82432x4096, .f32⟩
  | _, _ => ⟨S82432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Heads.lean ====
abbrev S2x8208x1024 : Shape := ⟨3, ![2, 8208, 1024]⟩
abbrev S2x8208x512 : Shape := ⟨3, ![2, 8208, 512]⟩
abbrev S2x8208x64 : Shape := ⟨3, ![2, 8208, 64]⟩
abbrev S1024x3072 : Shape := ⟨2, ![1024, 3072]⟩
abbrev S512x2048 : Shape := ⟨2, ![512, 2048]⟩
abbrev S192 : Shape := ⟨1, ![192]⟩
abbrev S1024x16x192 : Shape := ⟨3, ![1024, 16, 192]⟩
abbrev S_ : Shape := ⟨0, ![]⟩
abbrev S1024x16x256 : Shape := ⟨3, ![1024, 16, 256]⟩
abbrev S1024x4096 : Shape := ⟨2, ![1024, 4096]⟩
abbrev S256 : Shape := ⟨1, ![256]⟩
abbrev S1x256 : Shape := ⟨2, ![1, 256]⟩
abbrev S2x8448x64 : Shape := ⟨3, ![2, 8448, 64]⟩
abbrev S16896x64 : Shape := ⟨2, ![16896, 64]⟩
abbrev S25600x64 : Shape := ⟨2, ![25600, 64]⟩
abbrev S25600x128 : Shape := ⟨2, ![25600, 128]⟩
abbrev S2x8448x1024 : Shape := ⟨3, ![2, 8448, 1024]⟩
abbrev S16896x1024 : Shape := ⟨2, ![16896, 1024]⟩
abbrev S25600x1024 : Shape := ⟨2, ![25600, 1024]⟩
abbrev S2x8448x512 : Shape := ⟨3, ![2, 8448, 512]⟩
abbrev S16896x512 : Shape := ⟨2, ![16896, 512]⟩
abbrev S25600x512 : Shape := ⟨2, ![25600, 512]⟩
abbrev S8448 : Shape := ⟨1, ![8448]⟩
abbrev S32 : Shape := ⟨1, ![32]⟩
abbrev S8448x1 : Shape := ⟨2, ![8448, 1]⟩
abbrev S1x32 : Shape := ⟨2, ![1, 32]⟩
abbrev S8448x32 : Shape := ⟨2, ![8448, 32]⟩
abbrev S8448x64 : Shape := ⟨2, ![8448, 64]⟩
abbrev S8448x128 : Shape := ⟨2, ![8448, 128]⟩
abbrev S1x8448x1x128 : Shape := ⟨4, ![1, 8448, 1, 128]⟩
abbrev S2x8448x1x128 : Shape := ⟨4, ![2, 8448, 1, 128]⟩
abbrev S16896x128 : Shape := ⟨2, ![16896, 128]⟩
abbrev S16896x4096 : Shape := ⟨2, ![16896, 4096]⟩
abbrev S16896x2048 : Shape := ⟨2, ![16896, 2048]⟩
abbrev S256x1024 : Shape := ⟨2, ![256, 1024]⟩
abbrev S256x512 : Shape := ⟨2, ![256, 512]⟩
abbrev S256x128 : Shape := ⟨2, ![256, 128]⟩
abbrev S256x4096 : Shape := ⟨2, ![256, 4096]⟩
abbrev S256x2048 : Shape := ⟨2, ![256, 2048]⟩
abbrev S256x1 : Shape := ⟨2, ![256, 1]⟩
abbrev S256x256 : Shape := ⟨2, ![256, 256]⟩
abbrev S1x128 : Shape := ⟨2, ![1, 128]⟩
abbrev S2x8448x4096 : Shape := ⟨3, ![2, 8448, 4096]⟩
abbrev S2x8208x4096 : Shape := ⟨3, ![2, 8208, 4096]⟩
abbrev S2x8208x16x256 : Shape := ⟨4, ![2, 8208, 16, 256]⟩
abbrev S2x8208x16x192 : Shape := ⟨4, ![2, 8208, 16, 192]⟩
abbrev S2x8448x2048 : Shape := ⟨3, ![2, 8448, 2048]⟩
abbrev S2x8208x2048 : Shape := ⟨3, ![2, 8208, 2048]⟩
abbrev S2x8208x16x128 : Shape := ⟨4, ![2, 8208, 16, 128]⟩

abbrev nBuf : Space → Nat
  | .hbm => 100
  | .vmem => 23
  | .smem => 0
  | _ => 0

abbrev bufTy : (tb : Table) → Fin (tcTables nBuf tb) → BufTy
  | .hbm, ⟨0, _⟩ => ⟨S2x8208x1024, .f32⟩
  | .hbm, ⟨1, _⟩ => ⟨S2x8208x512, .f32⟩
  | .hbm, ⟨2, _⟩ => ⟨S2x8208x64, .f32⟩
  | .hbm, ⟨3, _⟩ => ⟨S1024x3072, .f32⟩
  | .hbm, ⟨4, _⟩ => ⟨S512x2048, .f32⟩
  | .hbm, ⟨5, _⟩ => ⟨S512x2048, .f32⟩
  | .hbm, ⟨6, _⟩ => ⟨S192, .f32⟩
  | .hbm, ⟨7, _⟩ => ⟨S192, .f32⟩
  | .hbm, ⟨8, _⟩ => ⟨S1024x16x192, .f32⟩
  | .hbm, ⟨9, _⟩ => ⟨S_, .i32⟩
  | .hbm, ⟨10, _⟩ => ⟨S_, .f32⟩
  | .hbm, ⟨11, _⟩ => ⟨S1024x16x256, .f32⟩
  | .hbm, ⟨12, _⟩ => ⟨S1024x4096, .f32⟩
  | .hbm, ⟨13, _⟩ => ⟨S1024x4096, .bf16⟩
  | .hbm, ⟨14, _⟩ => ⟨S_, .i32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S_, .i32⟩
  | .hbm, ⟨19, _⟩ => ⟨S_, .f32⟩
  | .hbm, ⟨20, _⟩ => ⟨S256, .f32⟩
  | .hbm, ⟨21, _⟩ => ⟨S1x256, .f32⟩
  | .hbm, ⟨22, _⟩ => ⟨S_, .i32⟩
  | .hbm, ⟨23, _⟩ => ⟨S_, .f32⟩
  | .hbm, ⟨24, _⟩ => ⟨S2x8448x64, .f32⟩
  | .hbm, ⟨25, _⟩ => ⟨S16896x64, .f32⟩
  | .hbm, ⟨26, _⟩ => ⟨S_, .i32⟩
  | .hbm, ⟨27, _⟩ => ⟨S_, .f32⟩
  | .hbm, ⟨28, _⟩ => ⟨S25600x64, .f32⟩
  | .hbm, ⟨29, _⟩ => ⟨S_, .i32⟩
  | .hbm, ⟨30, _⟩ => ⟨S_, .f32⟩
  | .hbm, ⟨31, _⟩ => ⟨S25600x128, .f32⟩
  | .hbm, ⟨32, _⟩ => ⟨S_, .i32⟩
  | .hbm, ⟨33, _⟩ => ⟨S_, .f32⟩
  | .hbm, ⟨34, _⟩ => ⟨S2x8448x1024, .f32⟩
  | .hbm, ⟨35, _⟩ => ⟨S16896x1024, .f32⟩
  | .hbm, ⟨36, _⟩ => ⟨S_, .i32⟩
  | .hbm, ⟨37, _⟩ => ⟨S_, .f32⟩
  | .hbm, ⟨38, _⟩ => ⟨S25600x1024, .f32⟩
  | .hbm, ⟨39, _⟩ => ⟨S25600x1024, .bf16⟩
  | .hbm, ⟨40, _⟩ => ⟨S_, .i32⟩
  | .hbm, ⟨41, _⟩ => ⟨S_, .f32⟩
  | .hbm, ⟨42, _⟩ => ⟨S2x8448x512, .f32⟩
  | .hbm, ⟨43, _⟩ => ⟨S16896x512, .f32⟩
  | .hbm, ⟨44, _⟩ => ⟨S_, .i32⟩
  | .hbm, ⟨45, _⟩ => ⟨S_, .f32⟩
  | .hbm, ⟨46, _⟩ => ⟨S25600x512, .f32⟩
  | .hbm, ⟨47, _⟩ => ⟨S25600x512, .bf16⟩
  | .hbm, ⟨48, _⟩ => ⟨S8448, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S8448x1, .f32⟩
  | .hbm, ⟨58, _⟩ => ⟨S1x32, .f32⟩
  | .hbm, ⟨59, _⟩ => ⟨S8448x32, .f32⟩
  | .hbm, ⟨60, _⟩ => ⟨S8448x32, .f32⟩
  | .hbm, ⟨61, _⟩ => ⟨S8448x32, .f32⟩
  | .hbm, ⟨62, _⟩ => ⟨S8448x32, .f32⟩
  | .hbm, ⟨63, _⟩ => ⟨S8448x32, .f32⟩
  | .hbm, ⟨64, _⟩ => ⟨S_, .f32⟩
  | .hbm, ⟨65, _⟩ => ⟨S8448x64, .f32⟩
  | .hbm, ⟨66, _⟩ => ⟨S_, .f32⟩
  | .hbm, ⟨67, _⟩ => ⟨S8448x32, .f32⟩
  | .hbm, ⟨68, _⟩ => ⟨S8448x128, .f32⟩
  | .hbm, ⟨69, _⟩ => ⟨S8448x32, .f32⟩
  | .hbm, ⟨70, _⟩ => ⟨S8448x128, .f32⟩
  | .hbm, ⟨71, _⟩ => ⟨S8448x128, .f32⟩
  | .hbm, ⟨72, _⟩ => ⟨S1x8448x1x128, .f32⟩
  | .hbm, ⟨73, _⟩ => ⟨S2x8448x1x128, .f32⟩
  | .hbm, ⟨74, _⟩ => ⟨S16896x128, .f32⟩
  | .hbm, ⟨75, _⟩ => ⟨S1x8448x1x128, .f32⟩
  | .hbm, ⟨76, _⟩ => ⟨S2x8448x1x128, .f32⟩
  | .hbm, ⟨77, _⟩ => ⟨S16896x128, .f32⟩
  | .hbm, ⟨78, _⟩ => ⟨S1x8448x1x128, .f32⟩
  | .hbm, ⟨79, _⟩ => ⟨S2x8448x1x128, .f32⟩
  | .hbm, ⟨80, _⟩ => ⟨S16896x128, .f32⟩
  | .hbm, ⟨81, _⟩ => ⟨S512x2048, .bf16⟩
  | .hbm, ⟨82, _⟩ => ⟨S512x2048, .bf16⟩
  | .hbm, ⟨83, _⟩ => ⟨S16896x4096, .bf16⟩
  | .hbm, ⟨84, _⟩ => ⟨S16896x4096, .bf16⟩
  | .hbm, ⟨85, _⟩ => ⟨S16896x2048, .bf16⟩
  | .hbm, ⟨86, _⟩ => ⟨S2x8448x4096, .bf16⟩
  | .hbm, ⟨87, _⟩ => ⟨S2x8208x4096, .bf16⟩
  | .hbm, ⟨88, _⟩ => ⟨S2x8208x4096, .f32⟩
  | .hbm, ⟨89, _⟩ => ⟨S2x8208x16x256, .f32⟩
  | .hbm, ⟨90, _⟩ => ⟨S2x8208x16x192, .f32⟩
  | .hbm, ⟨91, _⟩ => ⟨S2x8448x4096, .bf16⟩
  | .hbm, ⟨92, _⟩ => ⟨S2x8208x4096, .bf16⟩
  | .hbm, ⟨93, _⟩ => ⟨S2x8208x4096, .f32⟩
  | .hbm, ⟨94, _⟩ => ⟨S2x8208x16x256, .f32⟩
  | .hbm, ⟨95, _⟩ => ⟨S2x8208x16x192, .f32⟩
  | .hbm, ⟨96, _⟩ => ⟨S2x8448x2048, .bf16⟩
  | .hbm, ⟨97, _⟩ => ⟨S2x8208x2048, .bf16⟩
  | .hbm, ⟨98, _⟩ => ⟨S2x8208x2048, .f32⟩
  | .hbm, ⟨99, _⟩ => ⟨S2x8208x16x128, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1024x4096, .bf16⟩
  | .local _ .vmem, ⟨13, _⟩ => ⟨S512x2048, .bf16⟩
  | .local _ .vmem, ⟨14, _⟩ => ⟨S512x2048, .bf16⟩
  | .local _ .vmem, ⟨15, _⟩ => ⟨S1x256, .f32⟩
  | .local _ .vmem, ⟨16, _⟩ => ⟨S1x256, .f32⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x2048, .bf16⟩
  | .local _ .vmem, ⟨22, _⟩ => ⟨S256x2048, .bf16⟩
  | _, _ => ⟨S2x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_call3_v0 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_call4_v0 : Ref sig .tc := ⟨.hbm, 27, rfl⟩
abbrev main_v10 : Ref sig .tc := ⟨.hbm, 28, rfl⟩
abbrev main_c_4 : Ref sig .tc := ⟨.hbm, 29, rfl⟩
abbrev main_call5_v0 : Ref sig .tc := ⟨.hbm, 30, rfl⟩
abbrev main_v11 : Ref sig .tc := ⟨.hbm, 31, rfl⟩
abbrev main_c_5 : Ref sig .tc := ⟨.hbm, 32, rfl⟩
abbrev main_call6_v0 : Ref sig .tc := ⟨.hbm, 33, rfl⟩
abbrev main_v12 : Ref sig .tc := ⟨.hbm, 34, rfl⟩
abbrev main_v13 : Ref sig .tc := ⟨.hbm, 35, rfl⟩
abbrev main_c_6 : Ref sig .tc := ⟨.hbm, 36, rfl⟩
abbrev main_call7_v0 : Ref sig .tc := ⟨.hbm, 37, rfl⟩
abbrev main_v14 : Ref sig .tc := ⟨.hbm, 38, rfl⟩
abbrev main_v15 : Ref sig .tc := ⟨.hbm, 39, rfl⟩
abbrev main_c_7 : Ref sig .tc := ⟨.hbm, 40, rfl⟩
abbrev main_call8_v0 : Ref sig .tc := ⟨.hbm, 41, rfl⟩
abbrev main_v16 : Ref sig .tc := ⟨.hbm, 42, rfl⟩
abbrev main_v17 : Ref sig .tc := ⟨.hbm, 43, rfl⟩
abbrev main_c_8 : Ref sig .tc := ⟨.hbm, 44, rfl⟩
abbrev main_call9_v0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_cst_9 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_cst_11 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51_0 : Ref sig .tc := ⟨.hbm, 83, rfl⟩
abbrev main_v51_1 : Ref sig .tc := ⟨.hbm, 84, rfl⟩
abbrev main_v51_2 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c34_i32 : BitVec 32 := 34#32
  let v0 : BitVec 32 := Scalar.addi c34_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c34_i32 : BitVec 32 := 34#32
  let v0 : BitVec 32 := Scalar.addi c34_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c34_i32 : BitVec 32 := 34#32
  let v0 : BitVec 32 := Scalar.addi c34_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== HeadsIdeal.lean ====
variable {F : FTy → Type} [FloatOps F] [Named F]
def κ : String → Option EReal := fun
  | "part" => some ((192⁻¹ : ℝ) : EReal)
  | _ => none
-- ==== HeadsReferenceIdeal.lean ====
abbrev S2x8208x1024 : Shape := ⟨3, ![2, 8208, 1024]⟩
abbrev S2x8208x512 : Shape := ⟨3, ![2, 8208, 512]⟩
abbrev S2x8208x64 : Shape := ⟨3, ![2, 8208, 64]⟩
abbrev S1024x3072 : Shape := ⟨2, ![1024, 3072]⟩
abbrev S512x2048 : Shape := ⟨2, ![512, 2048]⟩
abbrev S192 : Shape := ⟨1, ![192]⟩
abbrev S2x8208x3072 : Shape := ⟨3, ![2, 8208, 3072]⟩
abbrev S2x8208x16x192 : Shape := ⟨4, ![2, 8208, 16, 192]⟩
abbrev S2x8208x2048 : Shape := ⟨3, ![2, 8208, 2048]⟩
abbrev S2x8208x16x128 : Shape := ⟨4, ![2, 8208, 16, 128]⟩
abbrev S2x8208x1x64 : Shape := ⟨4, ![2, 8208, 1, 64]⟩
abbrev S2x8208x16x64 : Shape := ⟨4, ![2, 8208, 16, 64]⟩
abbrev S_ : Shape := ⟨0, ![]⟩
abbrev S2x8208x16 : Shape := ⟨3, ![2, 8208, 16]⟩
abbrev S2x8208x16x1 : Shape := ⟨4, ![2, 8208, 16, 1]⟩
abbrev S1x1x1x192 : Shape := ⟨4, ![1, 1, 1, 192]⟩
abbrev S8208 : Shape := ⟨1, ![8208]⟩
abbrev S32 : Shape := ⟨1, ![32]⟩
abbrev S8208x1 : Shape := ⟨2, ![8208, 1]⟩
abbrev S1x32 : Shape := ⟨2, ![1, 32]⟩
abbrev S8208x32 : Shape := ⟨2, ![8208, 32]⟩
abbrev S2x8208x16x32 : Shape := ⟨4, ![2, 8208, 16, 32]⟩
abbrev S1x8208x1x32 : Shape := ⟨4, ![1, 8208, 1, 32]⟩

abbrev nBuf : Space → Nat
  | .hbm => 102
  | .vmem => 0
  | .smem => 0
  | _ => 0

abbrev bufTy : (tb : Table) → Fin (tcTables nBuf tb) → BufTy
  | .hbm, ⟨0, _⟩ => ⟨S2x8208x1024, .f32⟩
  | .hbm, ⟨1, _⟩ => ⟨S2x8208x512, .f32⟩
  | .hbm, ⟨2, _⟩ => ⟨S2x8208x64, .f32⟩
  | .hbm, ⟨3, _⟩ => ⟨S1024x3072, .f32⟩
  | .hbm, ⟨4, _⟩ => ⟨S512x2048, .f32⟩
  | .hbm, ⟨5, _⟩ => ⟨S512x2048, .f32⟩
  | .hbm, ⟨6, _⟩ => ⟨S192, .f32⟩
  | .hbm, ⟨7, _⟩ => ⟨S192, .f32⟩
  | .hbm, ⟨8, _⟩ => ⟨S2x8208x3072, .f32⟩
  | .hbm, ⟨9, _⟩ => ⟨S2x8208x16x192, .f32⟩
  | .hbm, ⟨10, _⟩ => ⟨S2x8208x2048, .f32⟩
  | .hbm, ⟨11, _⟩ => ⟨S2x8208x16x128, .f32⟩
  | .hbm, ⟨12, _⟩ => ⟨S2x8208x2048, .f32⟩
  | .hbm, ⟨13, _⟩ => ⟨S2x8208x16x128, .f32⟩
  | .hbm, ⟨14, _⟩ => ⟨S2x8208x1x64, .f32⟩
  | .hbm, ⟨15, _⟩ => ⟨S2x8208x16x64, .f32⟩
  | .hbm, ⟨16, _⟩ => ⟨S2x8208x16x192, .f32⟩
  | .hbm, ⟨17, _⟩ => ⟨S2x8208x16x192, .f32⟩
  | .hbm, ⟨18, _⟩ => ⟨S_, .f32⟩
  | .hbm, ⟨19, _⟩ => ⟨S2x8208x16, .f32⟩
  | .hbm, ⟨20, _⟩ => ⟨S2x8208x16x1, .f32⟩
  | .hbm, ⟨21, _⟩ => ⟨S_, .f32⟩
  | .hbm, ⟨22, _⟩ => ⟨S2x8208x16x1, .f32⟩
  | .hbm, ⟨23, _⟩ => ⟨S2x8208x16x1, .f32⟩
  | .hbm, ⟨24, _⟩ => ⟨S_, .f32⟩
  | .hbm, ⟨25, _⟩ => ⟨S2x8208x16x1, .f32⟩
  | .hbm, ⟨26, _⟩ => ⟨S2x8208x16x1, .f32⟩
  | .hbm, ⟨27, _⟩ => ⟨S2x8208x16x1, .f32⟩
  | .hbm, ⟨28, _⟩ => ⟨S2x8208x16x192, .f32⟩
  | .hbm, ⟨29, _⟩ => ⟨S2x8208x16x192, .f32⟩
  | .hbm, ⟨30, _⟩ => ⟨S1x1x1x192, .f32⟩
  | .hbm, ⟨31, _⟩ => ⟨S2x8208x16x192, .f32⟩
  | .hbm, ⟨32, _⟩ => ⟨S2x8208x16x192, .f32⟩
  | .hbm, ⟨33, _⟩ => ⟨S2x8208x16x192, .f32⟩
  | .hbm, ⟨34, _⟩ => ⟨S_, .f32⟩
  | .hbm, ⟨35, _⟩ => ⟨S2x8208x16, .f32⟩
  | .hbm, ⟨36, _⟩ => ⟨S2x8208x16x1, .f32⟩
  | .hbm, ⟨37, _⟩ => ⟨S_, .f32⟩
  | .hbm, ⟨38, _⟩ => ⟨S2x8208x16x1, .f32⟩
  | .hbm, ⟨39, _⟩ => ⟨S2x8208x16x1, .f32⟩
  | .hbm, ⟨40, _⟩ => ⟨S_, .f32⟩
  | .hbm, ⟨41, _⟩ => ⟨S2x8208x16x1, .f32⟩
  | .hbm, ⟨42, _⟩ => ⟨S2x8208x16x1, .f32⟩
  | .hbm, ⟨43, _⟩ => ⟨S2x8208x16x1, .f32⟩
  | .hbm, ⟨44, _⟩ => ⟨S2x8208x16x192, .f32⟩
  | .hbm, ⟨45, _⟩ => ⟨S2x8208x16x192, .f32⟩
  | .hbm, ⟨46, _⟩ => ⟨S1x1x1x192, .f32⟩
  | .hbm, ⟨47, _⟩ => ⟨S2x8208x16x192, .f32⟩
  | .hbm, ⟨48, _⟩ => ⟨S2x8208x16x192, .f32⟩
  | .hbm, ⟨49, _⟩ => ⟨S8208, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S8208x1, .f32⟩
  | .hbm, ⟨59, _⟩ => ⟨S1x32, .f32⟩
  | .hbm, ⟨60, _⟩ => ⟨S8208x32, .f32⟩
  | .hbm, ⟨61, _⟩ => ⟨S8208x32, .f32⟩
  | .hbm, ⟨62, _⟩ => ⟨S8208x32, .f32⟩
  | .hbm, ⟨63, _⟩ => ⟨S8208x32, .f32⟩
  | .hbm, ⟨64, _⟩ => ⟨S8208x32, .f32⟩
  | .hbm, ⟨65, _⟩ => ⟨S2x8208x16x128, .f32⟩
  | .hbm, ⟨66, _⟩ => ⟨S2x8208x16x64, .f32⟩
  | .hbm, ⟨67, _⟩ => ⟨S2x8208x16x32, .f32⟩
  | .hbm, ⟨68, _⟩ => ⟨S2x8208x16x32, .f32⟩
  | .hbm, ⟨69, _⟩ => ⟨S1x8208x1x32, .f32⟩
  | .hbm, ⟨70, _⟩ => ⟨S1x8208x1x32, .f32⟩
  | .hbm, ⟨71, _⟩ => ⟨S2x8208x16x32, .f32⟩
  | .hbm, ⟨72, _⟩ => ⟨S2x8208x16x32, .f32⟩
  | .hbm, ⟨73, _⟩ => ⟨S2x8208x16x32, .f32⟩
  | .hbm, ⟨74, _⟩ => ⟨S2x8208x16x32, .f32⟩
  | .hbm, ⟨75, _⟩ => ⟨S2x8208x16x32, .f32⟩
  | .hbm, ⟨76, _⟩ => ⟨S2x8208x16x32, .f32⟩
  | .hbm, ⟨77, _⟩ => ⟨S2x8208x16x32, .f32⟩
  | .hbm, ⟨78, _⟩ => ⟨S2x8208x16x32, .f32⟩
  | .hbm, ⟨79, _⟩ => ⟨S2x8208x16x32, .f32⟩
  | .hbm, ⟨80, _⟩ => ⟨S2x8208x16x32, .f32⟩
  | .hbm, ⟨81, _⟩ => ⟨S2x8208x16x192, .f32⟩
  | .hbm, ⟨82, _⟩ => ⟨S_, .f32⟩
  | .hbm, ⟨83, _⟩ => ⟨S2x8208x16x192, .f32⟩
  | .hbm, ⟨84, _⟩ => ⟨S2x8208x16x192, .f32⟩
  | .hbm, ⟨85, _⟩ => ⟨S2x8208x16x128, .f32⟩
  | .hbm, ⟨86, _⟩ => ⟨S2x8208x16x64, .f32⟩
  | .hbm, ⟨87, _⟩ => ⟨S2x8208x16x32, .f32⟩
  | .hbm, ⟨88, _⟩ => ⟨S2x8208x16x32, .f32⟩
  | .hbm, ⟨89, _⟩ => ⟨S1x8208x1x32, .f32⟩
  | .hbm, ⟨90, _⟩ => ⟨S1x8208x1x32, .f32⟩
  | .hbm, ⟨91, _⟩ => ⟨S2x8208x16x32, .f32⟩
  | .hbm, ⟨92, _⟩ => ⟨S2x8208x16x32, .f32⟩
  | .hbm, ⟨93, _⟩ => ⟨S2x8208x16x32, .f32⟩
  | .hbm, ⟨94, _⟩ => ⟨S2x8208x16x32, .f32⟩
  | .hbm, ⟨95, _⟩ => ⟨S2x8208x16x32, .f32⟩
  | .hbm, ⟨96, _⟩ => ⟨S2x8208x16x32, .f32⟩
  | .hbm, ⟨97, _⟩ => ⟨S2x8208x16x32, .f32⟩
  | .hbm, ⟨98, _⟩ => ⟨S2x8208x16x32, .f32⟩
  | .hbm, ⟨99, _⟩ => ⟨S2x8208x16x32, .f32⟩
  | .hbm, ⟨100, _⟩ => ⟨S2x8208x16x32, .f32⟩
  | .hbm, ⟨101, _⟩ => ⟨S2x8208x16x192, .f32⟩
  | _, _ => ⟨S2x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== Norm.lean ====
abbrev S2x4112x4096 : Shape := ⟨3, ![2, 4112, 4096]⟩
abbrev S2x8208x4096 : Shape := ⟨3, ![2, 8208, 4096]⟩
abbrev S4096 : Shape := ⟨1, ![4096]⟩
abbrev S_ : Shape := ⟨0, ![]⟩
abbrev S2x4352x4096 : Shape := ⟨3, ![2, 4352, 4096]⟩
abbrev S8704x4096 : Shape := ⟨2, ![8704, 4096]⟩
abbrev S2x8448x4096 : Shape := ⟨3, ![2, 8448, 4096]⟩
abbrev S16896x4096 : Shape := ⟨2, ![16896, 4096]⟩
abbrev S25600x4096 : Shape := ⟨2, ![25600, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 22
  | .vmem => 5
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S2x4352x4096, .f32⟩
  | .hbm, ⟨6, _⟩ => ⟨S8704x4096, .f32⟩
  | .hbm, ⟨7, _⟩ => ⟨S_, .i32⟩
  | .hbm, ⟨8, _⟩ => ⟨S_, .f32⟩
  | .hbm, ⟨9, _⟩ => ⟨S2x8448x4096, .f32⟩
  | .hbm, ⟨10, _⟩ => ⟨S16896x4096, .f32⟩
  | .hbm, ⟨11, _⟩ => ⟨S25600x4096, .f32⟩
  | .hbm, ⟨12, _⟩ => ⟨S1x4096, .f32⟩
  | .hbm, ⟨13, _⟩ => ⟨S25600x4096, .bf16⟩
  | .hbm, ⟨14, _⟩ => ⟨S8704x4096, .bf16⟩
  | .hbm, ⟨15, _⟩ => ⟨S2x4352x4096, .bf16⟩
  | .hbm, ⟨16, _⟩ => ⟨S2x4112x4096, .bf16⟩
  | .hbm, ⟨17, _⟩ => ⟨S2x4112x4096, .f32⟩
  | .hbm, ⟨18, _⟩ => ⟨S16896x4096, .bf16⟩
  | .hbm, ⟨19, _⟩ => ⟨S2x8448x4096, .bf16⟩
  | .hbm, ⟨20, _⟩ => ⟨S2x8208x4096, .bf16⟩
  | .hbm, ⟨21, _⟩ => ⟨S2x8208x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2x4112x4096 : Shape := ⟨3, ![2, 4112, 4096]⟩
abbrev S2x8208x4096 : Shape := ⟨3, ![2, 8208, 4096]⟩
abbrev S4096 : Shape := ⟨1, ![4096]⟩
abbrev S_ : Shape := ⟨0, ![]⟩
abbrev S2x4112 : Shape := ⟨2, ![2, 4112]⟩
abbrev S2x4112x1 : Shape := ⟨3, ![2, 4112, 1]⟩
abbrev S1x1x4096 : Shape := ⟨3, ![1, 1, 4096]⟩
abbrev S2x8208 : Shape := ⟨2, ![2, 8208]⟩
abbrev S2x8208x1 : Shape := ⟨3, ![2, 8208, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096, .f32⟩
  | .hbm, ⟨3, _⟩ => ⟨S2x4112x4096, .f32⟩
  | .hbm, ⟨4, _⟩ => ⟨S_, .f32⟩
  | .hbm, ⟨5, _⟩ => ⟨S2x4112, .f32⟩
  | .hbm, ⟨6, _⟩ => ⟨S2x4112x1, .f32⟩
  | .hbm, ⟨7, _⟩ => ⟨S_, .f32⟩
  | .hbm, ⟨8, _⟩ => ⟨S2x4112x1, .f32⟩
  | .hbm, ⟨9, _⟩ => ⟨S2x4112x1, .f32⟩
  | .hbm, ⟨10, _⟩ => ⟨S_, .f32⟩
  | .hbm, ⟨11, _⟩ => ⟨S2x4112x1, .f32⟩
  | .hbm, ⟨12, _⟩ => ⟨S2x4112x1, .f32⟩
  | .hbm, ⟨13, _⟩ => ⟨S2x4112x1, .f32⟩
  | .hbm, ⟨14, _⟩ => ⟨S2x4112x4096, .f32⟩
  | .hbm, ⟨15, _⟩ => ⟨S2x4112x4096, .f32⟩
  | .hbm, ⟨16, _⟩ => ⟨S1x1x4096, .f32⟩
  | .hbm, ⟨17, _⟩ => ⟨S2x4112x4096, .f32⟩
  | .hbm, ⟨18, _⟩ => ⟨S2x4112x4096, .f32⟩
  | .hbm, ⟨19, _⟩ => ⟨S2x8208x4096, .f32⟩
  | .hbm, ⟨20, _⟩ => ⟨S_, .f32⟩
  | .hbm, ⟨21, _⟩ => ⟨S2x8208, .f32⟩
  | .hbm, ⟨22, _⟩ => ⟨S2x8208x1, .f32⟩
  | .hbm, ⟨23, _⟩ => ⟨S_, .f32⟩
  | .hbm, ⟨24, _⟩ => ⟨S2x8208x1, .f32⟩
  | .hbm, ⟨25, _⟩ => ⟨S2x8208x1, .f32⟩
  | .hbm, ⟨26, _⟩ => ⟨S_, .f32⟩
  | .hbm, ⟨27, _⟩ => ⟨S2x8208x1, .f32⟩
  | .hbm, ⟨28, _⟩ => ⟨S2x8208x1, .f32⟩
  | .hbm, ⟨29, _⟩ => ⟨S2x8208x1, .f32⟩
  | .hbm, ⟨30, _⟩ => ⟨S2x8208x4096, .f32⟩
  | .hbm, ⟨31, _⟩ => ⟨S2x8208x4096, .f32⟩
  | .hbm, ⟨32, _⟩ => ⟨S1x1x4096, .f32⟩
  | .hbm, ⟨33, _⟩ => ⟨S2x8208x4096, .f32⟩
  | .hbm, ⟨34, _⟩ => ⟨S2x8208x4096, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Conv.lean ====
abbrev S2x8208x6144 : Shape := ⟨3, ![2, 8208, 6144]⟩
abbrev S3x6144 : Shape := ⟨2, ![3, 6144]⟩
abbrev S6144 : Shape := ⟨1, ![6144]⟩
abbrev S_ : Shape := ⟨0, ![]⟩
abbrev S2x8448x6144 : Shape := ⟨3, ![2, 8448, 6144]⟩
abbrev S16896x6144 : Shape := ⟨2, ![16896, 6144]⟩
abbrev S25600x6144 : Shape := ⟨2, ![25600, 6144]⟩
abbrev S1x6144 : Shape := ⟨2, ![1, 6144]⟩
abbrev S3x16896x2048 : Shape := ⟨3, ![3, 16896, 2048]⟩
abbrev S256x2048 : Shape := ⟨2, ![256, 2048]⟩
abbrev S8x2048 : Shape := ⟨2, ![8, 2048]⟩
abbrev S3x2048 : Shape := ⟨2, ![3, 2048]⟩
abbrev S1x2048 : Shape := ⟨2, ![1, 2048]⟩
abbrev S1x256x2048 : Shape := ⟨3, ![1, 256, 2048]⟩
abbrev S256x1 : Shape := ⟨2, ![256, 1]⟩
abbrev S1x16896x2048 : Shape := ⟨3, ![1, 16896, 2048]⟩
abbrev S16896x2048 : Shape := ⟨2, ![16896, 2048]⟩
abbrev S2x8448x2048 : Shape := ⟨3, ![2, 8448, 2048]⟩
abbrev S2x8208x2048 : Shape := ⟨3, ![2, 8208, 2048]⟩

abbrev nBuf : Space → Nat
  | .hbm => 24
  | .vmem => 12
  | .smem => 0
  | _ => 0

abbrev bufTy : (tb : Table) → Fin (tcTables nBuf tb) → BufTy
  | .hbm, ⟨0, _⟩ => ⟨S2x8208x6144, .f32⟩
  | .hbm, ⟨1, _⟩ => ⟨S3x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S2x8448x6144, .f32⟩
  | .hbm, ⟨6, _⟩ => ⟨S16896x6144, .f32⟩
  | .hbm, ⟨7, _⟩ => ⟨S_, .i32⟩
  | .hbm, ⟨8, _⟩ => ⟨S_, .f32⟩
  | .hbm, ⟨9, _⟩ => ⟨S25600x6144, .f32⟩
  | .hbm, ⟨10, _⟩ => ⟨S1x6144, .f32⟩
  | .hbm, ⟨11, _⟩ => ⟨S3x16896x2048, .f32⟩
  | .hbm, ⟨12, _⟩ => ⟨S1x16896x2048, .f32⟩
  | .hbm, ⟨13, _⟩ => ⟨S16896x2048, .f32⟩
  | .hbm, ⟨14, _⟩ => ⟨S2x8448x2048, .f32⟩
  | .hbm, ⟨15, _⟩ => ⟨S2x8208x2048, .f32⟩
  | .hbm, ⟨16, _⟩ => ⟨S1x16896x2048, .f32⟩
  | .hbm, ⟨17, _⟩ => ⟨S16896x2048, .f32⟩
  | .hbm, ⟨18, _⟩ => ⟨S2x8448x2048, .f32⟩
  | .hbm, ⟨19, _⟩ => ⟨S2x8208x2048, .f32⟩
  | .hbm, ⟨20, _⟩ => ⟨S1x16896x2048, .f32⟩
  | .hbm, ⟨21, _⟩ => ⟨S16896x2048, .f32⟩
  | .hbm, ⟨22, _⟩ => ⟨S2x8448x2048, .f32⟩
  | .hbm, ⟨23, _⟩ => ⟨S2x8208x2048, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S3x2048, .f32⟩
  | .local _ .vmem, ⟨7, _⟩ => ⟨S3x2048, .f32⟩
  | .local _ .vmem, ⟨8, _⟩ => ⟨S1x2048, .f32⟩
  | .local _ .vmem, ⟨9, _⟩ => ⟨S1x2048, .f32⟩
  | .local _ .vmem, ⟨10, _⟩ => ⟨S1x256x2048, .f32⟩
  | .local _ .vmem, ⟨11, _⟩ => ⟨S1x256x2048, .f32⟩
  | _, _ => ⟨S2x8208x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![66, 3], ![false, false]⟩

def cc0_transform_0 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c1_i32 : BitVec 32 := 1#32
  let v1 : BitVec 32 := Scalar.addi v0 c1_i32
  let c32_i32 : BitVec 32 := 32#32
  let v2 : BitVec 32 := Scalar.muli v1 c32_i32
  let c3199_i32 : BitVec 32 := 3199#32
  let v3 : BitVec 32 := Scalar.minsi v2 c3199_i32
  let c0_i32 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S2x8208x6144 : Shape := ⟨3, ![2, 8208, 6144]⟩
abbrev S3x6144 : Shape := ⟨2, ![3, 6144]⟩
abbrev S6144 : Shape := ⟨1, ![6144]⟩
abbrev S_ : Shape := ⟨0, ![]⟩
abbrev S2x8210x6144 : Shape := ⟨3, ![2, 8210, 6144]⟩
abbrev S1x6144 : Shape := ⟨2, ![1, 6144]⟩
abbrev S1x1x6144 : Shape := ⟨3, ![1, 1, 6144]⟩
abbrev S2x8208x2048 : Shape := ⟨3, ![2, 8208, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x8208x6144, .f32⟩
  | .hbm, ⟨1, _⟩ => ⟨S3x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S2x8210x6144, .f32⟩
  | .hbm, ⟨6, _⟩ => ⟨S2x8208x6144, .f32⟩
  | .hbm, ⟨7, _⟩ => ⟨S1x6144, .f32⟩
  | .hbm, ⟨8, _⟩ => ⟨S6144, .f32⟩
  | .hbm, ⟨9, _⟩ => ⟨S1x1x6144, .f32⟩
  | .hbm, ⟨10, _⟩ => ⟨S2x8208x6144, .f32⟩
  | .hbm, ⟨11, _⟩ => ⟨S2x8208x6144, .f32⟩
  | .hbm, ⟨12, _⟩ => ⟨S2x8208x6144, .f32⟩
  | .hbm, ⟨13, _⟩ => ⟨S1x6144, .f32⟩
  | .hbm, ⟨14, _⟩ => ⟨S6144, .f32⟩
  | .hbm, ⟨15, _⟩ => ⟨S1x1x6144, .f32⟩
  | .hbm, ⟨16, _⟩ => ⟨S2x8208x6144, .f32⟩
  | .hbm, ⟨17, _⟩ => ⟨S2x8208x6144, .f32⟩
  | .hbm, ⟨18, _⟩ => ⟨S2x8208x6144, .f32⟩
  | .hbm, ⟨19, _⟩ => ⟨S2x8208x6144, .f32⟩
  | .hbm, ⟨20, _⟩ => ⟨S1x6144, .f32⟩
  | .hbm, ⟨21, _⟩ => ⟨S6144, .f32⟩
  | .hbm, ⟨22, _⟩ => ⟨S1x1x6144, .f32⟩
  | .hbm, ⟨23, _⟩ => ⟨S2x8208x6144, .f32⟩
  | .hbm, ⟨24, _⟩ => ⟨S2x8208x6144, .f32⟩
  | .hbm, ⟨25, _⟩ => ⟨S2x8208x6144, .f32⟩
  | .hbm, ⟨26, _⟩ => ⟨S1x1x6144, .f32⟩
  | .hbm, ⟨27, _⟩ => ⟨S2x8208x6144, .f32⟩
  | .hbm, ⟨28, _⟩ => ⟨S2x8208x6144, .f32⟩
  | .hbm, ⟨29, _⟩ => ⟨S2x8208x2048, .f32⟩
  | .hbm, ⟨30, _⟩ => ⟨S2x8208x2048, .f32⟩
  | .hbm, ⟨31, _⟩ => ⟨S2x8208x2048, .f32⟩
  | _, _ => ⟨S2x8208x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Router.lean ====
abbrev S2x4112x4096 : Shape := ⟨3, ![2, 4112, 4096]⟩
abbrev S2x8208x4096 : Shape := ⟨3, ![2, 8208, 4096]⟩
abbrev S4096 : Shape := ⟨1, ![4096]⟩
abbrev S4096x8 : Shape := ⟨2, ![4096, 8]⟩
abbrev S4096x64 : Shape := ⟨2, ![4096, 64]⟩
abbrev S_ : Shape := ⟨0, ![]⟩
abbrev S2x4352x4096 : Shape := ⟨3, ![2, 4352, 4096]⟩
abbrev S8704x4096 : Shape := ⟨2, ![8704, 4096]⟩
abbrev S2x8448x4096 : Shape := ⟨3, ![2, 8448, 4096]⟩
abbrev S16896x4096 : Shape := ⟨2, ![16896, 4096]⟩
abbrev S25600x4096 : Shape := ⟨2, ![25600, 4096]⟩
abbrev S4096x72 : Shape := ⟨2, ![4096, 72]⟩
abbrev S4096x128 : Shape := ⟨2, ![4096, 128]⟩
abbrev S1x4096 : Shape := ⟨2, ![1, 4096]⟩
abbrev S25600x128 : Shape := ⟨2, ![25600, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S8704x128 : Shape := ⟨2, ![8704, 128]⟩
abbrev S2x4352x128 : Shape := ⟨3, ![2, 4352, 128]⟩
abbrev S2x4112x128 : Shape := ⟨3, ![2, 4112, 128]⟩
abbrev S16896x128 : Shape := ⟨2, ![16896, 128]⟩
abbrev S2x8448x128 : Shape := ⟨3, ![2, 8448, 128]⟩
abbrev S2x8208x128 : Shape := ⟨3, ![2, 8208, 128]⟩
abbrev S2x4112x8 : Shape := ⟨3, ![2, 4112, 8]⟩
abbrev S2x8208x8 : Shape := ⟨3, ![2, 8208, 8]⟩
abbrev S2x4112x64 : Shape := ⟨3, ![2, 4112, 64]⟩
abbrev S2x8208x64 : Shape := ⟨3, ![2, 8208, 64]⟩

abbrev nBuf : Space → Nat
  | .hbm => 41
  | .vmem => 9
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096, .f32⟩
  | .hbm, ⟨3, _⟩ => ⟨S4096x8, .f32⟩
  | .hbm, ⟨4, _⟩ => ⟨S4096x64, .f32⟩
  | .hbm, ⟨5, _⟩ => ⟨S_, .i32⟩
  | .hbm, ⟨6, _⟩ => ⟨S_, .f32⟩
  | .hbm, ⟨7, _⟩ => ⟨S2x4352x4096, .f32⟩
  | .hbm, ⟨8, _⟩ => ⟨S8704x4096, .f32⟩
  | .hbm, ⟨9, _⟩ => ⟨S_, .i32⟩
  | .hbm, ⟨10, _⟩ => ⟨S_, .f32⟩
  | .hbm, ⟨11, _⟩ => ⟨S2x8448x4096, .f32⟩
  | .hbm, ⟨12, _⟩ => ⟨S16896x4096, .f32⟩
  | .hbm, ⟨13, _⟩ => ⟨S25600x4096, .f32⟩
  | .hbm, ⟨14, _⟩ => ⟨S4096x72, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .bf16⟩
  | .hbm, ⟨19, _⟩ => ⟨S4096x128, .f32⟩
  | .hbm, ⟨20, _⟩ => ⟨S4096x128, .f32⟩
  | .hbm, ⟨21, _⟩ => ⟨S4096x128, .bf16⟩
  | .hbm, ⟨22, _⟩ => ⟨S1x4096, .f32⟩
  | .hbm, ⟨23, _⟩ => ⟨S25600x4096, .f32⟩
  | .hbm, ⟨24, _⟩ => ⟨S25600x128, .f32⟩
  | .hbm, ⟨25, _⟩ => ⟨S8704x4096, .f32⟩
  | .hbm, ⟨26, _⟩ => ⟨S2x4352x4096, .f32⟩
  | .hbm, ⟨27, _⟩ => ⟨S2x4112x4096, .f32⟩
  | .hbm, ⟨28, _⟩ => ⟨S16896x4096, .f32⟩
  | .hbm, ⟨29, _⟩ => ⟨S2x8448x4096, .f32⟩
  | .hbm, ⟨30, _⟩ => ⟨S2x8208x4096, .f32⟩
  | .hbm, ⟨31, _⟩ => ⟨S8704x128, .f32⟩
  | .hbm, ⟨32, _⟩ => ⟨S2x4352x128, .f32⟩
  | .hbm, ⟨33, _⟩ => ⟨S2x4112x128, .f32⟩
  | .hbm, ⟨34, _⟩ => ⟨S16896x128, .f32⟩
  | .hbm, ⟨35, _⟩ => ⟨S2x8448x128, .f32⟩
  | .hbm, ⟨36, _⟩ => ⟨S2x8208x128, .f32⟩
  | .hbm, ⟨37, _⟩ => ⟨S2x4112x8, .f32⟩
  | .hbm, ⟨38, _⟩ => ⟨S2x8208x8, .f32⟩
  | .hbm, ⟨39, _⟩ => ⟨S2x4112x64, .f32⟩
  | .hbm, ⟨40, _⟩ => ⟨S2x8208x64, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x128, .bf16⟩
  | .local _ .vmem, ⟨4, _⟩ => ⟨S4096x128, .bf16⟩
  | .local _ .vmem, ⟨5, _⟩ => ⟨S256x4096, .f32⟩
  | .local _ .vmem, ⟨6, _⟩ => ⟨S256x4096, .f32⟩
  | .local _ .vmem, ⟨7, _⟩ => ⟨S256x128, .f32⟩
  | .local _ .vmem, ⟨8, _⟩ => ⟨S256x128, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouterReferenceIdeal.lean ====
abbrev S2x4112x4096 : Shape := ⟨3, ![2, 4112, 4096]⟩
abbrev S2x8208x4096 : Shape := ⟨3, ![2, 8208, 4096]⟩
abbrev S4096 : Shape := ⟨1, ![4096]⟩
abbrev S4096x8 : Shape := ⟨2, ![4096, 8]⟩
abbrev S4096x64 : Shape := ⟨2, ![4096, 64]⟩
abbrev S_ : Shape := ⟨0, ![]⟩
abbrev S2x4112 : Shape := ⟨2, ![2, 4112]⟩
abbrev S2x4112x1 : Shape := ⟨3, ![2, 4112, 1]⟩
abbrev S1x1x4096 : Shape := ⟨3, ![1, 1, 4096]⟩
abbrev S2x8208 : Shape := ⟨2, ![2, 8208]⟩
abbrev S2x8208x1 : Shape := ⟨3, ![2, 8208, 1]⟩
abbrev S2x4112x8 : Shape := ⟨3, ![2, 4112, 8]⟩
abbrev S2x8208x8 : Shape := ⟨3, ![2, 8208, 8]⟩
abbrev S2x4112x64 : Shape := ⟨3, ![2, 4112, 64]⟩
abbrev S2x8208x64 : Shape := ⟨3, ![2, 8208, 64]⟩

abbrev nBuf : Space → Nat
  | .hbm => 41
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S2x8208x4096, .f32⟩
  | .hbm, ⟨2, _⟩ => ⟨S4096, .f32⟩
  | .hbm, ⟨3, _⟩ => ⟨S4096x8, .f32⟩
  | .hbm, ⟨4, _⟩ => ⟨S4096x64, .f32⟩
  | .hbm, ⟨5, _⟩ => ⟨S2x4112x4096, .f32⟩
  | .hbm, ⟨6, _⟩ => ⟨S_, .f32⟩
  | .hbm, ⟨7, _⟩ => ⟨S2x4112, .f32⟩
  | .hbm, ⟨8, _⟩ => ⟨S2x4112x1, .f32⟩
  | .hbm, ⟨9, _⟩ => ⟨S_, .f32⟩
  | .hbm, ⟨10, _⟩ => ⟨S2x4112x1, .f32⟩
  | .hbm, ⟨11, _⟩ => ⟨S2x4112x1, .f32⟩
  | .hbm, ⟨12, _⟩ => ⟨S_, .f32⟩
  | .hbm, ⟨13, _⟩ => ⟨S2x4112x1, .f32⟩
  | .hbm, ⟨14, _⟩ => ⟨S2x4112x1, .f32⟩
  | .hbm, ⟨15, _⟩ => ⟨S2x4112x1, .f32⟩
  | .hbm, ⟨16, _⟩ => ⟨S2x4112x4096, .f32⟩
  | .hbm, ⟨17, _⟩ => ⟨S2x4112x4096, .f32⟩
  | .hbm, ⟨18, _⟩ => ⟨S1x1x4096, .f32⟩
  | .hbm, ⟨19, _⟩ => ⟨S2x4112x4096, .f32⟩
  | .hbm, ⟨20, _⟩ => ⟨S2x4112x4096, .f32⟩
  | .hbm, ⟨21, _⟩ => ⟨S2x8208x4096, .f32⟩
  | .hbm, ⟨22, _⟩ => ⟨S_, .f32⟩
  | .hbm, ⟨23, _⟩ => ⟨S2x8208, .f32⟩
  | .hbm, ⟨24, _⟩ => ⟨S2x8208x1, .f32⟩
  | .hbm, ⟨25, _⟩ => ⟨S_, .f32⟩
  | .hbm, ⟨26, _⟩ => ⟨S2x8208x1, .f32⟩
  | .hbm, ⟨27, _⟩ => ⟨S2x8208x1, .f32⟩
  | .hbm, ⟨28, _⟩ => ⟨S_, .f32⟩
  | .hbm, ⟨29, _⟩ => ⟨S2x8208x1, .f32⟩
  | .hbm, ⟨30, _⟩ => ⟨S2x8208x1, .f32⟩
  | .hbm, ⟨31, _⟩ => ⟨S2x8208x1, .f32⟩
  | .hbm, ⟨32, _⟩ => ⟨S2x8208x4096, .f32⟩
  | .hbm, ⟨33, _⟩ => ⟨S2x8208x4096, .f32⟩
  | .hbm, ⟨34, _⟩ => ⟨S1x1x4096, .f32⟩
  | .hbm, ⟨35, _⟩ => ⟨S2x8208x4096, .f32⟩
  | .hbm, ⟨36, _⟩ => ⟨S2x8208x4096, .f32⟩
  | .hbm, ⟨37, _⟩ => ⟨S2x4112x8, .f32⟩
  | .hbm, ⟨38, _⟩ => ⟨S2x8208x8, .f32⟩
  | .hbm, ⟨39, _⟩ => ⟨S2x4112x64, .f32⟩
  | .hbm, ⟨40, _⟩ => ⟨S2x8208x64, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Online.lean ====
/- The online softmax of one row, over the extended reals.

   A row has scores `s j` and one lane of values `w j`, both indexed by the column. The scores are real numbers, or `⊥`
   for a column that is masked out. Three numbers summarise the columns below `n`: the greatest score (`peak`), the sum
   of the exponentials taken relative to some level `M` (`mass`), and the same sum weighted with the values (`blend`).
   One chunk of `c` further columns turns the summary below `n` into the summary below `n + c`: the old sums are scaled
   by the exponential of the difference of the two levels and the chunk's own terms are added. -/
module

public import Idealize.ShloMosaic.PureOps.Ideal
public import Idealize.ShloMosaic.Lib.Pointwise

@[expose] public section

noncomputable section

namespace Cert.Att

open Idealize.ShloMosaic

/-- The greatest score among the columns below `n`; `⊥` if there is none. -/
def peak (s : ℕ → EReal) (n : ℕ) : EReal := (Finset.range n).sup s

/-- The exponentials of the scores below `n`, relative to the level `M`, added up. -/
def mass (s : ℕ → EReal) (M : EReal) (n : ℕ) : EReal := ∑ j ∈ Finset.range n, Ideal.exp (s j - M)

/-- The same sum, each term weighted with the column's value. -/
def blend (s w : ℕ → EReal) (M : EReal) (n : ℕ) : EReal := ∑ j ∈ Finset.range n, Ideal.exp (s j - M) * w j

/-- A nonnegative finite factor goes into a finite sum. -/
theorem factor_into_sum {ι : Type} (a : EReal) (h0 : 0 ≤ a) (ht : a ≠ ⊤) (J : Finset ι) (f : ι → EReal) :
    a * ∑ j ∈ J, f j = ∑ j ∈ J, a * f j := by
  classical
  induction J using Finset.induction_on with
  | empty => simp
  | insert j J hj ih => rw [Finset.sum_insert hj, Finset.sum_insert hj, EReal.left_distrib_of_nonneg_of_ne_top h0 ht, ih]

/-- A sum of real numbers, taken among the extended reals. -/
theorem coe_of_sum {ι : Type} (J : Finset ι) (f : ι → ℝ) : ((∑ j ∈ J, f j : ℝ) : EReal) = ∑ j ∈ J, (f j : EReal) := by
  classical
  induction J using Finset.induction_on with
  | empty => simp
  | insert j J hj ih => rw [Finset.sum_insert hj, Finset.sum_insert hj, EReal.coe_add, ih]

theorem exp_nonneg (x : EReal) : 0 ≤ Ideal.exp x := by
  induction x using EReal.rec with
  | bot => simp
  | coe r => rw [Ideal.exp_coe]; exact_mod_cast (Real.exp_pos r).le
  | top => exact le_top

theorem exp_ne_top {x : EReal} (h : x ≠ ⊤) : Ideal.exp x ≠ ⊤ := by
  induction x using EReal.rec with
  | bot => simp
  | coe r => rw [Ideal.exp_coe]; exact EReal.coe_ne_top _
  | top => exact absurd rfl h

/-- Below a finite level no difference is `⊤`. -/
theorem sub_ne_top {a M : EReal} (ha : a ≠ ⊤) (haM : a ≤ M) : a - M ≠ ⊤ := by
  induction a using EReal.rec with
  | bot => rw [EReal.bot_sub]; exact bot_ne_top
  | top => exact absurd rfl ha
  | coe r =>
    induction M using EReal.rec with
    | bot => exact absurd (le_bot_iff.mp haM) (EReal.coe_ne_bot r)
    | top => rw [EReal.sub_top]; exact bot_ne_top
    | coe t => rw [← EReal.coe_sub]; exact EReal.coe_ne_top _

/-- Changing the level multiplies a term by the exponential of the difference of the levels. -/
theorem exp_relevel {a M M' : EReal} (ha : a ≤ M) (hM : M ≤ M') (hM' : M' ≠ ⊤) :
    Ideal.exp (M - M') * Ideal.exp (a - M) = Ideal.exp (a - M') := by
  induction M using EReal.rec with
  | bot =>
    obtain rfl : a = ⊥ := le_bot_iff.mp ha
    simp [EReal.bot_sub]
  | top => exact absurd (top_le_iff.mp hM) hM'
  | coe m =>
    induction M' using EReal.rec with
    | bot => exact absurd (le_bot_iff.mp hM) (EReal.coe_ne_bot m)
    | top => exact absurd rfl hM'
    | coe m' =>
      induction a using EReal.rec with
      | bot => simp [EReal.bot_sub]
      | top => exact absurd (top_le_iff.mp ha) (EReal.coe_ne_top m)
      | coe r =>
        rw [← EReal.coe_sub, ← EReal.coe_sub, ← EReal.coe_sub, Ideal.exp_coe, Ideal.exp_coe, Ideal.exp_coe,
          ← EReal.coe_mul, ← Real.exp_add]
        congr 2; ring

theorem le_peak (s : ℕ → EReal) {n j : ℕ} (h : j < n) : s j ≤ peak s n := Finset.le_sup (Finset.mem_range.mpr h)

theorem peak_mono (s : ℕ → EReal) {n n' : ℕ} (h : n ≤ n') : peak s n ≤ peak s n' :=
  Finset.sup_mono (Finset.range_subset_range.mpr h)

theorem peak_ne_top {s : ℕ → EReal} (h : ∀ j, s j ≠ ⊤) (n : ℕ) : peak s n ≠ ⊤ :=
  ((Finset.sup_lt_iff (bot_lt_top)).mpr fun j _ => lt_top_iff_ne_top.mpr (h j)).ne

/-- The greatest score below `n + c`: the greatest below `n` against the greatest of the chunk. -/
theorem peak_chunk (s : ℕ → EReal) (n c : ℕ) :
    max (peak s n) (Finset.fold max ⊥ (fun x : Fin c => s (n + x)) Finset.univ) = peak s (n + c) := by
  apply le_antisymm
  · refine max_le (peak_mono s (Nat.le_add_right n c)) (Finset.fold_max_le _ |>.mpr ⟨bot_le, fun x _ => ?_⟩)
    exact le_peak s (by have := x.isLt; omega)
  · refine Finset.sup_le fun j hj => ?_
    rw [Finset.mem_range] at hj
    by_cases h : j < n
    · exact le_max_of_le_left (le_peak s h)
    · refine le_max_of_le_right ((Finset.le_fold_max _).mpr (.inr ⟨⟨j - n, by omega⟩, Finset.mem_univ _, ?_⟩))
      exact le_of_eq (congrArg s (by show j = n + (j - n); omega))

/-- The sum of the exponentials through one chunk. -/
theorem mass_chunk {s : ℕ → EReal} (hs : ∀ j, s j ≠ ⊤) (n c : ℕ) :
    Ideal.exp (peak s n - peak s (n + c)) * mass s (peak s n) n
        + ∑ x : Fin c, Ideal.exp (s (n + x) - peak s (n + c))
      = mass s (peak s (n + c)) (n + c) := by
  have hle := peak_mono s (Nat.le_add_right n c)
  have ht := peak_ne_top hs (n + c)
  unfold mass
  rw [factor_into_sum _ (exp_nonneg _) (exp_ne_top (sub_ne_top (peak_ne_top hs n) hle)), Finset.sum_range_add]
  congr 1
  · exact Finset.sum_congr rfl fun j hj => exp_relevel (le_peak s (Finset.mem_range.mp hj)) hle ht
  · exact (Finset.sum_range fun x => Ideal.exp (s (n + x) - peak s (n + c))).symm

/-- The weighted sum through one chunk. -/
theorem blend_chunk {s : ℕ → EReal} (hs : ∀ j, s j ≠ ⊤) (w : ℕ → EReal) (n c : ℕ) :
    Ideal.exp (peak s n - peak s (n + c)) * blend s w (peak s n) n
        + ∑ x : Fin c, Ideal.exp (s (n + x) - peak s (n + c)) * w (n + x)
      = blend s w (peak s (n + c)) (n + c) := by
  have hle := peak_mono s (Nat.le_add_right n c)
  have ht := peak_ne_top hs (n + c)
  unfold blend
  rw [factor_into_sum _ (exp_nonneg _) (exp_ne_top (sub_ne_top (peak_ne_top hs n) hle)), Finset.sum_range_add]
  congr 1
  · refine Finset.sum_congr rfl fun j hj => ?_
    rw [← mul_assoc, exp_relevel (le_peak s (Finset.mem_range.mp hj)) hle ht]
  · exact (Finset.sum_range fun x => Ideal.exp (s (n + x) - peak s (n + c)) * w (n + x)).symm

/-- The quotient that the chunks end with is the softmax average of the row: columns from `t` on are masked, the scores
    below `t` are the row's real scores `S`, and dividing the weighted sum is the same as weighting with the quotients. -/
theorem quotient_eq {t p : ℕ} (htp : t ≤ p) (h0 : 0 < t) {s w : ℕ → EReal} (S : Fin t → ℝ) (W : Fin t → EReal)
    (hS : ∀ j : Fin t, s j = (S j : EReal)) (hmask : ∀ j, t ≤ j → s j = ⊥) (hW : ∀ j : Fin t, w j = W j) :
    Ideal.div (blend s w (peak s p) p) (mass s (peak s p) p)
      = ∑ j : Fin t, W j * Ideal.div (Ideal.exp ((S j : EReal) - Finset.fold max ⊥ (fun x : Fin t => (S x : EReal)) Finset.univ))
          (∑ j' : Fin t, Ideal.exp ((S j' : EReal) - Finset.fold max ⊥ (fun x : Fin t => (S x : EReal)) Finset.univ)) := by
  have hfin : ∀ j, s j ≠ ⊤ := fun j => by
    by_cases h : j < t
    · rw [hS ⟨j, h⟩]; exact EReal.coe_ne_top _
    · rw [hmask j (by omega)]; exact bot_ne_top
  -- the level is the greatest of the real scores
  have hM : Finset.fold max ⊥ (fun x : Fin t => (S x : EReal)) Finset.univ = peak s p := by
    have h1 := peak_chunk s 0 t
    have h2 := peak_chunk s t (p - t)
    rw [Nat.zero_add] at h1
    rw [Nat.add_sub_of_le htp] at h2
    have h3 : Finset.fold max ⊥ (fun x : Fin (p - t) => s (t + x)) Finset.univ = ⊥ := by
      refine le_bot_iff.mp (Finset.fold_max_le _ |>.mpr ⟨le_rfl, fun x _ => ?_⟩)
      rw [hmask _ (Nat.le_add_right t x)]
    rw [h3, max_eq_left bot_le] at h2
    rw [← h2, ← h1]
    have h4 : peak s 0 = ⊥ := rfl
    rw [h4, max_eq_right bot_le]
    refine congrArg (fun f => Finset.fold max ⊥ f Finset.univ) (funext fun x => ?_)
    rw [Nat.zero_add, hS x]
  rw [hM]
  obtain ⟨M, hMr⟩ : ∃ M : ℝ, peak s p = (M : EReal) := by
    have hb : peak s p ≠ ⊥ := fun hb => by
      have := le_peak s (lt_of_lt_of_le h0 htp)
      rw [hb, hS ⟨0, h0⟩] at this
      exact EReal.coe_ne_bot _ (le_bot_iff.mp this)
    exact ⟨(peak s p).toReal, (EReal.coe_toReal (peak_ne_top hfin p) hb).symm⟩
  rw [hMr]
  -- the masked columns add nothing
  have hdrop : ∀ f : ℕ → EReal, (∀ j, t ≤ j → f j = 0) → ∑ j ∈ Finset.range p, f j = ∑ j : Fin t, f j := fun f hf => by
    rw [← Nat.add_sub_of_le htp, Finset.sum_range_add, Finset.sum_range f (n := t)]
    rw [Finset.sum_eq_zero fun x _ => hf (t + x) (Nat.le_add_right t x), add_zero]
  have hmass : mass s (M : EReal) p = ∑ j : Fin t, Ideal.exp ((S j : EReal) - (M : EReal)) := by
    unfold mass
    rw [hdrop _ fun j hj => by rw [hmask j hj, EReal.bot_sub, Ideal.exp_bot]]
    exact Finset.sum_congr rfl fun j _ => by rw [hS j]
  have hblend : blend s w (M : EReal) p = ∑ j : Fin t, Ideal.exp ((S j : EReal) - (M : EReal)) * W j := by
    unfold blend
    rw [hdrop _ fun j hj => by rw [hmask j hj, EReal.bot_sub, Ideal.exp_bot, zero_mul]]
    exact Finset.sum_congr rfl fun j _ => by rw [hS j, hW j]
  have hexp : ∀ j : Fin t, Ideal.exp ((S j : EReal) - (M : EReal)) = ((Real.exp (S j - M) : ℝ) : EReal) := fun j => by
    rw [← EReal.coe_sub, Ideal.exp_coe]
  have hsum : ∑ j : Fin t, Ideal.exp ((S j : EReal) - (M : EReal)) = ((∑ j : Fin t, Real.exp (S j - M) : ℝ) : EReal) := by
    rw [coe_of_sum]; exact Finset.sum_congr rfl fun j _ => hexp j
  have hpos : 0 < ∑ j : Fin t, Real.exp (S j - M) :=
    Finset.sum_pos (fun j _ => Real.exp_pos _) ⟨⟨0, h0⟩, Finset.mem_univ _⟩
  rw [hmass, hblend, hsum, Ideal.div_coe hpos.ne', mul_comm,
    factor_into_sum _ (by exact_mod_cast (one_div_pos.mpr hpos).le) (EReal.coe_ne_top _)]
  refine Finset.sum_congr rfl fun j _ => ?_
  rw [Ideal.div_coe hpos.ne', ← mul_assoc, mul_comm, mul_comm (_ : EReal) (Ideal.exp _)]

end Cert.Att

end
-- ==== Proof.Block.lean ====
/- What one grid point leaves in its block of the result, at the ideal values.

   The point reads a block `x0` of 1056 query rows, and every key row `x1` and value row `x2` of one head. Its loop
   takes sixteen chunks of 512 key rows; the rows from 8192 on, of which sixteen hold keys, are one last chunk under a
   mask. Here the loop's carried triple is shown to be the summary of the columns that it has gone through
   (`Proof/Online.lean`), and the block written at the end to be the quotient of the summary of all columns. -/
module

public import proofs.«01_k».proof.Defs
public import proofs.«01_k».proof.Proof.Online
public import proofs.«01_k».proof.Proof.Gen.KernelIdeal.Frame
public import Idealize.ShloMosaic.Lib.Pointwise

@[expose] public section

set_option maxRecDepth 16384

noncomputable section

namespace Cert.KernelIdeal.Att

open Idealize.ShloMosaic Idealize.ShloMosaic.TcCoe Cert.KernelIdeal Cert.KernelIdeal.Gen Cert.Att
open Idealize.SL.Sem

/-! ## Constants and offsets -/

theorem negInf : Ideal.ofBits .f32 0xFF800000#32 = ⊥ := by simp [Ideal.ofBits, Ideal.ieee]

/-- The masked score and the first maximum are `⊥`. -/
theorem mask_eq : (Named.named κ "mask" 0xF149F2CA#32 : Idealize.ShloMosaic.Ideal .f32) = (⊥ : EReal) := rfl

theorem off1 : ∀ k : Fin k0_t1_loop.trips, k0_off1 k = ![512 * k.val, 0] := by decide +kernel
theorem off2 : ∀ k : Fin k0_t1_loop.trips, k0_off2 k = ![512 * k.val, 0] := by decide +kernel
theorem trips_eq : k0_t1_loop.trips = 16 := by decide +kernel

/-- The mask of the last chunk keeps its first sixteen columns. -/
theorem keep : ∀ x : Fin 256, IntOp.cmpi CmpIPredicate.slt (BitVec.ofNat 32 x.val) 16#32 = if x.val < 16 then 1#1 else 0#1 := by
  decide +kernel

theorem zeros2 : (![0, 0] : Fin 2 → Nat) = fun _ => 0 := by funext a; fin_cases a <;> rfl

/-! ## The scores and values of one row -/

/-- The score of query row `r` against key row `j`; `⊥` from row 8208 on, where no key is. -/
def score (x0 : FVec Ideal S1056x256 .bf16) (x1 : FVec Ideal S8448x256 .bf16) (r : Fin 1056) (j : ℕ) : EReal :=
  if h : j < 8208 then ∑ d : Fin 256, x0 (ix2 r d) * x1 (ix2 ⟨j, by omega⟩ d) else ⊥

/-- Lane `l` of value row `j`. -/
def lane (x2 : FVec Ideal S8448x128 .bf16) (l : Fin 128) (j : ℕ) : EReal :=
  if h : j < 8448 then x2 (ix2 ⟨j, h⟩ l) else 0

/-! ## The body's vectors at an index -/

theorem pay5_at (v0 : Vec Ideal S1056x256 .bf16) (v40 : Vec Ideal S512x256 .bf16) (r : Fin 1056) (c : Fin 512) :
    k0_pay5 (F := Ideal) v0 v40 (ix2 r c) = ∑ d : Fin 256, v0 (ix2 r d) * v40 (ix2 c d) := by
  pointwise [k0_pay5, k0_pay1]

theorem pay6_at (v0 : Vec Ideal S1056x256 .bf16) (a8 : FVec Ideal S1056x1 .f32) (v40 : Vec Ideal S512x256 .bf16) (r : Fin 1056) :
    k0_pay6 (F := Ideal) v0 a8 v40 (ix2 r 0)
      = max (a8 (ix2 r 0)) (Finset.fold max ⊥ (fun x => k0_pay5 (F := Ideal) v0 v40 (ix2 r x)) Finset.univ) := by
  rw [← negInf]
  pointwise [k0_pay6]

theorem pay9_at (v0 : Vec Ideal S1056x256 .bf16) (a8 a9 : FVec Ideal S1056x1 .f32) (v40 : Vec Ideal S512x256 .bf16) (r : Fin 1056) :
    k0_pay9 (F := Ideal) v0 a8 a9 v40 (ix2 r 0)
      = Ideal.exp (a8 (ix2 r 0) - k0_pay6 (F := Ideal) v0 a8 v40 (ix2 r 0)) * a9 (ix2 r 0)
        + ∑ x : Fin 512, Ideal.exp (k0_pay5 (F := Ideal) v0 v40 (ix2 r x) - k0_pay6 (F := Ideal) v0 a8 v40 (ix2 r 0)) := by
  pointwise [k0_pay9, k0_pay7, k0_pay8]

theorem pay10_at (v0 : Vec Ideal S1056x256 .bf16) (a8 : FVec Ideal S1056x1 .f32) (a10 : FVec Ideal S1056x128 .f32)
    (v40 : Vec Ideal S512x256 .bf16) (v43 : Vec Ideal S512x128 .bf16) (r : Fin 1056) (l : Fin 128) :
    k0_pay10 (F := Ideal) v0 a8 a10 v40 v43 (ix2 r l)
      = Ideal.exp (a8 (ix2 r 0) - k0_pay6 (F := Ideal) v0 a8 v40 (ix2 r 0)) * a10 (ix2 r l)
        + ∑ x : Fin 512, Ideal.exp (k0_pay5 (F := Ideal) v0 v40 (ix2 r x) - k0_pay6 (F := Ideal) v0 a8 v40 (ix2 r 0)) * v43 (ix2 x l) := by
  pointwise [k0_pay10, k0_pay7, k0_pay8]

/-- A masked score of the last chunk. -/
def lastScore (v0 : Vec Ideal S1056x256 .bf16) (v7 : Vec Ideal S256x256 .bf16) (r : Fin 1056) (x : Fin 256) : EReal :=
  Scalar.select (IntOp.cmpi CmpIPredicate.slt (BitVec.ofNat 32 x.val) 16#32) (∑ d : Fin 256, v0 (ix2 r d) * v7 (ix2 x d)) ⊥

theorem pay11_at (v0 : Vec Ideal S1056x256 .bf16) (a8 a9 : FVec Ideal S1056x1 .f32) (a10 : FVec Ideal S1056x128 .f32)
    (v7 : Vec Ideal S256x256 .bf16) (v9 : Vec Ideal S256x128 .bf16) (r : Fin 1056) (l : Fin 128) :
    k0_pay11 (F := Ideal) v0 a8 a9 a10 v7 v9 (ix2 r l)
      = Ideal.div
          (Ideal.exp (a8 (ix2 r 0) - max (a8 (ix2 r 0)) (Finset.fold max ⊥ (lastScore v0 v7 r) Finset.univ)) * a10 (ix2 r l)
            + ∑ x : Fin 256, Ideal.exp (lastScore v0 v7 r x - max (a8 (ix2 r 0)) (Finset.fold max ⊥ (lastScore v0 v7 r) Finset.univ)) * v9 (ix2 x l))
          (Ideal.exp (a8 (ix2 r 0) - max (a8 (ix2 r 0)) (Finset.fold max ⊥ (lastScore v0 v7 r) Finset.univ)) * a9 (ix2 r 0)
            + ∑ x : Fin 256, Ideal.exp (lastScore v0 v7 r x - max (a8 (ix2 r 0)) (Finset.fold max ⊥ (lastScore v0 v7 r) Finset.univ))) := by
  unfold lastScore
  rw [← negInf]
  pointwise [k0_pay11, k0_pay1]
  rw [show (Named.named κ "mask" 0xF149F2CA#32 : Idealize.ShloMosaic.Ideal .f32) = Ideal.ofBits .f32 0xFF800000#32 from mask_eq.trans negInf.symm]

/-! ## Loads -/

theorem load_rows (X : Vec Ideal S8448x256 .bf16) (o : Fin 2 → Nat) (n : ℕ) (ho : o = ![n, 0]) (h : ∀ a, o a + S512x256.size a ≤ S8448x256.size a)
    (x : Fin 512) (d : Fin 256) (hb : n + x.val < 8448) :
    View.ld X (Rect.unit (s := S8448x256) o S512x256.size h) (ix2 x d) = X (ix2 ⟨n + x.val, hb⟩ d) := by
  subst ho
  pointwise

theorem load_lanes (X : Vec Ideal S8448x128 .bf16) (o : Fin 2 → Nat) (n : ℕ) (ho : o = ![n, 0]) (h : ∀ a, o a + S512x128.size a ≤ S8448x128.size a)
    (x : Fin 512) (l : Fin 128) (hb : n + x.val < 8448) :
    View.ld X (Rect.unit (s := S8448x128) o S512x128.size h) (ix2 x l) = X (ix2 ⟨n + x.val, hb⟩ l) := by
  subst ho
  pointwise

theorem load_rows_last (X : Vec Ideal S8448x256 .bf16) (h : ∀ a, (![8192, 0] : Fin 2 → Nat) a + S256x256.size a ≤ S8448x256.size a)
    (x : Fin 256) (d : Fin 256) :
    View.ld X (Rect.unit (s := S8448x256) ![8192, 0] S256x256.size h) (ix2 x d) = X (ix2 ⟨8192 + x.val, by omega⟩ d) := by
  pointwise

theorem load_lanes_last (X : Vec Ideal S8448x128 .bf16) (h : ∀ a, (![8192, 0] : Fin 2 → Nat) a + S256x128.size a ≤ S8448x128.size a)
    (x : Fin 256) (l : Fin 128) :
    View.ld X (Rect.unit (s := S8448x128) ![8192, 0] S256x128.size h) (ix2 x l) = X (ix2 ⟨8192 + x.val, by omega⟩ l) := by
  pointwise

/-! ## The loop's carried triple -/

section Run

variable (c : Dev nD) (i : grid0.Coords) (arg3 : Memref sig .tc .vmem S1056x256 .bf16) (harg3 : arg3.IsWhole)
  (arg4 : Memref sig .tc .vmem S8448x256 .bf16) (harg4 : arg4.IsWhole) (arg5 : Memref sig .tc .vmem S8448x128 .bf16) (harg5 : arg5.IsWhole)
  (arg6 : Memref sig .tc .vmem S1056x128 .f32) (harg6 : arg6.IsWhole)
  (x0 : Vec Ideal S1056x256 .bf16) (x1 : Vec Ideal S8448x256 .bf16) (x2 : Vec Ideal S8448x128 .bf16)

/-- The carried triple before trip `k`. -/
abbrev carried (k : ℕ) : FVec Ideal S1056x1 .f32 × FVec Ideal S1056x1 .f32 × FVec Ideal S1056x128 .f32 :=
  st_k0_t1 (F := Ideal) Variants.none c none i arg3 harg3 arg4 harg4 arg5 harg5 arg6 harg6 x0 (harg4.unread x1) (harg5.unread x2)
    (k0_pay2, k0_pay3, k0_pay4) k

/-- One trip hands on the three vectors computed from the chunk's rows. -/
theorem carried_succ (k : Fin k0_t1_loop.trips) :
    carried c i arg3 harg3 arg4 harg4 arg5 harg5 arg6 harg6 x0 x1 x2 (k.val + 1)
      = (fun acc : FVec Ideal S1056x1 .f32 × FVec Ideal S1056x1 .f32 × FVec Ideal S1056x128 .f32 =>
          (fun (K : Vec Ideal S512x256 .bf16) (W : Vec Ideal S512x128 .bf16) =>
            (k0_pay6 (F := Ideal) x0 acc.1 K, k0_pay9 (F := Ideal) x0 acc.1 acc.2.1 K, k0_pay10 (F := Ideal) x0 acc.1 acc.2.2 K W))
          (View.ld x1 (Rect.unit (s := S8448x256) (k0_off1 k) S512x256.size (k0_off1_inb k)))
          (View.ld x2 (Rect.unit (s := S8448x128) (k0_off2 k) S512x128.size (k0_off2_inb k))))
        (carried c i arg3 harg3 arg4 harg4 arg5 harg5 arg6 harg6 x0 x1 x2 k.val) := by
  unfold carried
  rw [st_k0_t1_succ]
  unfold tripR_k0_t1 trip_k0_t1
  dsimp only
  simp only [View.readAt_eq_ld, harg4.read_unread, harg5.read_unread]

variable (hs : ∀ r j, score x0 x1 r j ≠ ⊤)
include hs

/-- The carried triple is the summary of the columns gone through. -/
theorem carried_eq (k : ℕ) (hk : k ≤ 16) (r : Fin 1056) :
    (carried c i arg3 harg3 arg4 harg4 arg5 harg5 arg6 harg6 x0 x1 x2 k).1 (ix2 r 0) = peak (score x0 x1 r) (512 * k)
    ∧ (carried c i arg3 harg3 arg4 harg4 arg5 harg5 arg6 harg6 x0 x1 x2 k).2.1 (ix2 r 0)
        = mass (score x0 x1 r) (peak (score x0 x1 r) (512 * k)) (512 * k)
    ∧ ∀ l : Fin 128, (carried c i arg3 harg3 arg4 harg4 arg5 harg5 arg6 harg6 x0 x1 x2 k).2.2 (ix2 r l)
        = blend (score x0 x1 r) (lane x2 l) (peak (score x0 x1 r) (512 * k)) (512 * k) := by
  induction k with
  | zero =>
    refine ⟨?_, ?_, fun l => ?_⟩
    · show k0_pay2 (F := Ideal) (ix2 r 0) = (⊥ : EReal)
      pointwise [k0_pay2]
      exact mask_eq
    · show k0_pay3 (F := Ideal) (ix2 r 0) = (0 : EReal)
      pointwise [k0_pay3]
    · show k0_pay4 (F := Ideal) (ix2 r l) = (0 : EReal)
      pointwise [k0_pay4]
  | succ k ih =>
    obtain ⟨hm, hl, ha⟩ := ih (by omega)
    have hstep := carried_succ c i arg3 harg3 arg4 harg4 arg5 harg5 arg6 harg6 x0 x1 x2 ⟨k, by rw [trips_eq]; omega⟩
    dsimp only at hstep
    rw [hstep]
    dsimp only
    generalize hK : View.ld x1 (Rect.unit (s := S8448x256) (k0_off1 ⟨k, by rw [trips_eq]; omega⟩) S512x256.size (k0_off1_inb _)) = K
    generalize hW : View.ld x2 (Rect.unit (s := S8448x128) (k0_off2 ⟨k, by rw [trips_eq]; omega⟩) S512x128.size (k0_off2_inb _)) = W
    have hsc : ∀ x : Fin 512, k0_pay5 (F := Ideal) x0 K (ix2 r x) = score x0 x1 r (512 * k + x) := fun x => by
      rw [pay5_at, score, dif_pos (by omega), ← hK]
      exact Finset.sum_congr rfl fun d _ => congrArg (x0 (ix2 r d) * ·) (load_rows x1 _ (512 * k) (off1 _) _ x d (by omega))
    have hla : ∀ (x : Fin 512) (l : Fin 128), W (ix2 x l) = lane x2 l (512 * k + x) := fun x l => by
      rw [lane, dif_pos (by omega), ← hW]
      exact load_lanes x2 _ (512 * k) (off2 _) _ x l (by omega)
    have hpk : k0_pay6 (F := Ideal) x0 (carried c i arg3 harg3 arg4 harg4 arg5 harg5 arg6 harg6 x0 x1 x2 k).1 K (ix2 r 0)
        = peak (score x0 x1 r) (512 * k + 512) := by
      rw [pay6_at, hm, ← peak_chunk]
      simp only [hsc]
    refine ⟨hpk, ?_, fun l => ?_⟩
    · rw [pay9_at, hpk, hm, hl]
      simp only [hsc]
      exact mass_chunk (hs r) (512 * k) 512
    · rw [pay10_at, hpk, hm, ha]
      simp only [hsc, hla]
      exact blend_chunk (hs r) (lane x2 l) (512 * k) 512

/-- The block that the point leaves: the quotient of the summary of all columns. -/
theorem block_eq (r : Fin 1056) (l : Fin 128) :
    out0_A_3 (F := Ideal) c i arg3 harg3 arg4 harg4 arg5 harg5 arg6 harg6 x0 x1 x2 (ix2 r l)
      = Ideal.div (blend (score x0 x1 r) (lane x2 l) (peak (score x0 x1 r) 8448) 8448)
          (mass (score x0 x1 r) (peak (score x0 x1 r) 8448) 8448) := by
  have hopen : out0_A_3 (F := Ideal) c i arg3 harg3 arg4 harg4 arg5 harg5 arg6 harg6 x0 x1 x2
      = k0_pay11 (F := Ideal) x0 (carried c i arg3 harg3 arg4 harg4 arg5 harg5 arg6 harg6 x0 x1 x2 16).1
          (carried c i arg3 harg3 arg4 harg4 arg5 harg5 arg6 harg6 x0 x1 x2 16).2.1
          (carried c i arg3 harg3 arg4 harg4 arg5 harg5 arg6 harg6 x0 x1 x2 16).2.2
          (View.ld x1 (Rect.unit (s := S8448x256) ![8192, 0] S256x256.size inb_S8448x256_S256x256_8192_0))
          (View.ld x2 (Rect.unit (s := S8448x128) ![8192, 0] S256x128.size inb_S8448x128_S256x128_8192_0)) := by
    unfold out0_A_3
    rw [View.read_writes_eq_canon _ _ _ (cover0_A_3 c i arg3 harg3 arg4 harg4 arg5 harg5 arg6 harg6 x0 x1 x2)]
    unfold kernelRun0_A
    dsimp only
    rw [View.canon_unit_zero zeros2]
    sl_unfold_words
    simp only [View.readAt_eq_ld, harg3.read_unread, harg4.read_unread, harg5.read_unread]
    rw [show View.ld x0 (Rect.unit (s := S1056x256) ![0, 0] S1056x256.size inb_S1056x256_S1056x256_0_0) = x0 from
      View.ld_unit_zero (S := S1056x256) zeros2 _ x0]
    rw [show Scf.trips (0#32) (Scalar.addi 0#32 16#32) 1#32 = 16 from trips_eq]
  obtain ⟨hm, hl, ha⟩ := carried_eq c i arg3 harg3 arg4 harg4 arg5 harg5 arg6 harg6 x0 x1 x2 hs 16 le_rfl r
  rw [hopen, pay11_at, hm, hl, ha]
  generalize hK : View.ld x1 (Rect.unit (s := S8448x256) ![8192, 0] S256x256.size inb_S8448x256_S256x256_8192_0) = K
  generalize hW : View.ld x2 (Rect.unit (s := S8448x128) ![8192, 0] S256x128.size inb_S8448x128_S256x128_8192_0) = W
  have hsc : ∀ x : Fin 256, lastScore x0 K r x = score x0 x1 r (8192 + x) := fun x => by
    unfold lastScore score
    rw [keep x]
    by_cases hx : x.val < 16
    · rw [if_pos hx, dif_pos (by omega), ← hK]
      refine Eq.trans (if_pos rfl) ?_
      exact Finset.sum_congr rfl fun d _ => congrArg (x0 (ix2 r d) * ·) (load_rows_last x1 _ x d)
    · rw [if_neg hx, dif_neg (by omega)]
      rfl
  have hla : ∀ x : Fin 256, W (ix2 x l) = lane x2 l (8192 + x) := fun x => by
    rw [lane, dif_pos (by omega), ← hW]
    exact load_lanes_last x2 _ x l
  have hpk : max (peak (score x0 x1 r) (512 * 16)) (Finset.fold max ⊥ (lastScore x0 K r) Finset.univ) = peak (score x0 x1 r) 8448 := by
    rw [show lastScore x0 K r = fun x : Fin 256 => score x0 x1 r (8192 + x) from funext hsc]
    exact peak_chunk (score x0 x1 r) 8192 256
  rw [hpk]
  simp only [hsc, hla]
  rw [show Ideal.exp (peak (score x0 x1 r) (512 * 16) - peak (score x0 x1 r) 8448) * blend (score x0 x1 r) (lane x2 l) (peak (score x0 x1 r) (512 * 16)) (512 * 16)
      + ∑ x : Fin 256, Ideal.exp (score x0 x1 r (8192 + x) - peak (score x0 x1 r) 8448) * lane x2 l (8192 + x)
      = blend (score x0 x1 r) (lane x2 l) (peak (score x0 x1 r) 8448) 8448 from blend_chunk (hs r) (lane x2 l) 8192 256,
    show Ideal.exp (peak (score x0 x1 r) (512 * 16) - peak (score x0 x1 r) 8448) * mass (score x0 x1 r) (peak (score x0 x1 r) (512 * 16)) (512 * 16)
      + ∑ x : Fin 256, Ideal.exp (score x0 x1 r (8192 + x) - peak (score x0 x1 r) 8448)
      = mass (score x0 x1 r) (peak (score x0 x1 r) 8448) 8448 from mass_chunk (hs r) 8192 256]

end Run

end Cert.KernelIdeal.Att

end
-- ==== Proof.Rows.lean ====
/- The arrays that the launch reads, at an index.

   The queries (scaled), the keys and the values are padded with zeros, from 8208 to 8448 rows and from 192 to 256
   lanes a head, and laid out as rows `b * 8448 + i` of lanes `h * 256 + d` (the values: `h * 128 + d`). -/
module

public import proofs.«01_k».proof.Defs
public import proofs.«01_k».proof.Proof.Gen.KernelIdeal.Frame
public import Idealize.ShloMosaic.Lib.Pointwise
public import Idealize.ShloMosaic.Lib.KernelVsHost

@[expose] public section

set_option maxRecDepth 16384

noncomputable section

namespace Cert.KernelIdeal.Att

open Idealize.ShloMosaic Idealize.ShloMosaic.TcCoe Cert.KernelIdeal Cert.KernelIdeal.Gen
open Idealize.SL.Sem

/-- The padding's value is zero. -/
theorem fill_zero (i : S_.Idx) : (sitofp (F := Ideal) .f32 (constantI S_ 32 0#32) : FVec Ideal S_ .f32) i = (0 : EReal) := by
  show (((0#32 : BitVec 32).toInt : ℝ) : EReal) = 0
  simp

/-- Zeros after the rows and after the lanes of a query or key array. -/
def padWide (x : FVec Ideal S2x8208x16x192 .f32) : FVec Ideal S2x8448x16x256 .f32 :=
  pad S2x8448x16x256 ![0, 0, 0, 0] ![0, 240, 0, 64] ![0, 0, 0, 0] x
    (sitofp .f32 (constantI S_ 32 0#32)) pads_S2x8208x16x192_S2x8448x16x256_000_02400_000_0640 h_S_

/-- Zeros after the rows of a value array. -/
def padSlim (x : FVec Ideal S2x8208x16x128 .f32) : FVec Ideal S2x8448x16x128 .f32 :=
  pad S2x8448x16x128 ![0, 0, 0, 0] ![0, 240, 0, 0] ![0, 0, 0, 0] x
    (sitofp .f32 (constantI S_ 32 0#32)) pads_S2x8208x16x128_S2x8448x16x128_000_02400_000_000 h_S_

/-- A query or key array with rows and lanes padded, as rows of all heads' lanes. -/
def wide (x : FVec Ideal S2x8208x16x192 .f32) : FVec Ideal S16896x4096 .bf16 :=
  truncf .bf16 (shapeCast S16896x4096 (padWide x) shapeCasts_S2x8448x16x256_S16896x4096) bitsLt_bf16_f32

/-- A value array with rows padded, as rows of all heads' lanes. -/
def slim (x : FVec Ideal S2x8208x16x128 .f32) : FVec Ideal S16896x2048 .bf16 :=
  truncf .bf16 (shapeCast S16896x2048 (padSlim x) shapeCasts_S2x8448x16x128_S16896x2048) bitsLt_bf16_f32

/-- The queries times the scale. -/
def scaled (q : FVec Ideal S2x8208x16x192 .f32) : FVec Ideal S2x8208x16x192 .f32 :=
  mulf q (broadcastInDim S2x8208x16x192 ![] bcast_S_S2x8208x16x192 (constant S_ .f32 0x3D93CD3A#32))

theorem scaled_apply (q : FVec Ideal S2x8208x16x192 .f32) (y : S2x8208x16x192.Idx) :
    scaled q y = q y * Ideal.ofBits .f32 0x3D93CD3A#32 := rfl

/-- Row `b * 8448 + i`, lane `h * 256 + d` of a padded query or key array. -/
theorem wide_apply (x : FVec Ideal S2x8208x16x192 .f32) (R : Fin 16896) (C : Fin 4096) (b : Fin 2) (i : Fin 8448)
    (h : Fin 16) (d : Fin 256) (hR : R.val = b.val * 8448 + i.val) (hC : C.val = h.val * 256 + d.val) :
    wide x (ix2 R C) = if hin : i.val < 8208 ∧ d.val < 192 then x (ix4 b ⟨i.val, hin.1⟩ h ⟨d.val, hin.2⟩) else (0 : EReal) := by
  show shapeCast S16896x4096 (padWide x) shapeCasts_S2x8448x16x256_S16896x4096 (ix2 R C) = _
  rw [shapeCast_apply _ _ _ (ix4 b i h d) (by
    rw [rowMajor_val4 _ 34603008 4096 256 (by decide) (by decide) (by decide), rowMajor_val2 _ 4096 rfl]
    show b.val * 34603008 + i.val * 4096 + h.val * 256 + d.val = R.val * 4096 + C.val
    omega)]
  unfold padWide
  split_ifs with hin
  · exact pad_apply_of_inside _ _ _ _ _ _ _ _ _ fun a => by
      match a with
      | ⟨0, _⟩ => show b.val = 0 + b.val * 1; omega
      | ⟨1, _⟩ => show i.val = 0 + i.val * 1; omega
      | ⟨2, _⟩ => show h.val = 0 + h.val * 1; omega
      | ⟨3, _⟩ => show d.val = 0 + d.val * 1; omega
  · rw [not_and_or] at hin
    rcases hin with hin | hin
    · rw [pad_apply_of_not_inside _ _ _ _ _ _ _ _ (1 : Fin 4) (by
        rintro ⟨-, -, h3⟩
        have h3 : (i.val - 0) / (0 + 1) < 8208 := h3
        omega)]
      exact fill_zero _
    · rw [pad_apply_of_not_inside _ _ _ _ _ _ _ _ (3 : Fin 4) (by
        rintro ⟨-, -, h3⟩
        have h3 : (d.val - 0) / (0 + 1) < 192 := h3
        omega)]
      exact fill_zero _

/-- Row `b * 8448 + i`, lane `h * 128 + d` of the padded values. -/
theorem slim_apply (x : FVec Ideal S2x8208x16x128 .f32) (R : Fin 16896) (C : Fin 2048) (b : Fin 2) (i : Fin 8448)
    (h : Fin 16) (d : Fin 128) (hR : R.val = b.val * 8448 + i.val) (hC : C.val = h.val * 128 + d.val) :
    slim x (ix2 R C) = if hin : i.val < 8208 then x (ix4 b ⟨i.val, hin⟩ h d) else (0 : EReal) := by
  show shapeCast S16896x2048 (padSlim x) shapeCasts_S2x8448x16x128_S16896x2048 (ix2 R C) = _
  rw [shapeCast_apply _ _ _ (ix4 b i h d) (by
    rw [rowMajor_val4 _ 17301504 2048 128 (by decide) (by decide) (by decide), rowMajor_val2 _ 2048 rfl]
    show b.val * 17301504 + i.val * 2048 + h.val * 128 + d.val = R.val * 2048 + C.val
    omega)]
  unfold padSlim
  split_ifs with hin
  · exact pad_apply_of_inside _ _ _ _ _ _ _ _ _ fun a => by
      match a with
      | ⟨0, _⟩ => show b.val = 0 + b.val * 1; omega
      | ⟨1, _⟩ => show i.val = 0 + i.val * 1; omega
      | ⟨2, _⟩ => show h.val = 0 + h.val * 1; omega
      | ⟨3, _⟩ => show d.val = 0 + d.val * 1; omega
  · rw [pad_apply_of_not_inside _ _ _ _ _ _ _ _ (1 : Fin 4) (by
        rintro ⟨-, -, h3⟩
        have h3 : (i.val - 0) / (0 + 1) < 8208 := h3
        omega)]
    exact fill_zero _

/-! ## The region's arrays -/

variable (m : (ℓ : Loc nD τ sig) → Buf (Elt Ideal) ℓ)

theorem V_queries (c : Dev nD) : V m c main_v4 = wide (scaled (m ((c.tc : Thread nD τ).loc main_arg0))) := by
  simp only [V, V0, hostOps0, hostOps0_1, hostOps0_2, hostOps0_3, hostOps0_4, hostOps0_5, hostOps0_6, List.flatten_cons,
    List.flatten_nil, List.append_nil, List.cons_append, List.nil_append]
  after_results <;> rfl
theorem V_keys (c : Dev nD) : V m c main_v7 = wide (m ((c.tc : Thread nD τ).loc main_arg1)) := by
  simp only [V, V0, hostOps0, hostOps0_1, hostOps0_2, hostOps0_3, hostOps0_4, hostOps0_5, hostOps0_6, List.flatten_cons,
    List.flatten_nil, List.append_nil, List.cons_append, List.nil_append]
  after_results <;> rfl
theorem V_values (c : Dev nD) : V m c main_v10 = slim (m ((c.tc : Thread nD τ).loc main_arg2)) := by
  simp only [V, V0, hostOps0, hostOps0_1, hostOps0_2, hostOps0_3, hostOps0_4, hostOps0_5, hostOps0_6, List.flatten_cons,
    List.flatten_nil, List.append_nil, List.cons_append, List.nil_append]
  after_results <;> rfl

end Cert.KernelIdeal.Att

end
-- ==== Proof.Arrays.lean ====
/- The array that the launch leaves.

   The launch's points are a batch, a head and a block of 1056 query rows each; the blocks of the result that they
   write tile the result. So the result's row `b * 8448 + i`, lane `h * 128 + l` is the quotient of Proof/Block.lean at
   query `i`, over the padded keys and values of the batch and the head. -/
module

public import proofs.«01_k».proof.Proof.Block
public import proofs.«01_k».proof.Proof.Rows
public import Idealize.ShloMosaic.Lib.Pipeline.ValueKit

@[expose] public section

set_option maxRecDepth 16384

noncomputable section

namespace Cert.KernelIdeal.Att

open Idealize.ShloMosaic Idealize.ShloMosaic.TcCoe Cert.KernelIdeal Cert.KernelIdeal.Gen Cert.Att
open Idealize.SL.Sem

/-- A padded query or key array by batch, row, head and lane. -/
def padded (x : FVec Ideal S2x8208x16x192 .f32) (b : Fin 2) (i : ℕ) (h : Fin 16) (d : Fin 256) : EReal :=
  if hin : i < 8208 ∧ d.val < 192 then x (ix4 b ⟨i, hin.1⟩ h ⟨d.val, hin.2⟩) else 0

/-- A query's scores against the padded keys, `⊥` past the last key. -/
def padScore (q k : FVec Ideal S2x8208x16x192 .f32) (b : Fin 2) (i : ℕ) (h : Fin 16) (j : ℕ) : EReal :=
  if j < 8208 then ∑ d : Fin 256, padded q b i h d * padded k b j h d else ⊥

/-- A lane of the padded values. -/
def padLane (v : FVec Ideal S2x8208x16x128 .f32) (b : Fin 2) (h : Fin 16) (l : Fin 128) (j : ℕ) : EReal :=
  if hj : j < 8208 then v (ix4 b ⟨j, hj⟩ h l) else 0

/-- The quotient over all padded columns. -/
def quot (q k : FVec Ideal S2x8208x16x192 .f32) (v : FVec Ideal S2x8208x16x128 .f32) (b : Fin 2) (i : ℕ) (h : Fin 16)
    (l : Fin 128) : EReal :=
  Ideal.div (blend (padScore q k b i h) (padLane v b h l) (peak (padScore q k b i h) 8448) 8448)
    (mass (padScore q k b i h) (peak (padScore q k b i h) 8448) 8448)

/-- The launch's result. -/
def filled (q k : FVec Ideal S2x8208x16x192 .f32) (v : FVec Ideal S2x8208x16x128 .f32) : FVec Ideal S16896x2048 .f32 := fun y =>
  quot q k v ⟨(y 0).val / 8448, by have : (y 0).val < 16896 := (y 0).isLt; omega⟩ ((y 0).val % 8448)
    ⟨(y 1).val / 128, by have : (y 1).val < 2048 := (y 1).isLt; omega⟩ ⟨(y 1).val % 128, Nat.mod_lt _ (by decide)⟩

theorem idx0 : ∀ t : Fin grid0.N, win0_0.index t = ![(grid0.coords t 0).val * 8 + (grid0.coords t 2).val, (grid0.coords t 1).val] := by
  decide +kernel
theorem idx1 : ∀ t : Fin grid0.N, win0_1.index t = ![(grid0.coords t 0).val, (grid0.coords t 1).val] := by decide +kernel
theorem idx2 : ∀ t : Fin grid0.N, win0_2.index t = ![(grid0.coords t 0).val, (grid0.coords t 1).val] := by decide +kernel
theorem idx3 : ∀ t : Fin grid0.N, win0_3.index t = ![(grid0.coords t 0).val * 8 + (grid0.coords t 2).val, (grid0.coords t 1).val] := by
  decide +kernel

variable (m : (ℓ : Loc nD τ sig) → Buf (Elt Ideal) ℓ)

/-- A point's batch, head and block of query rows. -/
def batch (t : Fin cfg0.N) : Fin 2 := grid0.coords t 0
def head (t : Fin cfg0.N) : Fin 16 := grid0.coords t 1
def tile (t : Fin cfg0.N) : Fin 8 := grid0.coords t 2

/-- The block of queries: rows of the point's batch and block, lanes of its head. -/
theorem queries_at (c : Dev nD) (t : Fin cfg0.N) (r : Fin 1056) (d : Fin 256) :
    (iblk m c 0 t (ix2 r d) : EReal)
      = padded (scaled (m ((c.tc : Thread nD τ).loc main_arg0))) (batch t) ((tile t).val * 1056 + r.val) (head t) d := by
  have hb := (batch t).isLt
  have hh := (head t).isLt
  have hs := (tile t).isLt
  have e : iblk m c 0 t (ix2 r d) = V m c main_v4 (ix2 ⟨(batch t).val * 8448 + ((tile t).val * 1056 + r.val), by omega⟩
      ⟨(head t).val * 256 + d.val, by omega⟩) := by
    unfold iblk
    rw [View.read_apply]
    show V m c main_v4 _ = V m c main_v4 _
    congr 1
    funext a
    apply Fin.ext
    match a with
    | ⟨0, _⟩ =>
      show win0_0.index t 0 * 1056 + 1 * r.val = _
      rw [idx0]
      show ((batch t).val * 8 + (tile t).val) * 1056 + 1 * r.val = (batch t).val * 8448 + ((tile t).val * 1056 + r.val)
      omega
    | ⟨1, _⟩ =>
      show win0_0.index t 1 * 256 + 1 * d.val = _
      rw [idx0]
      show (head t).val * 256 + 1 * d.val = (head t).val * 256 + d.val
      omega
  rw [e, V_queries]
  exact wide_apply _ _ _ (batch t) ⟨(tile t).val * 1056 + r.val, by omega⟩ (head t) d rfl rfl

/-- The block of keys: every row of the point's batch, lanes of its head. -/
theorem keys_at (c : Dev nD) (t : Fin cfg0.N) (j : Fin 8448) (d : Fin 256) :
    (iblk m c 1 t (ix2 j d) : EReal) = padded (m ((c.tc : Thread nD τ).loc main_arg1)) (batch t) j.val (head t) d := by
  have hb := (batch t).isLt
  have hh := (head t).isLt
  have e : iblk m c 1 t (ix2 j d) = V m c main_v7 (ix2 ⟨(batch t).val * 8448 + j.val, by omega⟩
      ⟨(head t).val * 256 + d.val, by omega⟩) := by
    unfold iblk
    rw [View.read_apply]
    show V m c main_v7 _ = V m c main_v7 _
    congr 1
    funext a
    apply Fin.ext
    match a with
    | ⟨0, _⟩ =>
      show win0_1.index t 0 * 8448 + 1 * j.val = _
      rw [idx1]
      show (batch t).val * 8448 + 1 * j.val = (batch t).val * 8448 + j.val
      omega
    | ⟨1, _⟩ =>
      show win0_1.index t 1 * 256 + 1 * d.val = _
      rw [idx1]
      show (head t).val * 256 + 1 * d.val = (head t).val * 256 + d.val
      omega
  rw [e, V_keys]
  exact wide_apply _ _ _ (batch t) j (head t) d rfl rfl

/-- The block of values: every row of the point's batch, lanes of its head. -/
theorem values_at (c : Dev nD) (t : Fin cfg0.N) (j : Fin 8448) (l : Fin 128) :
    (iblk m c 2 t (ix2 j l) : EReal) = padLane (m ((c.tc : Thread nD τ).loc main_arg2)) (batch t) (head t) l j.val := by
  have hb := (batch t).isLt
  have hh := (head t).isLt
  have e : iblk m c 2 t (ix2 j l) = V m c main_v10 (ix2 ⟨(batch t).val * 8448 + j.val, by omega⟩
      ⟨(head t).val * 128 + l.val, by omega⟩) := by
    unfold iblk
    rw [View.read_apply]
    show V m c main_v10 _ = V m c main_v10 _
    congr 1
    funext a
    apply Fin.ext
    match a with
    | ⟨0, _⟩ =>
      show win0_2.index t 0 * 8448 + 1 * j.val = _
      rw [idx2]
      show (batch t).val * 8448 + 1 * j.val = (batch t).val * 8448 + j.val
      omega
    | ⟨1, _⟩ =>
      show win0_2.index t 1 * 128 + 1 * l.val = _
      rw [idx2]
      show (head t).val * 128 + 1 * l.val = (head t).val * 128 + l.val
      omega
  rw [e, V_values]
  exact slim_apply _ _ _ (batch t) j (head t) l rfl rfl

/-- A block's scores are the padded arrays' scores. -/
theorem score_at (c : Dev nD) (t : Fin cfg0.N) (r : Fin 1056) :
    score (iblk m c 0 t) (iblk m c 1 t) r = padScore (scaled (m ((c.tc : Thread nD τ).loc main_arg0)))
      (m ((c.tc : Thread nD τ).loc main_arg1)) (batch t) ((tile t).val * 1056 + r.val) (head t) := by
  funext j
  unfold score padScore
  split_ifs with h
  · exact Finset.sum_congr rfl fun d _ => by rw [queries_at, keys_at]
  · rfl

theorem lane_at (c : Dev nD) (t : Fin cfg0.N) (l : Fin 128) :
    lane (iblk m c 2 t) l = padLane (m ((c.tc : Thread nD τ).loc main_arg2)) (batch t) (head t) l := by
  funext j
  unfold lane
  split_ifs with h
  · exact values_at m c t ⟨j, h⟩ l
  · unfold padLane
    rw [dif_neg (by omega)]

/-- The launch's result array, where no score is `⊤`. -/
theorem arr (c : Dev nD) (hs : ∀ b i h j, padScore (scaled (m ((c.tc : Thread nD τ).loc main_arg0)))
      (m ((c.tc : Thread nD τ).loc main_arg1)) b i h j ≠ ⊤) :
    (dats m 0 c).arrAt 3 cfg0.N = filled (scaled (m ((c.tc : Thread nD τ).loc main_arg0)))
      (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold outsAt0
  have hb := (batch t).isLt
  have hh := (head t).isLt
  have ht := (tile t).isLt
  have hr : (y 0).val < 1056 := (y 0).isLt
  have hl : (y 1).val < 128 := (y 1).isLt
  have e0 : ((win0_3.blk t).view.emb y 0).val = ((batch t).val * 8 + (tile t).val) * 1056 + (y 0).val := by
    show win0_3.index t 0 * 1056 + 1 * (y 0).val = _
    rw [idx3]
    show ((batch t).val * 8 + (tile t).val) * 1056 + 1 * (y 0).val = _
    omega
  have e1 : ((win0_3.blk t).view.emb y 1).val = (head t).val * 128 + (y 1).val := by
    show win0_3.index t 1 * 128 + 1 * (y 1).val = _
    rw [idx3]
    show (head t).val * 128 + 1 * (y 1).val = _
    omega
  have ey : y = (ix2 ⟨(y 0).val, hr⟩ ⟨(y 1).val, hl⟩ : S1056x128.Idx) := by
    funext a
    match a with
    | ⟨0, _⟩ => rfl
    | ⟨1, _⟩ => rfl
  have blk := block_eq c (grid0.coords t) (ms0_0 t) (hs0_0 t) (ms0_1 t) (hs0_1 t) (ms0_2 t) (hs0_2 t) (ms0_3 t) (hs0_3 t)
    (iblk m c 0 t) (iblk m c 1 t) (iblk m c 2 t) (fun r j => by rw [score_at]; exact hs _ _ _ _) ⟨(y 0).val, hr⟩ ⟨(y 1).val, hl⟩
  rw [score_at, lane_at] at blk
  refine ((congrArg _ ey).trans blk).trans ?_
  unfold filled
  have hB : (⟨((win0_3.blk t).view.emb y 0).val / 8448, by rw [e0]; omega⟩ : Fin 2) = batch t := Fin.ext (by
    show ((win0_3.blk t).view.emb y 0).val / 8448 = _
    rw [e0]; omega)
  have hI : ((win0_3.blk t).view.emb y 0).val % 8448 = (tile t).val * 1056 + (y 0).val := by rw [e0]; omega
  have hH : (⟨((win0_3.blk t).view.emb y 1).val / 128, by rw [e1]; omega⟩ : Fin 16) = head t := Fin.ext (by
    show ((win0_3.blk t).view.emb y 1).val / 128 = _
    rw [e1]; omega)
  have hL : (⟨((win0_3.blk t).view.emb y 1).val % 128, by omega⟩ : Fin 128) = ⟨(y 1).val, hl⟩ := Fin.ext (by
    show ((win0_3.blk t).view.emb y 1).val % 128 = _
    rw [e1]; show _ = (y 1).val; omega)
  show quot _ _ _ (batch t) ((tile t).val * 1056 + (y 0).val) (head t) ⟨(y 1).val, hl⟩ = quot _ _ _ _ _ _ _
  rw [← hB, ← hI, ← hH, ← hL]

/-! ## The program's result -/

/-- The result read off the launch's array: row `i` of batch `b`. -/
theorem final (c : Dev nD) (hs : ∀ b i h j, padScore (scaled (m ((c.tc : Thread nD τ).loc main_arg0)))
      (m ((c.tc : Thread nD τ).loc main_arg1)) b i h j ≠ ⊤) :
    Pipeline.afterTail₀ cfgs (dats m) 0 (V0 m) [hostOps1] c main_v13
      = extractStridedSlice S2x8208x2048 ![0, 0, 0]
          (shapeCast S2x8448x2048 (filled (scaled (m ((c.tc : Thread nD τ).loc main_arg0)))
            (m ((c.tc : Thread nD τ).loc main_arg1)) (m ((c.tc : Thread nD τ).loc main_arg2))) shapeCasts_S16896x2048_S2x8448x2048)
          slices_S2x8448x2048_S2x8208x2048_0_0_0 := by
  rw [← arr m c hs]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v11)
      = (dats m 0 c).arrAt 3 cfg0.N :=
    Pipeline.withArrays_arr spec0 winFacts0.arr_inj c (V0 m c) (fun w => (dats m 0 c).arrAt w cfg0.N) 3
  rw [e]
  rfl

theorem final_apply (q k : FVec Ideal S2x8208x16x192 .f32) (v : FVec Ideal S2x8208x16x128 .f32) (b : Fin 2) (i : Fin 8208)
    (C : Fin 2048) (h : Fin 16) (l : Fin 128) (hC : C.val = h.val * 128 + l.val) :
    extractStridedSlice S2x8208x2048 ![0, 0, 0] (shapeCast S2x8448x2048 (filled q k v) shapeCasts_S16896x2048_S2x8448x2048)
      slices_S2x8448x2048_S2x8208x2048_0_0_0 (ix3 b i C) = quot q k v b i.val h l := by
  have hb := b.isLt
  have hi := i.isLt
  have hl := l.isLt
  rw [extractStridedSlice_apply _ _ _ _ (ix3 b ⟨i.val, by omega⟩ C) (fun a => by
    match a with
    | ⟨0, _⟩ => show b.val = 0 + b.val; omega
    | ⟨1, _⟩ => show i.val = 0 + i.val; omega
    | ⟨2, _⟩ => show C.val = 0 + C.val; omega),
    shapeCast_apply _ _ _ (ix2 ⟨b.val * 8448 + i.val, by omega⟩ C) (by
      rw [rowMajor_val2 _ 2048 rfl, rowMajor_val3 _ 17301504 2048 (by decide) (by decide)]
      show (b.val * 8448 + i.val) * 2048 + C.val = b.val * 17301504 + i.val * 2048 + C.val
      omega)]
  unfold filled
  have hB : (⟨(b.val * 8448 + i.val) / 8448, by omega⟩ : Fin 2) = b := Fin.ext (by show (b.val * 8448 + i.val) / 8448 = _; omega)
  have hI : (b.val * 8448 + i.val) % 8448 = i.val := by omega
  have hH : (⟨C.val / 128, by omega⟩ : Fin 16) = h := Fin.ext (by show C.val / 128 = _; omega)
  have hL : (⟨C.val % 128, by omega⟩ : Fin 128) = l := Fin.ext (by show C.val % 128 = _; omega)
  show quot q k v ⟨(b.val * 8448 + i.val) / 8448, _⟩ ((b.val * 8448 + i.val) % 8448) ⟨C.val / 128, _⟩ ⟨C.val % 128, _⟩ = _
  rw [hB, hI, hH, hL]

end Cert.KernelIdeal.Att

end
-- ==== Proof.Reference.lean ====
/- The reference's result at an index: a softmax-weighted sum of value rows. -/
module

public import proofs.«01_k».proof.Defs
public import proofs.«01_k».proof.Proof.Gen.ReferenceIdeal.Run
public import Idealize.ShloMosaic.Lib.Pointwise

@[expose] public section

set_option maxRecDepth 16384

noncomputable section

namespace Cert.ReferenceIdeal.Att

open Idealize.ShloMosaic Cert.ReferenceIdeal Cert.ReferenceIdeal.Gen

/-- The maximum along the last of four axes, from below by `⊥` twice, at any extents. -/
theorem greatest {n0 n1 n2 n3 : Nat} (s : FVec Ideal ⟨4, ![n0, n1, n2, n3]⟩ .f32) (low : FVec Ideal ⟨3, ![n0, n1, n2]⟩ .f32)
    {u : Shape} (init : FVec Ideal u .f32)
    (h : (⟨4, ![n0, n1, n2, n3]⟩ : Shape).ReducesTo [3] ⟨3, ![n0, n1, n2]⟩) (hu : 0 < u.numel)
    (hlow : ∀ y, low y = (⊥ : EReal)) (hinit : ∀ y, init y = (⊥ : EReal)) (b : Fin n0) (g : Fin n1) (i : Fin n2) :
    maximumf low (Host.reduce FloatOps.maximumf s init h hu) (ix3 b g i)
      = Finset.univ.fold max (⊥ : EReal) (fun j : Fin n3 => (s (ix4 b g i j) : EReal)) := by
  show max (low (ix3 b g i) : EReal) (Host.reduce FloatOps.maximumf s init h hu (ix3 b g i)) = _
  rw [hlow, bot_sup_eq]
  rw [Host.reduce_eq_fold, hinit, Shape.ReducesTo.fold_fiber_r4_a3]
  rfl

/-- The scaled scores of every query against every key of its head. -/
def scores (q k : FVec Ideal S2x8208x16x192 .f32) : FVec Ideal S2x16x8208x8208 .f32 :=
  mulf (Host.dotGeneral dot_S2x8208x16x192_S2x8208x16x192_S2x16x8208x8208_3_3_1_1_02_02 none q k)
    (broadcastInDim S2x16x8208x8208 ![] bcast_S_S2x16x8208x8208 (constant S_ .f32 0x3D93CD3A#32))

/-- Each query's greatest score. -/
def top (s : FVec Ideal S2x16x8208x8208 .f32) : FVec Ideal S2x16x8208 .f32 :=
  maximumf (broadcastInDim S2x16x8208 ![] bcast_S_S2x16x8208 (constant S_ .f32 0xFF800000#32))
    (Host.reduce FloatOps.maximumf s (constant S_ .f32 0xFF800000#32) reducesTo_S2x16x8208x8208_S2x16x8208_d3 h_S_)

/-- The exponentials of the scores below the greatest. -/
def exps (s : FVec Ideal S2x16x8208x8208 .f32) : FVec Ideal S2x16x8208x8208 .f32 :=
  Host.exp (subf s (broadcastInDim S2x16x8208x8208 ![0, 1, 2, 3] bcast_S2x16x8208x1_S2x16x8208x8208_0_1_2_3
    (broadcastInDim S2x16x8208x1 ![0, 1, 2] bcast_S2x16x8208_S2x16x8208x1_0_1_2 (top s))))

/-- Their sum, at every score of the query. -/
def total (e : FVec Ideal S2x16x8208x8208 .f32) : FVec Ideal S2x16x8208x8208 .f32 :=
  broadcastInDim S2x16x8208x8208 ![0, 1, 2, 3] bcast_S2x16x8208x1_S2x16x8208x8208_0_1_2_3
    (broadcastInDim S2x16x8208x1 ![0, 1, 2] bcast_S2x16x8208_S2x16x8208x1_0_1_2
      (Host.reduceAdd e (constant S_ .f32 0x00000000#32) reducesTo_S2x16x8208x8208_S2x16x8208_d3 h_S_))

/-- The value rows weighted. -/
def mixed (p : FVec Ideal S2x16x8208x8208 .f32) (v : FVec Ideal S2x8208x16x128 .f32) : FVec Ideal S2x8208x16x128 .f32 :=
  transpose S2x8208x16x128 [0, 3, 1, 2] (Host.dotGeneral dot_S2x8208x16x128_S2x16x8208x8208_S2x16x128x8208_1_3_3_2_02_01 none v p)
    transposes_S2x16x128x8208_S2x8208x16x128_0_3_1_2

/-- The whole of the reference. -/
def result (q k : FVec Ideal S2x8208x16x192 .f32) (v : FVec Ideal S2x8208x16x128 .f32) : FVec Ideal S2x8208x2048 .f32 :=
  shapeCast S2x8208x2048 (mixed (Host.divf (exps (scores q k)) (total (exps (scores q k)))) v) shapeCasts_S2x8208x16x128_S2x8208x2048

theorem scores_apply (q k : FVec Ideal S2x8208x16x192 .f32) (b : Fin 2) (h : Fin 16) (i j : Fin 8208) :
    scores q k (ix4 b h i j) = (∑ d : Fin 192, q (ix4 b i h d) * k (ix4 b j h d)) * Ideal.ofBits .f32 0x3D93CD3A#32 := by
  pointwise [scores]

theorem top_apply (s : FVec Ideal S2x16x8208x8208 .f32) (b : Fin 2) (h : Fin 16) (i : Fin 8208) :
    top s (ix3 b h i) = Finset.univ.fold max (⊥ : EReal) (fun j : Fin 8208 => (s (ix4 b h i j) : EReal)) :=
  greatest s _ _ _ _ (fun _ => by show Ideal.ofBits .f32 0xFF800000#32 = _; simp [Ideal.ofBits, Ideal.ieee])
    (fun _ => by show Ideal.ofBits .f32 0xFF800000#32 = _; simp [Ideal.ofBits, Ideal.ieee]) b h i

theorem exps_apply (s : FVec Ideal S2x16x8208x8208 .f32) (b : Fin 2) (h : Fin 16) (i j : Fin 8208) :
    exps s (ix4 b h i j) = Ideal.exp (s (ix4 b h i j) - top s (ix3 b h i)) := by
  pointwise [exps]

theorem total_apply (e : FVec Ideal S2x16x8208x8208 .f32) (b : Fin 2) (h : Fin 16) (i j : Fin 8208) :
    total e (ix4 b h i j) = ∑ j' : Fin 8208, e (ix4 b h i j') := by
  pointwise [total]

theorem mixed_apply (p : FVec Ideal S2x16x8208x8208 .f32) (v : FVec Ideal S2x8208x16x128 .f32) (b : Fin 2) (i : Fin 8208)
    (h : Fin 16) (l : Fin 128) : mixed p v (ix4 b i h l) = ∑ j : Fin 8208, v (ix4 b j h l) * p (ix4 b h i j) := by
  pointwise [mixed]

/-- Lane `h * 128 + l` of query `i`: head `h`'s value rows at lane `l`, weighted by the query's softmax. -/
theorem result_apply (q k : FVec Ideal S2x8208x16x192 .f32) (v : FVec Ideal S2x8208x16x128 .f32) (b : Fin 2) (i : Fin 8208)
    (C : Fin 2048) (h : Fin 16) (l : Fin 128) (hC : C.val = h.val * 128 + l.val) :
    result q k v (ix3 b i C) = ∑ j : Fin 8208, v (ix4 b j h l)
      * Ideal.div (exps (scores q k) (ix4 b h i j)) (∑ j' : Fin 8208, exps (scores q k) (ix4 b h i j')) := by
  unfold result
  rw [shapeCast_apply _ _ _ (ix4 b i h l) (by
    rw [rowMajor_val4 _ 16809984 2048 128 (by decide) (by decide) (by decide), rowMajor_val3 _ 16809984 2048 (by decide) (by decide)]
    show b.val * 16809984 + i.val * 2048 + h.val * 128 + l.val = b.val * 16809984 + i.val * 2048 + C.val
    omega), mixed_apply]
  refine Finset.sum_congr rfl fun j _ => ?_
  show _ * Ideal.div _ (total (exps (scores q k)) (ix4 b h i j)) = _
  rw [total_apply]

end Cert.ReferenceIdeal.Att

end
-- ==== Proof.Pre.lean ====
/- What the precondition says of the queries and the keys: every element is a real number. -/
module

public import proofs.«01_k».proof.Defs
public import Idealize.ShloMosaic.Lib.Pointwise
public import Idealize.ShloMosaic.Lib.ReduceAll

@[expose] public section

noncomputable section

namespace Cert.Pre_finite.Att

open Idealize.ShloMosaic Cert.Pre_finite

theorem facts : Cert.Pre_finite.Facts where
  bcast_S_S2x8208x16x192 := by decide
  reducesTo_S2x8208x16x192_S_d0_1_2_3 := by decide
  h_S_ := by decide

theorem inf_eq : Ideal.ofBits .f32 0x7F800000#32 = ⊤ := by simp [Ideal.ofBits, Ideal.ieee]

/-- An element whose absolute value compares below `⊤` is a real number. -/
theorem real_of_lt {a : EReal} (h : Ideal.cmp .olt (max a (-a)) ⊤ = 1#1) : ∃ r : ℝ, a = r := by
  induction a with
  | bot => simp [Ideal.cmp] at h
  | top => simp [Ideal.cmp] at h
  | coe r => exact ⟨r, rfl⟩

attribute [local instance] facts

theorem reals (q k : FVec Ideal S2x8208x16x192 .f32) (v : FVec Ideal S2x8208x16x128 .f32)
    (h : Cert.Pre_finite.fn (F := Ideal) q k v = fun _ => 1#1) :
    (∃ Q : S2x8208x16x192.Idx → ℝ, ∀ y, q y = Q y) ∧ ∃ K : S2x8208x16x192.Idx → ℝ, ∀ y, k y = K y := by
  have h0 := congrFun h (Shape.Idx.first Facts.h_S_)
  dsimp only [Cert.Pre_finite.fn] at h0
  have hs : ∀ a b : BitVec 1, IntOp.andi a b = 1#1 → a = 1#1 ∧ b = 1#1 := by decide
  obtain ⟨h1, h2⟩ := hs _ _ h0
  constructor
  · have e : ∀ y, ∃ r : ℝ, q y = r := fun y => by
      refine real_of_lt ?_
      rw [← inf_eq]
      exact Host.reduce_andi_all _ _ _ _ _ h1 y
    exact ⟨fun y => (e y).choose, fun y => (e y).choose_spec⟩
  · have e : ∀ y, ∃ r : ℝ, k y = r := fun y => by
      refine real_of_lt ?_
      rw [← inf_eq]
      exact Host.reduce_andi_all _ _ _ _ _ h2 y
    exact ⟨fun y => (e y).choose, fun y => (e y).choose_spec⟩

end Cert.Pre_finite.Att

end
-- ==== Proof.Tie.lean ====
/- The kernel's quotient is the reference's softmax-weighted sum.

   Of a padded head's 256 lanes 64 are zero, and of the 8448 padded columns those from 8208 on weigh nothing; the scale,
   taken into the queries by the one and into the scores by the other, moves across the sum because queries and keys
   are real numbers. -/
module

public import proofs.«01_k».proof.Proof.Arrays
public import proofs.«01_k».proof.Proof.Reference
public import proofs.«01_k».proof.Proof.Pre

@[expose] public section

set_option maxRecDepth 16384

noncomputable section

namespace Cert.Att

open Idealize.ShloMosaic Cert.KernelIdeal.Att

/-- The scale is a real number. -/
theorem scale_real : ∃ s : ℝ, Ideal.ofBits .f32 0x3D93CD3A#32 = (s : EReal) := by
  simp [Ideal.ofBits, Ideal.ieee]
  exact ⟨_, rfl⟩

/-- A sum over 256 lanes of which those from 192 on are zero. -/
theorem sum_lanes (f : Fin 256 → EReal) (g : Fin 192 → EReal) (h1 : ∀ d : Fin 192, f ⟨d.val, by omega⟩ = g d)
    (h2 : ∀ d : Fin 256, 192 ≤ d.val → f d = 0) : ∑ d, f d = ∑ d, g d := by
  have e := Fin.sum_univ_add (a := 192) (b := 64) (fun d => f d)
  refine e.trans ?_
  rw [Finset.sum_eq_zero (s := (Finset.univ : Finset (Fin 64))) (fun d _ => h2 _ (by simp)), add_zero]
  exact Finset.sum_congr rfl fun d _ => h1 d

section
variable {q k : FVec Ideal Cert.KernelIdeal.S2x8208x16x192 .f32} {Q K : Cert.KernelIdeal.S2x8208x16x192.Idx → ℝ} {s : ℝ}

/-- A scaled score as a real number. -/
def realScore (Q K : Cert.KernelIdeal.S2x8208x16x192.Idx → ℝ) (s : ℝ) (b : Fin 2) (h : Fin 16) (i j : Fin 8208) : ℝ :=
  (∑ d : Fin 192, Q (ix4 b i h d) * K (ix4 b j h d)) * s

theorem padScore_ne_top (hQ : ∀ y, q y = (Q y : EReal)) (hK : ∀ y, k y = (K y : EReal))
    (hs : Ideal.ofBits .f32 0x3D93CD3A#32 = (s : EReal)) (b : Fin 2) (i : ℕ) (h : Fin 16) (j : ℕ) :
    padScore (scaled q) k b i h j ≠ ⊤ := by
  have real : ∀ x : FVec Ideal Cert.KernelIdeal.S2x8208x16x192 .f32, (∀ y, ∃ r : ℝ, x y = (r : EReal)) → ∀ (i : ℕ) (d : Fin 256),
      ∃ r : ℝ, padded x b i h d = (r : EReal) := fun x hx i d => by
    unfold padded
    split_ifs
    · exact hx _
    · exact ⟨0, rfl⟩
  have hq : ∀ y, ∃ r : ℝ, scaled q y = (r : EReal) := fun y => ⟨Q y * s, by rw [scaled_apply, hQ, hs, EReal.coe_mul]⟩
  unfold padScore
  split_ifs
  · choose A hA using real (scaled q) hq i
    choose B hB using real k (fun y => ⟨K y, hK y⟩) j
    rw [Finset.sum_congr rfl fun d _ => (by rw [hA, hB, ← EReal.coe_mul] :
      padded (scaled q) b i h d * padded k b j h d = ((A d * B d : ℝ) : EReal)), ← coe_of_sum]
    exact EReal.coe_ne_top _
  · exact bot_ne_top

theorem padScore_eq (hQ : ∀ y, q y = (Q y : EReal)) (hK : ∀ y, k y = (K y : EReal))
    (hs : Ideal.ofBits .f32 0x3D93CD3A#32 = (s : EReal)) (b : Fin 2) (h : Fin 16) (i j : Fin 8208) :
    padScore (scaled q) k b i.val h j.val = (realScore Q K s b h i j : EReal) := by
  unfold padScore realScore
  rw [if_pos j.isLt, sum_lanes _ (fun d : Fin 192 => ((Q (ix4 b i h d) * s * K (ix4 b j h d) : ℝ) : EReal)) (fun d => ?_) (fun d hd => ?_)]
  · rw [← coe_of_sum, Finset.sum_mul]
    exact congrArg _ (Finset.sum_congr rfl fun d _ => by ring)
  · unfold padded
    rw [dif_pos ⟨i.isLt, d.isLt⟩, dif_pos ⟨j.isLt, d.isLt⟩, scaled_apply, hs]
    show q (ix4 b i h d) * (s : EReal) * k (ix4 b j h d) = _
    rw [hQ, hK, ← EReal.coe_mul, ← EReal.coe_mul]
  · unfold padded
    rw [dif_neg (by omega), zero_mul]

theorem scores_eq (hQ : ∀ y, q y = (Q y : EReal)) (hK : ∀ y, k y = (K y : EReal))
    (hs : Ideal.ofBits .f32 0x3D93CD3A#32 = (s : EReal)) (b : Fin 2) (h : Fin 16) (i j : Fin 8208) :
    Cert.ReferenceIdeal.Att.scores q k (ix4 b h i j) = (realScore Q K s b h i j : EReal) := by
  rw [Cert.ReferenceIdeal.Att.scores_apply, hs]
  unfold realScore
  rw [EReal.coe_mul, coe_of_sum]
  refine congrArg (· * (s : EReal)) (Finset.sum_congr rfl fun d _ => ?_)
  rw [hQ, hK, EReal.coe_mul]

theorem exps_eq (hQ : ∀ y, q y = (Q y : EReal)) (hK : ∀ y, k y = (K y : EReal))
    (hs : Ideal.ofBits .f32 0x3D93CD3A#32 = (s : EReal)) (b : Fin 2) (h : Fin 16) (i j : Fin 8208) :
    Cert.ReferenceIdeal.Att.exps (Cert.ReferenceIdeal.Att.scores q k) (ix4 b h i j)
      = Ideal.exp ((realScore Q K s b h i j : EReal)
          - Finset.fold max ⊥ (fun x : Fin 8208 => (realScore Q K s b h i x : EReal)) Finset.univ) := by
  rw [Cert.ReferenceIdeal.Att.exps_apply, Cert.ReferenceIdeal.Att.top_apply, scores_eq hQ hK hs]
  simp only [scores_eq hQ hK hs]

/-- Element by element, the kernel's quotient at a query of the problem is the reference's sum. -/
theorem quot_eq (hQ : ∀ y, q y = (Q y : EReal)) (hK : ∀ y, k y = (K y : EReal))
    (hs : Ideal.ofBits .f32 0x3D93CD3A#32 = (s : EReal)) (v : FVec Ideal Cert.KernelIdeal.S2x8208x16x128 .f32)
    (b : Fin 2) (i : Fin 8208) (C : Fin 2048) (h : Fin 16) (l : Fin 128) (hC : C.val = h.val * 128 + l.val) :
    quot (scaled q) k v b i.val h l = Cert.ReferenceIdeal.Att.result q k v (ix3 b i C) := by
  rw [Cert.ReferenceIdeal.Att.result_apply q k v b i C h l hC]
  simp only [exps_eq hQ hK hs]
  unfold quot
  refine quotient_eq (t := 8208) (p := 8448) (by decide) (by decide) (realScore Q K s b h i) (fun j => v (ix4 b j h l))
    (fun j => padScore_eq hQ hK hs b h i j) (fun j hj => ?_) (fun j => ?_)
  · unfold padScore
    rw [if_neg (by omega)]
  · unfold padLane
    rw [dif_pos j.isLt]

end

/-- The two results are one array. -/
theorem results_eq {q k : FVec Ideal Cert.KernelIdeal.S2x8208x16x192 .f32} {Q K : Cert.KernelIdeal.S2x8208x16x192.Idx → ℝ} {s : ℝ}
    (hQ : ∀ y, q y = (Q y : EReal)) (hK : ∀ y, k y = (K y : EReal))
    (hs : Ideal.ofBits .f32 0x3D93CD3A#32 = (s : EReal)) (v : FVec Ideal Cert.KernelIdeal.S2x8208x16x128 .f32) :
    extractStridedSlice Cert.KernelIdeal.S2x8208x2048 ![0, 0, 0]
        (shapeCast Cert.KernelIdeal.S2x8448x2048 (filled (scaled q) k v) Cert.KernelIdeal.Gen.facts.shapeCasts_S16896x2048_S2x8448x2048)
        Cert.KernelIdeal.Gen.facts.slices_S2x8448x2048_S2x8208x2048_0_0_0
      = Cert.ReferenceIdeal.Att.result q k v := by
  funext y
  have h2 : (y 2).val < 2048 := (y 2).isLt
  have ey : y = (ix3 (y 0) (y 1) (y 2) : Cert.KernelIdeal.S2x8208x2048.Idx) := by
    funext a
    match a with
    | ⟨0, _⟩ => rfl
    | ⟨1, _⟩ => rfl
    | ⟨2, _⟩ => rfl
  rw [ey]
  have hC : (y 2).val = (⟨(y 2).val / 128, by omega⟩ : Fin 16).val * 128 + (⟨(y 2).val % 128, by omega⟩ : Fin 128).val := by
    show (y 2).val = (y 2).val / 128 * 128 + (y 2).val % 128
    omega
  exact (final_apply (scaled q) k v (y 0) (y 1) (y 2) _ _ hC).trans (quot_eq hQ hK hs v (y 0) (y 1) (y 2) _ _ hC)

end Cert.Att

end
-- ==== Proof.Layout.lean ====
/- How the tokens of the two batches lie in one array of rows.

   Each of a batch's two sequences of `T` tokens is followed by rows of zeros up to `P` rows; the batches' rows lie below
   each other. Token `i` of sequence `b` is at row `b * P + i` of its batch, and the results are read off at the same
   rows. The lemmas hold at any width `n` and say nothing of the rows of zeros, which no result reads. -/
module

public import Idealize.ShloMosaic.Lib.Pointwise
public import Idealize.ShloMosaic.Lib.KernelVsHost
public import Idealize.ShloMosaic.PureOps.Ideal

@[expose] public section

set_option maxRecDepth 16384

noncomputable section

namespace Cert.Lay

open Idealize.ShloMosaic

section
variable {α : Type} {T P N n e : ℕ}

/-- A token of a batch's rows. -/
theorem laid_apply (x : (⟨3, ![2, T, n]⟩ : Shape).Idx → α) (v : (⟨0, ![]⟩ : Shape).Idx → α)
    (hp : (⟨3, ![2, T, n]⟩ : Shape).Pads (![0, 0, 0] : Fin 3 → ℕ) ![0, e, 0] ![0, 0, 0] ⟨3, ![2, P, n]⟩)
    (hu : 0 < (⟨0, ![]⟩ : Shape).numel) (hs : (⟨3, ![2, P, n]⟩ : Shape).ShapeCasts ⟨2, ![N, n]⟩) (hTP : T ≤ P)
    (b : Fin 2) (i : Fin T) (k : Fin n) (r : Fin N) (hr : r.val = b.val * P + i.val) :
    shapeCast ⟨2, ![N, n]⟩ (pad ⟨3, ![2, P, n]⟩ ![0, 0, 0] ![0, e, 0] ![0, 0, 0] x v hp hu) hs (ix2 r k) = x (ix3 b i k) := by
  rw [shapeCast_apply _ _ _ (ix3 b ⟨i.val, by omega⟩ k) (by
    rw [rowMajor_val3 _ (P * n) n rfl rfl, rowMajor_val2 _ n rfl]
    show b.val * (P * n) + i.val * n + k.val = r.val * n + k.val
    rw [hr]; ring)]
  exact pad_apply_of_inside _ _ _ _ _ _ _ _ _ fun a => by
    match a with
    | ⟨0, _⟩ => show b.val = 0 + b.val * 1; omega
    | ⟨1, _⟩ => show i.val = 0 + i.val * 1; omega
    | ⟨2, _⟩ => show k.val = 0 + k.val * 1; omega

/-- A token of the result that is cut out of a batch's rows. -/
theorem cut_apply (o : (⟨2, ![N, n]⟩ : Shape).Idx → α) (hs : (⟨2, ![N, n]⟩ : Shape).ShapeCasts ⟨3, ![2, P, n]⟩)
    (hc : (⟨3, ![2, P, n]⟩ : Shape).Slices ![0, 0, 0] ⟨3, ![2, T, n]⟩) (hTP : T ≤ P)
    (b : Fin 2) (i : Fin T) (k : Fin n) (r : Fin N) (hr : r.val = b.val * P + i.val) :
    extractStridedSlice ⟨3, ![2, T, n]⟩ ![0, 0, 0] (shapeCast ⟨3, ![2, P, n]⟩ o hs) hc (ix3 b i k) = o (ix2 r k) := by
  rw [extractStridedSlice_apply _ _ _ _ (ix3 b ⟨i.val, by omega⟩ k) (fun a => by
    match a with
    | ⟨0, _⟩ => show b.val = 0 + b.val; omega
    | ⟨1, _⟩ => show i.val = 0 + i.val; omega
    | ⟨2, _⟩ => show k.val = 0 + k.val; omega),
    shapeCast_apply _ _ _ (ix2 r k) (by
      rw [rowMajor_val3 _ (P * n) n rfl rfl, rowMajor_val2 _ n rfl]
      show r.val * n + k.val = b.val * (P * n) + i.val * n + k.val
      rw [hr]; ring)]

/-- Rows from `o` on, columns from `l` on, of an array. -/
theorem window_apply {M m o l : ℕ} (x : (⟨2, ![M, m]⟩ : Shape).Idx → α) (h : (⟨2, ![M, m]⟩ : Shape).Slices ![o, l] ⟨2, ![N, n]⟩)
    (r : Fin N) (k : Fin n) (R : Fin M) (K : Fin m) (hR : R.val = o + r.val) (hK : K.val = l + k.val) :
    extractStridedSlice ⟨2, ![N, n]⟩ ![o, l] x h (ix2 r k) = x (ix2 R K) :=
  extractStridedSlice_apply _ _ _ _ (ix2 R K) (fun a => by
    match a with
    | ⟨0, _⟩ => exact hR
    | ⟨1, _⟩ => exact hK)

end

section
variable {n : ℕ} {α : Type}

/-- A batch's rows at a token of a sequence. -/
def promptRow (b : Fin 2) (i : Fin 4112) : Fin 8704 := ⟨b.val * 4352 + i.val, by omega⟩
def sampleRow (b : Fin 2) (i : Fin 8208) : Fin 16896 := ⟨b.val * 8448 + i.val, by omega⟩

/-- The same token's row among the rows of both batches. -/
def promptAt (b : Fin 2) (i : Fin 4112) : Fin 25600 := ⟨b.val * 4352 + i.val, by omega⟩
def sampleAt (b : Fin 2) (i : Fin 8208) : Fin 25600 := ⟨8704 + (b.val * 8448 + i.val), by omega⟩

/-- The two batches' rows below each other, at a token of the first batch. -/
theorem rows_prompt (x : (⟨2, ![8704, n]⟩ : Shape).Idx → α) (y : (⟨2, ![16896, n]⟩ : Shape).Idx → α)
    (h : Shape.Concatenates [⟨2, ![8704, n]⟩, ⟨2, ![16896, n]⟩] ⟨2, ![25600, n]⟩ 0) (b : Fin 2) (i : Fin 4112) (k : Fin n) :
    concatenate ⟨2, ![25600, n]⟩ 0 [⟨⟨2, ![8704, n]⟩, x⟩, ⟨⟨2, ![16896, n]⟩, y⟩] h (ix2 (promptAt b i) k)
      = x (ix2 (promptRow b i) k) :=
  concatenate_pair_apply_left (t := ⟨2, ![25600, n]⟩) (s₁ := ⟨2, ![8704, n]⟩) (s₂ := ⟨2, ![16896, n]⟩) (0 : Fin 2) x y h
    (ix2 (promptAt b i) k) rfl (ix2 (promptRow b i) k) (fun a => by
    match a with
    | ⟨0, _⟩ => rfl
    | ⟨1, _⟩ => rfl)

/-- At a token of the second batch. -/
theorem rows_sample (x : (⟨2, ![8704, n]⟩ : Shape).Idx → α) (y : (⟨2, ![16896, n]⟩ : Shape).Idx → α)
    (h : Shape.Concatenates [⟨2, ![8704, n]⟩, ⟨2, ![16896, n]⟩] ⟨2, ![25600, n]⟩ 0) (b : Fin 2) (i : Fin 8208) (k : Fin n) :
    concatenate ⟨2, ![25600, n]⟩ 0 [⟨⟨2, ![8704, n]⟩, x⟩, ⟨⟨2, ![16896, n]⟩, y⟩] h (ix2 (sampleAt b i) k)
      = y (ix2 (sampleRow b i) k) :=
  concatenate_pair_apply_right (t := ⟨2, ![25600, n]⟩) (s₁ := ⟨2, ![8704, n]⟩) (s₂ := ⟨2, ![16896, n]⟩) (0 : Fin 2) x y h
    (ix2 (sampleAt b i) k) rfl rfl (ix2 (sampleRow b i) k) (fun a ha => by
    match a, ha with
    | ⟨0, _⟩, ha => exact absurd rfl ha
    | ⟨1, _⟩, _ => rfl)
    (by
      show (b.val * 8448 + i.val) + 8704 = 8704 + (b.val * 8448 + i.val)
      omega)

end

section
variable {n e f : ℕ} {α : Type}

/-- Both batches' padded tokens as rows, at a token of the first batch. -/
theorem tokens_prompt (x : (⟨3, ![2, 4112, n]⟩ : Shape).Idx → α) (y : (⟨3, ![2, 8208, n]⟩ : Shape).Idx → α)
    (v w : (⟨0, ![]⟩ : Shape).Idx → α)
    (hp : (⟨3, ![2, 4112, n]⟩ : Shape).Pads (![0, 0, 0] : Fin 3 → ℕ) ![0, e, 0] ![0, 0, 0] ⟨3, ![2, 4352, n]⟩)
    (hq : (⟨3, ![2, 8208, n]⟩ : Shape).Pads (![0, 0, 0] : Fin 3 → ℕ) ![0, f, 0] ![0, 0, 0] ⟨3, ![2, 8448, n]⟩)
    (hu hu' : 0 < (⟨0, ![]⟩ : Shape).numel) (hs : (⟨3, ![2, 4352, n]⟩ : Shape).ShapeCasts ⟨2, ![8704, n]⟩)
    (ht : (⟨3, ![2, 8448, n]⟩ : Shape).ShapeCasts ⟨2, ![16896, n]⟩)
    (h : Shape.Concatenates [⟨2, ![8704, n]⟩, ⟨2, ![16896, n]⟩] ⟨2, ![25600, n]⟩ 0) (b : Fin 2) (i : Fin 4112) (k : Fin n) :
    concatenate ⟨2, ![25600, n]⟩ 0
      [⟨⟨2, ![8704, n]⟩, shapeCast ⟨2, ![8704, n]⟩ (pad ⟨3, ![2, 4352, n]⟩ ![0, 0, 0] ![0, e, 0] ![0, 0, 0] x v hp hu) hs⟩,
        ⟨⟨2, ![16896, n]⟩, shapeCast ⟨2, ![16896, n]⟩ (pad ⟨3, ![2, 8448, n]⟩ ![0, 0, 0] ![0, f, 0] ![0, 0, 0] y w hq hu') ht⟩]
      h (ix2 (promptAt b i) k) = x (ix3 b i k) :=
  (rows_prompt _ _ h b i k).trans (laid_apply x v hp hu hs (by decide) b i k _ rfl)

/-- At a token of the second batch. -/
theorem tokens_sample (x : (⟨3, ![2, 4112, n]⟩ : Shape).Idx → α) (y : (⟨3, ![2, 8208, n]⟩ : Shape).Idx → α)
    (v w : (⟨0, ![]⟩ : Shape).Idx → α)
    (hp : (⟨3, ![2, 4112, n]⟩ : Shape).Pads (![0, 0, 0] : Fin 3 → ℕ) ![0, e, 0] ![0, 0, 0] ⟨3, ![2, 4352, n]⟩)
    (hq : (⟨3, ![2, 8208, n]⟩ : Shape).Pads (![0, 0, 0] : Fin 3 → ℕ) ![0, f, 0] ![0, 0, 0] ⟨3, ![2, 8448, n]⟩)
    (hu hu' : 0 < (⟨0, ![]⟩ : Shape).numel) (hs : (⟨3, ![2, 4352, n]⟩ : Shape).ShapeCasts ⟨2, ![8704, n]⟩)
    (ht : (⟨3, ![2, 8448, n]⟩ : Shape).ShapeCasts ⟨2, ![16896, n]⟩)
    (h : Shape.Concatenates [⟨2, ![8704, n]⟩, ⟨2, ![16896, n]⟩] ⟨2, ![25600, n]⟩ 0) (b : Fin 2) (i : Fin 8208) (k : Fin n) :
    concatenate ⟨2, ![25600, n]⟩ 0
      [⟨⟨2, ![8704, n]⟩, shapeCast ⟨2, ![8704, n]⟩ (pad ⟨3, ![2, 4352, n]⟩ ![0, 0, 0] ![0, e, 0] ![0, 0, 0] x v hp hu) hs⟩,
        ⟨⟨2, ![16896, n]⟩, shapeCast ⟨2, ![16896, n]⟩ (pad ⟨3, ![2, 8448, n]⟩ ![0, 0, 0] ![0, f, 0] ![0, 0, 0] y w hq hu') ht⟩]
      h (ix2 (sampleAt b i) k) = y (ix3 b i k) :=
  (rows_sample _ _ h b i k).trans (laid_apply y w hq hu' ht (by decide) b i k _ rfl)

/-- The first batch's tokens cut out of both batches' rows. -/
theorem cut_prompt (o : (⟨2, ![25600, n]⟩ : Shape).Idx → α)
    (h : (⟨2, ![25600, n]⟩ : Shape).Slices ![0, 0] ⟨2, ![8704, n]⟩)
    (hs : (⟨2, ![8704, n]⟩ : Shape).ShapeCasts ⟨3, ![2, 4352, n]⟩)
    (hc : (⟨3, ![2, 4352, n]⟩ : Shape).Slices ![0, 0, 0] ⟨3, ![2, 4112, n]⟩) (b : Fin 2) (i : Fin 4112) (k : Fin n) :
    extractStridedSlice ⟨3, ![2, 4112, n]⟩ ![0, 0, 0]
      (shapeCast ⟨3, ![2, 4352, n]⟩ (extractStridedSlice ⟨2, ![8704, n]⟩ ![0, 0] o h) hs) hc (ix3 b i k)
      = o (ix2 (promptAt b i) k) :=
  (cut_apply _ hs hc (by decide) b i k (promptRow b i) rfl).trans
    (window_apply o h _ _ _ _ (Nat.zero_add _).symm (Nat.zero_add _).symm)

/-- The second batch's. -/
theorem cut_sample (o : (⟨2, ![25600, n]⟩ : Shape).Idx → α)
    (h : (⟨2, ![25600, n]⟩ : Shape).Slices ![8704, 0] ⟨2, ![16896, n]⟩)
    (hs : (⟨2, ![16896, n]⟩ : Shape).ShapeCasts ⟨3, ![2, 8448, n]⟩)
    (hc : (⟨3, ![2, 8448, n]⟩ : Shape).Slices ![0, 0, 0] ⟨3, ![2, 8208, n]⟩) (b : Fin 2) (i : Fin 8208) (k : Fin n) :
    extractStridedSlice ⟨3, ![2, 8208, n]⟩ ![0, 0, 0]
      (shapeCast ⟨3, ![2, 8448, n]⟩ (extractStridedSlice ⟨2, ![16896, n]⟩ ![8704, 0] o h) hs) hc (ix3 b i k)
      = o (ix2 (sampleAt b i) k) :=
  (cut_apply _ hs hc (by decide) b i k (sampleRow b i) rfl).trans
    (window_apply o h _ _ _ _ rfl (Nat.zero_add _).symm)

end

/-- Every index of a rank-two or rank-three array by its coordinates. -/
theorem eq_ix2 {p q : ℕ} (y : (⟨2, ![p, q]⟩ : Shape).Idx) : y = ix2 (y 0) (y 1) := by
  funext a
  match a with
  | ⟨0, _⟩ => rfl
  | ⟨1, _⟩ => rfl
theorem eq_ix3 {p q r : ℕ} (y : (⟨3, ![p, q, r]⟩ : Shape).Idx) : y = ix3 (y 0) (y 1) (y 2) := by
  funext a
  match a with
  | ⟨0, _⟩ => rfl
  | ⟨1, _⟩ => rfl
  | ⟨2, _⟩ => rfl

/-- The padding's value is zero. -/
theorem fill_zero (i : (⟨0, ![]⟩ : Shape).Idx) :
    (sitofp (F := Ideal) .f32 (constantI ⟨0, ![]⟩ 32 0#32) : FVec Ideal ⟨0, ![]⟩ .f32) i = (0 : EReal) := by
  show (((0#32 : BitVec 32).toInt : ℝ) : EReal) = 0
  simp

/-- A lane of a row over the row's root mean square, times the lane's gain; `d` is the number of lanes, as a word. -/
def normed {K : ℕ} (p : Fin K → EReal) (d : BitVec 32) (g : Fin K → EReal) (l : Fin K) : EReal :=
  p l * Ideal.rsqrt (Ideal.div (∑ x : Fin K, p x * p x) (Ideal.ofBits .f32 d) + Ideal.ofBits .f32 0x358637BD#32) * g l

theorem normed_congr {K : ℕ} {p q : Fin K → EReal} {d : BitVec 32} {g h : Fin K → EReal} {l l' : Fin K} (hp : ∀ x, p x = q x)
    (hg : ∀ x, g x = h x) (hl : l = l') : normed p d g l = normed q d h l' := by
  rw [funext hp, funext hg, hl]

/-- Widening a bfloat16 vector leaves its value. -/
theorem wide_apply {s : Shape} (x : FVec Ideal s .bf16) (h) (i : s.Idx) : (extf .f32 x h i : EReal) = x i := rfl

/-- So does narrowing. -/
theorem narrow_apply {s : Shape} (x : FVec Ideal s .f32) (h) (i : s.Idx) : (truncf .bf16 x h i : EReal) = x i := rfl

end Cert.Lay

end
-- ==== Proof.Wide.lean ====
/- The columns of the input projection that the long convolution reads: one product, tiled over the rows of both batches. -/
module

public import proofs.«01_k».proof.Defs
public import proofs.«01_k».proof.Proof.Layout
public import proofs.«01_k».proof.Proof.Gen.Wide
public import proofs.«01_k».proof.Proof.Gen.Wide.Frame
public import proofs.«01_k».proof.Proof.Gen.WideIdeal
public import proofs.«01_k».proof.Proof.Gen.WideIdeal.Frame
public import proofs.«01_k».proof.Proof.Gen.WideReferenceIdeal
public import proofs.«01_k».proof.Proof.Gen.WideReferenceIdeal.Run
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.WideIdeal.Proof

open Idealize.ShloMosaic Idealize.ShloMosaic.TcCoe Cert.WideIdeal Cert.WideIdeal.Gen Cert.Lay
open Idealize.SL.Sem

/-- Both batches' tokens as rows. -/
def tokens (x : FVec Ideal S2x4112x4096 .f32) (y : FVec Ideal S2x8208x4096 .f32) : FVec Ideal S25600x4096 .bf16 :=
  truncf .bf16 (concatenate S25600x4096 0
    [⟨S8704x4096, shapeCast S8704x4096 (pad S2x4352x4096 ![0, 0, 0] ![0, 240, 0] ![0, 0, 0] x
      (sitofp .f32 (constantI S_ 32 0#32)) pads_S2x4112x4096_S2x4352x4096_000_02400_000 h_S_) shapeCasts_S2x4352x4096_S8704x4096⟩,
      ⟨S16896x4096, shapeCast S16896x4096 (pad S2x8448x4096 ![0, 0, 0] ![0, 240, 0] ![0, 0, 0] y
        (sitofp .f32 (constantI S_ 32 0#32)) pads_S2x8208x4096_S2x8448x4096_000_02400_000 h_S_) shapeCasts_S2x8448x4096_S16896x4096⟩]
    concatenates_S8704x4096_S16896x4096_S25600x4096_d0) bitsLt_bf16_f32

/-- The weights' columns. -/
def columns (w : FVec Ideal S4096x7744 .f32) : FVec Ideal S4096x6144 .bf16 :=
  truncf .bf16 (extractStridedSlice S4096x6144 ![0, 1600] w slices_S4096x7744_S4096x6144_0_1600) bitsLt_bf16_f32

/-- The product of the rows and the columns. -/
def product (a : FVec Ideal S25600x4096 .bf16) (b : FVec Ideal S4096x6144 .bf16) : FVec Ideal S25600x6144 .f32 := fun j =>
  ∑ k : Fin 4096, (a (ix2 (j 0) k) : EReal) * b (ix2 k (j 1))

/-- What both programs compute of a batch: the product with the weights' columns from 1600 on. -/
def projected {T : ℕ} (x : FVec Ideal ⟨3, ![2, T, 4096]⟩ .f32) (w : FVec Ideal S4096x7744 .f32) :
    FVec Ideal ⟨3, ![2, T, 6144]⟩ .f32 := fun y =>
  ∑ k : Fin 4096, (x (ix3 (y 0) (y 1) k) : EReal)
    * w (ix2 k ⟨1600 + (y 2).val, by have : (y 2).val < 6144 := (y 2).isLt; omega⟩)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel

variable (m : (ℓ : Loc nD τ sig) → Buf (Elt Ideal) ℓ)

theorem V_tokens (c : Dev nD) :
    V m c main_v5 = tokens (m ((c.tc : Thread nD τ).loc main_arg0)) (m ((c.tc : Thread nD τ).loc main_arg1)) := by
  simp only [V, V0, hostOps0, hostOps0_1, hostOps0_2, hostOps0_3, hostOps0_4, List.flatten_cons, List.flatten_nil,
    List.append_nil, List.cons_append, List.nil_append]
  after_results <;> rfl

theorem V_columns (c : Dev nD) : V m c main_v7 = columns (m ((c.tc : Thread nD τ).loc main_arg2)) := by
  simp only [V, V0, hostOps0, hostOps0_1, hostOps0_2, hostOps0_3, hostOps0_4, List.flatten_cons, List.flatten_nil,
    List.append_nil, List.cons_append, List.nil_append]
  after_results <;> rfl

/-- A grid point's block. -/
theorem block_apply (x0 : FVec Ideal S512x4096 .bf16) (x1 : FVec Ideal S4096x1024 .bf16) (r : Fin 512) (l : Fin 1024) :
    (out0_2 (F := Ideal) x0 x1 (ix2 r l) : EReal) = ∑ k : Fin 4096, (x0 (ix2 r k) : EReal) * x1 (ix2 k l) := by
  frame_out
  pointwise [k0_pay1]

theorem tokens_at (c : Dev nD) (t : Fin cfg0.N) (r : Fin 512) (k : Fin 4096) (R : Fin 25600)
    (hR : R.val = (grid0.coords t 0).val * 512 + r.val) :
    (iblk m c 0 t (ix2 r k) : EReal)
      = tokens (m ((c.tc : Thread nD τ).loc main_arg0)) (m ((c.tc : Thread nD τ).loc main_arg1)) (ix2 R k) := by
  rw [← V_tokens]
  unfold iblk
  rw [View.read_apply]
  show V m c main_v5 _ = V m c main_v5 _
  congr 1
  funext a
  apply Fin.ext
  match a with
  | ⟨0, _⟩ =>
    show win0_0.index t 0 * 512 + 1 * r.val = R.val
    rw [idx0, hR]
    show (grid0.coords t 0).val * 512 + 1 * r.val = _
    omega
  | ⟨1, _⟩ =>
    show win0_0.index t 1 * 4096 + 1 * k.val = k.val
    rw [idx0]
    show 0 * 4096 + 1 * k.val = k.val
    omega

theorem columns_at (c : Dev nD) (t : Fin cfg0.N) (k : Fin 4096) (l : Fin 1024) (C : Fin 6144)
    (hC : C.val = (grid0.coords t 1).val * 1024 + l.val) :
    (iblk m c 1 t (ix2 k l) : EReal) = columns (m ((c.tc : Thread nD τ).loc main_arg2)) (ix2 k C) := by
  rw [← V_columns]
  unfold iblk
  rw [View.read_apply]
  show V m c main_v7 _ = V m c main_v7 _
  congr 1
  funext a
  apply Fin.ext
  match a with
  | ⟨0, _⟩ =>
    show win0_1.index t 0 * 4096 + 1 * k.val = k.val
    rw [idx1]
    show 0 * 4096 + 1 * k.val = k.val
    omega
  | ⟨1, _⟩ =>
    show win0_1.index t 1 * 1024 + 1 * l.val = C.val
    rw [idx1, hC]
    show (grid0.coords t 1).val * 1024 + 1 * l.val = _
    omega

/-- The launch's result array. -/
theorem arr (c : Dev nD) :
    (dats m 0 c).arrAt 2 cfg0.N = product (tokens (m ((c.tc : Thread nD τ).loc main_arg0)) (m ((c.tc : Thread nD τ).loc main_arg1)))
      (columns (m ((c.tc : Thread nD τ).loc main_arg2))) := by
  refine (dats m 0 c).arrAt_eq_of_covers 2 _ (by decide +kernel) fun t hf y => ?_
  blk_simp
  rw [after0_2]
  refine ((congrArg _ (eq_ix2 (p := 512) (q := 1024) y)).trans (block_apply _ _ (y 0) (y 1))).trans ?_
  unfold product
  refine Finset.sum_congr rfl fun k _ => ?_
  congr 1
  · refine tokens_at m c t _ k _ ?_
    show win0_2.index t 0 * 512 + 1 * (y 0).val = _
    rw [idx2]
    show (grid0.coords t 0).val * 512 + 1 * (y 0).val = _
    rw [one_mul]
  · refine columns_at m c t k _ _ ?_
    show win0_2.index t 1 * 1024 + 1 * (y 1).val = _
    rw [idx2]
    show (grid0.coords t 1).val * 1024 + 1 * (y 1).val = _
    rw [one_mul]

/-- The launch's array among the values that the last host lines read. -/
theorem launched (c : Dev nD) :
    Pipeline.withArrays (cfgs 0).spec c (V0 m c) (fun w => (dats m 0 c).arrAt w (cfgs 0).N) (Proc.devRef .tc main_v8)
      = product (tokens (m ((c.tc : Thread nD τ).loc main_arg0)) (m ((c.tc : Thread nD τ).loc main_arg1)))
        (columns (m ((c.tc : Thread nD τ).loc main_arg2))) :=
  (Pipeline.withArrays_arr spec0 winFacts0.arr_inj c (V0 m c) (fun w => (dats m 0 c).arrAt w cfg0.N) 2).trans (arr m c)

theorem tokens_prompt_apply (x : FVec Ideal S2x4112x4096 .f32) (y : FVec Ideal S2x8208x4096 .f32) (b : Fin 2) (i : Fin 4112)
    (k : Fin 4096) : (tokens x y (ix2 (promptAt b i) k) : EReal) = x (ix3 b i k) :=
  tokens_prompt x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem tokens_sample_apply (x : FVec Ideal S2x4112x4096 .f32) (y : FVec Ideal S2x8208x4096 .f32) (b : Fin 2) (i : Fin 8208)
    (k : Fin 4096) : (tokens x y (ix2 (sampleAt b i) k) : EReal) = y (ix3 b i k) :=
  tokens_sample x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem columns_apply (w : FVec Ideal S4096x7744 .f32) (k : Fin 4096) (l : Fin 6144) :
    (columns w (ix2 k l) : EReal) = w (ix2 k ⟨1600 + l.val, by omega⟩) :=
  window_apply w slices_S4096x7744_S4096x6144_0_1600 k l k ⟨1600 + l.val, by omega⟩ (Nat.zero_add _).symm rfl

/-- The first batch's columns. -/
theorem final_prompt (c : Dev nD) :
    Pipeline.afterTail₀ cfgs (dats m) 0 (V0 m) [hostOps1] c main_v11
      = projected (m ((c.tc : Thread nD τ).loc main_arg0)) (m ((c.tc : Thread nD τ).loc main_arg2)) := by
  unfold Pipeline.afterTail₀
  simp only [hostOps1, List.flatten_cons, List.flatten_nil, List.append_nil, List.cons_append, List.nil_append]
  after_results
  rw [launched]
  funext y
  rw [eq_ix3 (p := 2) (q := 4112) (r := 6144) y]
  refine (cut_prompt _ _ _ _ _ _ _).trans (Finset.sum_congr rfl fun k _ => ?_)
  exact congrArg₂ (fun a b : EReal => a * b) (tokens_prompt_apply _ _ _ _ k) (columns_apply _ k _)

/-- The second batch's. -/
theorem final_sample (c : Dev nD) :
    Pipeline.afterTail₀ cfgs (dats m) 0 (V0 m) [hostOps1] c main_v14
      = projected (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched]
  funext y
  rw [eq_ix3 (p := 2) (q := 8208) (r := 6144) y]
  refine (cut_sample _ _ _ _ _ _ _).trans (Finset.sum_congr rfl fun k _ => ?_)
  exact congrArg₂ (fun a b : EReal => a * b) (tokens_sample_apply _ _ _ _ k) (columns_apply _ k _)

end Cert.WideIdeal.Proof

/-! ## The reference -/

namespace Cert.WideReferenceIdeal.Proof

open Idealize.ShloMosaic Cert.WideReferenceIdeal Cert.WideReferenceIdeal.Gen Cert.Lay Cert.WideIdeal.Proof
open Idealize.SL.Sem

theorem result_prompt (x : FVec Ideal S2x4112x4096 .f32) (w : FVec Ideal S4096x7744 .f32) :
    extractStridedSlice S2x4112x6144 ![0, 0, 1600] (Host.dotGeneral dot_S2x4112x4096_S4096x7744_S2x4112x7744_2_0_01_1_n_n none x w)
      slices_S2x4112x7744_S2x4112x6144_0_0_1600 = projected x w := by
  funext y
  rw [eq_ix3 (p := 2) (q := 4112) (r := 6144) y]
  pointwise [projected]

theorem result_sample (x : FVec Ideal S2x8208x4096 .f32) (w : FVec Ideal S4096x7744 .f32) :
    extractStridedSlice S2x8208x6144 ![0, 0, 1600] (Host.dotGeneral dot_S2x8208x4096_S4096x7744_S2x8208x7744_2_0_01_1_n_n none x w)
      slices_S2x8208x7744_S2x8208x6144_0_0_1600 = projected x w := by
  funext y
  rw [eq_ix3 (p := 2) (q := 8208) (r := 6144) y]
  pointwise [projected]

/-- The reference's run leaves its arguments, and it has no semaphore. -/
theorem frame : Cert.quiescent_WideReferenceIdeal (hWideReferenceIdeal := Cert.WideReferenceIdeal.Gen.facts) := fun m g _ =>
  (θ_run _ _ _).mono (fun r h => ⟨fun c => (h c).2.2, sem_eq_zero_of_no_sems (by decide) r.2⟩) (Value.run m g)

/-- The two programs' results agree. -/
theorem algebraic : Cert.algebraic_WideIdeal_WideReferenceIdeal (hWideIdeal := Cert.WideIdeal.Gen.facts)
    (hWideReferenceIdeal := Cert.WideReferenceIdeal.Gen.facts) := by
  intro m g m' g' _ hagree
  refine ⟨fun c => projected (m ((c.tc : Thread Cert.WideIdeal.nD Cert.WideIdeal.τ).loc Cert.WideIdeal.main_arg0))
      (m ((c.tc : Thread Cert.WideIdeal.nD Cert.WideIdeal.τ).loc Cert.WideIdeal.main_arg2)),
    fun c => projected (m ((c.tc : Thread Cert.WideIdeal.nD Cert.WideIdeal.τ).loc Cert.WideIdeal.main_arg1))
      (m ((c.tc : Thread Cert.WideIdeal.nD Cert.WideIdeal.τ).loc Cert.WideIdeal.main_arg2)), ?_, ?_⟩
  · refine (θ_run _ _ _).mono (fun r hr c => ⟨?_, ?_, hr.2 c⟩)
      (θ_run_and (Cert.WideIdeal.Gen.run_main m g) (Cert.WideIdeal.Gen.unchanged m g))
    · exact ((hr.1 c).2 Cert.WideIdeal.main_v11 (by decide)).trans (final_prompt m c)
    · exact ((hr.1 c).2 Cert.WideIdeal.main_v14 (by decide)).trans (final_sample m c)
  · refine (θ_run _ _ _).mono (fun r h c => ⟨?_, ?_, (h c).2.2⟩) (Value.run m' g')
    · obtain ⟨h0, h1, h2⟩ := hagree c
      refine ((h c).1.trans (result_prompt _ _)).trans ?_
      rw [h0, h2]
    · obtain ⟨h0, h1, h2⟩ := hagree c
      refine ((h c).2.1.trans (result_sample _ _)).trans ?_
      rw [h1, h2]

end Cert.WideReferenceIdeal.Proof

end
-- ==== Proof.Out.lean ====
/- The output projection and the residual: one product, tiled over the rows of both batches, added to the layer's input;
   the rows that hold no token are set to zero. -/
module

public import proofs.«01_k».proof.Defs
public import proofs.«01_k».proof.Proof.Layout
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import Idealize.ShloMosaic.Lib.Pipeline.ValueKit
public import Idealize.ShloMosaic.Lib.WordCmp
public import Idealize.ShloMosaic.Adequacy
public import Idealize.ShloMosaic.Init
public import Idealize.ShloMosaic.Lib.Quiescent

@[expose] public section

set_option maxRecDepth 16384

noncomputable section

namespace Cert.OutIdeal.Proof

open Idealize.ShloMosaic Idealize.ShloMosaic.TcCoe Cert.OutIdeal Cert.OutIdeal.Gen Cert.Lay
open Idealize.SL.Sem

/-- Both batches' tokens as rows. -/
def tokens (x : FVec Ideal S2x4112x4096 .f32) (y : FVec Ideal S2x8208x4096 .f32) : FVec Ideal S25600x4096 .bf16 :=
  truncf .bf16 (concatenate S25600x4096 0
    [⟨S8704x4096, shapeCast S8704x4096 (pad S2x4352x4096 ![0, 0, 0] ![0, 240, 0] ![0, 0, 0] x
      (sitofp .f32 (constantI S_ 32 0#32)) pads_S2x4112x4096_S2x4352x4096_000_02400_000 h_S_) shapeCasts_S2x4352x4096_S8704x4096⟩,
      ⟨S16896x4096, shapeCast S16896x4096 (pad S2x8448x4096 ![0, 0, 0] ![0, 240, 0] ![0, 0, 0] y
        (sitofp .f32 (constantI S_ 32 0#32)) pads_S2x8208x4096_S2x8448x4096_000_02400_000 h_S_) shapeCasts_S2x8448x4096_S16896x4096⟩]
    concatenates_S8704x4096_S16896x4096_S25600x4096_d0) bitsLt_bf16_f32

/-- The residual's tokens as rows. -/
def plain (x : FVec Ideal S2x4112x4096 .f32) (y : FVec Ideal S2x8208x4096 .f32) : FVec Ideal S25600x4096 .f32 :=
  concatenate S25600x4096 0
    [⟨S8704x4096, shapeCast S8704x4096 (pad S2x4352x4096 ![0, 0, 0] ![0, 240, 0] ![0, 0, 0] x
      (sitofp .f32 (constantI S_ 32 0#32)) pads_S2x4112x4096_S2x4352x4096_000_02400_000 h_S_) shapeCasts_S2x4352x4096_S8704x4096⟩,
      ⟨S16896x4096, shapeCast S16896x4096 (pad S2x8448x4096 ![0, 0, 0] ![0, 240, 0] ![0, 0, 0] y
        (sitofp .f32 (constantI S_ 32 0#32)) pads_S2x8208x4096_S2x8448x4096_000_02400_000 h_S_) shapeCasts_S2x8448x4096_S16896x4096⟩]
    concatenates_S8704x4096_S16896x4096_S25600x4096_d0

/-- Whether a row is a token's, as the body computes it. -/
def ok (v : BitVec 32) : BitVec 1 :=
  IntOp.ori (IntOp.ori (IntOp.ori
    (IntOp.andi (IntOp.cmpi .sge v 0#32) (IntOp.cmpi .slt v 4112#32))
    (IntOp.andi (IntOp.cmpi .sge v 4352#32) (IntOp.cmpi .slt v 8464#32)))
    (IntOp.andi (IntOp.cmpi .sge v 8704#32) (IntOp.cmpi .slt v 16912#32)))
    (IntOp.andi (IntOp.cmpi .sge v 17152#32) (IntOp.cmpi .slt v 25360#32))

/-- A grid point's block. -/
theorem block_apply (i : grid0.Coords) (x0 : FVec Ideal S512x4096 .bf16) (x1 : FVec Ideal S4096x1024 .bf16)
    (x2 : FVec Ideal S512x1024 .f32) (r : Fin 512) (l : Fin 1024) :
    (out0_3 (F := Ideal) i x0 x1 x2 (ix2 r l) : EReal)
      = Scalar.select (ok (IntOp.addi (IntOp.muli (BitVec.ofNat 32 (i 0).val) 512#32) (BitVec.ofNat 32 r.val)))
          ((x2 (ix2 r l) : EReal) + ∑ k : Fin 4096, (x0 (ix2 r k) : EReal) * x1 (ix2 k l)) (0 : EReal) := by
  frame_out
  pointwise [k0_pay1]
  rfl

/-- A row's number, from its block's and its number in the block. -/
theorem number (a : ℕ) (r : ℕ) :
    IntOp.addi (IntOp.muli (BitVec.ofNat 32 a) 512#32) (BitVec.ofNat 32 r) = BitVec.ofNat 32 (a * 512 + r) := by
  show BitVec.ofNat 32 a * 512#32 + BitVec.ofNat 32 r = _
  rw [BitVec.ofNat_add, BitVec.ofNat_mul]

theorem segment (n lo hi : ℕ) (hn : n < 2 ^ 31) (hlo : lo < 2 ^ 31) (hhi : hi < 2 ^ 31) :
    IntOp.andi (IntOp.cmpi .sge (BitVec.ofNat 32 n) (BitVec.ofNat 32 lo)) (IntOp.cmpi .slt (BitVec.ofNat 32 n) (BitVec.ofNat 32 hi))
      = BitVec.ofBool (decide (lo ≤ n ∧ n < hi)) := by
  rw [WordCmp.cmpi_sge_ofNat hn hlo, WordCmp.cmpi_slt_ofNat hn hhi, Bool.decide_and]
  generalize decide (lo ≤ n) = p
  generalize decide (n < hi) = q
  revert p q
  decide

theorem any_segment : ∀ p q r s : Bool, IntOp.ori (IntOp.ori (IntOp.ori (BitVec.ofBool p) (BitVec.ofBool q)) (BitVec.ofBool r))
    (BitVec.ofBool s) = BitVec.ofBool (p || q || r || s) := by decide

theorem ok_row (n : ℕ) (h : n < 4112 ∨ (4352 ≤ n ∧ n < 8464) ∨ (8704 ≤ n ∧ n < 16912) ∨ (17152 ≤ n ∧ n < 25360)) :
    ok (BitVec.ofNat 32 n) = 1#1 := by
  have hn : n < 2 ^ 31 := by omega
  unfold ok
  rw [segment n 0 4112 hn (by decide) (by decide), segment n 4352 8464 hn (by decide) (by decide),
    segment n 8704 16912 hn (by decide) (by decide), segment n 17152 25360 hn (by decide) (by decide), any_segment,
    ← Bool.decide_or, ← Bool.decide_or, ← Bool.decide_or, decide_eq_true (by omega)]
  rfl

theorem ok_prompt (b : Fin 2) (i : Fin 4112) : ok (BitVec.ofNat 32 (promptAt b i).val) = 1#1 :=
  ok_row _ (by show b.val * 4352 + i.val < 4112 ∨ (4352 ≤ b.val * 4352 + i.val ∧ b.val * 4352 + i.val < 8464) ∨ _; omega)

theorem ok_sample (b : Fin 2) (i : Fin 8208) : ok (BitVec.ofNat 32 (sampleAt b i).val) = 1#1 :=
  ok_row _ (by
    show _ ∨ _ ∨ (8704 ≤ 8704 + (b.val * 8448 + i.val) ∧ 8704 + (b.val * 8448 + i.val) < 16912)
      ∨ (17152 ≤ 8704 + (b.val * 8448 + i.val) ∧ 8704 + (b.val * 8448 + i.val) < 25360)
    omega)

/-- The weights. -/
def weights (w : FVec Ideal S4096x4096 .f32) : FVec Ideal S4096x4096 .bf16 := truncf .bf16 w bitsLt_bf16_f32

/-- The residual plus the product, zero where no token is. -/
def added (a : FVec Ideal S25600x4096 .bf16) (b : FVec Ideal S4096x4096 .bf16) (x : FVec Ideal S25600x4096 .f32) :
    FVec Ideal S25600x4096 .f32 := fun j =>
  Scalar.select (ok (BitVec.ofNat 32 (j 0).val)) ((x j : EReal) + ∑ k : Fin 4096, (a (ix2 (j 0) k) : EReal) * b (ix2 k (j 1)))
    (0 : EReal)

theorem added_apply (a : FVec Ideal S25600x4096 .bf16) (b : FVec Ideal S4096x4096 .bf16) (x : FVec Ideal S25600x4096 .f32)
    (R : Fin 25600) (C : Fin 4096) (h : ok (BitVec.ofNat 32 R.val) = 1#1) :
    added a b x (ix2 R C) = (x (ix2 R C) : EReal) + ∑ k : Fin 4096, (a (ix2 R k) : EReal) * b (ix2 k C) := by
  show Scalar.select (ok (BitVec.ofNat 32 R.val)) ((x (ix2 R C) : EReal) + ∑ k : Fin 4096, (a (ix2 R k) : EReal) * b (ix2 k C))
    (0 : EReal) = _
  rw [h]
  rfl

/-- What both programs compute of a batch. -/
def projected {T : ℕ} (x y : FVec Ideal ⟨3, ![2, T, 4096]⟩ .f32) (w : FVec Ideal S4096x4096 .f32) :
    FVec Ideal ⟨3, ![2, T, 4096]⟩ .f32 := fun j =>
  (x j : EReal) + ∑ k : Fin 4096, (y (ix3 (j 0) (j 1) k) : EReal) * w (ix2 k (j 2))

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel
theorem idx3 : ∀ t : Fin grid0.N, win0_3.index t = ![(grid0.coords t 0).val, (grid0.coords t 1).val] := by decide +kernel

variable (m : (ℓ : Loc nD τ sig) → Buf (Elt Ideal) ℓ)

theorem V_tokens (c : Dev nD) : V m c main_v5 = tokens (m ((c.tc : Thread nD τ).loc main_arg2)) (m ((c.tc : Thread nD τ).loc main_arg3)) := by
  simp only [V, V0, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem V_weights (c : Dev nD) : V m c main_v6 = weights (m ((c.tc : Thread nD τ).loc main_arg4)) := by
  simp only [V, V0, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem V_plain (c : Dev nD) : V m c main_v11 = plain (m ((c.tc : Thread nD τ).loc main_arg0)) (m ((c.tc : Thread nD τ).loc main_arg1)) := by
  simp only [V, V0, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem tokens_at (c : Dev nD) (t : Fin cfg0.N) (r : Fin 512) (k : Fin 4096) (R : Fin 25600)
    (hR : R.val = (grid0.coords t 0).val * 512 + r.val) :
    (iblk m c 0 t (ix2 r k) : EReal)
      = tokens (m ((c.tc : Thread nD τ).loc main_arg2)) (m ((c.tc : Thread nD τ).loc main_arg3)) (ix2 R k) := by
  rw [← V_tokens]
  unfold iblk
  rw [View.read_apply]
  show V m c main_v5 _ = V m c main_v5 _
  congr 1
  funext a
  apply Fin.ext
  match a with
  | ⟨0, _⟩ =>
    show win0_0.index t 0 * 512 + 1 * r.val = R.val
    rw [idx0, hR]
    show (grid0.coords t 0).val * 512 + 1 * r.val = _
    omega
  | ⟨1, _⟩ =>
    show win0_0.index t 1 * 4096 + 1 * k.val = k.val
    rw [idx0]
    show 0 * 4096 + 1 * k.val = k.val
    omega

theorem weights_at (c : Dev nD) (t : Fin cfg0.N) (k : Fin 4096) (l : Fin 1024) (C : Fin 4096)
    (hC : C.val = (grid0.coords t 1).val * 1024 + l.val) :
    (iblk m c 1 t (ix2 k l) : EReal) = weights (m ((c.tc : Thread nD τ).loc main_arg4)) (ix2 k C) := by
  rw [← V_weights]
  unfold iblk
  rw [View.read_apply]
  show V m c main_v6 _ = V m c main_v6 _
  congr 1
  funext a
  apply Fin.ext
  match a with
  | ⟨0, _⟩ =>
    show win0_1.index t 0 * 4096 + 1 * k.val = k.val
    rw [idx1]
    show 0 * 4096 + 1 * k.val = k.val
    omega
  | ⟨1, _⟩ =>
    show win0_1.index t 1 * 1024 + 1 * l.val = C.val
    rw [idx1, hC]
    show (grid0.coords t 1).val * 1024 + 1 * l.val = _
    omega

theorem plain_at (c : Dev nD) (t : Fin cfg0.N) (r : Fin 512) (l : Fin 1024) (R : Fin 25600) (C : Fin 4096)
    (hR : R.val = (grid0.coords t 0).val * 512 + r.val) (hC : C.val = (grid0.coords t 1).val * 1024 + l.val) :
    (iblk m c 2 t (ix2 r l) : EReal)
      = plain (m ((c.tc : Thread nD τ).loc main_arg0)) (m ((c.tc : Thread nD τ).loc main_arg1)) (ix2 R C) := by
  rw [← V_plain]
  unfold iblk
  rw [View.read_apply]
  show V m c main_v11 _ = V m c main_v11 _
  congr 1
  funext a
  apply Fin.ext
  match a with
  | ⟨0, _⟩ =>
    show win0_2.index t 0 * 512 + 1 * r.val = R.val
    rw [idx2, hR]
    show (grid0.coords t 0).val * 512 + 1 * r.val = _
    omega
  | ⟨1, _⟩ =>
    show win0_2.index t 1 * 1024 + 1 * l.val = C.val
    rw [idx2, hC]
    show (grid0.coords t 1).val * 1024 + 1 * l.val = _
    omega

/-- The launch's result array. -/
theorem arr (c : Dev nD) :
    (dats m 0 c).arrAt 3 cfg0.N = added (tokens (m ((c.tc : Thread nD τ).loc main_arg2)) (m ((c.tc : Thread nD τ).loc main_arg3))) (weights (m ((c.tc : Thread nD τ).loc main_arg4)))
      (plain (m ((c.tc : Thread nD τ).loc main_arg0)) (m ((c.tc : Thread nD τ).loc main_arg1))) := by
  refine (dats m 0 c).arrAt_eq_of_covers 3 _ (by decide +kernel) fun t hf y => ?_
  blk_simp
  rw [after0_3]
  refine ((congrArg _ (eq_ix2 (p := 512) (q := 1024) y)).trans (block_apply _ _ _ _ (y 0) (y 1))).trans ?_
  have e0 : ((win0_3.blk t).view.emb y 0).val = (grid0.coords t 0).val * 512 + (y 0).val := by
    show win0_3.index t 0 * 512 + 1 * (y 0).val = _
    rw [idx3]
    show (grid0.coords t 0).val * 512 + 1 * (y 0).val = _
    rw [one_mul]
  have e1 : ((win0_3.blk t).view.emb y 1).val = (grid0.coords t 1).val * 1024 + (y 1).val := by
    show win0_3.index t 1 * 1024 + 1 * (y 1).val = _
    rw [idx3]
    show (grid0.coords t 1).val * 1024 + 1 * (y 1).val = _
    rw [one_mul]
  unfold added
  rw [number]
  have hx := plain_at m c t (y 0) (y 1) ((win0_3.blk t).view.emb y 0) ((win0_3.blk t).view.emb y 1) e0 e1
  rw [show (ix2 ((win0_3.blk t).view.emb y 0) ((win0_3.blk t).view.emb y 1) : S25600x4096.Idx) = (win0_3.blk t).view.emb y from
    (eq_ix2 (p := 25600) (q := 4096) _).symm] at hx
  rw [← e0]
  exact congrArg (fun v => Scalar.select (ok (BitVec.ofNat 32 ((win0_3.blk t).view.emb y 0).val)) v (0 : EReal))
    (congrArg₂ (fun a b : EReal => a + b) hx (Finset.sum_congr rfl fun k _ =>
      congrArg₂ (fun a b : EReal => a * b) (tokens_at m c t _ k _ e0) (weights_at m c t k _ _ e1)))

/-- The launch's array among the values that the last host lines read. -/
theorem launched (c : Dev nD) :
    Pipeline.withArrays (cfgs 0).spec c (V0 m c) (fun w => (dats m 0 c).arrAt w (cfgs 0).N) (Proc.devRef .tc main_v12)
      = added (tokens (m ((c.tc : Thread nD τ).loc main_arg2)) (m ((c.tc : Thread nD τ).loc main_arg3))) (weights (m ((c.tc : Thread nD τ).loc main_arg4)))
      (plain (m ((c.tc : Thread nD τ).loc main_arg0)) (m ((c.tc : Thread nD τ).loc main_arg1))) :=
  (Pipeline.withArrays_arr spec0 winFacts0.arr_inj c (V0 m c) (fun w => (dats m 0 c).arrAt w cfg0.N) 3).trans (arr m c)

theorem tokens_prompt_apply (x : FVec Ideal S2x4112x4096 .f32) (y : FVec Ideal S2x8208x4096 .f32) (b : Fin 2) (i : Fin 4112)
    (k : Fin 4096) : (tokens x y (ix2 (promptAt b i) k) : EReal) = x (ix3 b i k) :=
  tokens_prompt x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem tokens_sample_apply (x : FVec Ideal S2x4112x4096 .f32) (y : FVec Ideal S2x8208x4096 .f32) (b : Fin 2) (i : Fin 8208)
    (k : Fin 4096) : (tokens x y (ix2 (sampleAt b i) k) : EReal) = y (ix3 b i k) :=
  tokens_sample x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem plain_prompt_apply (x : FVec Ideal S2x4112x4096 .f32) (y : FVec Ideal S2x8208x4096 .f32) (b : Fin 2) (i : Fin 4112)
    (k : Fin 4096) : (plain x y (ix2 (promptAt b i) k) : EReal) = x (ix3 b i k) :=
  tokens_prompt x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem plain_sample_apply (x : FVec Ideal S2x4112x4096 .f32) (y : FVec Ideal S2x8208x4096 .f32) (b : Fin 2) (i : Fin 8208)
    (k : Fin 4096) : (plain x y (ix2 (sampleAt b i) k) : EReal) = y (ix3 b i k) :=
  tokens_sample x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

/-- The first batch's result. -/
theorem final_prompt (c : Dev nD) :
    Pipeline.afterTail₀ cfgs (dats m) 0 (V0 m) [hostOps1] c main_v15 = projected (m ((c.tc : Thread nD τ).loc main_arg0)) (m ((c.tc : Thread nD τ).loc main_arg2))
      (m ((c.tc : Thread nD τ).loc main_arg4)) := by
  unfold Pipeline.afterTail₀
  simp only [hostOps1, List.flatten_cons, List.flatten_nil, List.append_nil, List.cons_append, List.nil_append]
  after_results
  rw [launched]
  funext y
  rw [eq_ix3 (p := 2) (q := 4112) (r := 4096) y]
  refine ((cut_prompt _ _ _ _ _ _ _).trans (added_apply _ _ _ _ _ (ok_prompt _ _))).trans ?_
  exact congrArg₂ (fun a b : EReal => a + b) (plain_prompt_apply _ _ _ _ _) (Finset.sum_congr rfl fun k _ =>
    congrArg (fun a : EReal => a * _) (tokens_prompt_apply _ _ _ _ k))

/-- The second batch's result. -/
theorem final_sample (c : Dev nD) :
    Pipeline.afterTail₀ cfgs (dats m) 0 (V0 m) [hostOps1] c main_v18 = projected (m ((c.tc : Thread nD τ).loc main_arg1)) (m ((c.tc : Thread nD τ).loc main_arg3))
      (m ((c.tc : Thread nD τ).loc main_arg4)) := by
  unfold Pipeline.afterTail₀
  simp only [hostOps1, List.flatten_cons, List.flatten_nil, List.append_nil, List.cons_append, List.nil_append]
  after_results
  rw [launched]
  funext y
  rw [eq_ix3 (p := 2) (q := 8208) (r := 4096) y]
  refine ((cut_sample _ _ _ _ _ _ _).trans (added_apply _ _ _ _ _ (ok_sample _ _))).trans ?_
  exact congrArg₂ (fun a b : EReal => a + b) (plain_sample_apply _ _ _ _ _) (Finset.sum_congr rfl fun k _ =>
    congrArg (fun a : EReal => a * _) (tokens_sample_apply _ _ _ _ k))

end Cert.OutIdeal.Proof

/-! ## The reference -/

namespace Cert.OutReferenceIdeal.Proof

open Idealize.ShloMosaic Cert.OutReferenceIdeal Cert.OutReferenceIdeal.Gen Cert.Lay Cert.OutIdeal.Proof
open Idealize.SL.Sem

theorem result_prompt (x y : FVec Ideal S2x4112x4096 .f32) (w : FVec Ideal S4096x4096 .f32) :
    addf x (Host.dotGeneral dot_S2x4112x4096_S4096x4096_S2x4112x4096_2_0_01_1_n_n none y w) = projected x y w := by
  funext j
  rw [eq_ix3 (p := 2) (q := 4112) (r := 4096) j]
  pointwise [projected]

theorem result_sample (x y : FVec Ideal S2x8208x4096 .f32) (w : FVec Ideal S4096x4096 .f32) :
    addf x (Host.dotGeneral dot_S2x8208x4096_S4096x4096_S2x8208x4096_2_0_01_1_n_n none y w) = projected x y w := by
  funext j
  rw [eq_ix3 (p := 2) (q := 8208) (r := 4096) j]
  pointwise [projected]

/-- The reference's run leaves its arguments, and it has no semaphore. -/
theorem frame : Cert.quiescent_OutReferenceIdeal (hOutReferenceIdeal := Cert.OutReferenceIdeal.Gen.facts) := fun m g _ =>
  (θ_run _ _ _).mono (fun r h => ⟨fun c => (h c).2.2, sem_eq_zero_of_no_sems (by decide) r.2⟩) (Value.run m g)

/-- The two programs' results agree. -/
theorem algebraic : Cert.algebraic_OutIdeal_OutReferenceIdeal (hOutIdeal := Cert.OutIdeal.Gen.facts)
    (hOutReferenceIdeal := Cert.OutReferenceIdeal.Gen.facts) := by
  intro m g m' g' _ hagree
  refine ⟨fun c => projected (m ((c.tc : Thread Cert.OutIdeal.nD Cert.OutIdeal.τ).loc Cert.OutIdeal.main_arg0)) (m ((c.tc : Thread Cert.OutIdeal.nD Cert.OutIdeal.τ).loc Cert.OutIdeal.main_arg2)) (m ((c.tc : Thread Cert.OutIdeal.nD Cert.OutIdeal.τ).loc Cert.OutIdeal.main_arg4)),
    fun c => projected (m ((c.tc : Thread Cert.OutIdeal.nD Cert.OutIdeal.τ).loc Cert.OutIdeal.main_arg1)) (m ((c.tc : Thread Cert.OutIdeal.nD Cert.OutIdeal.τ).loc Cert.OutIdeal.main_arg3)) (m ((c.tc : Thread Cert.OutIdeal.nD Cert.OutIdeal.τ).loc Cert.OutIdeal.main_arg4)), ?_, ?_⟩
  · refine (θ_run _ _ _).mono (fun r hr c => ⟨?_, ?_, hr.2 c⟩)
      (θ_run_and (Cert.OutIdeal.Gen.run_main m g) (Cert.OutIdeal.Gen.unchanged m g))
    · exact ((hr.1 c).2 Cert.OutIdeal.main_v15 (by decide)).trans (final_prompt m c)
    · exact ((hr.1 c).2 Cert.OutIdeal.main_v18 (by decide)).trans (final_sample m c)
  · refine (θ_run _ _ _).mono (fun r h c => ⟨?_, ?_, (h c).2.2⟩) (Value.run m' g')
    · obtain ⟨h0, h1, h2, h3, h4⟩ := hagree c
      refine ((h c).1.trans (result_prompt _ _ _)).trans ?_
      rw [h0, h2, h4]
    · obtain ⟨h0, h1, h2, h3, h4⟩ := hagree c
      refine ((h c).2.1.trans (result_sample _ _ _)).trans ?_
      rw [h1, h3, h4]

end Cert.OutReferenceIdeal.Proof

end
-- ==== Proof.Latent.lean ====
/- The latent columns of the input projection: one product, the norm of the query and of the key-value columns, and the
   columns of the shared rotary key as they are. -/
module

public import proofs.«01_k».proof.Defs
public import proofs.«01_k».proof.Proof.Layout
public import proofs.«01_k».proof.Proof.Gen.Latent
public import proofs.«01_k».proof.Proof.Gen.Latent.Frame
public import proofs.«01_k».proof.Proof.Gen.LatentIdeal
public import proofs.«01_k».proof.Proof.Gen.LatentIdeal.Frame
public import proofs.«01_k».proof.Proof.Gen.LatentReferenceIdeal
public import proofs.«01_k».proof.Proof.Gen.LatentReferenceIdeal.Run
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.LatentIdeal.Proof

open Idealize.ShloMosaic Idealize.ShloMosaic.TcCoe Cert.LatentIdeal Cert.LatentIdeal.Gen Cert.Lay
open Idealize.SL.Sem

/-- Both batches' tokens as rows. -/
def tokens (x : FVec Ideal S2x4112x4096 .f32) (y : FVec Ideal S2x8208x4096 .f32) : FVec Ideal S25600x4096 .bf16 :=
  truncf .bf16 (concatenate S25600x4096 0
    [⟨S8704x4096, shapeCast S8704x4096 (pad S2x4352x4096 ![0, 0, 0] ![0, 240, 0] ![0, 0, 0] x
      (sitofp .f32 (constantI S_ 32 0#32)) pads_S2x4112x4096_S2x4352x4096_000_02400_000 h_S_) shapeCasts_S2x4352x4096_S8704x4096⟩,
      ⟨S16896x4096, shapeCast S16896x4096 (pad S2x8448x4096 ![0, 0, 0] ![0, 240, 0] ![0, 0, 0] y
        (sitofp .f32 (constantI S_ 32 0#32)) pads_S2x8208x4096_S2x8448x4096_000_02400_000 h_S_) shapeCasts_S2x8448x4096_S16896x4096⟩]
    concatenates_S8704x4096_S16896x4096_S25600x4096_d0) bitsLt_bf16_f32

/-- The weights' columns, followed by columns of zeros. -/
def columns (w : FVec Ideal S4096x7744 .f32) : FVec Ideal S4096x1664 .bf16 :=
  truncf .bf16 (pad S4096x1664 ![0, 0] ![0, 64] ![0, 0] (extractStridedSlice S4096x1600 ![0, 0] w slices_S4096x7744_S4096x1600_0_0)
    (sitofp .f32 (constantI S_ 32 0#32)) pads_S4096x1600_S4096x1664_000_0640 h_S_) bitsLt_bf16_f32

/-- Entry `n` of a row of the product. -/
def entry {R : ℕ} (a : FVec Ideal ⟨2, ![R, 4096]⟩ .bf16) (b : FVec Ideal S4096x1664 .bf16) (r : Fin R) (n : Fin 1664) : EReal :=
  ∑ k : Fin 4096, (a (ix2 r k) : EReal) * b (ix2 k n)

/-- The two normed column ranges and the columns after them. -/
def queries {R : ℕ} (a : FVec Ideal ⟨2, ![R, 4096]⟩ .bf16) (b : FVec Ideal S4096x1664 .bf16) (g : FVec Ideal S1x1024 .f32) :
    FVec Ideal ⟨2, ![R, 1024]⟩ .bf16 := fun j =>
  normed (fun l : Fin 1024 => entry a b (j 0) ⟨l.val, by omega⟩) 0x44800000#32 (fun l => g (ix2 0 l)) (j 1)
def keys {R : ℕ} (a : FVec Ideal ⟨2, ![R, 4096]⟩ .bf16) (b : FVec Ideal S4096x1664 .bf16) (g : FVec Ideal S1x512 .f32) :
    FVec Ideal ⟨2, ![R, 512]⟩ .bf16 := fun j =>
  normed (fun l : Fin 512 => entry a b (j 0) ⟨1024 + l.val, by omega⟩) 0x44000000#32 (fun l => g (ix2 0 l)) (j 1)
def rest {R : ℕ} (a : FVec Ideal ⟨2, ![R, 4096]⟩ .bf16) (b : FVec Ideal S4096x1664 .bf16) :
    FVec Ideal ⟨2, ![R, 128]⟩ .f32 := fun j =>
  entry a b (j 0) ⟨1536 + (j 1).val, by have : (j 1).val < 128 := (j 1).isLt; omega⟩

/-- The product of the weights and a token. -/
def column {T : ℕ} (x : FVec Ideal ⟨3, ![2, T, 4096]⟩ .f32) (w : FVec Ideal S4096x7744 .f32) (b : Fin 2) (i : Fin T)
    (n : Fin 7744) : EReal := ∑ k : Fin 4096, (x (ix3 b i k) : EReal) * w (ix2 k n)

/-- What both programs compute of a batch. -/
def latentQ {T : ℕ} (x : FVec Ideal ⟨3, ![2, T, 4096]⟩ .f32) (w : FVec Ideal S4096x7744 .f32) (g : FVec Ideal S1024 .f32) :
    FVec Ideal ⟨3, ![2, T, 1024]⟩ .f32 := fun j =>
  normed (fun l : Fin 1024 => column x w (j 0) (j 1) ⟨l.val, by omega⟩) 0x44800000#32 (fun l => g (ix1 l)) (j 2)
def latentK {T : ℕ} (x : FVec Ideal ⟨3, ![2, T, 4096]⟩ .f32) (w : FVec Ideal S4096x7744 .f32) (g : FVec Ideal S512 .f32) :
    FVec Ideal ⟨3, ![2, T, 512]⟩ .f32 := fun j =>
  normed (fun l : Fin 512 => column x w (j 0) (j 1) ⟨1024 + l.val, by omega⟩) 0x44000000#32 (fun l => g (ix1 l)) (j 2)
def rotary {T : ℕ} (x : FVec Ideal ⟨3, ![2, T, 4096]⟩ .f32) (w : FVec Ideal S4096x7744 .f32) :
    FVec Ideal ⟨3, ![2, T, 64]⟩ .f32 := fun j =>
  column x w (j 0) (j 1) ⟨1536 + (j 2).val, by have : (j 2).val < 64 := (j 2).isLt; omega⟩

theorem block_queries (x0 : FVec Ideal S256x4096 .bf16) (x1 : FVec Ideal S4096x1664 .bf16) (x2 : FVec Ideal S1x1024 .f32)
    (x3 : FVec Ideal S1x512 .f32) (r : Fin 256) (l : Fin 1024) :
    (out0_4 (F := Ideal) x0 x1 x2 x3 (ix2 r l) : EReal) = queries x0 x1 x2 (ix2 r l) := by
  frame_out
  pointwise [k0_pay3, k0_pay2, queries, normed, entry]

theorem block_keys (x0 : FVec Ideal S256x4096 .bf16) (x1 : FVec Ideal S4096x1664 .bf16) (x2 : FVec Ideal S1x1024 .f32)
    (x3 : FVec Ideal S1x512 .f32) (r : Fin 256) (l : Fin 512) :
    (out0_5 (F := Ideal) x0 x1 x2 x3 (ix2 r l) : EReal) = keys x0 x1 x3 (ix2 r l) := by
  frame_out
  pointwise [k0_pay4, k0_pay2, keys, normed, entry]

theorem block_rest (x0 : FVec Ideal S256x4096 .bf16) (x1 : FVec Ideal S4096x1664 .bf16) (x2 : FVec Ideal S1x1024 .f32)
    (x3 : FVec Ideal S1x512 .f32) (r : Fin 256) (l : Fin 128) :
    (out0_6 (F := Ideal) x0 x1 x2 x3 (ix2 r l) : EReal) = rest x0 x1 (ix2 r l) := by
  frame_out
  pointwise [k0_pay1, k0_pay2, rest, entry]

theorem idx0 : ∀ t : Fin grid0.N, win0_0.index t = ![(grid0.coords t 0).val, 0] := by decide +kernel
theorem idx4 : ∀ t : Fin grid0.N, win0_4.index t = ![(grid0.coords t 0).val, 0] := by decide +kernel
theorem idx5 : ∀ t : Fin grid0.N, win0_5.index t = ![(grid0.coords t 0).val, 0] := by decide +kernel
theorem idx6 : ∀ t : Fin grid0.N, win0_6.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel

theorem entry_congr {R S : ℕ} (a : FVec Ideal ⟨2, ![R, 4096]⟩ .bf16) (a' : FVec Ideal ⟨2, ![S, 4096]⟩ .bf16)
    (b b' : FVec Ideal S4096x1664 .bf16) (r : Fin R) (s : Fin S) (n : Fin 1664) (ha : ∀ k, (a (ix2 r k) : EReal) = a' (ix2 s k))
    (hb : ∀ k n, (b (ix2 k n) : EReal) = b' (ix2 k n)) : entry a b r n = entry a' b' s n :=
  Finset.sum_congr rfl fun k _ => congrArg₂ (fun a b : EReal => a * b) (ha k) (hb k n)

theorem rest_congr {R S : ℕ} (a : FVec Ideal ⟨2, ![R, 4096]⟩ .bf16) (a' : FVec Ideal ⟨2, ![S, 4096]⟩ .bf16)
    (b b' : FVec Ideal S4096x1664 .bf16) (r : Fin R) (l : Fin 128) (j : (⟨2, ![S, 128]⟩ : Shape).Idx)
    (ha : ∀ k, (a (ix2 r k) : EReal) = a' (ix2 (j 0) k)) (hb : ∀ k n, (b (ix2 k n) : EReal) = b' (ix2 k n))
    (hl : l.val = (j 1).val) : (rest a b (ix2 r l) : EReal) = rest a' b' j :=
  (entry_congr a a' b b' r (j 0) ⟨1536 + l.val, by omega⟩ ha hb).trans
    (congrArg (entry a' b' (j 0)) (Fin.ext (congrArg (1536 + ·) hl)))

variable (m : (ℓ : Loc nD τ sig) → Buf (Elt Ideal) ℓ)

theorem V_tokens (c : Dev nD) : V m c main_v8 = tokens (m ((c.tc : Thread nD τ).loc main_arg0)) (m ((c.tc : Thread nD τ).loc main_arg1)) := by
  simp only [V, V0, hostOps0, hostOps0_1, hostOps0_2, hostOps0_3, hostOps0_4, hostOps0_5, hostOps0_6,
    List.flatten_cons, List.flatten_nil, List.append_nil, List.cons_append, List.nil_append]
  after_results <;> rfl

theorem tokens_at (c : Dev nD) (t : Fin cfg0.N) (r : Fin 256) (R : Fin 25600) (l : Fin 4096)
    (hr : R.val = (grid0.coords t 0).val * 256 + r.val) :
    (iblk m c 0 t (ix2 r l) : EReal) = (tokens (m ((c.tc : Thread nD τ).loc main_arg0)) (m ((c.tc : Thread nD τ).loc main_arg1))) (ix2 R l) := by
  rw [← V_tokens]
  unfold iblk
  rw [View.read_apply]
  show V m c main_v8 _ = V m c main_v8 _
  congr 1
  funext a
  apply Fin.ext
  match a with
  | ⟨0, _⟩ =>
    show win0_0.index t 0 * 256 + 1 * r.val = R.val
    rw [idx0, hr]
    show (grid0.coords t 0).val * 256 + 1 * r.val = _
    omega
  | ⟨1, _⟩ =>
    show win0_0.index t 1 * 4096 + 1 * l.val = l.val
    rw [idx0]
    show 0 * 4096 + 1 * l.val = l.val
    omega

theorem V_columns (c : Dev nD) : V m c main_v2 = columns (m ((c.tc : Thread nD τ).loc main_arg2)) := by
  simp only [V, V0, hostOps0, hostOps0_1, hostOps0_2, hostOps0_3, hostOps0_4, hostOps0_5, hostOps0_6,
    List.flatten_cons, List.flatten_nil, List.append_nil, List.cons_append, List.nil_append]
  after_results <;> rfl

theorem columns_at (c : Dev nD) (t : Fin cfg0.N) (r : Fin 4096) (l : Fin 1664)
    :
    (iblk m c 1 t (ix2 r l) : EReal) = (columns (m ((c.tc : Thread nD τ).loc main_arg2))) (ix2 r l) := by
  rw [← V_columns]
  unfold iblk
  rw [View.read_apply]
  show V m c main_v2 _ = V m c main_v2 _
  congr 1
  funext a
  apply Fin.ext
  match a with
  | ⟨0, _⟩ =>
    show win0_1.index t 0 * 4096 + 1 * r.val = r.val
    rw [idx1]
    show 0 * 4096 + 1 * r.val = r.val
    omega
  | ⟨1, _⟩ =>
    show win0_1.index t 1 * 1664 + 1 * l.val = l.val
    rw [idx1]
    show 0 * 1664 + 1 * l.val = l.val
    omega

theorem V_gainQ (c : Dev nD) : V m c main_v9 = shapeCast S1x1024 (m ((c.tc : Thread nD τ).loc main_arg3)) shapeCasts_S1024_S1x1024 := by
  simp only [V, V0, hostOps0, hostOps0_1, hostOps0_2, hostOps0_3, hostOps0_4, hostOps0_5, hostOps0_6,
    List.flatten_cons, List.flatten_nil, List.append_nil, List.cons_append, List.nil_append]
  after_results <;> rfl

theorem gainQ_at (c : Dev nD) (t : Fin cfg0.N) (r : Fin 1) (l : Fin 1024)
    :
    (iblk m c 2 t (ix2 r l) : EReal) = (shapeCast S1x1024 (m ((c.tc : Thread nD τ).loc main_arg3)) shapeCasts_S1024_S1x1024) (ix2 r l) := by
  rw [← V_gainQ]
  unfold iblk
  rw [View.read_apply]
  show V m c main_v9 _ = V m c main_v9 _
  congr 1
  funext a
  apply Fin.ext
  match a with
  | ⟨0, _⟩ =>
    show win0_2.index t 0 * 1 + 1 * r.val = r.val
    rw [idx2]
    show 0 * 1 + 1 * r.val = r.val
    omega
  | ⟨1, _⟩ =>
    show win0_2.index t 1 * 1024 + 1 * l.val = l.val
    rw [idx2]
    show 0 * 1024 + 1 * l.val = l.val
    omega

theorem V_gainK (c : Dev nD) : V m c main_v10 = shapeCast S1x512 (m ((c.tc : Thread nD τ).loc main_arg4)) shapeCasts_S512_S1x512 := by
  simp only [V, V0, hostOps0, hostOps0_1, hostOps0_2, hostOps0_3, hostOps0_4, hostOps0_5, hostOps0_6,
    List.flatten_cons, List.flatten_nil, List.append_nil, List.cons_append, List.nil_append]
  after_results <;> rfl

theorem gainK_at (c : Dev nD) (t : Fin cfg0.N) (r : Fin 1) (l : Fin 512)
    :
    (iblk m c 3 t (ix2 r l) : EReal) = (shapeCast S1x512 (m ((c.tc : Thread nD τ).loc main_arg4)) shapeCasts_S512_S1x512) (ix2 r l) := by
  rw [← V_gainK]
  unfold iblk
  rw [View.read_apply]
  show V m c main_v10 _ = V m c main_v10 _
  congr 1
  funext a
  apply Fin.ext
  match a with
  | ⟨0, _⟩ =>
    show win0_3.index t 0 * 1 + 1 * r.val = r.val
    rw [idx3]
    show 0 * 1 + 1 * r.val = r.val
    omega
  | ⟨1, _⟩ =>
    show win0_3.index t 1 * 512 + 1 * l.val = l.val
    rw [idx3]
    show 0 * 512 + 1 * l.val = l.val
    omega

/-- The launch's queries. -/
theorem arr_queries (c : Dev nD) : (dats m 0 c).arrAt 4 cfg0.N = queries (tokens (m ((c.tc : Thread nD τ).loc main_arg0)) (m ((c.tc : Thread nD τ).loc main_arg1))) (columns (m ((c.tc : Thread nD τ).loc main_arg2))) (shapeCast S1x1024 (m ((c.tc : Thread nD τ).loc main_arg3)) shapeCasts_S1024_S1x1024) := by
  refine (dats m 0 c).arrAt_eq_of_covers 4 _ (by decide +kernel) fun t hf y => ?_
  blk_simp
  rw [after0_4]
  refine ((congrArg _ (eq_ix2 (p := 256) (q := 1024) y)).trans (block_queries _ _ _ _ (y 0) (y 1))).trans ?_
  have e0 : ((win0_4.blk t).view.emb y 0).val = (grid0.coords t 0).val * 256 + (y 0).val := by
    show win0_4.index t 0 * 256 + 1 * (y 0).val = _
    rw [idx4]
    show (grid0.coords t 0).val * 256 + 1 * (y 0).val = _
    rw [one_mul]
  have e1 : ((win0_4.blk t).view.emb y 1).val = (y 1).val := by
    show win0_4.index t 1 * 1024 + 1 * (y 1).val = _
    rw [idx4]
    show 0 * 1024 + 1 * (y 1).val = _
    omega
  exact normed_congr (fun l => entry_congr _ _ _ _ _ _ _ (fun k => tokens_at m c t _ _ k e0) (fun k n => columns_at m c t k n))
    (fun l => gainQ_at m c t 0 l) (Fin.ext e1.symm)

/-- The launch's array among the values that the last host lines read. -/
theorem launched_queries (c : Dev nD) :
    Pipeline.withArrays (cfgs 0).spec c (V0 m c) (fun w => (dats m 0 c).arrAt w (cfgs 0).N) (Proc.devRef .tc main_v11_0)
      = queries (tokens (m ((c.tc : Thread nD τ).loc main_arg0)) (m ((c.tc : Thread nD τ).loc main_arg1))) (columns (m ((c.tc : Thread nD τ).loc main_arg2))) (shapeCast S1x1024 (m ((c.tc : Thread nD τ).loc main_arg3)) shapeCasts_S1024_S1x1024) :=
  (Pipeline.withArrays_arr spec0 winFacts0.arr_inj c (V0 m c) (fun w => (dats m 0 c).arrAt w cfg0.N) 4).trans (arr_queries m c)

/-- The launch's keys. -/
theorem arr_keys (c : Dev nD) : (dats m 0 c).arrAt 5 cfg0.N = keys (tokens (m ((c.tc : Thread nD τ).loc main_arg0)) (m ((c.tc : Thread nD τ).loc main_arg1))) (columns (m ((c.tc : Thread nD τ).loc main_arg2))) (shapeCast S1x512 (m ((c.tc : Thread nD τ).loc main_arg4)) shapeCasts_S512_S1x512) := by
  refine (dats m 0 c).arrAt_eq_of_covers 5 _ (by decide +kernel) fun t hf y => ?_
  blk_simp
  rw [after0_5]
  refine ((congrArg _ (eq_ix2 (p := 256) (q := 512) y)).trans (block_keys _ _ _ _ (y 0) (y 1))).trans ?_
  have e0 : ((win0_5.blk t).view.emb y 0).val = (grid0.coords t 0).val * 256 + (y 0).val := by
    show win0_5.index t 0 * 256 + 1 * (y 0).val = _
    rw [idx5]
    show (grid0.coords t 0).val * 256 + 1 * (y 0).val = _
    rw [one_mul]
  have e1 : ((win0_5.blk t).view.emb y 1).val = (y 1).val := by
    show win0_5.index t 1 * 512 + 1 * (y 1).val = _
    rw [idx5]
    show 0 * 512 + 1 * (y 1).val = _
    omega
  exact normed_congr (fun l => entry_congr _ _ _ _ _ _ _ (fun k => tokens_at m c t _ _ k e0) (fun k n => columns_at m c t k n))
    (fun l => gainK_at m c t 0 l) (Fin.ext e1.symm)

/-- The launch's array among the values that the last host lines read. -/
theorem launched_keys (c : Dev nD) :
    Pipeline.withArrays (cfgs 0).spec c (V0 m c) (fun w => (dats m 0 c).arrAt w (cfgs 0).N) (Proc.devRef .tc main_v11_1)
      = keys (tokens (m ((c.tc : Thread nD τ).loc main_arg0)) (m ((c.tc : Thread nD τ).loc main_arg1))) (columns (m ((c.tc : Thread nD τ).loc main_arg2))) (shapeCast S1x512 (m ((c.tc : Thread nD τ).loc main_arg4)) shapeCasts_S512_S1x512) :=
  (Pipeline.withArrays_arr spec0 winFacts0.arr_inj c (V0 m c) (fun w => (dats m 0 c).arrAt w cfg0.N) 5).trans (arr_keys m c)

/-- The launch's rest. -/
theorem arr_rest (c : Dev nD) : (dats m 0 c).arrAt 6 cfg0.N = rest (tokens (m ((c.tc : Thread nD τ).loc main_arg0)) (m ((c.tc : Thread nD τ).loc main_arg1))) (columns (m ((c.tc : Thread nD τ).loc main_arg2))) := by
  refine (dats m 0 c).arrAt_eq_of_covers 6 _ (by decide +kernel) fun t hf y => ?_
  blk_simp
  rw [after0_6]
  refine ((congrArg _ (eq_ix2 (p := 256) (q := 128) y)).trans (block_rest _ _ _ _ (y 0) (y 1))).trans ?_
  have e0 : ((win0_6.blk t).view.emb y 0).val = (grid0.coords t 0).val * 256 + (y 0).val := by
    show win0_6.index t 0 * 256 + 1 * (y 0).val = _
    rw [idx6]
    show (grid0.coords t 0).val * 256 + 1 * (y 0).val = _
    rw [one_mul]
  have e1 : ((win0_6.blk t).view.emb y 1).val = (y 1).val := by
    show win0_6.index t 1 * 128 + 1 * (y 1).val = _
    rw [idx6]
    show 0 * 128 + 1 * (y 1).val = _
    omega
  exact rest_congr _ _ _ _ _ _ _ (fun k => tokens_at m c t _ _ k e0) (fun k n => columns_at m c t k n) e1.symm

/-- The launch's array among the values that the last host lines read. -/
theorem launched_rest (c : Dev nD) :
    Pipeline.withArrays (cfgs 0).spec c (V0 m c) (fun w => (dats m 0 c).arrAt w (cfgs 0).N) (Proc.devRef .tc main_v11_2)
      = rest (tokens (m ((c.tc : Thread nD τ).loc main_arg0)) (m ((c.tc : Thread nD τ).loc main_arg1))) (columns (m ((c.tc : Thread nD τ).loc main_arg2))) :=
  (Pipeline.withArrays_arr spec0 winFacts0.arr_inj c (V0 m c) (fun w => (dats m 0 c).arrAt w cfg0.N) 6).trans (arr_rest m c)

theorem tokens_prompt_apply (x : FVec Ideal S2x4112x4096 .f32) (y : FVec Ideal S2x8208x4096 .f32) (b : Fin 2) (i : Fin 4112)
    (k : Fin 4096) : (tokens x y (ix2 (promptAt b i) k) : EReal) = x (ix3 b i k) :=
  tokens_prompt x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem tokens_sample_apply (x : FVec Ideal S2x4112x4096 .f32) (y : FVec Ideal S2x8208x4096 .f32) (b : Fin 2) (i : Fin 8208)
    (k : Fin 4096) : (tokens x y (ix2 (sampleAt b i) k) : EReal) = y (ix3 b i k) :=
  tokens_sample x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem columns_apply (w : FVec Ideal S4096x7744 .f32) (k : Fin 4096) (n : Fin 1664) (n' : Fin 7744) (hn : n.val = n'.val)
    (h : n.val < 1600) : (columns w (ix2 k n) : EReal) = w (ix2 k n') := by
  unfold columns
  refine (narrow_apply _ _ _).trans ((pad_apply_of_inside _ _ _ _ _ pads_S4096x1600_S4096x1664_000_0640 _ _ (ix2 k ⟨n.val, h⟩) fun a => ?_).trans
    (window_apply w slices_S4096x7744_S4096x1600_0_0 k ⟨n.val, h⟩ k n' (Nat.zero_add _).symm (hn.symm.trans (Nat.zero_add _).symm)))
  match a with
  | ⟨0, _⟩ => show k.val = 0 + k.val * 1; omega
  | ⟨1, _⟩ => show n.val = 0 + n.val * 1; omega

theorem entry_prompt (x : FVec Ideal S2x4112x4096 .f32) (y : FVec Ideal S2x8208x4096 .f32) (w : FVec Ideal S4096x7744 .f32)
    (b : Fin 2) (i : Fin 4112) (n : Fin 1664) (n' : Fin 7744) (hn : n.val = n'.val) (h : n.val < 1600) :
    entry (tokens x y) (columns w) (promptAt b i) n = column x w b i n' :=
  Finset.sum_congr rfl fun k _ => congrArg₂ (fun a b : EReal => a * b) (tokens_prompt_apply x y b i k) (columns_apply w k n n' hn h)

theorem entry_sample (x : FVec Ideal S2x4112x4096 .f32) (y : FVec Ideal S2x8208x4096 .f32) (w : FVec Ideal S4096x7744 .f32)
    (b : Fin 2) (i : Fin 8208) (n : Fin 1664) (n' : Fin 7744) (hn : n.val = n'.val) (h : n.val < 1600) :
    entry (tokens x y) (columns w) (sampleAt b i) n = column y w b i n' :=
  Finset.sum_congr rfl fun k _ => congrArg₂ (fun a b : EReal => a * b) (tokens_sample_apply x y b i k) (columns_apply w k n n' hn h)

theorem gainQ_apply (g : FVec Ideal S1024 .f32) (l : Fin 1024) :
    (shapeCast S1x1024 g shapeCasts_S1024_S1x1024 (ix2 0 l) : EReal) = g (ix1 l) := by
  pointwise
theorem gainK_apply (g : FVec Ideal S512 .f32) (l : Fin 512) :
    (shapeCast S1x512 g shapeCasts_S512_S1x512 (ix2 0 l) : EReal) = g (ix1 l) := by
  pointwise

/-- The queries of the first batch. -/
theorem final_queries_prompt (c : Dev nD) :
    Pipeline.afterTail₀ cfgs (dats m) 0 (V0 m) [hostOps1] c main_v15 = latentQ (m ((c.tc : Thread nD τ).loc main_arg0)) (m ((c.tc : Thread nD τ).loc main_arg2)) (m ((c.tc : Thread nD τ).loc main_arg3)) := by
  unfold Pipeline.afterTail₀
  simp only [hostOps1, List.flatten_cons, List.flatten_nil, List.append_nil, List.cons_append, List.nil_append]
  after_results
  rw [launched_queries]
  funext y
  rw [eq_ix3 (p := 2) (q := 4112) (r := 1024) y]
  refine (wide_apply _ _ _).trans ((cut_prompt _ _ _ _ _ _ _).trans ?_)
  exact normed_congr (fun l => entry_prompt _ _ _ _ _ _ _ rfl (by show l.val < 1600; omega)) (fun l => gainQ_apply _ l) rfl

/-- The queries of the second batch. -/
theorem final_queries_sample (c : Dev nD) :
    Pipeline.afterTail₀ cfgs (dats m) 0 (V0 m) [hostOps1] c main_v19 = latentQ (m ((c.tc : Thread nD τ).loc main_arg1)) (m ((c.tc : Thread nD τ).loc main_arg2)) (m ((c.tc : Thread nD τ).loc main_arg3)) := by
  unfold Pipeline.afterTail₀
  simp only [hostOps1, List.flatten_cons, List.flatten_nil, List.append_nil, List.cons_append, List.nil_append]
  after_results
  rw [launched_queries]
  funext y
  rw [eq_ix3 (p := 2) (q := 8208) (r := 1024) y]
  refine (wide_apply _ _ _).trans ((cut_sample _ _ _ _ _ _ _).trans ?_)
  exact normed_congr (fun l => entry_sample _ _ _ _ _ _ _ rfl (by show l.val < 1600; omega)) (fun l => gainQ_apply _ l) rfl

/-- The keys of the first batch. -/
theorem final_keys_prompt (c : Dev nD) :
    Pipeline.afterTail₀ cfgs (dats m) 0 (V0 m) [hostOps1] c main_v23 = latentK (m ((c.tc : Thread nD τ).loc main_arg0)) (m ((c.tc : Thread nD τ).loc main_arg2)) (m ((c.tc : Thread nD τ).loc main_arg4)) := by
  unfold Pipeline.afterTail₀
  simp only [hostOps1, List.flatten_cons, List.flatten_nil, List.append_nil, List.cons_append, List.nil_append]
  after_results
  rw [launched_keys]
  funext y
  rw [eq_ix3 (p := 2) (q := 4112) (r := 512) y]
  refine (wide_apply _ _ _).trans ((cut_prompt _ _ _ _ _ _ _).trans ?_)
  exact normed_congr (fun l => entry_prompt _ _ _ _ _ _ _ rfl (by show 1024 + l.val < 1600; omega)) (fun l => gainK_apply _ l) rfl

/-- The keys of the second batch. -/
theorem final_keys_sample (c : Dev nD) :
    Pipeline.afterTail₀ cfgs (dats m) 0 (V0 m) [hostOps1] c main_v27 = latentK (m ((c.tc : Thread nD τ).loc main_arg1)) (m ((c.tc : Thread nD τ).loc main_arg2)) (m ((c.tc : Thread nD τ).loc main_arg4)) := by
  unfold Pipeline.afterTail₀
  simp only [hostOps1, List.flatten_cons, List.flatten_nil, List.append_nil, List.cons_append, List.nil_append]
  after_results
  rw [launched_keys]
  funext y
  rw [eq_ix3 (p := 2) (q := 8208) (r := 512) y]
  refine (wide_apply _ _ _).trans ((cut_sample _ _ _ _ _ _ _).trans ?_)
  exact normed_congr (fun l => entry_sample _ _ _ _ _ _ _ rfl (by show 1024 + l.val < 1600; omega)) (fun l => gainK_apply _ l) rfl

/-- The rest of the first batch. -/
theorem final_rest_prompt (c : Dev nD) :
    Pipeline.afterTail₀ cfgs (dats m) 0 (V0 m) [hostOps1] c main_v31 = rotary (m ((c.tc : Thread nD τ).loc main_arg0)) (m ((c.tc : Thread nD τ).loc main_arg2)) := by
  unfold Pipeline.afterTail₀
  simp only [hostOps1, List.flatten_cons, List.flatten_nil, List.append_nil, List.cons_append, List.nil_append]
  after_results
  rw [launched_rest]
  funext y
  rw [eq_ix3 (p := 2) (q := 4112) (r := 64) y]
  refine (cut_prompt _ _ _ _ _ _ _).trans ?_
  have h2 : (y 2).val < 64 := (y 2).isLt
  refine (window_apply _ slices_S25600x128_S25600x64_0_0 _ _ (promptAt (y 0) (y 1)) ⟨(y 2).val, by omega⟩ (Nat.zero_add _).symm
    (Nat.zero_add _).symm).trans ?_
  exact entry_prompt _ _ _ _ _ _ _ rfl (by show 1536 + (y 2).val < 1600; omega)

/-- The rest of the second batch. -/
theorem final_rest_sample (c : Dev nD) :
    Pipeline.afterTail₀ cfgs (dats m) 0 (V0 m) [hostOps1] c main_v34 = rotary (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched_rest]
  funext y
  rw [eq_ix3 (p := 2) (q := 8208) (r := 64) y]
  refine (cut_sample _ _ _ _ _ _ _).trans ?_
  have h2 : (y 2).val < 64 := (y 2).isLt
  refine (window_apply _ slices_S25600x128_S25600x64_0_0 _ _ (sampleAt (y 0) (y 1)) ⟨(y 2).val, by omega⟩ (Nat.zero_add _).symm
    (Nat.zero_add _).symm).trans ?_
  exact entry_sample _ _ _ _ _ _ _ rfl (by show 1536 + (y 2).val < 1600; omega)

end Cert.LatentIdeal.Proof

/-! ## The reference -/

namespace Cert.LatentReferenceIdeal.Proof

open Idealize.ShloMosaic Cert.LatentReferenceIdeal Cert.LatentReferenceIdeal.Gen Cert.Lay Cert.LatentIdeal.Proof
open Idealize.SL.Sem

theorem result_Q_prompt (x : FVec Ideal S2x4112x4096 .f32) (w : FVec Ideal S4096x7744 .f32) (g : FVec Ideal S1024 .f32) :
    mulf (mulf (extractStridedSlice S2x4112x1024 ![0, 0, 0] (Host.dotGeneral dot_S2x4112x4096_S4096x7744_S2x4112x7744_2_0_01_1_n_n none x w) slices_S2x4112x7744_S2x4112x1024_0_0_0)
      (broadcastInDim S2x4112x1024 ![0, 1, 2] bcast_S2x4112x1_S2x4112x1024_0_1_2 (Host.rsqrt (addf (Host.divf
        (broadcastInDim S2x4112x1 ![0, 1] bcast_S2x4112_S2x4112x1_0_1 (Host.reduceAdd
          (mulf (extractStridedSlice S2x4112x1024 ![0, 0, 0] (Host.dotGeneral dot_S2x4112x4096_S4096x7744_S2x4112x7744_2_0_01_1_n_n none x w) slices_S2x4112x7744_S2x4112x1024_0_0_0)
            (extractStridedSlice S2x4112x1024 ![0, 0, 0] (Host.dotGeneral dot_S2x4112x4096_S4096x7744_S2x4112x7744_2_0_01_1_n_n none x w) slices_S2x4112x7744_S2x4112x1024_0_0_0))
          (constant S_ .f32 0x00000000#32) reducesTo_S2x4112x1024_S2x4112_d2 h_S_))
        (broadcastInDim S2x4112x1 ![] bcast_S_S2x4112x1 (constant S_ .f32 0x44800000#32)))
        (broadcastInDim S2x4112x1 ![] bcast_S_S2x4112x1 (constant S_ .f32 0x358637BD#32))))))
      (broadcastInDim S2x4112x1024 ![0, 1, 2] bcast_S1x1x1024_S2x4112x1024_0_1_2 (broadcastInDim S1x1x1024 ![2] bcast_S1024_S1x1x1024_2 g))
      = latentQ x w g := by
  funext y
  rw [eq_ix3 (p := 2) (q := 4112) (r := 1024) y]
  pointwise [latentQ, normed, column]

theorem result_K_prompt (x : FVec Ideal S2x4112x4096 .f32) (w : FVec Ideal S4096x7744 .f32) (g : FVec Ideal S512 .f32) :
    mulf (mulf (extractStridedSlice S2x4112x512 ![0, 0, 1024] (Host.dotGeneral dot_S2x4112x4096_S4096x7744_S2x4112x7744_2_0_01_1_n_n none x w) slices_S2x4112x7744_S2x4112x512_0_0_1024)
      (broadcastInDim S2x4112x512 ![0, 1, 2] bcast_S2x4112x1_S2x4112x512_0_1_2 (Host.rsqrt (addf (Host.divf
        (broadcastInDim S2x4112x1 ![0, 1] bcast_S2x4112_S2x4112x1_0_1 (Host.reduceAdd
          (mulf (extractStridedSlice S2x4112x512 ![0, 0, 1024] (Host.dotGeneral dot_S2x4112x4096_S4096x7744_S2x4112x7744_2_0_01_1_n_n none x w) slices_S2x4112x7744_S2x4112x512_0_0_1024)
            (extractStridedSlice S2x4112x512 ![0, 0, 1024] (Host.dotGeneral dot_S2x4112x4096_S4096x7744_S2x4112x7744_2_0_01_1_n_n none x w) slices_S2x4112x7744_S2x4112x512_0_0_1024))
          (constant S_ .f32 0x00000000#32) reducesTo_S2x4112x512_S2x4112_d2 h_S_))
        (broadcastInDim S2x4112x1 ![] bcast_S_S2x4112x1 (constant S_ .f32 0x44000000#32)))
        (broadcastInDim S2x4112x1 ![] bcast_S_S2x4112x1 (constant S_ .f32 0x358637BD#32))))))
      (broadcastInDim S2x4112x512 ![0, 1, 2] bcast_S1x1x512_S2x4112x512_0_1_2 (broadcastInDim S1x1x512 ![2] bcast_S512_S1x1x512_2 g))
      = latentK x w g := by
  funext y
  rw [eq_ix3 (p := 2) (q := 4112) (r := 512) y]
  pointwise [latentK, normed, column]

theorem result_R_prompt (x : FVec Ideal S2x4112x4096 .f32) (w : FVec Ideal S4096x7744 .f32) :
    extractStridedSlice S2x4112x64 ![0, 0, 1536] (Host.dotGeneral dot_S2x4112x4096_S4096x7744_S2x4112x7744_2_0_01_1_n_n none x w)
      slices_S2x4112x7744_S2x4112x64_0_0_1536 = rotary x w := by
  funext y
  rw [eq_ix3 (p := 2) (q := 4112) (r := 64) y]
  pointwise [rotary, column]

theorem result_Q_sample (x : FVec Ideal S2x8208x4096 .f32) (w : FVec Ideal S4096x7744 .f32) (g : FVec Ideal S1024 .f32) :
    mulf (mulf (extractStridedSlice S2x8208x1024 ![0, 0, 0] (Host.dotGeneral dot_S2x8208x4096_S4096x7744_S2x8208x7744_2_0_01_1_n_n none x w) slices_S2x8208x7744_S2x8208x1024_0_0_0)
      (broadcastInDim S2x8208x1024 ![0, 1, 2] bcast_S2x8208x1_S2x8208x1024_0_1_2 (Host.rsqrt (addf (Host.divf
        (broadcastInDim S2x8208x1 ![0, 1] bcast_S2x8208_S2x8208x1_0_1 (Host.reduceAdd
          (mulf (extractStridedSlice S2x8208x1024 ![0, 0, 0] (Host.dotGeneral dot_S2x8208x4096_S4096x7744_S2x8208x7744_2_0_01_1_n_n none x w) slices_S2x8208x7744_S2x8208x1024_0_0_0)
            (extractStridedSlice S2x8208x1024 ![0, 0, 0] (Host.dotGeneral dot_S2x8208x4096_S4096x7744_S2x8208x7744_2_0_01_1_n_n none x w) slices_S2x8208x7744_S2x8208x1024_0_0_0))
          (constant S_ .f32 0x00000000#32) reducesTo_S2x8208x1024_S2x8208_d2 h_S_))
        (broadcastInDim S2x8208x1 ![] bcast_S_S2x8208x1 (constant S_ .f32 0x44800000#32)))
        (broadcastInDim S2x8208x1 ![] bcast_S_S2x8208x1 (constant S_ .f32 0x358637BD#32))))))
      (broadcastInDim S2x8208x1024 ![0, 1, 2] bcast_S1x1x1024_S2x8208x1024_0_1_2 (broadcastInDim S1x1x1024 ![2] bcast_S1024_S1x1x1024_2 g))
      = latentQ x w g := by
  funext y
  rw [eq_ix3 (p := 2) (q := 8208) (r := 1024) y]
  pointwise [latentQ, normed, column]

theorem result_K_sample (x : FVec Ideal S2x8208x4096 .f32) (w : FVec Ideal S4096x7744 .f32) (g : FVec Ideal S512 .f32) :
    mulf (mulf (extractStridedSlice S2x8208x512 ![0, 0, 1024] (Host.dotGeneral dot_S2x8208x4096_S4096x7744_S2x8208x7744_2_0_01_1_n_n none x w) slices_S2x8208x7744_S2x8208x512_0_0_1024)
      (broadcastInDim S2x8208x512 ![0, 1, 2] bcast_S2x8208x1_S2x8208x512_0_1_2 (Host.rsqrt (addf (Host.divf
        (broadcastInDim S2x8208x1 ![0, 1] bcast_S2x8208_S2x8208x1_0_1 (Host.reduceAdd
          (mulf (extractStridedSlice S2x8208x512 ![0, 0, 1024] (Host.dotGeneral dot_S2x8208x4096_S4096x7744_S2x8208x7744_2_0_01_1_n_n none x w) slices_S2x8208x7744_S2x8208x512_0_0_1024)
            (extractStridedSlice S2x8208x512 ![0, 0, 1024] (Host.dotGeneral dot_S2x8208x4096_S4096x7744_S2x8208x7744_2_0_01_1_n_n none x w) slices_S2x8208x7744_S2x8208x512_0_0_1024))
          (constant S_ .f32 0x00000000#32) reducesTo_S2x8208x512_S2x8208_d2 h_S_))
        (broadcastInDim S2x8208x1 ![] bcast_S_S2x8208x1 (constant S_ .f32 0x44000000#32)))
        (broadcastInDim S2x8208x1 ![] bcast_S_S2x8208x1 (constant S_ .f32 0x358637BD#32))))))
      (broadcastInDim S2x8208x512 ![0, 1, 2] bcast_S1x1x512_S2x8208x512_0_1_2 (broadcastInDim S1x1x512 ![2] bcast_S512_S1x1x512_2 g))
      = latentK x w g := by
  funext y
  rw [eq_ix3 (p := 2) (q := 8208) (r := 512) y]
  pointwise [latentK, normed, column]

theorem result_R_sample (x : FVec Ideal S2x8208x4096 .f32) (w : FVec Ideal S4096x7744 .f32) :
    extractStridedSlice S2x8208x64 ![0, 0, 1536] (Host.dotGeneral dot_S2x8208x4096_S4096x7744_S2x8208x7744_2_0_01_1_n_n none x w)
      slices_S2x8208x7744_S2x8208x64_0_0_1536 = rotary x w := by
  funext y
  rw [eq_ix3 (p := 2) (q := 8208) (r := 64) y]
  pointwise [rotary, column]

/-- The reference's run leaves its arguments, and it has no semaphore. -/
theorem frame : Cert.quiescent_LatentReferenceIdeal (hLatentReferenceIdeal := Cert.LatentReferenceIdeal.Gen.facts) := fun m g _ =>
  (θ_run _ _ _).mono (fun r h => ⟨fun c => (h c).2.2.2.2.2.2, sem_eq_zero_of_no_sems (by decide) r.2⟩) (Value.run m g)

/-- The two programs' results agree. -/
theorem algebraic : Cert.algebraic_LatentIdeal_LatentReferenceIdeal (hLatentIdeal := Cert.LatentIdeal.Gen.facts)
    (hLatentReferenceIdeal := Cert.LatentReferenceIdeal.Gen.facts) := by
  intro m g m' g' _ hagree
  refine ⟨fun c => latentQ (m ((c.tc : Thread Cert.LatentIdeal.nD Cert.LatentIdeal.τ).loc Cert.LatentIdeal.main_arg0)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)),
    fun c => latentQ (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)),
    fun c => latentK (m ((c.tc : Thread Cert.LatentIdeal.nD Cert.LatentIdeal.τ).loc Cert.LatentIdeal.main_arg0)) (m ((c.tc : Thread Cert.LatentIdeal.nD Cert.LatentIdeal.τ).loc Cert.LatentIdeal.main_arg2)) (m ((c.tc : Thread Cert.LatentIdeal.nD Cert.LatentIdeal.τ).loc Cert.LatentIdeal.main_arg4)),
    fun c => latentK (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg4)),
    fun c => rotary (m ((c.tc : Thread Cert.LatentIdeal.nD Cert.LatentIdeal.τ).loc Cert.LatentIdeal.main_arg0)) (m ((c.tc : Thread Cert.LatentIdeal.nD Cert.LatentIdeal.τ).loc Cert.LatentIdeal.main_arg2)),
    fun c => rotary (m ((c.tc : Thread Cert.LatentIdeal.nD Cert.LatentIdeal.τ).loc Cert.LatentIdeal.main_arg1)) (m ((c.tc : Thread Cert.LatentIdeal.nD Cert.LatentIdeal.τ).loc Cert.LatentIdeal.main_arg2)), ?_, ?_⟩
  · refine (θ_run _ _ _).mono (fun r hr c => ⟨?_, ?_, ?_, ?_, ?_, ?_, hr.2 c⟩)
      (θ_run_and (Cert.LatentIdeal.Gen.run_main m g) (Cert.LatentIdeal.Gen.unchanged m g))
    · exact ((hr.1 c).2 Cert.LatentIdeal.main_v15 (by decide)).trans (final_queries_prompt m c)
    · exact ((hr.1 c).2 Cert.LatentIdeal.main_v19 (by decide)).trans (final_queries_sample m c)
    · exact ((hr.1 c).2 Cert.LatentIdeal.main_v23 (by decide)).trans (final_keys_prompt m c)
    · exact ((hr.1 c).2 Cert.LatentIdeal.main_v27 (by decide)).trans (final_keys_sample m c)
    · exact ((hr.1 c).2 Cert.LatentIdeal.main_v31 (by decide)).trans (final_rest_prompt m c)
    · exact ((hr.1 c).2 Cert.LatentIdeal.main_v34 (by decide)).trans (final_rest_sample m c)
  · refine (θ_run _ _ _).mono (fun r h c => ⟨?_, ?_, ?_, ?_, ?_, ?_, (h c).2.2.2.2.2.2⟩) (Value.run m' g')
    · obtain ⟨h0, h1, h2, h3, h4⟩ := hagree c
      refine ((h c).1.trans (result_Q_prompt _ _ _)).trans ?_
      rw [h0, h2, h3]
    · obtain ⟨h0, h1, h2, h3, h4⟩ := hagree c
      refine ((h c).2.1.trans (result_Q_sample _ _ _)).trans ?_
      rw [h1, h2, h3]
    · obtain ⟨h0, h1, h2, h3, h4⟩ := hagree c
      refine ((h c).2.2.1.trans (result_K_prompt _ _ _)).trans ?_
      rw [h0, h2, h4]
    · obtain ⟨h0, h1, h2, h3, h4⟩ := hagree c
      refine ((h c).2.2.2.1.trans (result_K_sample _ _ _)).trans ?_
      rw [h1, h2, h4]
    · obtain ⟨h0, h1, h2, h3, h4⟩ := hagree c
      refine ((h c).2.2.2.2.1.trans (result_R_prompt _ _)).trans ?_
      rw [h0, h2]
    · obtain ⟨h0, h1, h2, h3, h4⟩ := hagree c
      refine ((h c).2.2.2.2.2.1.trans (result_R_sample _ _)).trans ?_
      rw [h1, h2]

end Cert.LatentReferenceIdeal.Proof

end
-- ==== Proof.Experts.lean ====
/- What the experts' two products share: the tables of blocks, the choice of each block's expert, and the rows of a block. -/
module

public import proofs.«01_k».proof.Defs
public import Idealize.ShloMosaic.Lib.Pointwise
public import Idealize.ShloMosaic.Lib.ReduceAll
public import Idealize.ShloMosaic.Lib.Affine
public import Idealize.ShloMosaic.Lib.KernelVsHost
public import Idealize.ShloMosaic.PureOps.Ideal

@[expose] public section

set_option maxRecDepth 16384

noncomputable section

namespace Cert.Experts

open Idealize.ShloMosaic

/-! ## The choice of an expert -/

section
variable {α : Type} {N K M B : ℕ}

/-- The choice of one slab of an array of slabs for every block. -/
abbrev slabDims (N K M B : ℕ)
    (wf : GatherDims.WF ⟨3, ![N, K, M]⟩ ⟨2, ![B, 1]⟩ ⟨3, ![B, K, M]⟩ [1, 2] [0] [] [0] [] 1 ![1, K, M]) :
    GatherDims ⟨3, ![N, K, M]⟩ ⟨2, ![B, 1]⟩ ⟨3, ![B, K, M]⟩ where
  offsetDims := [1, 2]
  collapsedSliceDims := [0]
  operandBatchingDims := []
  startIndicesBatchingDims := []
  startIndexMap := [0]
  indexVectorDim := 1
  sliceSizes := ![1, K, M]
  wf := wf

/-- A block's slab is the one its word names, which is clamped into the array. -/
theorem slab_apply (hN : 0 < N)
    (wf : GatherDims.WF ⟨3, ![N, K, M]⟩ ⟨2, ![B, 1]⟩ ⟨3, ![B, K, M]⟩ [1, 2] [0] [] [0] [] 1 ![1, K, M])
    (x : (⟨3, ![N, K, M]⟩ : Shape).Idx → α) (v : IVec ⟨2, ![B, 1]⟩ 32) (b : Fin B) (k : Fin K) (l : Fin M) :
    Host.gather (slabDims N K M B wf) x v (ix3 b k l)
      = x (ix3 ⟨min (v (ix2 b (0 : Fin 1))).toInt.toNat (N - 1), by omega⟩ k l) := by
  unfold Host.gather
  congr 1
  funext a
  refine Fin.ext ?_
  show (slabDims N K M B wf).start (ix3 b k l) v a + (slabDims N K M B wf).batchCoord (ix3 b k l) a
      + (slabDims N K M B wf).offCoord (ix3 b k l) a = _
  rw [GatherDims.batchCoord_eq_zero _ _ _ List.not_mem_nil]
  have hs : (slabDims N K M B wf).siIdx (ix3 b k l) ⟨List.idxOf (0 : Fin 3) (slabDims N K M B wf).startIndexMap,
      List.idxOf_lt_length_iff.2 (List.mem_singleton.mpr rfl)⟩ = ix2 b (0 : Fin 1) := by
    funext q; refine Fin.ext ?_
    match q with
    | ⟨0, _⟩ => rfl
    | ⟨1, _⟩ => rfl
  match a with
  | ⟨0, _⟩ =>
    rw [show (⟨0, by decide⟩ : Fin 3) = 0 from rfl, GatherDims.offCoord_eq_zero _ _ _
      (fun h => ((GatherDims.mem_sKept _ _).mp h).1 (List.mem_singleton.mpr rfl))]
    unfold GatherDims.start
    rw [dif_pos (show (0 : Fin 3) ∈ (slabDims N K M B wf).startIndexMap from List.mem_singleton.mpr rfl), hs]
    rfl
  | ⟨1, _⟩ =>
    unfold GatherDims.start
    rw [dif_neg (show (⟨1, by decide⟩ : Fin 3) ∉ ([0] : List (Fin 3)) from by decide)]
    unfold GatherDims.offCoord
    rw [dif_pos ((GatherDims.mem_sKept _ _).mpr ⟨show (⟨1, by decide⟩ : Fin 3) ∉ ([0] : List (Fin 3)) from by decide, List.not_mem_nil⟩)]
    show 0 + 0 + k.val = k.val
    omega
  | ⟨2, _⟩ =>
    unfold GatherDims.start
    rw [dif_neg (show (⟨2, by decide⟩ : Fin 3) ∉ ([0] : List (Fin 3)) from by decide)]
    unfold GatherDims.offCoord
    rw [dif_pos ((GatherDims.mem_sKept _ _).mpr ⟨show (⟨2, by decide⟩ : Fin 3) ∉ ([0] : List (Fin 3)) from by decide, List.not_mem_nil⟩)]
    show 0 + 0 + l.val = l.val
    omega
end

/-! ## The tables -/

/-- Each block's expert is one of the 64; the first block is flagged, and so is every block whose expert is not that of
    the block before it. -/
structure Tables (expert first : (⟨1, ![161]⟩ : Shape).Idx → BitVec 32) : Prop where
  range : ∀ j, (expert j).toNat < 64
  head : first (ix1 0) = 1#32
  change : ∀ k l : Fin 161, k.val = l.val + 1 → expert (ix1 k) = expert (ix1 l) ∨ first (ix1 k) = 1#32

theorem small_of_signed (v : BitVec 32) (h0 : IntOp.cmpi .sge v 0#32 = 1#1) (h1 : IntOp.cmpi .slt v 64#32 = 1#1) :
    v.toNat < 64 := by
  rw [IntOp.cmpi_sge] at h0
  rw [IntOp.cmpi_slt] at h1
  have e0 : (0#32 : BitVec 32).toInt = 0 := by decide
  have e1 : (64#32 : BitVec 32).toInt = 64 := by decide
  rw [e0] at h0
  rw [e1] at h1
  rw [BitVec.toInt_eq_toNat_cond] at h0 h1
  have := v.isLt
  split at h0 <;> omega

theorem both : ∀ a b : BitVec 1, IntOp.andi a b = 1#1 → a = 1#1 ∧ b = 1#1 := by decide
theorem either : ∀ a b : BitVec 1, IntOp.ori a b = 1#1 → a = 1#1 ∨ b = 1#1 := by decide

/-- A signed word in range is its number. -/
theorem toInt_toNat (v : BitVec 32) (h : v.toNat < 64) : v.toInt.toNat = v.toNat := by
  rw [BitVec.toInt_eq_toNat_cond, if_pos (by omega)]
  rfl

/-- The word the host reads a block's expert by: numbers below zero count from the end. -/
theorem wrapped (v : BitVec 32) (h : v.toNat < 64) :
    Scalar.select (IntOp.cmpi .slt v 0#32) (IntOp.addi v 64#32) v = v := by
  have : ¬ IntOp.cmpi .slt v 0#32 = 1#1 := by
    rw [IntOp.cmpi_slt, BitVec.toInt_eq_toNat_cond, if_pos (by omega)]
    show ¬ ((v.toNat : ℤ) < 0)
    omega
  rw [show IntOp.cmpi .slt v 0#32 = 0#1 from by
    rcases BitVec.eq_zero_or_eq_one (IntOp.cmpi .slt v 0#32) with h | h
    · exact h
    · exact absurd h this]
  rfl

section down
open Cert.Pre_down_experts

theorem down_facts : Cert.Pre_down_experts.Facts where
  bcast_S_S161 := by decide
  reducesTo_S161_S_d0 := by decide
  h_S_ := by decide
  slices_S161_S1_0 := by decide
  bcast_S_S1 := by decide
  reducesTo_S1_S_d0 := by decide
  slices_S161_S160_1 := by decide
  slices_S161_S160_0 := by decide
  bcast_S_S160 := by decide
  reducesTo_S160_S_d0 := by decide

attribute [local instance] down_facts

theorem down_tables {F : FTy → Type} [FloatOps F] (h : FVec F S82432x1024 .bf16) (be fi : IVec S161 32) (n : IVec S1 32)
    (w : FVec F S2x64x1024x4096 .f32) (hp : Cert.Pre_down_experts.fn (F := F) h be fi n w = fun _ => 1#1) : Tables be fi := by
  have h0 := congrFun hp (Shape.Idx.first Facts.h_S_)
  dsimp only [Cert.Pre_down_experts.fn, Cert.Pre_down_experts.fn_part1] at h0
  obtain ⟨h1, h2⟩ := both _ _ h0
  obtain ⟨h3, h4⟩ := both _ _ h1
  obtain ⟨h5, h6⟩ := both _ _ h3
  refine ⟨fun j => ?_, ?_, fun k l e => ?_⟩
  · exact small_of_signed _ (Host.reduce_andi_all _ _ _ _ _ h5 j) (Host.reduce_andi_all _ _ _ _ _ h6 j)
  · have := Host.reduce_andi_all _ _ _ _ _ h4 (ix1 (0 : Fin 1))
    have e : IntOp.cmpi .eq (extractStridedSlice S1 ![0] fi Facts.slices_S161_S1_0 (ix1 (0 : Fin 1))) 1#32 = 1#1 := this
    rw [IntOp.cmpi_eq, extractStridedSlice_apply _ _ _ _ (ix1 (0 : Fin 161)) (fun a => by
      match a with
      | ⟨0, _⟩ => rfl)] at e
    exact e
  · have hl : l.val < 160 := by omega
    have := Host.reduce_andi_all _ _ _ _ _ h2 (ix1 (⟨l.val, hl⟩ : Fin 160))
    have ek : ∀ x : IVec S161 32, extractStridedSlice S160 ![1] x Facts.slices_S161_S160_1 (ix1 (⟨l.val, hl⟩ : Fin 160)) = x (ix1 k) :=
      fun x => extractStridedSlice_apply _ _ _ _ (ix1 k) (fun a => by
        match a with
        | ⟨0, _⟩ => show k.val = 1 + l.val; omega)
    have el : ∀ x : IVec S161 32, extractStridedSlice S160 ![0] x Facts.slices_S161_S160_0 (ix1 (⟨l.val, hl⟩ : Fin 160)) = x (ix1 l) :=
      fun x => extractStridedSlice_apply _ _ _ _ (ix1 l) (fun a => by
        match a with
        | ⟨0, _⟩ => show l.val = 0 + l.val; omega)
    rcases either _ _ this with e1 | e1
    · have e2 : IntOp.cmpi .eq (extractStridedSlice S160 ![1] be Facts.slices_S161_S160_1 (ix1 (⟨l.val, hl⟩ : Fin 160)))
        (extractStridedSlice S160 ![0] be Facts.slices_S161_S160_0 (ix1 (⟨l.val, hl⟩ : Fin 160))) = 1#1 := e1
      rw [IntOp.cmpi_eq, ek, el] at e2
      exact .inl e2
    · have e2 : IntOp.cmpi .eq (extractStridedSlice S160 ![1] fi Facts.slices_S161_S160_1 (ix1 (⟨l.val, hl⟩ : Fin 160))) 1#32 = 1#1 := e1
      rw [IntOp.cmpi_eq, ek] at e2
      exact .inr e2

end down

section up
open Cert.Pre_up_experts

theorem up_facts : Cert.Pre_up_experts.Facts where
  bcast_S_S161 := by decide
  reducesTo_S161_S_d0 := by decide
  h_S_ := by decide
  slices_S161_S1_0 := by decide
  bcast_S_S1 := by decide
  reducesTo_S1_S_d0 := by decide
  slices_S161_S160_1 := by decide
  slices_S161_S160_0 := by decide
  bcast_S_S160 := by decide
  reducesTo_S160_S_d0 := by decide

attribute [local instance] up_facts

theorem up_tables {F : FTy → Type} [FloatOps F] (h : FVec F S82432x4096 .bf16) (be fi : IVec S161 32) (n : IVec S1 32)
    (w w' : FVec F S2x64x4096x1024 .f32) (hp : Cert.Pre_up_experts.fn (F := F) h be fi n w w' = fun _ => 1#1) : Tables be fi := by
  have h0 := congrFun hp (Shape.Idx.first Facts.h_S_)
  dsimp only [Cert.Pre_up_experts.fn, Cert.Pre_up_experts.fn_part1] at h0
  obtain ⟨h1, h2⟩ := both _ _ h0
  obtain ⟨h3, h4⟩ := both _ _ h1
  obtain ⟨h5, h6⟩ := both _ _ h3
  refine ⟨fun j => ?_, ?_, fun k l e => ?_⟩
  · exact small_of_signed _ (Host.reduce_andi_all _ _ _ _ _ h5 j) (Host.reduce_andi_all _ _ _ _ _ h6 j)
  · have := Host.reduce_andi_all _ _ _ _ _ h4 (ix1 (0 : Fin 1))
    have e : IntOp.cmpi .eq (extractStridedSlice S1 ![0] fi Facts.slices_S161_S1_0 (ix1 (0 : Fin 1))) 1#32 = 1#1 := this
    rw [IntOp.cmpi_eq, extractStridedSlice_apply _ _ _ _ (ix1 (0 : Fin 161)) (fun a => by
      match a with
      | ⟨0, _⟩ => rfl)] at e
    exact e
  · have hl : l.val < 160 := by omega
    have := Host.reduce_andi_all _ _ _ _ _ h2 (ix1 (⟨l.val, hl⟩ : Fin 160))
    have ek : ∀ x : IVec S161 32, extractStridedSlice S160 ![1] x Facts.slices_S161_S160_1 (ix1 (⟨l.val, hl⟩ : Fin 160)) = x (ix1 k) :=
      fun x => extractStridedSlice_apply _ _ _ _ (ix1 k) (fun a => by
        match a with
        | ⟨0, _⟩ => show k.val = 1 + l.val; omega)
    have el : ∀ x : IVec S161 32, extractStridedSlice S160 ![0] x Facts.slices_S161_S160_0 (ix1 (⟨l.val, hl⟩ : Fin 160)) = x (ix1 l) :=
      fun x => extractStridedSlice_apply _ _ _ _ (ix1 l) (fun a => by
        match a with
        | ⟨0, _⟩ => show l.val = 0 + l.val; omega)
    rcases either _ _ this with e1 | e1
    · have e2 : IntOp.cmpi .eq (extractStridedSlice S160 ![1] be Facts.slices_S161_S160_1 (ix1 (⟨l.val, hl⟩ : Fin 160)))
        (extractStridedSlice S160 ![0] be Facts.slices_S161_S160_0 (ix1 (⟨l.val, hl⟩ : Fin 160))) = 1#1 := e1
      rw [IntOp.cmpi_eq, ek, el] at e2
      exact .inl e2
    · have e2 : IntOp.cmpi .eq (extractStridedSlice S160 ![1] fi Facts.slices_S161_S160_1 (ix1 (⟨l.val, hl⟩ : Fin 160))) 1#32 = 1#1 := e1
      rw [IntOp.cmpi_eq, ek] at e2
      exact .inr e2

end up

/-! ## Rows of blocks -/

/-- The block of a row. -/
def blockOf (R : Fin 82432) : Fin 161 := ⟨R.val / 512, by omega⟩
/-- A row's number in its block. -/
def rowOf (R : Fin 82432) : Fin 512 := ⟨R.val % 512, by omega⟩

/-- An array of blocks read by rows. -/
theorem rows_apply {α : Type} {n : ℕ} (x : (⟨3, ![161, 512, n]⟩ : Shape).Idx → α)
    (h : (⟨3, ![161, 512, n]⟩ : Shape).ShapeCasts ⟨2, ![82432, n]⟩) (R : Fin 82432) (k : Fin n) :
    shapeCast ⟨2, ![82432, n]⟩ x h (ix2 R k) = x (ix3 (blockOf R) (rowOf R) k) :=
  shapeCast_apply _ _ _ (ix3 (blockOf R) (rowOf R) k) (by
    rw [rowMajor_val3 _ (512 * n) n rfl rfl, rowMajor_val2 _ n rfl]
    show R.val / 512 * (512 * n) + R.val % 512 * n + k.val = R.val * n + k.val
    have := Nat.div_add_mod R.val 512
    calc R.val / 512 * (512 * n) + R.val % 512 * n + k.val = (512 * (R.val / 512) + R.val % 512) * n + k.val := by ring
      _ = _ := by rw [this])

/-- An array of rows read by blocks. -/
theorem blocks_apply {α : Type} {n : ℕ} (x : (⟨2, ![82432, n]⟩ : Shape).Idx → α)
    (h : (⟨2, ![82432, n]⟩ : Shape).ShapeCasts ⟨3, ![161, 512, n]⟩) (R : Fin 82432) (k : Fin n) :
    shapeCast ⟨3, ![161, 512, n]⟩ x h (ix3 (blockOf R) (rowOf R) k) = x (ix2 R k) :=
  shapeCast_apply _ _ _ (ix2 R k) (by
    rw [rowMajor_val3 _ (512 * n) n rfl rfl, rowMajor_val2 _ n rfl]
    show R.val * n + k.val = R.val / 512 * (512 * n) + R.val % 512 * n + k.val
    have := Nat.div_add_mod R.val 512
    calc R.val * n + k.val = (512 * (R.val / 512) + R.val % 512) * n + k.val := by rw [this]
      _ = _ := by ring)

/-- A block's slab of an array of two layers' slabs. -/
def slabOf (expert : (⟨1, ![161]⟩ : Shape).Idx → BitVec 32) (b : Fin 161) : Fin 64 :=
  ⟨min (expert (ix1 b)).toNat 63, by omega⟩

theorem slabOf_val (expert : (⟨1, ![161]⟩ : Shape).Idx → BitVec 32) (h : ∀ j, (expert j).toNat < 64) (b : Fin 161) :
    (slabOf expert b).val = (expert (ix1 b)).toNat := by
  show min (expert (ix1 b)).toNat 63 = _
  have := h (ix1 b)
  omega

/-- Whether a block is used. -/
def isUsed (n : (⟨1, ![1]⟩ : Shape).Idx → BitVec 32) (b : Fin 161) : BitVec 1 :=
  IntOp.cmpi .slt (BitVec.ofNat 32 b.val) (n (ix1 0))

/-- The first layer's weights of every block's expert. -/
theorem chosen_apply {K M : ℕ} (w : (⟨4, ![2, 64, K, M]⟩ : Shape).Idx → EReal) (v : IVec ⟨1, ![161]⟩ 32)
    (hc : (⟨4, ![2, 64, K, M]⟩ : Shape).Slices ![0, 0, 0, 0] ⟨4, ![1, 64, K, M]⟩)
    (hs : (⟨4, ![1, 64, K, M]⟩ : Shape).ShapeCasts ⟨3, ![64, K, M]⟩)
    (wf : GatherDims.WF ⟨3, ![64, K, M]⟩ ⟨2, ![161, 1]⟩ ⟨3, ![161, K, M]⟩ [1, 2] [0] [] [0] [] 1 ![1, K, M])
    (u : IVec ⟨2, ![161, 1]⟩ 32) (hu : ∀ b : Fin 161, u (ix2 b (0 : Fin 1)) = v (ix1 b)) (hv : ∀ j, (v j).toNat < 64)
    (b : Fin 161) (k : Fin K) (l : Fin M) :
    Host.gather (slabDims 64 K M 161 wf) (shapeCast ⟨3, ![64, K, M]⟩ (extractStridedSlice ⟨4, ![1, 64, K, M]⟩ ![0, 0, 0, 0] w hc) hs) u
      (ix3 b k l) = w (ix4 0 (slabOf v b) k l) := by
  rw [slab_apply (by decide)]
  have e : (⟨min (u (ix2 b (0 : Fin 1))).toInt.toNat (64 - 1), by omega⟩ : Fin 64) = slabOf v b := Fin.ext (by
    show min (u (ix2 b (0 : Fin 1))).toInt.toNat 63 = min (v (ix1 b)).toNat 63
    rw [hu, toInt_toNat _ (hv _)])
  rw [e, shapeCast_apply _ _ _ (ix4 (0 : Fin 1) (slabOf v b) k l) (by
    rw [rowMajor_val4 _ (64 * (K * M)) (K * M) M rfl rfl rfl, rowMajor_val3 _ (K * M) M rfl rfl]
    show 0 * (64 * (K * M)) + (slabOf v b).val * (K * M) + k.val * M + l.val = (slabOf v b).val * (K * M) + k.val * M + l.val
    ring)]
  exact extractStridedSlice_apply _ _ _ _ _ (fun a => by
    match a with
    | ⟨0, _⟩ => rfl
    | ⟨1, _⟩ => show (slabOf v b).val = 0 + (slabOf v b).val; omega
    | ⟨2, _⟩ => show k.val = 0 + k.val; omega
    | ⟨3, _⟩ => show l.val = 0 + l.val; omega)

end Cert.Experts

end
-- ==== Proof.UpStep.lean ====
/- The experts' gated up-projections at any tables of blocks: a grid point is a block of rows against a slab of its
   expert's gate weights and one of its up weights. Both narrowed slabs are kept between points; they are made at the block
   flagged as its expert's first and used again until the expert changes. Here: what the three control paths leave, the
   invariant, and the launch. -/
module

public import proofs.«01_k».proof.Defs
public import proofs.«01_k».proof.Proof.Gen.UpIdeal
public import proofs.«01_k».proof.Proof.Gen.UpIdeal.Launch
public import proofs.«01_k».proof.Proof.Gen.UpIdeal.Flash.Runs
public import Idealize.ShloMosaic.Lib.Pipeline.Quiescent
public import Idealize.ShloMosaic.Lib.Claim
public import Idealize.ShloMosaic.Lib.Pipeline.Kit
public import Idealize.ShloMosaic.Lib.Pipeline.ValueKit
public import Idealize.ShloMosaic.Lib.Pipeline.TableIdle
public import Idealize.ShloMosaic.Lib.Pipeline.FrameBody
public import Idealize.ShloMosaic.Lib.Tactic
public import Idealize.ShloMosaic.Lib.VecWindow
public import Idealize.ShloMosaic.PureOps.Ideal
public import Idealize.ShloMosaic.Adequacy
public import Idealize.ShloMosaic.Init

@[expose] public section

set_option maxRecDepth 16384

noncomputable section

namespace Cert.UpIdeal.Step

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra's type. -/
local notation "𝕄" => MT nD τ sig Unit (Elt Ideal) ℕ (UR sig nD τ) ℕ

/-- The staging cells' part of the resource algebra, which is all of it. -/
abbrev cells : Emb (UR sig nD τ) 𝕄 := emb₁

/-! ## The tables -/

/-- The tables the call is launched at: each block's expert, whether the block is its expert's first, and how many blocks
    are used; with what the precondition says of them. -/
structure Tables where
  expert : S161.Idx → Elt Ideal .i32
  first : S161.Idx → Elt Ideal .i32
  used : S1.Idx → Elt Ideal .i32
  range : ∀ j, BitVec.toNat (expert j) < 64
  head : first (ix1 0) = (1#32 : BitVec 32)
  change : ∀ k l : Fin 161, k.val = l.val + 1 → expert (ix1 k) = expert (ix1 l) ∨ first (ix1 k) = (1#32 : BitVec 32)

variable (T : Tables)

set_option backward.proofsInPublic true in
/-- The tables as the pipeline reads them. -/
def contents : pre0.Contents (Elt Ideal) :=
  fun | ⟨0, _⟩ => T.expert | ⟨1, _⟩ => T.first | ⟨2, _⟩ => T.used | ⟨_ + 3, h⟩ => absurd h (by simp)

/-- The word a load of one block's entry reads. -/
theorem entry_eq (i : grid0.Coords) (x : S161.Idx → BitVec 32)
    (h : ∀ a, (k0_off2 i) a + S1.size a ≤ S161.size a) :
    View.readAt (Elt Ideal) (tbM0_1).view (Rect.unit (s := S161) (k0_off2 i) S1.size h).toLoadRect x (Shape.Idx.first (numel1_S1.symm ▸ Nat.one_pos)) = x (ix1 (i 1)) := by
  show x _ = x _
  congr 1
  funext a
  apply Fin.ext
  match a with
  | ⟨0, _⟩ =>
    show (BitVec.ofNat 32 (i 1).val).toNat + 1 * 0 = (i 1).val
    rw [BitVec.toNat_ofNat, Nat.mod_eq_of_lt (Nat.lt_trans (i 1).isLt (by decide))]
    rfl

/-- The word a load of the number of used blocks reads. -/
theorem count_eq (x : S1.Idx → BitVec 32) :
    View.readAt (Elt Ideal) (tbM0_2).view (Rect.unit (s := S1) ![0] S1.size inb_S1_S1_0).toLoadRect x (Shape.Idx.first (numel1_S1.symm ▸ Nat.one_pos)) = x (ix1 0) := by
  show x _ = x _
  congr 1
  funext a
  apply Fin.ext
  match a with
  | ⟨0, _⟩ => rfl

/-- A slab's place in the weights. -/
theorem slab_eq (i : grid0.Coords) :
    cc0_transform_1 k0_off1_inb numel1_S1 (contents T) i = ![0, (T.expert (ix1 (i 1)) : BitVec 32).toNat, 0, (i 0).val] := by
  have hw : (contents T).at 0 (Rect.unit (s := S161) ![(Scalar.indexCast (BitVec.ofNat 32 (i 1).val) : BitVec 32).toNat] S1.size (k0_off1_inb i)) numel1_S1
      = (T.expert (ix1 (i 1)) : BitVec 32) := by
    show T.expert _ = T.expert _
    congr 1
    funext a
    apply Fin.ext
    match a with
    | ⟨0, _⟩ =>
      show (BitVec.ofNat 32 (i 1).val).toNat + 1 * 0 = (i 1).val
      rw [BitVec.toNat_ofNat, Nat.mod_eq_of_lt (Nat.lt_trans (i 1).isLt (by decide))]
      rfl
  have h0 : (BitVec.ofNat 32 (i 0).val).toNat = (i 0).val := by
    rw [BitVec.toNat_ofNat, Nat.mod_eq_of_lt (Nat.lt_trans (i 0).isLt (by decide))]
  unfold cc0_transform_1
  show ![(0#32).toNat, BitVec.toNat ((contents T).at 0 _ _), (0#32).toNat, (BitVec.ofNat 32 (i 0).val).toNat] = _
  rw [h0]
  exact congrArg (fun w : BitVec 32 => ![0, w.toNat, 0, (i 0).val]) hw

/-- The up weights are cut as the gate weights. -/
theorem slab_eq' (i : grid0.Coords) :
    cc0_transform_2 k0_off1_inb numel1_S1 (contents T) i = ![0, (T.expert (ix1 (i 1)) : BitVec 32).toNat, 0, (i 0).val] :=
  (show cc0_transform_2 k0_off1_inb numel1_S1 (contents T) i = cc0_transform_1 k0_off1_inb numel1_S1 (contents T) i from rfl).trans (slab_eq T i)

/-- Every slab lies inside the weights. -/
theorem fits (i : grid0.Coords) (f : Fin 4 → ℕ) (hf : f = ![0, (T.expert (ix1 (i 1)) : BitVec 32).toNat, 0, (i 0).val]) (a : Fin 4) :
    (f a + 1) * S1x1x4096x512.size a ≤ S2x64x4096x1024.size a := by
  subst hf
  have h0 : (i 0).val < 2 := (i 0).isLt
  have h1 : (T.expert (ix1 (i 1)) : BitVec 32).toNat < 64 := T.range _
  match a with
  | ⟨0, _⟩ => show (0 + 1) * 1 ≤ 2; decide
  | ⟨1, _⟩ => show ((T.expert (ix1 (i 1)) : BitVec 32).toNat + 1) * 1 ≤ 64; omega
  | ⟨2, _⟩ => show (0 + 1) * 4096 ≤ 4096; decide
  | ⟨3, _⟩ => show ((i 0).val + 1) * 512 ≤ 1024; omega

theorem inside : ok0 (F := Ideal) (contents T) :=
  ⟨fun i => ⟨fun a => fits T i _ (slab_eq T i) a, .inl rfl⟩, fun i => ⟨fun a => fits T i _ (slab_eq' T i) a, .inl rfl⟩⟩

/-- The pipeline at the tables. -/
def adm : (pcfg0 (F := Ideal)).Adm := ⟨contents T, inside T⟩
abbrev cfgT : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- A grid point's coordinates: the half of the columns, and the block of rows. -/
abbrev crd (t : Fin (cfgT T).N) : grid0.Coords := grid0.coords t

abbrev rows (t : Fin (cfgT T).N) : Memref sig .tc .vmem S512x4096 .bf16 := spec0_0.stage ((cfgT T).slots t (0 : Fin 4))
abbrev rows_whole (t : Fin (cfgT T).N) : (rows T t).IsWhole := hstage0_0 (((cfgT T).slots t (0 : Fin 4)).cast nbuf0_0)
abbrev slab (t : Fin (cfgT T).N) : Memref sig .tc .vmem S1x1x4096x512 .f32 := spec0_1.stage ((cfgT T).slots t (1 : Fin 4))
abbrev slab_whole (t : Fin (cfgT T).N) : (slab T t).IsWhole := hstage0_1 (((cfgT T).slots t (1 : Fin 4)).cast nbuf0_1)
abbrev slab' (t : Fin (cfgT T).N) : Memref sig .tc .vmem S1x1x4096x512 .f32 := spec0_2.stage ((cfgT T).slots t (2 : Fin 4))
abbrev slab_whole' (t : Fin (cfgT T).N) : (slab' T t).IsWhole := hstage0_2 (((cfgT T).slots t (2 : Fin 4)).cast nbuf0_2)
abbrev outs (t : Fin (cfgT T).N) : Memref sig .tc .vmem S512x512 .bf16 := spec0_3.stage ((cfgT T).slots t (3 : Fin 4))
abbrev outs_whole (t : Fin (cfgT T).N) : (outs T t).IsWhole := hstage0_3 (((cfgT T).slots t (3 : Fin 4)).cast nbuf0_3)

/-- A window's block at a grid point, of the launch's memory. -/
def blk (c : Dev nD) (w : Fin (cfgT T).W) (t : Fin (cfgT T).N) :
    (((cfgT T).win w).xblock ((cfgT T).grid.coords t)).Idx → Elt Ideal ((cfgT T).win w).elt :=
  (((cfgT T).win w).blk t).view.read (Elt Ideal) (m (((cfgT T).win w).arr.view.loc (c : Thread nD τ)))

/-! ## The control at a grid point -/

/-- The block is used. -/
abbrev Used (i : grid0.Coords) : Prop := k0_cond1 i (View.readAt (Elt Ideal) (tbM0_2).view (Rect.unit (s := S1) ![0] S1.size inb_S1_S1_0).toLoadRect T.used (Shape.Idx.first (numel1_S1.symm ▸ Nat.one_pos))) = 1#1
/-- The block is used, as the body asks the second time. -/
abbrev Unused (i : grid0.Coords) : Prop := k0_cond3 i (View.readAt (Elt Ideal) (tbM0_2).view (Rect.unit (s := S1) ![0] S1.size inb_S1_S1_0).toLoadRect T.used (Shape.Idx.first (numel1_S1.symm ▸ Nat.one_pos))) = 1#1
/-- The block is flagged as its expert's first. -/
abbrev Flagged (i : grid0.Coords) : Prop := (Scalar.cmpi .ne (Scalar.extui (Scalar.cmpi .eq (View.readAt (Elt Ideal) (tbM0_1).view (Rect.unit (s := S161) (k0_off2 i) S1.size (k0_off2_inb i)).toLoadRect T.first (Shape.Idx.first (numel1_S1.symm ▸ Nat.one_pos))) 1#32)) 0#32) = 1#1

theorem cond1_iff (i : grid0.Coords) (w : BitVec 32) : k0_cond1 i w = 1#1 ↔ (BitVec.ofNat 32 (i 1).val).slt w = true := by
  show (IntOp.cmpi .ne (BitVec.setWidth 32 (BitVec.ofBool ((BitVec.ofNat 32 (i 1).val).slt w))) 0#32 = 1#1) ↔ _
  generalize (BitVec.ofNat 32 (i 1).val).slt w = p
  revert p
  decide

theorem cond3_iff (i : grid0.Coords) (w : BitVec 32) : k0_cond3 i w = 1#1 ↔ ¬ k0_cond1 i w = 1#1 := by
  rw [cond1_iff]
  show (IntOp.cmpi .ne (BitVec.setWidth 32 (BitVec.ofBool (w.sle (BitVec.ofNat 32 (i 1).val)))) 0#32 = 1#1) ↔ _
  rw [show w.sle (BitVec.ofNat 32 (i 1).val) = !((BitVec.ofNat 32 (i 1).val).slt w) from BitVec.sle_eq_not_slt]
  generalize (BitVec.ofNat 32 (i 1).val).slt w = p
  revert p
  decide

theorem flag_iff (v : BitVec 32) : Scalar.cmpi .ne (Scalar.extui (Scalar.cmpi .eq v 1#32) : BitVec 32) 0#32 = 1#1 ↔ v = 1#32 := by
  show (IntOp.cmpi .ne (BitVec.setWidth 32 (BitVec.ofBool (v == 1#32))) 0#32 = 1#1) ↔ _
  rw [← beq_iff_eq (a := v)]
  generalize (v == 1#32) = p
  clear v
  revert p
  decide

theorem flagged_iff (i : grid0.Coords) : Flagged T i ↔ T.first (ix1 (i 1)) = (1#32 : BitVec 32) := by
  unfold Flagged
  rw [entry_eq]
  exact flag_iff _

/-- The output's window is written at every grid point. -/
theorem not_idle (t : Fin (cfgT T).N) : (cfgT T).idle (3 : Fin 4) ((cfgT T).grid.coords t) = false := by
  show (!(k0_cond1 (crd T t) ((contents T).atD 2 ![0]) == 1#1) && !(k0_cond3 (crd T t) ((contents T).atD 2 ![0]) == 1#1)) = false
  generalize ((contents T).atD 2 ![0] : BitVec 32) = w
  have h := cond3_iff (crd T t) w
  by_cases h1 : k0_cond1 (crd T t) w = 1#1
  · rw [h1]; rfl
  · rw [h.mpr h1]; simp

/-! ## What the three paths leave -/

theorem made (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (h1 : Used T i) (hc : Flagged T i) (h3 : ¬ Unused T i) :
    out0_A_3 c i arg5 harg5 arg6 harg6 arg7 harg7 arg8 harg8 T.expert T.first T.used x0 x1 x2 h1 hc h3 = k0_pay3 x0 (k0_pay1 x1) (k0_pay2 x2) := by
  frame_out
  rw [View.read_rep, View.read_rep, View.read_rep]

theorem made_scratch (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (h1 : Used T i) (hc : Flagged T i) (h3 : ¬ Unused T i) :
    scM0_0.view.read (Elt Ideal) (kernelRun0_A c i arg5 harg5 arg6 harg6 arg7 harg7 arg8 harg8 T.expert T.first T.used x0 x1 x2 h1 hc h3).2.1 = k0_pay1 x1 := by
  unfold kernelRun0_A
  dsimp only
  unfold kernelRun0_A.sl.HS0_1
  exact (View.read_writes_full _ _ _ _ _).trans (congrArg (k0_pay1 (F := Ideal)) (View.readAt_rep_full _ _ _))

theorem made_scratch' (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (h1 : Used T i) (hc : Flagged T i) (h3 : ¬ Unused T i) :
    scM0_1.view.read (Elt Ideal) (kernelRun0_A c i arg5 harg5 arg6 harg6 arg7 harg7 arg8 harg8 T.expert T.first T.used x0 x1 x2 h1 hc h3).2.2.1 = k0_pay2 x2 := by
  unfold kernelRun0_A
  dsimp only
  unfold kernelRun0_A.sl.HS1_1
  exact (View.read_writes_full _ _ _ _ _).trans (congrArg (k0_pay2 (F := Ideal)) (View.readAt_rep_full _ _ _))

theorem kept (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (a : Buf (Elt Ideal) ((c : Thread nD τ).loc cc0_scratch0)) (b : Buf (Elt Ideal) ((c : Thread nD τ).loc cc0_scratch1)) (h1 : Used T i) (hc : ¬ Flagged T i) (h3 : ¬ Unused T i) :
    out0_B_3 c i arg5 harg5 arg6 harg6 arg7 harg7 arg8 harg8 T.expert T.first T.used x0 x1 x2 a b h1 hc h3 = k0_pay3 x0 (scM0_0.view.read (Elt Ideal) a) (scM0_1.view.read (Elt Ideal) b) := by
  frame_out
  rw [View.read_rep]

theorem kept_scratch (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (a : Buf (Elt Ideal) ((c : Thread nD τ).loc cc0_scratch0)) (b : Buf (Elt Ideal) ((c : Thread nD τ).loc cc0_scratch1)) (h1 : Used T i) (hc : ¬ Flagged T i) (h3 : ¬ Unused T i) :
    (kernelRun0_B c i arg5 harg5 arg6 harg6 arg7 harg7 arg8 harg8 T.expert T.first T.used x0 x1 x2 a b h1 hc h3).2.1 = a := by
  unfold kernelRun0_B
  rfl

theorem kept_scratch' (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (a : Buf (Elt Ideal) ((c : Thread nD τ).loc cc0_scratch0)) (b : Buf (Elt Ideal) ((c : Thread nD τ).loc cc0_scratch1)) (h1 : Used T i) (hc : ¬ Flagged T i) (h3 : ¬ Unused T i) :
    (kernelRun0_B c i arg5 harg5 arg6 harg6 arg7 harg7 arg8 harg8 T.expert T.first T.used x0 x1 x2 a b h1 hc h3).2.2.1 = b := by
  unfold kernelRun0_B
  rfl

theorem zeroed (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Ideal .bf16) (x1 : S1x1x4096x512.Idx → Elt Ideal .f32) (x2 : S1x1x4096x512.Idx → Elt Ideal .f32) (a : Buf (Elt Ideal) ((c : Thread nD τ).loc cc0_scratch0)) (b : Buf (Elt Ideal) ((c : Thread nD τ).loc cc0_scratch1)) (h1 : ¬ Used T i) (h3 : Unused T i) :
    out0_C_3 c i arg5 harg5 arg6 harg6 arg7 harg7 arg8 harg8 T.expert T.first T.used x0 x1 x2 a b h1 h3 = k0_pay4 (F := Ideal) := by
  frame_out

/-! ## One point and the next -/

theorem crd_val : ∀ t : Fin grid0.N, (grid0.coords t 0).val = t.val / 161 ∧ (grid0.coords t 1).val = t.val % 161 := by
  decide +kernel

/-- A slab of the gate weights: its expert's rows, and its half of the columns. -/
theorem slab_at (c : Dev nD) (t : Fin (cfgT T).N) (y : S1x1x4096x512.Idx) (e : Fin 64) (l : Fin 1024)
    (he : e.val = (T.expert (ix1 (crd T t 1)) : BitVec 32).toNat) (hl : l.val = 512 * (crd T t 0).val + (y 3).val) :
    blk T m c (1 : Fin 4) t y = m ((c : Thread nD τ).loc main_arg4) (ix4 (0 : Fin 2) e (y 2) l) := by
  have h0 : (y 0).val < 1 := (y 0).isLt
  have h1 : (y 1).val < 1 := (y 1).isLt
  unfold blk
  rw [View.read_apply]
  show m ((c : Thread nD τ).loc main_arg4) _ = m ((c : Thread nD τ).loc main_arg4) _
  congr 1
  funext a
  apply Fin.ext
  match a with
  | ⟨0, _⟩ =>
    show cc0_transform_1 k0_off1_inb numel1_S1 (contents T) (crd T t) 0 * 1 + 1 * (y 0).val = 0
    rw [slab_eq]
    show 0 * 1 + 1 * (y 0).val = 0
    omega
  | ⟨1, _⟩ =>
    show cc0_transform_1 k0_off1_inb numel1_S1 (contents T) (crd T t) 1 * 1 + 1 * (y 1).val = e.val
    rw [slab_eq, he]
    show (T.expert (ix1 (crd T t 1)) : BitVec 32).toNat * 1 + 1 * (y 1).val = _
    omega
  | ⟨2, _⟩ =>
    show cc0_transform_1 k0_off1_inb numel1_S1 (contents T) (crd T t) 2 * 4096 + 1 * (y 2).val = (y 2).val
    rw [slab_eq]
    show 0 * 4096 + 1 * (y 2).val = (y 2).val
    omega
  | ⟨3, _⟩ =>
    show cc0_transform_1 k0_off1_inb numel1_S1 (contents T) (crd T t) 3 * 512 + 1 * (y 3).val = l.val
    rw [slab_eq, hl]
    show (crd T t 0).val * 512 + 1 * (y 3).val = _
    omega

/-- A slab of the up weights, likewise. -/
theorem slab_at' (c : Dev nD) (t : Fin (cfgT T).N) (y : S1x1x4096x512.Idx) (e : Fin 64) (l : Fin 1024)
    (he : e.val = (T.expert (ix1 (crd T t 1)) : BitVec 32).toNat) (hl : l.val = 512 * (crd T t 0).val + (y 3).val) :
    blk T m c (2 : Fin 4) t y = m ((c : Thread nD τ).loc main_arg5) (ix4 (0 : Fin 2) e (y 2) l) := by
  have h0 : (y 0).val < 1 := (y 0).isLt
  have h1 : (y 1).val < 1 := (y 1).isLt
  unfold blk
  rw [View.read_apply]
  show m ((c : Thread nD τ).loc main_arg5) _ = m ((c : Thread nD τ).loc main_arg5) _
  congr 1
  funext a
  apply Fin.ext
  match a with
  | ⟨0, _⟩ =>
    show cc0_transform_2 k0_off1_inb numel1_S1 (contents T) (crd T t) 0 * 1 + 1 * (y 0).val = 0
    rw [slab_eq']
    show 0 * 1 + 1 * (y 0).val = 0
    omega
  | ⟨1, _⟩ =>
    show cc0_transform_2 k0_off1_inb numel1_S1 (contents T) (crd T t) 1 * 1 + 1 * (y 1).val = e.val
    rw [slab_eq', he]
    show (T.expert (ix1 (crd T t 1)) : BitVec 32).toNat * 1 + 1 * (y 1).val = _
    omega
  | ⟨2, _⟩ =>
    show cc0_transform_2 k0_off1_inb numel1_S1 (contents T) (crd T t) 2 * 4096 + 1 * (y 2).val = (y 2).val
    rw [slab_eq']
    show 0 * 4096 + 1 * (y 2).val = (y 2).val
    omega
  | ⟨3, _⟩ =>
    show cc0_transform_2 k0_off1_inb numel1_S1 (contents T) (crd T t) 3 * 512 + 1 * (y 3).val = l.val
    rw [slab_eq', hl]
    show (crd T t 0).val * 512 + 1 * (y 3).val = _
    omega

/-- Two points of one expert and one half of the columns have one slab of each. -/
theorem same_slab (c : Dev nD) (s t : Fin (cfgT T).N) (h0 : (crd T s 0).val = (crd T t 0).val)
    (h1 : T.expert (ix1 (crd T s 1)) = T.expert (ix1 (crd T t 1))) : blk T m c (1 : Fin 4) s = blk T m c (1 : Fin 4) t := by
  funext y
  have hj : (crd T t 0).val < 2 := (crd T t 0).isLt
  have hy : (y 3).val < 512 := (y 3).isLt
  exact (slab_at T m c s y ⟨(T.expert (ix1 (crd T s 1)) : BitVec 32).toNat, T.range _⟩
      ⟨512 * (crd T t 0).val + (y 3).val, by omega⟩ rfl (by rw [h0])).trans
    (slab_at T m c t y ⟨(T.expert (ix1 (crd T s 1)) : BitVec 32).toNat, T.range _⟩
      ⟨512 * (crd T t 0).val + (y 3).val, by omega⟩ (by rw [← h1]) rfl).symm

theorem same_slab' (c : Dev nD) (s t : Fin (cfgT T).N) (h0 : (crd T s 0).val = (crd T t 0).val)
    (h1 : T.expert (ix1 (crd T s 1)) = T.expert (ix1 (crd T t 1))) : blk T m c (2 : Fin 4) s = blk T m c (2 : Fin 4) t := by
  funext y
  have hj : (crd T t 0).val < 2 := (crd T t 0).isLt
  have hy : (y 3).val < 512 := (y 3).isLt
  exact (slab_at' T m c s y ⟨(T.expert (ix1 (crd T s 1)) : BitVec 32).toNat, T.range _⟩
      ⟨512 * (crd T t 0).val + (y 3).val, by omega⟩ rfl (by rw [h0])).trans
    (slab_at' T m c t y ⟨(T.expert (ix1 (crd T s 1)) : BitVec 32).toNat, T.range _⟩
      ⟨512 * (crd T t 0).val + (y 3).val, by omega⟩ (by rw [← h1]) rfl).symm

/-- Which blocks are used. -/
theorem used_iff (i : grid0.Coords) : Used T i ↔ (BitVec.ofNat 32 (i 1).val).slt (T.used (ix1 0)) = true := by
  unfold Used
  rw [count_eq]
  exact cond1_iff _ _

theorem slt_of_le {a b : ℕ} (w : BitVec 32) (h : a ≤ b) (hb : b < 161) (hs : (BitVec.ofNat 32 b).slt w = true) :
    (BitVec.ofNat 32 a).slt w = true := by
  rw [BitVec.slt_iff_toInt_lt] at hs ⊢
  have e : ∀ n < 161, (BitVec.ofNat 32 n).toInt = n := by decide +kernel
  rw [e b hb] at hs
  rw [e a (by omega)]
  omega

/-- Before a used block that is not flagged stands a used block of the same expert. -/
theorem before_it (c : Dev nD) (t : Fin (cfgT T).N) (h1 : Used T (crd T t)) (hc : ¬ Flagged T (crd T t)) :
    ∃ s : Fin (cfgT T).N, s.val + 1 = t.val ∧ Used T (crd T s)
      ∧ blk T m c (1 : Fin 4) s = blk T m c (1 : Fin 4) t ∧ blk T m c (2 : Fin 4) s = blk T m c (2 : Fin 4) t := by
  obtain ⟨e0, e1⟩ := crd_val t
  have hN : t.val < 322 := t.isLt
  have hne : (crd T t 1).val ≠ 0 := fun h => hc ((flagged_iff T _).mpr (by
    have : crd T t 1 = (0 : Fin 161) := Fin.ext h
    rw [this]
    exact T.head))
  have hs : t.val - 1 < (cfgT T).N := Nat.lt_of_le_of_lt (Nat.sub_le _ _) t.isLt
  obtain ⟨f0, f1⟩ := crd_val ⟨t.val - 1, hs⟩
  have g0 : (crd T ⟨t.val - 1, hs⟩ 0).val = (crd T t 0).val := by
    show (grid0.coords ⟨t.val - 1, hs⟩ 0).val = (grid0.coords t 0).val
    have : (grid0.coords t 1).val ≠ 0 := hne
    rw [f0, e0]
    show (t.val - 1) / 161 = t.val / 161
    omega
  have g1 : (crd T t 1).val = (crd T ⟨t.val - 1, hs⟩ 1).val + 1 := by
    show (grid0.coords t 1).val = (grid0.coords ⟨t.val - 1, hs⟩ 1).val + 1
    have : (grid0.coords t 1).val ≠ 0 := hne
    rw [f1, e1]
    show t.val % 161 = (t.val - 1) % 161 + 1
    omega
  refine ⟨⟨t.val - 1, hs⟩, ?_, ?_, ?_⟩
  · have : (grid0.coords t 1).val ≠ 0 := hne
    show t.val - 1 + 1 = t.val
    omega
  · rw [used_iff] at h1 ⊢
    exact slt_of_le _ (by omega) (crd T t 1).isLt h1
  · have he : T.expert (ix1 (crd T ⟨t.val - 1, hs⟩ 1)) = T.expert (ix1 (crd T t 1)) := by
      rcases T.change (crd T t 1) (crd T ⟨t.val - 1, hs⟩ 1) g1 with h | h
      · exact h.symm
      · exact absurd ((flagged_iff T _).mpr h) hc
    exact ⟨same_slab T m c _ _ g0 he, same_slab' T m c _ _ g0 he⟩

/-! ## The pipeline's proof data -/

/-- What a point leaves in its block of the output. -/
def left (c : Dev nD) (t : Fin (cfgT T).N) : S512x512.Idx → Elt Ideal .bf16 :=
  open Classical in
  if Used T (crd T t) then k0_pay3 (F := Ideal) (blk T m c (0 : Fin 4) t) (k0_pay1 (F := Ideal) (blk T m c (1 : Fin 4) t)) (k0_pay2 (F := Ideal) (blk T m c (2 : Fin 4) t)) else k0_pay4 (F := Ideal)

theorem left_used (c : Dev nD) (t : Fin (cfgT T).N) (h : Used T (crd T t)) :
    left T m c t = k0_pay3 (F := Ideal) (blk T m c (0 : Fin 4) t) (k0_pay1 (F := Ideal) (blk T m c (1 : Fin 4) t)) (k0_pay2 (F := Ideal) (blk T m c (2 : Fin 4) t)) := if_pos h
theorem left_unused (c : Dev nD) (t : Fin (cfgT T).N) (h : ¬ Used T (crd T t)) : left T m c t = k0_pay4 (F := Ideal) := if_neg h

/-- The narrowed slabs are the point before's, if that one was used. -/
def Ready (c : Dev nD) (t : Fin ((cfgT T).N + 1)) (a : Buf (Elt Ideal) ((c : Thread nD τ).loc cc0_scratch0)) (b : Buf (Elt Ideal) ((c : Thread nD τ).loc cc0_scratch1)) : Prop :=
  ∀ s : Fin (cfgT T).N, s.val + 1 = t.val → Used T (crd T s) →
    scM0_0.view.read (Elt Ideal) a = k0_pay1 (F := Ideal) (blk T m c (1 : Fin 4) s)
      ∧ scM0_1.view.read (Elt Ideal) b = k0_pay2 (F := Ideal) (blk T m c (2 : Fin 4) s)

theorem ready_succ (c : Dev nD) (t : Fin (cfgT T).N) (a : Buf (Elt Ideal) ((c : Thread nD τ).loc cc0_scratch0)) (b : Buf (Elt Ideal) ((c : Thread nD τ).loc cc0_scratch1))
    (h : Used T (crd T t) → scM0_0.view.read (Elt Ideal) a = k0_pay1 (F := Ideal) (blk T m c (1 : Fin 4) t)
      ∧ scM0_1.view.read (Elt Ideal) b = k0_pay2 (F := Ideal) (blk T m c (2 : Fin 4) t)) : Ready T m c t.succ a b := by
  intro s hs hu
  have e : s = t := Fin.ext (by rw [Fin.val_succ] at hs; omega)
  subst e
  exact h hu

theorem ready_here (c : Dev nD) (t : Fin (cfgT T).N) (a : Buf (Elt Ideal) ((c : Thread nD τ).loc cc0_scratch0)) (b : Buf (Elt Ideal) ((c : Thread nD τ).loc cc0_scratch1))
    (h : Ready T m c t.castSucc a b) (h1 : Used T (crd T t)) (hc : ¬ Flagged T (crd T t)) :
    scM0_0.view.read (Elt Ideal) a = k0_pay1 (F := Ideal) (blk T m c (1 : Fin 4) t)
      ∧ scM0_1.view.read (Elt Ideal) b = k0_pay2 (F := Ideal) (blk T m c (2 : Fin 4) t) := by
  obtain ⟨s, hs, hu, e, e'⟩ := before_it T m c t h1 hc
  rw [← e, ← e']
  exact h s (hs.trans (Fin.val_castSucc t).symm) hu

/-- The invariant before a point: the narrowed slabs, and the body's halves of the tables. -/
def Phi (c : Dev nD) (t : Fin ((cfgT T).N + 1)) : sProp 𝕄 :=
  iprop((∃ a b, ⌜Ready T m c t a b⌝ ∗ (scM0_0.view.loc (c : Thread nD τ) ↦{fullShare} a) ∗ (scM0_1.view.loc (c : Thread nD τ) ↦{fullShare} b)) ∗ (tbM0_0.view.loc (c : Thread nD τ) ↦{fullShare.right} T.expert) ∗ (tbM0_1.view.loc (c : Thread nD τ) ↦{fullShare.right} T.first) ∗ (tbM0_2.view.loc (c : Thread nD τ) ↦{fullShare.right} T.used))

/-- The proof data. -/
def dats (_ : Fin 1) (c : Dev nD) : Dat τ (Elt Ideal) Unit ℕ (UR sig nD τ) ℕ (cfgT T) c where
  A w := m (((cfgT T).win w).arr.view.loc (c : Thread nD τ))
  after w t := match w with
    | ⟨0, _⟩ => blk T m c (0 : Fin 4) t
    | ⟨1, _⟩ => blk T m c (1 : Fin 4) t
    | ⟨2, _⟩ => blk T m c (2 : Fin 4) t
    | ⟨3, _⟩ => left T m c t
  Φ t := Phi T m c t
  q _ := fullShare
  owed _ := 0

theorem after_rows (c : Dev nD) (t : Fin (cfgT T).N) : (dats T m 0 c).after (0 : Fin 4) t = blk T m c (0 : Fin 4) t := rfl
theorem after_slab (c : Dev nD) (t : Fin (cfgT T).N) : (dats T m 0 c).after (1 : Fin 4) t = blk T m c (1 : Fin 4) t := rfl
theorem after_slab' (c : Dev nD) (t : Fin (cfgT T).N) : (dats T m 0 c).after (2 : Fin 4) t = blk T m c (2 : Fin 4) t := rfl
theorem after_outs (c : Dev nD) (t : Fin (cfgT T).N) : (dats T m 0 c).after (3 : Fin 4) t = left T m c t := rfl

theorem before_rows (c : Dev nD) (t : Fin (cfgT T).N) (d) : (dats T m 0 c).before (0 : Fin 4) t d = blk T m c (0 : Fin 4) t :=
  ((dats T m 0 c).before_in_eq_fetched (0 : Fin 4) rfl (fun _ => rfl) (fun _ _ _ => rfl) (fun t => by rw [after_rows]; unfold Dat.blockOf blk; rfl) t d).trans
    (by unfold Dat.fetched Dat.blockOf blk; rfl)
theorem before_slab (c : Dev nD) (t : Fin (cfgT T).N) (d) : (dats T m 0 c).before (1 : Fin 4) t d = blk T m c (1 : Fin 4) t :=
  ((dats T m 0 c).before_in_eq_fetched (1 : Fin 4) rfl (fun _ => rfl) (fun _ _ _ => rfl) (fun t => by rw [after_slab]; unfold Dat.blockOf blk; rfl) t d).trans
    (by unfold Dat.fetched Dat.blockOf blk; rfl)
theorem before_slab' (c : Dev nD) (t : Fin (cfgT T).N) (d) : (dats T m 0 c).before (2 : Fin 4) t d = blk T m c (2 : Fin 4) t :=
  ((dats T m 0 c).before_in_eq_fetched (2 : Fin 4) rfl (fun _ => rfl) (fun _ _ _ => rfl) (fun t => by rw [after_slab']; unfold Dat.blockOf blk; rfl) t d).trans
    (by unfold Dat.fetched Dat.blockOf blk; rfl)

/-! ## The body at a point -/

/-- The body at a point, as the pipeline calls it. -/
abbrev bodyAt (t : Fin (cfgT T).N) : Prog (TpuEff nD τ sig (Elt Ideal) Λ₀ .tc) PUnit :=
  cc0_moe_expert_up (crd T t) (Memref.whole main_arg1) (Memref.isWhole_whole _) (Memref.whole main_arg2) (Memref.isWhole_whole _) (Memref.whole main_arg3) (Memref.isWhole_whole _) (rows T t) (rows_whole T t) (slab T t) (slab_whole T t) (slab' T t) (slab_whole' T t) (outs T t) (outs_whole T t) (Memref.whole cc0_scratch0) (Memref.isWhole_whole _) (Memref.whole cc0_scratch1) (Memref.isWhole_whole _)

set_option maxHeartbeats 4000000 in
/-- At every point the body turns the invariant and the windows' buffers into the next point's. -/
theorem body_at (c : Dev nD) (t : Fin (cfgT T).N) :
    iprop((dats T m 0 c).Φ t.castSucc ∗ (dats T m 0 c).owesAt () t.castSucc
        ∗ (∃ d, owns (c : Thread nD τ) (rows T t) fullShare ((dats T m 0 c).before (0 : Fin 4) t d))
        ∗ (∃ d, owns (c : Thread nD τ) (slab T t) fullShare ((dats T m 0 c).before (1 : Fin 4) t d))
        ∗ (∃ d, owns (c : Thread nD τ) (slab' T t) fullShare ((dats T m 0 c).before (2 : Fin 4) t d))
        ∗ (∃ d, owns (c : Thread nD τ) (outs T t) fullShare ((dats T m 0 c).before (3 : Fin 4) t d)))
      ⊢ wp frame (wpE (defs₀ (F := Ideal)) Variants.none c none) Set.univ (bodyAt T t) fun _ =>
          iprop((dats T m 0 c).Φ t.succ ∗ (dats T m 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m 0 c).before w t d))
                  | true => owns (c : Thread nD τ) (((cfgT T).win w).stage ((cfgT T).slots t w)) fullShare ((dats T m 0 c).after w t)
                | false => owns (c : Thread nD τ) (((cfgT T).win w).stage ((cfgT T).slots t w)) fullShare ((dats T m 0 c).after w t)) := by
  rw [bigSep_W0]
  rewrite [not_idle]
  simp only [before_rows, before_slab, before_slab', after_rows, after_slab, after_slab', after_outs]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi
  by_cases q0 : Used T (crd T t)
  · have q3 : ¬ Unused T (crd T t) := fun h => (cond3_iff _ _).mp h q0
    by_cases q1 : Flagged T (crd T t)
    · iintro ⟨⟨⟨%a0, %b0, %ha0, HS0, HS1⟩, HT0, HT1, HT2⟩, Ho, ⟨%d0, H0⟩, ⟨%d1, H1⟩, ⟨%d2, H2⟩, ⟨%d3, H3⟩⟩
      iapply ((kernelRun0_A c (crd T t) (rows T t) (rows_whole T t) (slab T t) (slab_whole T t) (slab' T t) (slab_whole' T t) (outs T t) (outs_whole T t) T.expert T.first T.used (blk T m c (0 : Fin 4) t) (blk T m c (1 : Fin 4) t) (blk T m c (2 : Fin 4) t) q0 q1 q3).2.2.2 a0 b0 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, ⟨%e3, H3⟩, HS0, HS1⟩
      isplitl [HS0 HS1 HT0 HT1 HT2]
      · isplitl [HS0 HS1]
        · iexists _, _; isplitr; swap
          · isplitl [HS0]
            · iexact HS0
            iexact HS1
          · ipureintro; exact ready_succ T m c t _ _ fun _ => ⟨made_scratch T c _ _ _ _ _ _ _ _ _ _ _ _ _ _ _, made_scratch' T c _ _ _ _ _ _ _ _ _ _ _ _ _ _ _⟩
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_A_3 c _ _ _ _ _ _ _ _ _ _ _ _ _ _ _ _ _ _)).trans
          ((made T c _ _ _ _ _ _ _ _ _ _ _ _ _ _ _).trans (left_used T m c t q0).symm)
    · iintro ⟨⟨⟨%a0, %b0, %ha0, HS0, HS1⟩, HT0, HT1, HT2⟩, Ho, ⟨%d0, H0⟩, ⟨%d1, H1⟩, ⟨%d2, H2⟩, ⟨%d3, H3⟩⟩
      have hr := ready_here T m c t a0 b0 ha0 q0 q1
      iapply ((kernelRun0_B c (crd T t) (rows T t) (rows_whole T t) (slab T t) (slab_whole T t) (slab' T t) (slab_whole' T t) (outs T t) (outs_whole T t) T.expert T.first T.used (blk T m c (0 : Fin 4) t) (blk T m c (1 : Fin 4) t) (blk T m c (2 : Fin 4) t) a0 b0 q0 q1 q3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, ⟨%e3, H3⟩, HS0, HS1⟩
      isplitl [HS0 HS1 HT0 HT1 HT2]
      · isplitl [HS0 HS1]
        · iexists _, _; isplitr; swap
          · isplitl [HS0]
            · iexact HS0
            iexact HS1
          · ipureintro; exact ready_succ T m c t _ _ fun _ => ⟨(congrArg _ (kept_scratch T c _ _ _ _ _ _ _ _ _ _ _ _ _ _ _ _ _)).trans hr.1, (congrArg _ (kept_scratch' T c _ _ _ _ _ _ _ _ _ _ _ _ _ _ _ _ _)).trans hr.2⟩
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_B_3 c _ _ _ _ _ _ _ _ _ _ _ _ _ _ _ _ _ _ _ _)).trans
          ((kept T c _ _ _ _ _ _ _ _ _ _ _ _ _ _ _ _ _).trans ((congrArg₂ (k0_pay3 (F := Ideal) (blk T m c (0 : Fin 4) t)) hr.1 hr.2).trans (left_used T m c t q0).symm))
  · have q3 : Unused T (crd T t) := (cond3_iff _ _).mpr q0
    iintro ⟨⟨⟨%a0, %b0, %ha0, HS0, HS1⟩, HT0, HT1, HT2⟩, Ho, ⟨%d0, H0⟩, ⟨%d1, H1⟩, ⟨%d2, H2⟩, ⟨%d3, H3⟩⟩
    iapply ((kernelRun0_C c (crd T t) (rows T t) (rows_whole T t) (slab T t) (slab_whole T t) (slab' T t) (slab_whole' T t) (outs T t) (outs_whole T t) T.expert T.first T.used (blk T m c (0 : Fin 4) t) (blk T m c (1 : Fin 4) t) (blk T m c (2 : Fin 4) t) a0 b0 q0 q3).2.2.2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexists _; iexact H3
    isplitl [HS0]; · iexact HS0
    isplitl [HS1]; · iexact HS1
    iintro ⟨H0, H1, H2, HT0, HT1, HT2, ⟨%e3, H3⟩, HS0, HS1⟩
    isplitl [HS0 HS1 HT0 HT1 HT2]
    · isplitl [HS0 HS1]
      · iexists _, _; isplitr; swap
        · isplitl [HS0]
          · iexact HS0
          iexact HS1
        · ipureintro; exact ready_succ T m c t _ _ fun h => absurd h q0
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_of_cover _ _ _ _ _ (cover0_C_3 c _ _ _ _ _ _ _ _ _ _ _ _ _ _ _ _ _ _ _)).trans
        ((zeroed T c _ _ _ _ _ _ _ _ _ _ _ _ _ _ _ _).trans (left_unused T m c t q0).symm)

theorem body_everywhere (c : Dev nD) : BodyObligation (dats T m 0 c) (defs₀ (F := Ideal)) Variants.none () Set.univ := fun t => by
  rw [bigSep_W0]
  exact body_at T m c t

/-! ## The launch -/

/-- The launch memory holds the tables. -/
def Launched : Prop :=
  (∀ c : Dev nD, m ((c : Thread nD τ).loc main_arg1) = T.expert)
  ∧ (∀ c : Dev nD, m ((c : Thread nD τ).loc main_arg2) = T.first)
  ∧ (∀ c : Dev nD, m ((c : Thread nD τ).loc main_arg3) = T.used)

/-- The element the launch starts from. -/
def start : UR sig nD τ :=
  initOf (Pipeline.cells (pcs T) ((launch0 (F := Ideal)).cellOf_inj fun _ => adm T))
    (Pipeline.launchToks (pcs T) ((launch0 (F := Ideal)).cellOf_inj fun _ => adm T))

theorem whole_share (c : Dev nD) (w : Fin (cfgT T).W) : (dats T m 0 c).share w = fullShare := by unfold Dat.share; split <;> rfl

/-- The three tables, one by one. -/
theorem tables_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m 0 c).Φ 0 := by
  rw [tables_eq, scopedRest0_eq, show (dats T m 0 c).Φ 0 = Phi T m c 0 from rfl]
  unfold Phi
  iintro ⟨-, ⟨HT0, HT1, HT2⟩, ⟨%a0, HS0⟩, ⟨%b0, HS1⟩⟩
  isplitl [HS0 HS1]
  · iexists a0, b0; isplitr; swap
    · isplitl [HS0]
      · iexact HS0
      iexact HS1
    · ipureintro; intro s hs; exact absurd hs (Nat.succ_ne_zero _)
  isplitl [HT0]
  · iexact HT0
  isplitl [HT1]
  · iexact HT1
  iexact HT2

theorem phi_last (c : Dev nD) : (dats T m 0 c).Φ (Fin.last (cfgT T).N) ⊢ iprop(BI.emp ∗ Pipeline.scopedRest spec0 c) := by
  rw [scopedRest0_eq, show (dats T m 0 c).Φ (Fin.last (cfgT T).N) = Phi T m c (Fin.last _) from rfl]
  unfold Phi
  iintro ⟨⟨%a0, %b0, -, HS0, HS1⟩, -, -, -⟩
  isplitr; · iempintro
  isplitl [HS0]
  · iexists a0; iexact HS0
  iexists b0; iexact HS1

/-- What the launch leaves: every array at its computed contents, every table as it was. -/
def Leaves : PUnit × MemSt nD τ sig (Elt Ideal) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

theorem at_launch (hp : Launched T m) (c : Dev nD) (j : Fin 3) : m ((c : Thread nD τ).loc (pre0.ref j)) = (adm T).1 j := by
  fin_cases j
  · exact hp.1 c
  · exact hp.2.1 c
  · exact hp.2.2 c

set_option backward.isDefEq.respectTransparency.types false in
set_option maxHeartbeats 4000000 in
theorem runs (hp : Launched T m) : θ_run (defs (F := Ideal)) (onTc (τ := τ) (main (F := Ideal))) ⟨m, fun _ => 0, ρ⟩ (fun r => Leaves T m r ∧ r.2.sem = fun _ => 0) :=
  Pipeline.θ_run_region_noSem_pf_quiescent pcfgs (fun _ => adm T) (dats T m) () ((launch0 (F := Ideal)).cellOf_inj fun _ => adm T) (0 : Fin 1)
    (launch0 (F := Ideal)).win.to₀ (launch0 (F := Ideal)).pre cells defs₀ Variants.none m ρ main
    (hbody := fun c => (body_everywhere T m c).loose) (hne := (launch0 (F := Ideal)).block_pos)
    (harr := (launch0 (F := Ideal)).arr_whole) (hstage := (launch0 (F := Ideal)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Ideal)).win.arr_inj c (launch0 (F := Ideal)).arr_whole
      (whole_share T m c) _ _ fun _ => rfl)
    (hpf := at_launch T m hp)
    (X := fun _ => iprop(emp)) (Y := fun _ => iprop(emp)) (Z := fun _ => iprop(emp))
    (hX := fun c => by rw [unscopedRestP0_eq]; iintro -; isplitr <;> iempintro)
    (hin := phi_first T m)
    (hout := phi_last T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem framed (hp : Launched T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 4)).trans ((dats T m 0 c).arrAt_in (0 : Fin 4) rfl _),
    ((h.1 c).2 0).trans (hp.1 c).symm, ((h.1 c).2 1).trans (hp.2.1 c).symm, ((h.1 c).2 2).trans (hp.2.2 c).symm,
    ((h.1 c).1 (1 : Fin 4)).trans ((dats T m 0 c).arrAt_in (1 : Fin 4) rfl _), ((h.1 c).1 (2 : Fin 4)).trans ((dats T m 0 c).arrAt_in (2 : Fin 4) rfl _)⟩, h.2⟩) (runs T m ρ hp)

end Cert.UpIdeal.Step
-- ==== Proof.UpStepBits.lean ====
/- The experts' gated up-projections in the machine's floats, as Proof/UpStep.lean has them over the extended reals: a grid point is a block of rows against a slab of its
   expert's gate weights and one of its up weights. Both narrowed slabs are kept between points; they are made at the block
   flagged as its expert's first and used again until the expert changes. Here: what the three control paths leave, the
   invariant, and the launch. -/
module

public import proofs.«01_k».proof.Defs
public import proofs.«01_k».proof.Proof.Gen.Up
public import proofs.«01_k».proof.Proof.Gen.Up.Launch
public import proofs.«01_k».proof.Proof.Gen.Up.Flash.Runs
public import Idealize.ShloMosaic.Lib.Pipeline.Quiescent
public import Idealize.ShloMosaic.Lib.Claim
public import Idealize.ShloMosaic.Lib.Pipeline.Kit
public import Idealize.ShloMosaic.Lib.Pipeline.ValueKit
public import Idealize.ShloMosaic.Lib.Pipeline.TableIdle
public import Idealize.ShloMosaic.Lib.Pipeline.FrameBody
public import Idealize.ShloMosaic.Lib.Tactic
public import Idealize.ShloMosaic.Lib.VecWindow
public import Idealize.ShloMosaic.Adequacy
public import Idealize.ShloMosaic.Init

@[expose] public section

set_option maxRecDepth 16384

noncomputable section

namespace Cert.Up.Step

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra's type. -/
local notation "𝕄" => MT nD τ sig Unit (Elt Bits) ℕ (UR sig nD τ) ℕ

/-- The staging cells' part of the resource algebra, which is all of it. -/
abbrev cells : Emb (UR sig nD τ) 𝕄 := emb₁

/-! ## The tables -/

/-- The tables the call is launched at: each block's expert, whether the block is its expert's first, and how many blocks
    are used; with what the precondition says of them. -/
structure Tables where
  expert : S161.Idx → Elt Bits .i32
  first : S161.Idx → Elt Bits .i32
  used : S1.Idx → Elt Bits .i32
  range : ∀ j, BitVec.toNat (expert j) < 64
  head : first (ix1 0) = (1#32 : BitVec 32)
  change : ∀ k l : Fin 161, k.val = l.val + 1 → expert (ix1 k) = expert (ix1 l) ∨ first (ix1 k) = (1#32 : BitVec 32)

variable (T : Tables)

set_option backward.proofsInPublic true in
/-- The tables as the pipeline reads them. -/
def contents : pre0.Contents (Elt Bits) :=
  fun | ⟨0, _⟩ => T.expert | ⟨1, _⟩ => T.first | ⟨2, _⟩ => T.used | ⟨_ + 3, h⟩ => absurd h (by simp)

/-- The word a load of one block's entry reads. -/
theorem entry_eq (i : grid0.Coords) (x : S161.Idx → BitVec 32)
    (h : ∀ a, (k0_off2 i) a + S1.size a ≤ S161.size a) :
    View.readAt (Elt Bits) (tbM0_1).view (Rect.unit (s := S161) (k0_off2 i) S1.size h).toLoadRect x (Shape.Idx.first (numel1_S1.symm ▸ Nat.one_pos)) = x (ix1 (i 1)) := by
  show x _ = x _
  congr 1
  funext a
  apply Fin.ext
  match a with
  | ⟨0, _⟩ =>
    show (BitVec.ofNat 32 (i 1).val).toNat + 1 * 0 = (i 1).val
    rw [BitVec.toNat_ofNat, Nat.mod_eq_of_lt (Nat.lt_trans (i 1).isLt (by decide))]
    rfl

/-- The word a load of the number of used blocks reads. -/
theorem count_eq (x : S1.Idx → BitVec 32) :
    View.readAt (Elt Bits) (tbM0_2).view (Rect.unit (s := S1) ![0] S1.size inb_S1_S1_0).toLoadRect x (Shape.Idx.first (numel1_S1.symm ▸ Nat.one_pos)) = x (ix1 0) := by
  show x _ = x _
  congr 1
  funext a
  apply Fin.ext
  match a with
  | ⟨0, _⟩ => rfl

/-- A slab's place in the weights. -/
theorem slab_eq (i : grid0.Coords) :
    cc0_transform_1 k0_off1_inb numel1_S1 (contents T) i = ![0, (T.expert (ix1 (i 1)) : BitVec 32).toNat, 0, (i 0).val] := by
  have hw : (contents T).at 0 (Rect.unit (s := S161) ![(Scalar.indexCast (BitVec.ofNat 32 (i 1).val) : BitVec 32).toNat] S1.size (k0_off1_inb i)) numel1_S1
      = (T.expert (ix1 (i 1)) : BitVec 32) := by
    show T.expert _ = T.expert _
    congr 1
    funext a
    apply Fin.ext
    match a with
    | ⟨0, _⟩ =>
      show (BitVec.ofNat 32 (i 1).val).toNat + 1 * 0 = (i 1).val
      rw [BitVec.toNat_ofNat, Nat.mod_eq_of_lt (Nat.lt_trans (i 1).isLt (by decide))]
      rfl
  have h0 : (BitVec.ofNat 32 (i 0).val).toNat = (i 0).val := by
    rw [BitVec.toNat_ofNat, Nat.mod_eq_of_lt (Nat.lt_trans (i 0).isLt (by decide))]
  unfold cc0_transform_1
  show ![(0#32).toNat, BitVec.toNat ((contents T).at 0 _ _), (0#32).toNat, (BitVec.ofNat 32 (i 0).val).toNat] = _
  rw [h0]
  exact congrArg (fun w : BitVec 32 => ![0, w.toNat, 0, (i 0).val]) hw

/-- The up weights are cut as the gate weights. -/
theorem slab_eq' (i : grid0.Coords) :
    cc0_transform_2 k0_off1_inb numel1_S1 (contents T) i = ![0, (T.expert (ix1 (i 1)) : BitVec 32).toNat, 0, (i 0).val] :=
  (show cc0_transform_2 k0_off1_inb numel1_S1 (contents T) i = cc0_transform_1 k0_off1_inb numel1_S1 (contents T) i from rfl).trans (slab_eq T i)

/-- Every slab lies inside the weights. -/
theorem fits (i : grid0.Coords) (f : Fin 4 → ℕ) (hf : f = ![0, (T.expert (ix1 (i 1)) : BitVec 32).toNat, 0, (i 0).val]) (a : Fin 4) :
    (f a + 1) * S1x1x4096x512.size a ≤ S2x64x4096x1024.size a := by
  subst hf
  have h0 : (i 0).val < 2 := (i 0).isLt
  have h1 : (T.expert (ix1 (i 1)) : BitVec 32).toNat < 64 := T.range _
  match a with
  | ⟨0, _⟩ => show (0 + 1) * 1 ≤ 2; decide
  | ⟨1, _⟩ => show ((T.expert (ix1 (i 1)) : BitVec 32).toNat + 1) * 1 ≤ 64; omega
  | ⟨2, _⟩ => show (0 + 1) * 4096 ≤ 4096; decide
  | ⟨3, _⟩ => show ((i 0).val + 1) * 512 ≤ 1024; omega

theorem inside : ok0 (F := Bits) (contents T) :=
  ⟨fun i => ⟨fun a => fits T i _ (slab_eq T i) a, .inl rfl⟩, fun i => ⟨fun a => fits T i _ (slab_eq' T i) a, .inl rfl⟩⟩

/-- The pipeline at the tables. -/
def adm : (pcfg0 (F := Bits)).Adm := ⟨contents T, inside T⟩
abbrev cfgT : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- A grid point's coordinates: the half of the columns, and the block of rows. -/
abbrev crd (t : Fin (cfgT T).N) : grid0.Coords := grid0.coords t

abbrev rows (t : Fin (cfgT T).N) : Memref sig .tc .vmem S512x4096 .bf16 := spec0_0.stage ((cfgT T).slots t (0 : Fin 4))
abbrev rows_whole (t : Fin (cfgT T).N) : (rows T t).IsWhole := hstage0_0 (((cfgT T).slots t (0 : Fin 4)).cast nbuf0_0)
abbrev slab (t : Fin (cfgT T).N) : Memref sig .tc .vmem S1x1x4096x512 .f32 := spec0_1.stage ((cfgT T).slots t (1 : Fin 4))
abbrev slab_whole (t : Fin (cfgT T).N) : (slab T t).IsWhole := hstage0_1 (((cfgT T).slots t (1 : Fin 4)).cast nbuf0_1)
abbrev slab' (t : Fin (cfgT T).N) : Memref sig .tc .vmem S1x1x4096x512 .f32 := spec0_2.stage ((cfgT T).slots t (2 : Fin 4))
abbrev slab_whole' (t : Fin (cfgT T).N) : (slab' T t).IsWhole := hstage0_2 (((cfgT T).slots t (2 : Fin 4)).cast nbuf0_2)
abbrev outs (t : Fin (cfgT T).N) : Memref sig .tc .vmem S512x512 .bf16 := spec0_3.stage ((cfgT T).slots t (3 : Fin 4))
abbrev outs_whole (t : Fin (cfgT T).N) : (outs T t).IsWhole := hstage0_3 (((cfgT T).slots t (3 : Fin 4)).cast nbuf0_3)

/-- A window's block at a grid point, of the launch's memory. -/
def blk (c : Dev nD) (w : Fin (cfgT T).W) (t : Fin (cfgT T).N) :
    (((cfgT T).win w).xblock ((cfgT T).grid.coords t)).Idx → Elt Bits ((cfgT T).win w).elt :=
  (((cfgT T).win w).blk t).view.read (Elt Bits) (m (((cfgT T).win w).arr.view.loc (c : Thread nD τ)))

/-! ## The control at a grid point -/

/-- The block is used. -/
abbrev Used (i : grid0.Coords) : Prop := k0_cond1 i (View.readAt (Elt Bits) (tbM0_2).view (Rect.unit (s := S1) ![0] S1.size inb_S1_S1_0).toLoadRect T.used (Shape.Idx.first (numel1_S1.symm ▸ Nat.one_pos))) = 1#1
/-- The block is used, as the body asks the second time. -/
abbrev Unused (i : grid0.Coords) : Prop := k0_cond3 i (View.readAt (Elt Bits) (tbM0_2).view (Rect.unit (s := S1) ![0] S1.size inb_S1_S1_0).toLoadRect T.used (Shape.Idx.first (numel1_S1.symm ▸ Nat.one_pos))) = 1#1
/-- The block is flagged as its expert's first. -/
abbrev Flagged (i : grid0.Coords) : Prop := (Scalar.cmpi .ne (Scalar.extui (Scalar.cmpi .eq (View.readAt (Elt Bits) (tbM0_1).view (Rect.unit (s := S161) (k0_off2 i) S1.size (k0_off2_inb i)).toLoadRect T.first (Shape.Idx.first (numel1_S1.symm ▸ Nat.one_pos))) 1#32)) 0#32) = 1#1

theorem cond1_iff (i : grid0.Coords) (w : BitVec 32) : k0_cond1 i w = 1#1 ↔ (BitVec.ofNat 32 (i 1).val).slt w = true := by
  show (IntOp.cmpi .ne (BitVec.setWidth 32 (BitVec.ofBool ((BitVec.ofNat 32 (i 1).val).slt w))) 0#32 = 1#1) ↔ _
  generalize (BitVec.ofNat 32 (i 1).val).slt w = p
  revert p
  decide

theorem cond3_iff (i : grid0.Coords) (w : BitVec 32) : k0_cond3 i w = 1#1 ↔ ¬ k0_cond1 i w = 1#1 := by
  rw [cond1_iff]
  show (IntOp.cmpi .ne (BitVec.setWidth 32 (BitVec.ofBool (w.sle (BitVec.ofNat 32 (i 1).val)))) 0#32 = 1#1) ↔ _
  rw [show w.sle (BitVec.ofNat 32 (i 1).val) = !((BitVec.ofNat 32 (i 1).val).slt w) from BitVec.sle_eq_not_slt]
  generalize (BitVec.ofNat 32 (i 1).val).slt w = p
  revert p
  decide

theorem flag_iff (v : BitVec 32) : Scalar.cmpi .ne (Scalar.extui (Scalar.cmpi .eq v 1#32) : BitVec 32) 0#32 = 1#1 ↔ v = 1#32 := by
  show (IntOp.cmpi .ne (BitVec.setWidth 32 (BitVec.ofBool (v == 1#32))) 0#32 = 1#1) ↔ _
  rw [← beq_iff_eq (a := v)]
  generalize (v == 1#32) = p
  clear v
  revert p
  decide

theorem flagged_iff (i : grid0.Coords) : Flagged T i ↔ T.first (ix1 (i 1)) = (1#32 : BitVec 32) := by
  unfold Flagged
  rw [entry_eq]
  exact flag_iff _

/-- The output's window is written at every grid point. -/
theorem not_idle (t : Fin (cfgT T).N) : (cfgT T).idle (3 : Fin 4) ((cfgT T).grid.coords t) = false := by
  show (!(k0_cond1 (crd T t) ((contents T).atD 2 ![0]) == 1#1) && !(k0_cond3 (crd T t) ((contents T).atD 2 ![0]) == 1#1)) = false
  generalize ((contents T).atD 2 ![0] : BitVec 32) = w
  have h := cond3_iff (crd T t) w
  by_cases h1 : k0_cond1 (crd T t) w = 1#1
  · rw [h1]; rfl
  · rw [h.mpr h1]; simp

/-! ## What the three paths leave -/

theorem made (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (h1 : Used T i) (hc : Flagged T i) (h3 : ¬ Unused T i) :
    out0_A_3 c i arg5 harg5 arg6 harg6 arg7 harg7 arg8 harg8 T.expert T.first T.used x0 x1 x2 h1 hc h3 = k0_pay3 x0 (k0_pay1 x1) (k0_pay2 x2) := by
  frame_out
  rw [View.read_rep, View.read_rep, View.read_rep]

theorem made_scratch (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (h1 : Used T i) (hc : Flagged T i) (h3 : ¬ Unused T i) :
    scM0_0.view.read (Elt Bits) (kernelRun0_A c i arg5 harg5 arg6 harg6 arg7 harg7 arg8 harg8 T.expert T.first T.used x0 x1 x2 h1 hc h3).2.1 = k0_pay1 x1 := by
  unfold kernelRun0_A
  dsimp only
  unfold kernelRun0_A.sl.HS0_1
  exact (View.read_writes_full _ _ _ _ _).trans (congrArg (k0_pay1 (F := Bits)) (View.readAt_rep_full _ _ _))

theorem made_scratch' (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (h1 : Used T i) (hc : Flagged T i) (h3 : ¬ Unused T i) :
    scM0_1.view.read (Elt Bits) (kernelRun0_A c i arg5 harg5 arg6 harg6 arg7 harg7 arg8 harg8 T.expert T.first T.used x0 x1 x2 h1 hc h3).2.2.1 = k0_pay2 x2 := by
  unfold kernelRun0_A
  dsimp only
  unfold kernelRun0_A.sl.HS1_1
  exact (View.read_writes_full _ _ _ _ _).trans (congrArg (k0_pay2 (F := Bits)) (View.readAt_rep_full _ _ _))

theorem kept (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (a : Buf (Elt Bits) ((c : Thread nD τ).loc cc0_scratch0)) (b : Buf (Elt Bits) ((c : Thread nD τ).loc cc0_scratch1)) (h1 : Used T i) (hc : ¬ Flagged T i) (h3 : ¬ Unused T i) :
    out0_B_3 c i arg5 harg5 arg6 harg6 arg7 harg7 arg8 harg8 T.expert T.first T.used x0 x1 x2 a b h1 hc h3 = k0_pay3 x0 (scM0_0.view.read (Elt Bits) a) (scM0_1.view.read (Elt Bits) b) := by
  frame_out
  rw [View.read_rep]

theorem kept_scratch (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (a : Buf (Elt Bits) ((c : Thread nD τ).loc cc0_scratch0)) (b : Buf (Elt Bits) ((c : Thread nD τ).loc cc0_scratch1)) (h1 : Used T i) (hc : ¬ Flagged T i) (h3 : ¬ Unused T i) :
    (kernelRun0_B c i arg5 harg5 arg6 harg6 arg7 harg7 arg8 harg8 T.expert T.first T.used x0 x1 x2 a b h1 hc h3).2.1 = a := by
  unfold kernelRun0_B
  rfl

theorem kept_scratch' (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (a : Buf (Elt Bits) ((c : Thread nD τ).loc cc0_scratch0)) (b : Buf (Elt Bits) ((c : Thread nD τ).loc cc0_scratch1)) (h1 : Used T i) (hc : ¬ Flagged T i) (h3 : ¬ Unused T i) :
    (kernelRun0_B c i arg5 harg5 arg6 harg6 arg7 harg7 arg8 harg8 T.expert T.first T.used x0 x1 x2 a b h1 hc h3).2.2.1 = b := by
  unfold kernelRun0_B
  rfl

theorem zeroed (c : Dev nD) (i : grid0.Coords) (arg5 : Memref sig .tc .vmem S512x4096 .bf16) (harg5 : arg5.IsWhole) (arg6 : Memref sig .tc .vmem S1x1x4096x512 .f32) (harg6 : arg6.IsWhole) (arg7 : Memref sig .tc .vmem S1x1x4096x512 .f32) (harg7 : arg7.IsWhole) (arg8 : Memref sig .tc .vmem S512x512 .bf16) (harg8 : arg8.IsWhole)
    (x0 : S512x4096.Idx → Elt Bits .bf16) (x1 : S1x1x4096x512.Idx → Elt Bits .f32) (x2 : S1x1x4096x512.Idx → Elt Bits .f32) (a : Buf (Elt Bits) ((c : Thread nD τ).loc cc0_scratch0)) (b : Buf (Elt Bits) ((c : Thread nD τ).loc cc0_scratch1)) (h1 : ¬ Used T i) (h3 : Unused T i) :
    out0_C_3 c i arg5 harg5 arg6 harg6 arg7 harg7 arg8 harg8 T.expert T.first T.used x0 x1 x2 a b h1 h3 = k0_pay4 (F := Bits) := by
  frame_out

/-! ## One point and the next -/

theorem crd_val : ∀ t : Fin grid0.N, (grid0.coords t 0).val = t.val / 161 ∧ (grid0.coords t 1).val = t.val % 161 := by
  decide +kernel

/-- A slab of the gate weights: its expert's rows, and its half of the columns. -/
theorem slab_at (c : Dev nD) (t : Fin (cfgT T).N) (y : S1x1x4096x512.Idx) (e : Fin 64) (l : Fin 1024)
    (he : e.val = (T.expert (ix1 (crd T t 1)) : BitVec 32).toNat) (hl : l.val = 512 * (crd T t 0).val + (y 3).val) :
    blk T m c (1 : Fin 4) t y = m ((c : Thread nD τ).loc main_arg4) (ix4 (0 : Fin 2) e (y 2) l) := by
  have h0 : (y 0).val < 1 := (y 0).isLt
  have h1 : (y 1).val < 1 := (y 1).isLt
  unfold blk
  rw [View.read_apply]
  show m ((c : Thread nD τ).loc main_arg4) _ = m ((c : Thread nD τ).loc main_arg4) _
  congr 1
  funext a
  apply Fin.ext
  match a with
  | ⟨0, _⟩ =>
    show cc0_transform_1 k0_off1_inb numel1_S1 (contents T) (crd T t) 0 * 1 + 1 * (y 0).val = 0
    rw [slab_eq]
    show 0 * 1 + 1 * (y 0).val = 0
    omega
  | ⟨1, _⟩ =>
    show cc0_transform_1 k0_off1_inb numel1_S1 (contents T) (crd T t) 1 * 1 + 1 * (y 1).val = e.val
    rw [slab_eq, he]
    show (T.expert (ix1 (crd T t 1)) : BitVec 32).toNat * 1 + 1 * (y 1).val = _
    omega
  | ⟨2, _⟩ =>
    show cc0_transform_1 k0_off1_inb numel1_S1 (contents T) (crd T t) 2 * 4096 + 1 * (y 2).val = (y 2).val
    rw [slab_eq]
    show 0 * 4096 + 1 * (y 2).val = (y 2).val
    omega
  | ⟨3, _⟩ =>
    show cc0_transform_1 k0_off1_inb numel1_S1 (contents T) (crd T t) 3 * 512 + 1 * (y 3).val = l.val
    rw [slab_eq, hl]
    show (crd T t 0).val * 512 + 1 * (y 3).val = _
    omega

/-- A slab of the up weights, likewise. -/
theorem slab_at' (c : Dev nD) (t : Fin (cfgT T).N) (y : S1x1x4096x512.Idx) (e : Fin 64) (l : Fin 1024)
    (he : e.val = (T.expert (ix1 (crd T t 1)) : BitVec 32).toNat) (hl : l.val = 512 * (crd T t 0).val + (y 3).val) :
    blk T m c (2 : Fin 4) t y = m ((c : Thread nD τ).loc main_arg5) (ix4 (0 : Fin 2) e (y 2) l) := by
  have h0 : (y 0).val < 1 := (y 0).isLt
  have h1 : (y 1).val < 1 := (y 1).isLt
  unfold blk
  rw [View.read_apply]
  show m ((c : Thread nD τ).loc main_arg5) _ = m ((c : Thread nD τ).loc main_arg5) _
  congr 1
  funext a
  apply Fin.ext
  match a with
  | ⟨0, _⟩ =>
    show cc0_transform_2 k0_off1_inb numel1_S1 (contents T) (crd T t) 0 * 1 + 1 * (y 0).val = 0
    rw [slab_eq']
    show 0 * 1 + 1 * (y 0).val = 0
    omega
  | ⟨1, _⟩ =>
    show cc0_transform_2 k0_off1_inb numel1_S1 (contents T) (crd T t) 1 * 1 + 1 * (y 1).val = e.val
    rw [slab_eq', he]
    show (T.expert (ix1 (crd T t 1)) : BitVec 32).toNat * 1 + 1 * (y 1).val = _
    omega
  | ⟨2, _⟩ =>
    show cc0_transform_2 k0_off1_inb numel1_S1 (contents T) (crd T t) 2 * 4096 + 1 * (y 2).val = (y 2).val
    rw [slab_eq']
    show 0 * 4096 + 1 * (y 2).val = (y 2).val
    omega
  | ⟨3, _⟩ =>
    show cc0_transform_2 k0_off1_inb numel1_S1 (contents T) (crd T t) 3 * 512 + 1 * (y 3).val = l.val
    rw [slab_eq', hl]
    show (crd T t 0).val * 512 + 1 * (y 3).val = _
    omega

/-- Two points of one expert and one half of the columns have one slab of each. -/
theorem same_slab (c : Dev nD) (s t : Fin (cfgT T).N) (h0 : (crd T s 0).val = (crd T t 0).val)
    (h1 : T.expert (ix1 (crd T s 1)) = T.expert (ix1 (crd T t 1))) : blk T m c (1 : Fin 4) s = blk T m c (1 : Fin 4) t := by
  funext y
  have hj : (crd T t 0).val < 2 := (crd T t 0).isLt
  have hy : (y 3).val < 512 := (y 3).isLt
  exact (slab_at T m c s y ⟨(T.expert (ix1 (crd T s 1)) : BitVec 32).toNat, T.range _⟩
      ⟨512 * (crd T t 0).val + (y 3).val, by omega⟩ rfl (by rw [h0])).trans
    (slab_at T m c t y ⟨(T.expert (ix1 (crd T s 1)) : BitVec 32).toNat, T.range _⟩
      ⟨512 * (crd T t 0).val + (y 3).val, by omega⟩ (by rw [← h1]) rfl).symm

theorem same_slab' (c : Dev nD) (s t : Fin (cfgT T).N) (h0 : (crd T s 0).val = (crd T t 0).val)
    (h1 : T.expert (ix1 (crd T s 1)) = T.expert (ix1 (crd T t 1))) : blk T m c (2 : Fin 4) s = blk T m c (2 : Fin 4) t := by
  funext y
  have hj : (crd T t 0).val < 2 := (crd T t 0).isLt
  have hy : (y 3).val < 512 := (y 3).isLt
  exact (slab_at' T m c s y ⟨(T.expert (ix1 (crd T s 1)) : BitVec 32).toNat, T.range _⟩
      ⟨512 * (crd T t 0).val + (y 3).val, by omega⟩ rfl (by rw [h0])).trans
    (slab_at' T m c t y ⟨(T.expert (ix1 (crd T s 1)) : BitVec 32).toNat, T.range _⟩
      ⟨512 * (crd T t 0).val + (y 3).val, by omega⟩ (by rw [← h1]) rfl).symm

/-- Which blocks are used. -/
theorem used_iff (i : grid0.Coords) : Used T i ↔ (BitVec.ofNat 32 (i 1).val).slt (T.used (ix1 0)) = true := by
  unfold Used
  rw [count_eq]
  exact cond1_iff _ _

theorem slt_of_le {a b : ℕ} (w : BitVec 32) (h : a ≤ b) (hb : b < 161) (hs : (BitVec.ofNat 32 b).slt w = true) :
    (BitVec.ofNat 32 a).slt w = true := by
  rw [BitVec.slt_iff_toInt_lt] at hs ⊢
  have e : ∀ n < 161, (BitVec.ofNat 32 n).toInt = n := by decide +kernel
  rw [e b hb] at hs
  rw [e a (by omega)]
  omega

/-- Before a used block that is not flagged stands a used block of the same expert. -/
theorem before_it (c : Dev nD) (t : Fin (cfgT T).N) (h1 : Used T (crd T t)) (hc : ¬ Flagged T (crd T t)) :
    ∃ s : Fin (cfgT T).N, s.val + 1 = t.val ∧ Used T (crd T s)
      ∧ blk T m c (1 : Fin 4) s = blk T m c (1 : Fin 4) t ∧ blk T m c (2 : Fin 4) s = blk T m c (2 : Fin 4) t := by
  obtain ⟨e0, e1⟩ := crd_val t
  have hN : t.val < 322 := t.isLt
  have hne : (crd T t 1).val ≠ 0 := fun h => hc ((flagged_iff T _).mpr (by
    have : crd T t 1 = (0 : Fin 161) := Fin.ext h
    rw [this]
    exact T.head))
  have hs : t.val - 1 < (cfgT T).N := Nat.lt_of_le_of_lt (Nat.sub_le _ _) t.isLt
  obtain ⟨f0, f1⟩ := crd_val ⟨t.val - 1, hs⟩
  have g0 : (crd T ⟨t.val - 1, hs⟩ 0).val = (crd T t 0).val := by
    show (grid0.coords ⟨t.val - 1, hs⟩ 0).val = (grid0.coords t 0).val
    have : (grid0.coords t 1).val ≠ 0 := hne
    rw [f0, e0]
    show (t.val - 1) / 161 = t.val / 161
    omega
  have g1 : (crd T t 1).val = (crd T ⟨t.val - 1, hs⟩ 1).val + 1 := by
    show (grid0.coords t 1).val = (grid0.coords ⟨t.val - 1, hs⟩ 1).val + 1
    have : (grid0.coords t 1).val ≠ 0 := hne
    rw [f1, e1]
    show t.val % 161 = (t.val - 1) % 161 + 1
    omega
  refine ⟨⟨t.val - 1, hs⟩, ?_, ?_, ?_⟩
  · have : (grid0.coords t 1).val ≠ 0 := hne
    show t.val - 1 + 1 = t.val
    omega
  · rw [used_iff] at h1 ⊢
    exact slt_of_le _ (by omega) (crd T t 1).isLt h1
  · have he : T.expert (ix1 (crd T ⟨t.val - 1, hs⟩ 1)) = T.expert (ix1 (crd T t 1)) := by
      rcases T.change (crd T t 1) (crd T ⟨t.val - 1, hs⟩ 1) g1 with h | h
      · exact h.symm
      · exact absurd ((flagged_iff T _).mpr h) hc
    exact ⟨same_slab T m c _ _ g0 he, same_slab' T m c _ _ g0 he⟩

/-! ## The pipeline's proof data -/

/-- What a point leaves in its block of the output. -/
def left (c : Dev nD) (t : Fin (cfgT T).N) : S512x512.Idx → Elt Bits .bf16 :=
  open Classical in
  if Used T (crd T t) then k0_pay3 (F := Bits) (blk T m c (0 : Fin 4) t) (k0_pay1 (F := Bits) (blk T m c (1 : Fin 4) t)) (k0_pay2 (F := Bits) (blk T m c (2 : Fin 4) t)) else k0_pay4 (F := Bits)

theorem left_used (c : Dev nD) (t : Fin (cfgT T).N) (h : Used T (crd T t)) :
    left T m c t = k0_pay3 (F := Bits) (blk T m c (0 : Fin 4) t) (k0_pay1 (F := Bits) (blk T m c (1 : Fin 4) t)) (k0_pay2 (F := Bits) (blk T m c (2 : Fin 4) t)) := if_pos h
theorem left_unused (c : Dev nD) (t : Fin (cfgT T).N) (h : ¬ Used T (crd T t)) : left T m c t = k0_pay4 (F := Bits) := if_neg h

/-- The narrowed slabs are the point before's, if that one was used. -/
def Ready (c : Dev nD) (t : Fin ((cfgT T).N + 1)) (a : Buf (Elt Bits) ((c : Thread nD τ).loc cc0_scratch0)) (b : Buf (Elt Bits) ((c : Thread nD τ).loc cc0_scratch1)) : Prop :=
  ∀ s : Fin (cfgT T).N, s.val + 1 = t.val → Used T (crd T s) →
    scM0_0.view.read (Elt Bits) a = k0_pay1 (F := Bits) (blk T m c (1 : Fin 4) s)
      ∧ scM0_1.view.read (Elt Bits) b = k0_pay2 (F := Bits) (blk T m c (2 : Fin 4) s)

theorem ready_succ (c : Dev nD) (t : Fin (cfgT T).N) (a : Buf (Elt Bits) ((c : Thread nD τ).loc cc0_scratch0)) (b : Buf (Elt Bits) ((c : Thread nD τ).loc cc0_scratch1))
    (h : Used T (crd T t) → scM0_0.view.read (Elt Bits) a = k0_pay1 (F := Bits) (blk T m c (1 : Fin 4) t)
      ∧ scM0_1.view.read (Elt Bits) b = k0_pay2 (F := Bits) (blk T m c (2 : Fin 4) t)) : Ready T m c t.succ a b := by
  intro s hs hu
  have e : s = t := Fin.ext (by rw [Fin.val_succ] at hs; omega)
  subst e
  exact h hu

theorem ready_here (c : Dev nD) (t : Fin (cfgT T).N) (a : Buf (Elt Bits) ((c : Thread nD τ).loc cc0_scratch0)) (b : Buf (Elt Bits) ((c : Thread nD τ).loc cc0_scratch1))
    (h : Ready T m c t.castSucc a b) (h1 : Used T (crd T t)) (hc : ¬ Flagged T (crd T t)) :
    scM0_0.view.read (Elt Bits) a = k0_pay1 (F := Bits) (blk T m c (1 : Fin 4) t)
      ∧ scM0_1.view.read (Elt Bits) b = k0_pay2 (F := Bits) (blk T m c (2 : Fin 4) t) := by
  obtain ⟨s, hs, hu, e, e'⟩ := before_it T m c t h1 hc
  rw [← e, ← e']
  exact h s (hs.trans (Fin.val_castSucc t).symm) hu

/-- The invariant before a point: the narrowed slabs, and the body's halves of the tables. -/
def Phi (c : Dev nD) (t : Fin ((cfgT T).N + 1)) : sProp 𝕄 :=
  iprop((∃ a b, ⌜Ready T m c t a b⌝ ∗ (scM0_0.view.loc (c : Thread nD τ) ↦{fullShare} a) ∗ (scM0_1.view.loc (c : Thread nD τ) ↦{fullShare} b)) ∗ (tbM0_0.view.loc (c : Thread nD τ) ↦{fullShare.right} T.expert) ∗ (tbM0_1.view.loc (c : Thread nD τ) ↦{fullShare.right} T.first) ∗ (tbM0_2.view.loc (c : Thread nD τ) ↦{fullShare.right} T.used))

/-- The proof data. -/
def dats (_ : Fin 1) (c : Dev nD) : Dat τ (Elt Bits) Unit ℕ (UR sig nD τ) ℕ (cfgT T) c where
  A w := m (((cfgT T).win w).arr.view.loc (c : Thread nD τ))
  after w t := match w with
    | ⟨0, _⟩ => blk T m c (0 : Fin 4) t
    | ⟨1, _⟩ => blk T m c (1 : Fin 4) t
    | ⟨2, _⟩ => blk T m c (2 : Fin 4) t
    | ⟨3, _⟩ => left T m c t
  Φ t := Phi T m c t
  q _ := fullShare
  owed _ := 0

theorem after_rows (c : Dev nD) (t : Fin (cfgT T).N) : (dats T m 0 c).after (0 : Fin 4) t = blk T m c (0 : Fin 4) t := rfl
theorem after_slab (c : Dev nD) (t : Fin (cfgT T).N) : (dats T m 0 c).after (1 : Fin 4) t = blk T m c (1 : Fin 4) t := rfl
theorem after_slab' (c : Dev nD) (t : Fin (cfgT T).N) : (dats T m 0 c).after (2 : Fin 4) t = blk T m c (2 : Fin 4) t := rfl
theorem after_outs (c : Dev nD) (t : Fin (cfgT T).N) : (dats T m 0 c).after (3 : Fin 4) t = left T m c t := rfl

theorem before_rows (c : Dev nD) (t : Fin (cfgT T).N) (d) : (dats T m 0 c).before (0 : Fin 4) t d = blk T m c (0 : Fin 4) t :=
  ((dats T m 0 c).before_in_eq_fetched (0 : Fin 4) rfl (fun _ => rfl) (fun _ _ _ => rfl) (fun t => by rw [after_rows]; unfold Dat.blockOf blk; rfl) t d).trans
    (by unfold Dat.fetched Dat.blockOf blk; rfl)
theorem before_slab (c : Dev nD) (t : Fin (cfgT T).N) (d) : (dats T m 0 c).before (1 : Fin 4) t d = blk T m c (1 : Fin 4) t :=
  ((dats T m 0 c).before_in_eq_fetched (1 : Fin 4) rfl (fun _ => rfl) (fun _ _ _ => rfl) (fun t => by rw [after_slab]; unfold Dat.blockOf blk; rfl) t d).trans
    (by unfold Dat.fetched Dat.blockOf blk; rfl)
theorem before_slab' (c : Dev nD) (t : Fin (cfgT T).N) (d) : (dats T m 0 c).before (2 : Fin 4) t d = blk T m c (2 : Fin 4) t :=
  ((dats T m 0 c).before_in_eq_fetched (2 : Fin 4) rfl (fun _ => rfl) (fun _ _ _ => rfl) (fun t => by rw [after_slab']; unfold Dat.blockOf blk; rfl) t d).trans
    (by unfold Dat.fetched Dat.blockOf blk; rfl)

/-! ## The body at a point -/

/-- The body at a point, as the pipeline calls it. -/
abbrev bodyAt (t : Fin (cfgT T).N) : Prog (TpuEff nD τ sig (Elt Bits) Λ₀ .tc) PUnit :=
  cc0_moe_expert_up (crd T t) (Memref.whole main_arg1) (Memref.isWhole_whole _) (Memref.whole main_arg2) (Memref.isWhole_whole _) (Memref.whole main_arg3) (Memref.isWhole_whole _) (rows T t) (rows_whole T t) (slab T t) (slab_whole T t) (slab' T t) (slab_whole' T t) (outs T t) (outs_whole T t) (Memref.whole cc0_scratch0) (Memref.isWhole_whole _) (Memref.whole cc0_scratch1) (Memref.isWhole_whole _)

set_option maxHeartbeats 4000000 in
/-- At every point the body turns the invariant and the windows' buffers into the next point's. -/
theorem body_at (c : Dev nD) (t : Fin (cfgT T).N) :
    iprop((dats T m 0 c).Φ t.castSucc ∗ (dats T m 0 c).owesAt () t.castSucc
        ∗ (∃ d, owns (c : Thread nD τ) (rows T t) fullShare ((dats T m 0 c).before (0 : Fin 4) t d))
        ∗ (∃ d, owns (c : Thread nD τ) (slab T t) fullShare ((dats T m 0 c).before (1 : Fin 4) t d))
        ∗ (∃ d, owns (c : Thread nD τ) (slab' T t) fullShare ((dats T m 0 c).before (2 : Fin 4) t d))
        ∗ (∃ d, owns (c : Thread nD τ) (outs T t) fullShare ((dats T m 0 c).before (3 : Fin 4) t d)))
      ⊢ wp frame (wpE (defs₀ (F := Bits)) Variants.none c none) Set.univ (bodyAt T t) fun _ =>
          iprop((dats T m 0 c).Φ t.succ ∗ (dats T m 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m 0 c).before w t d))
                  | true => owns (c : Thread nD τ) (((cfgT T).win w).stage ((cfgT T).slots t w)) fullShare ((dats T m 0 c).after w t)
                | false => owns (c : Thread nD τ) (((cfgT T).win w).stage ((cfgT T).slots t w)) fullShare ((dats T m 0 c).after w t)) := by
  rw [bigSep_W0]
  rewrite [not_idle]
  simp only [before_rows, before_slab, before_slab', after_rows, after_slab, after_slab', after_outs]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi
  by_cases q0 : Used T (crd T t)
  · have q3 : ¬ Unused T (crd T t) := fun h => (cond3_iff _ _).mp h q0
    by_cases q1 : Flagged T (crd T t)
    · iintro ⟨⟨⟨%a0, %b0, %ha0, HS0, HS1⟩, HT0, HT1, HT2⟩, Ho, ⟨%d0, H0⟩, ⟨%d1, H1⟩, ⟨%d2, H2⟩, ⟨%d3, H3⟩⟩
      iapply ((kernelRun0_A c (crd T t) (rows T t) (rows_whole T t) (slab T t) (slab_whole T t) (slab' T t) (slab_whole' T t) (outs T t) (outs_whole T t) T.expert T.first T.used (blk T m c (0 : Fin 4) t) (blk T m c (1 : Fin 4) t) (blk T m c (2 : Fin 4) t) q0 q1 q3).2.2.2 a0 b0 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, ⟨%e3, H3⟩, HS0, HS1⟩
      isplitl [HS0 HS1 HT0 HT1 HT2]
      · isplitl [HS0 HS1]
        · iexists _, _; isplitr; swap
          · isplitl [HS0]
            · iexact HS0
            iexact HS1
          · ipureintro; exact ready_succ T m c t _ _ fun _ => ⟨made_scratch T c _ _ _ _ _ _ _ _ _ _ _ _ _ _ _, made_scratch' T c _ _ _ _ _ _ _ _ _ _ _ _ _ _ _⟩
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_A_3 c _ _ _ _ _ _ _ _ _ _ _ _ _ _ _ _ _ _)).trans
          ((made T c _ _ _ _ _ _ _ _ _ _ _ _ _ _ _).trans (left_used T m c t q0).symm)
    · iintro ⟨⟨⟨%a0, %b0, %ha0, HS0, HS1⟩, HT0, HT1, HT2⟩, Ho, ⟨%d0, H0⟩, ⟨%d1, H1⟩, ⟨%d2, H2⟩, ⟨%d3, H3⟩⟩
      have hr := ready_here T m c t a0 b0 ha0 q0 q1
      iapply ((kernelRun0_B c (crd T t) (rows T t) (rows_whole T t) (slab T t) (slab_whole T t) (slab' T t) (slab_whole' T t) (outs T t) (outs_whole T t) T.expert T.first T.used (blk T m c (0 : Fin 4) t) (blk T m c (1 : Fin 4) t) (blk T m c (2 : Fin 4) t) a0 b0 q0 q1 q3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, ⟨%e3, H3⟩, HS0, HS1⟩
      isplitl [HS0 HS1 HT0 HT1 HT2]
      · isplitl [HS0 HS1]
        · iexists _, _; isplitr; swap
          · isplitl [HS0]
            · iexact HS0
            iexact HS1
          · ipureintro; exact ready_succ T m c t _ _ fun _ => ⟨(congrArg _ (kept_scratch T c _ _ _ _ _ _ _ _ _ _ _ _ _ _ _ _ _)).trans hr.1, (congrArg _ (kept_scratch' T c _ _ _ _ _ _ _ _ _ _ _ _ _ _ _ _ _)).trans hr.2⟩
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_B_3 c _ _ _ _ _ _ _ _ _ _ _ _ _ _ _ _ _ _ _ _)).trans
          ((kept T c _ _ _ _ _ _ _ _ _ _ _ _ _ _ _ _ _).trans ((congrArg₂ (k0_pay3 (F := Bits) (blk T m c (0 : Fin 4) t)) hr.1 hr.2).trans (left_used T m c t q0).symm))
  · have q3 : Unused T (crd T t) := (cond3_iff _ _).mpr q0
    iintro ⟨⟨⟨%a0, %b0, %ha0, HS0, HS1⟩, HT0, HT1, HT2⟩, Ho, ⟨%d0, H0⟩, ⟨%d1, H1⟩, ⟨%d2, H2⟩, ⟨%d3, H3⟩⟩
    iapply ((kernelRun0_C c (crd T t) (rows T t) (rows_whole T t) (slab T t) (slab_whole T t) (slab' T t) (slab_whole' T t) (outs T t) (outs_whole T t) T.expert T.first T.used (blk T m c (0 : Fin 4) t) (blk T m c (1 : Fin 4) t) (blk T m c (2 : Fin 4) t) a0 b0 q0 q3).2.2.2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexists _; iexact H3
    isplitl [HS0]; · iexact HS0
    isplitl [HS1]; · iexact HS1
    iintro ⟨H0, H1, H2, HT0, HT1, HT2, ⟨%e3, H3⟩, HS0, HS1⟩
    isplitl [HS0 HS1 HT0 HT1 HT2]
    · isplitl [HS0 HS1]
      · iexists _, _; isplitr; swap
        · isplitl [HS0]
          · iexact HS0
          iexact HS1
        · ipureintro; exact ready_succ T m c t _ _ fun h => absurd h q0
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_of_cover _ _ _ _ _ (cover0_C_3 c _ _ _ _ _ _ _ _ _ _ _ _ _ _ _ _ _ _ _)).trans
        ((zeroed T c _ _ _ _ _ _ _ _ _ _ _ _ _ _ _ _).trans (left_unused T m c t q0).symm)

theorem body_everywhere (c : Dev nD) : BodyObligation (dats T m 0 c) (defs₀ (F := Bits)) Variants.none () Set.univ := fun t => by
  rw [bigSep_W0]
  exact body_at T m c t

/-! ## The launch -/

/-- The launch memory holds the tables. -/
def Launched : Prop :=
  (∀ c : Dev nD, m ((c : Thread nD τ).loc main_arg1) = T.expert)
  ∧ (∀ c : Dev nD, m ((c : Thread nD τ).loc main_arg2) = T.first)
  ∧ (∀ c : Dev nD, m ((c : Thread nD τ).loc main_arg3) = T.used)

/-- The element the launch starts from. -/
def start : UR sig nD τ :=
  initOf (Pipeline.cells (pcs T) ((launch0 (F := Bits)).cellOf_inj fun _ => adm T))
    (Pipeline.launchToks (pcs T) ((launch0 (F := Bits)).cellOf_inj fun _ => adm T))

theorem whole_share (c : Dev nD) (w : Fin (cfgT T).W) : (dats T m 0 c).share w = fullShare := by unfold Dat.share; split <;> rfl

/-- The three tables, one by one. -/
theorem tables_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m 0 c).Φ 0 := by
  rw [tables_eq, scopedRest0_eq, show (dats T m 0 c).Φ 0 = Phi T m c 0 from rfl]
  unfold Phi
  iintro ⟨-, ⟨HT0, HT1, HT2⟩, ⟨%a0, HS0⟩, ⟨%b0, HS1⟩⟩
  isplitl [HS0 HS1]
  · iexists a0, b0; isplitr; swap
    · isplitl [HS0]
      · iexact HS0
      iexact HS1
    · ipureintro; intro s hs; exact absurd hs (Nat.succ_ne_zero _)
  isplitl [HT0]
  · iexact HT0
  isplitl [HT1]
  · iexact HT1
  iexact HT2

theorem phi_last (c : Dev nD) : (dats T m 0 c).Φ (Fin.last (cfgT T).N) ⊢ iprop(BI.emp ∗ Pipeline.scopedRest spec0 c) := by
  rw [scopedRest0_eq, show (dats T m 0 c).Φ (Fin.last (cfgT T).N) = Phi T m c (Fin.last _) from rfl]
  unfold Phi
  iintro ⟨⟨%a0, %b0, -, HS0, HS1⟩, -, -, -⟩
  isplitr; · iempintro
  isplitl [HS0]
  · iexists a0; iexact HS0
  iexists b0; iexact HS1

/-- What the launch leaves: every array at its computed contents, every table as it was. -/
def Leaves : PUnit × MemSt nD τ sig (Elt Bits) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

theorem at_launch (hp : Launched T m) (c : Dev nD) (j : Fin 3) : m ((c : Thread nD τ).loc (pre0.ref j)) = (adm T).1 j := by
  fin_cases j
  · exact hp.1 c
  · exact hp.2.1 c
  · exact hp.2.2 c

set_option backward.isDefEq.respectTransparency.types false in
set_option maxHeartbeats 4000000 in
theorem runs (hp : Launched T m) : θ_run (defs (F := Bits)) (onTc (τ := τ) (main (F := Bits))) ⟨m, fun _ => 0, ρ⟩ (fun r => Leaves T m r ∧ r.2.sem = fun _ => 0) :=
  Pipeline.θ_run_region_noSem_pf_quiescent pcfgs (fun _ => adm T) (dats T m) () ((launch0 (F := Bits)).cellOf_inj fun _ => adm T) (0 : Fin 1)
    (launch0 (F := Bits)).win.to₀ (launch0 (F := Bits)).pre cells defs₀ Variants.none m ρ main
    (hbody := fun c => (body_everywhere T m c).loose) (hne := (launch0 (F := Bits)).block_pos)
    (harr := (launch0 (F := Bits)).arr_whole) (hstage := (launch0 (F := Bits)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Bits)).win.arr_inj c (launch0 (F := Bits)).arr_whole
      (whole_share T m c) _ _ fun _ => rfl)
    (hpf := at_launch T m hp)
    (X := fun _ => iprop(emp)) (Y := fun _ => iprop(emp)) (Z := fun _ => iprop(emp))
    (hX := fun c => by rw [unscopedRestP0_eq]; iintro -; isplitr <;> iempintro)
    (hin := phi_first T m)
    (hout := phi_last T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem framed (hp : Launched T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 4)).trans ((dats T m 0 c).arrAt_in (0 : Fin 4) rfl _),
    ((h.1 c).2 0).trans (hp.1 c).symm, ((h.1 c).2 1).trans (hp.2.1 c).symm, ((h.1 c).2 2).trans (hp.2.2 c).symm,
    ((h.1 c).1 (1 : Fin 4)).trans ((dats T m 0 c).arrAt_in (1 : Fin 4) rfl _), ((h.1 c).1 (2 : Fin 4)).trans ((dats T m 0 c).arrAt_in (2 : Fin 4) rfl _)⟩, h.2⟩) (runs T m ρ hp)

end Cert.Up.Step
-- ==== Proof.Up.lean ====
/- The experts' gated up-projections: every block of 512 rows times its expert's gate and up weights, the first through
   `silu`; the blocks past the used ones are set to zero. -/
module

public import proofs.«01_k».proof.Defs
public import proofs.«01_k».proof.Proof.Experts
public import proofs.«01_k».proof.Proof.Layout
public import proofs.«01_k».proof.Proof.UpStep
public import proofs.«01_k».proof.Proof.UpStepBits
public import proofs.«01_k».proof.Proof.Gen.Up
public import proofs.«01_k».proof.Proof.Gen.UpIdeal
public import proofs.«01_k».proof.Proof.Gen.UpReferenceIdeal
public import proofs.«01_k».proof.Proof.Gen.UpReferenceIdeal.Run
public import Idealize.ShloMosaic.Lib.Pointwise
public import Idealize.ShloMosaic.Lib.Pipeline.ValueKit
public import Idealize.ShloMosaic.Lib.Pipeline.Covers
public import Idealize.ShloMosaic.Adequacy
public import Idealize.ShloMosaic.Init
public import Idealize.ShloMosaic.Lib.Quiescent

@[expose] public section

set_option maxRecDepth 16384

noncomputable section

namespace Cert.Up.Proof

open Idealize.ShloMosaic Idealize.ShloMosaic.TcCoe Cert.Up Cert.Up.Gen
open Idealize.SL.Sem

/-- The tables the kernel is launched at. -/
theorem tables (m : (ℓ : Loc nD τ sig) → Buf (Elt Bits) ℓ) (h : Cert.Pre_Up (hPre_up_experts := Cert.Experts.up_facts) m) :
    ∃ T : Step.Tables, Step.Launched T m := by
  have t := Cert.Experts.up_tables _ _ _ _ _ _ (h (0 : Fin 1))
  refine ⟨⟨_, _, m (((show Dev nD from (0 : Fin 1)).tc : Thread nD τ).loc main_arg3), t.range, t.head, t.change⟩, fun c => ?_, fun c => ?_, fun c => ?_⟩ <;>
    (obtain rfl : c = (0 : Fin 1) := Subsingleton.elim _ _; rfl)

theorem frame : Cert.quiescent_Up (hUp := Cert.Up.Gen.facts) (hPre_up_experts := Cert.Experts.up_facts) := fun m g h =>
  (tables m h).elim fun T hT => Step.framed T m g hT

end Cert.Up.Proof

namespace Cert.UpIdeal.Proof

open Idealize.ShloMosaic Idealize.ShloMosaic.TcCoe Cert.UpIdeal Cert.UpIdeal.Gen Cert.Experts
open Idealize.SL.Sem

variable (m : (ℓ : Loc nD τ sig) → Buf (Elt Ideal) ℓ)

/-- The tables the idealized kernel is launched at. -/
theorem tables (h : Cert.Pre_UpIdeal (hPre_up_experts := Cert.Experts.up_facts) m) :
    ∃ T : Step.Tables, Step.Launched T m := by
  have t := Cert.Experts.up_tables _ _ _ _ _ _ (h (0 : Fin 1))
  refine ⟨⟨_, _, m (((show Dev nD from (0 : Fin 1)).tc : Thread nD τ).loc main_arg3), t.range, t.head, t.change⟩, fun c => ?_, fun c => ?_, fun c => ?_⟩ <;>
    (obtain rfl : c = (0 : Fin 1) := Subsingleton.elim _ _; rfl)

theorem frame : Cert.quiescent_UpIdeal (hUpIdeal := Cert.UpIdeal.Gen.facts) (hPre_up_experts := Cert.Experts.up_facts) :=
  fun m g h => (tables m h).elim fun T hT => Step.framed T m g hT

/-- The gate's function. -/
def silu (g : EReal) : EReal := g * Ideal.logistic g

/-- What both programs compute: a row times its block's expert's gate weights, through `silu`, times the row times its up
    weights, or zero. -/
def product (be : IVec S161 32) (n : IVec S1 32) (x : FVec Ideal S82432x4096 .bf16) (w w' : FVec Ideal S2x64x4096x1024 .f32) :
    FVec Ideal S82432x1024 .bf16 := fun j =>
  Scalar.select (isUsed n (blockOf (j 0)))
    (silu (∑ k : Fin 4096, (x (ix2 (j 0) k) : EReal) * w (ix4 (0 : Fin 2) (slabOf be (blockOf (j 0))) k (j 1)))
      * ∑ k : Fin 4096, (x (ix2 (j 0) k) : EReal) * w' (ix4 (0 : Fin 2) (slabOf be (blockOf (j 0))) k (j 1))) (0 : EReal)

/-- A used block's value at a row and a column. -/
theorem used_apply (x0 : FVec Ideal S512x4096 .bf16) (x1 x2 : FVec Ideal S1x1x4096x512 .f32) (r : Fin 512) (l : Fin 512) :
    (k0_pay3 (F := Ideal) x0 (k0_pay1 (F := Ideal) x1) (k0_pay2 (F := Ideal) x2) (ix2 r l) : EReal)
      = silu (∑ k : Fin 4096, (x0 (ix2 r k) : EReal) * x1 (ix4 (0 : Fin 1) (0 : Fin 1) k l))
        * ∑ k : Fin 4096, (x0 (ix2 r k) : EReal) * x2 (ix4 (0 : Fin 1) (0 : Fin 1) k l) := by
  pointwise [k0_pay3, k0_pay2, k0_pay1, silu]

theorem unused_apply (r : Fin 512) (l : Fin 512) : (k0_pay4 (F := Ideal) (ix2 r l) : EReal) = 0 := by
  pointwise [k0_pay4]

variable (T : Step.Tables)

/-- A block of rows. -/
theorem rows_at (c : Dev nD) (t : Fin (Step.cfgT T).N) (r : Fin 512) (k : Fin 4096) (R : Fin 82432)
    (hR : R.val = (grid0.coords t 1).val * 512 + r.val) :
    (Step.blk T m c (0 : Fin 4) t (ix2 r k) : EReal) = m ((c.tc : Thread nD τ).loc main_arg0) (ix2 R k) := by
  unfold Step.blk
  rw [View.read_apply]
  show m ((c.tc : Thread nD τ).loc main_arg0) _ = m ((c.tc : Thread nD τ).loc main_arg0) _
  congr 1
  funext a
  apply Fin.ext
  have e1 : (BitVec.ofNat 32 (grid0.coords t 1).val).toNat = (grid0.coords t 1).val := by
    rw [BitVec.toNat_ofNat, Nat.mod_eq_of_lt (Nat.lt_trans (grid0.coords t 1).isLt (by decide))]
  match a with
  | ⟨0, _⟩ =>
    show (BitVec.ofNat 32 (grid0.coords t 1).val).toNat * 512 + 1 * r.val = R.val
    rw [e1, hR]
    omega
  | ⟨1, _⟩ =>
    show 0 * 4096 + 1 * k.val = k.val
    omega

/-- What a point leaves at a row and a column of its block. -/
theorem left_apply (c : Dev nD) (t : Fin (Step.cfgT T).N) (r : Fin 512) (l : Fin 512) (R : Fin 82432) (L : Fin 1024)
    (hR : R.val = (grid0.coords t 1).val * 512 + r.val) (hL : L.val = (grid0.coords t 0).val * 512 + l.val) :
    (Step.left T m c t (ix2 r l) : EReal)
      = product T.expert T.used (m ((c.tc : Thread nD τ).loc main_arg0)) (m ((c.tc : Thread nD τ).loc main_arg4)) (m ((c.tc : Thread nD τ).loc main_arg5)) (ix2 R L) := by
  have hb : blockOf R = grid0.coords t 1 := Fin.ext (by
    show R.val / 512 = (grid0.coords t 1).val
    omega)
  have hu : Step.Used T (grid0.coords t) ↔ isUsed T.used (blockOf R) = 1#1 := by
    rw [Step.used_iff, hb]
    show _ ↔ BitVec.ofBool ((BitVec.ofNat 32 (grid0.coords t 1).val).slt (T.used (ix1 0))) = 1#1
    generalize (BitVec.ofNat 32 (grid0.coords t 1).val).slt (T.used (ix1 0)) = p
    revert p
    decide
  show _ = Scalar.select (isUsed T.used (blockOf R)) (silu (∑ k : Fin 4096, (show EReal from m ((c.tc : Thread nD τ).loc main_arg0) (ix2 R k)) *
      (show EReal from m ((c.tc : Thread nD τ).loc main_arg4) (ix4 (0 : Fin 2) (slabOf T.expert (blockOf R)) k L)))
    * ∑ k : Fin 4096, (show EReal from m ((c.tc : Thread nD τ).loc main_arg0) (ix2 R k)) *
      (show EReal from m ((c.tc : Thread nD τ).loc main_arg5) (ix4 (0 : Fin 2) (slabOf T.expert (blockOf R)) k L))) (0 : EReal)
  by_cases h : Step.Used T (grid0.coords t)
  · rw [Step.left_used T m c t h, hu.mp h]
    refine Eq.trans ?_ (if_pos rfl).symm
    refine (used_apply _ _ _ r l).trans (congrArg₂ (fun a b : EReal => silu a * b)
      (Finset.sum_congr rfl fun k _ => congrArg₂ (fun a b : EReal => a * b) (rows_at m T c t r k R hR) ?_)
      (Finset.sum_congr rfl fun k _ => congrArg₂ (fun a b : EReal => a * b) (rows_at m T c t r k R hR) ?_))
    · exact Step.slab_at T m c t (ix4 (0 : Fin 1) (0 : Fin 1) k l) (slabOf T.expert (blockOf R)) L
        (by rw [slabOf_val _ T.range, hb]) (by rw [hL]; show _ = 512 * (grid0.coords t 0).val + l.val; omega)
    · exact Step.slab_at' T m c t (ix4 (0 : Fin 1) (0 : Fin 1) k l) (slabOf T.expert (blockOf R)) L
        (by rw [slabOf_val _ T.range, hb]) (by rw [hL]; show _ = 512 * (grid0.coords t 0).val + l.val; omega)
  · rw [Step.left_unused T m c t h, show isUsed T.used (blockOf R) = 0#1 from by
      rcases BitVec.eq_zero_or_eq_one (isUsed T.used (blockOf R)) with e | e
      · exact e
      · exact absurd (hu.mpr e) h]
    exact (unused_apply r l).trans (if_neg (by decide)).symm

/-- The row and the column of the result that a point's block holds at its own row and column. -/
def rowAt (t : Fin grid0.N) (r : Fin 512) : Fin 82432 :=
  ⟨(grid0.coords t 1).val * 512 + r.val, by have h : (grid0.coords t 1).val < 161 := (grid0.coords t 1).isLt; omega⟩
def columnAt (t : Fin grid0.N) (l : Fin 512) : Fin 1024 :=
  ⟨(grid0.coords t 0).val * 512 + l.val, by have h : (grid0.coords t 0).val < 2 := (grid0.coords t 0).isLt; omega⟩

/-- The blocks the points leave cover the result. -/
theorem covers : ((Step.cfgT T).win (3 : Fin 4)).Covers :=
  Pipeline.Window.covers_of_indexMap_surj _ rfl (fun a => by match a with | ⟨0, _⟩ => exact Nat.zero_lt_succ _ | ⟨1, _⟩ => exact Nat.zero_lt_succ _) fun β => by
    have b0 : (β 0).val < 161 := lt_of_lt_of_eq (β 0).isLt (by unfold Pipeline.Window.nblk; exact show (82432 + (512 - 1)) / 512 = 161 by norm_num)
    have b1 : (β 1).val < 2 := lt_of_lt_of_eq (β 1).isLt (by unfold Pipeline.Window.nblk; exact show (1024 + (512 - 1)) / 512 = 2 by norm_num)
    refine ⟨fun a => match a with | ⟨0, _⟩ => ⟨(β 1).val, b1⟩ | ⟨1, _⟩ => ⟨(β 0).val, b0⟩, fun a => ?_⟩
    match a with
    | ⟨0, _⟩ =>
      show (BitVec.ofNat 32 (β 0).val).toNat = (β 0).val
      rw [BitVec.toNat_ofNat, Nat.mod_eq_of_lt (Nat.lt_trans b0 (by decide))]
    | ⟨1, _⟩ =>
      show (BitVec.ofNat 32 (β 1).val).toNat = (β 1).val
      rw [BitVec.toNat_ofNat, Nat.mod_eq_of_lt (Nat.lt_trans b1 (by decide))]

/-- The launch's result array. -/
theorem arr (c : Dev nD) :
    (Step.dats T m 0 c).arrAt (3 : Fin 4) (Step.cfgT T).N
      = product T.expert T.used (m ((c.tc : Thread nD τ).loc main_arg0)) (m ((c.tc : Thread nD τ).loc main_arg4)) (m ((c.tc : Thread nD τ).loc main_arg5)) := by
  refine (Step.dats T m 0 c).arrAt_eq_of_covers (3 : Fin 4) _ (covers T) fun t hf y => ?_
  rw [Step.after_outs]
  refine ((congrArg _ (eq_ix2 (n0 := 512) (n1 := 512) y)).trans (left_apply m T c t (y 0) (y 1) (rowAt t (y 0)) (columnAt t (y 1)) rfl rfl)).trans ?_
  refine congrArg _ ?_
  funext a
  apply Fin.ext
  have e0 : (BitVec.ofNat 32 (grid0.coords t 0).val).toNat = (grid0.coords t 0).val := by
    rw [BitVec.toNat_ofNat, Nat.mod_eq_of_lt (Nat.lt_trans (grid0.coords t 0).isLt (by decide))]
  have e1 : (BitVec.ofNat 32 (grid0.coords t 1).val).toNat = (grid0.coords t 1).val := by
    rw [BitVec.toNat_ofNat, Nat.mod_eq_of_lt (Nat.lt_trans (grid0.coords t 1).isLt (by decide))]
  match a with
  | ⟨0, _⟩ =>
    show (grid0.coords t 1).val * 512 + (y 0).val = (BitVec.ofNat 32 (grid0.coords t 1).val).toNat * 512 + 1 * (y 0).val
    rw [e1, one_mul]
  | ⟨1, _⟩ =>
    show (grid0.coords t 0).val * 512 + (y 1).val = (BitVec.ofNat 32 (grid0.coords t 0).val).toNat * 512 + 1 * (y 1).val
    rw [e0, one_mul]

end Cert.UpIdeal.Proof

/-! ## The reference -/

namespace Cert.UpReferenceIdeal.Proof

open Idealize.ShloMosaic Cert.UpReferenceIdeal Cert.UpReferenceIdeal.Gen Cert.Experts Cert.UpIdeal.Proof
open Idealize.SL.Sem

theorem frame : Cert.quiescent_UpReferenceIdeal (hUpReferenceIdeal := Cert.UpReferenceIdeal.Gen.facts) := fun m g _ =>
  (θ_run _ _ _).mono (fun r h => ⟨fun c => (h c).2, sem_eq_zero_of_no_sems (by decide) r.2⟩) (Value.run m g)

/-- The weights of every block's expert. -/
theorem weights (be : IVec S161 32) (hb : ∀ j, (be j).toNat < 64) (w : FVec Ideal S2x64x4096x1024 .f32) :
    (Host.gather gather_S64x4096x1024_S161x1_S161x4096x1024_12_0_n_n_0_1_140961024 (shapeCast S64x4096x1024 (extractStridedSlice S1x64x4096x1024 ![0, 0, 0, 0] w slices_S2x64x4096x1024_S1x64x4096x1024_0_0_0_0) shapeCasts_S1x64x4096x1024_S64x4096x1024)
      (broadcastInDim S161x1 ![0] bcast_S161_S161x1_0 (select (cmpi .slt be (broadcastInDim S161 ![] bcast_S_S161 (constantI S_ 32 0#32))) (addi be (broadcastInDim S161 ![] bcast_S_S161 (constantI S_ 32 64#32))) be)))
      = fun y => (w (ix4 (0 : Fin 2) (slabOf be (y 0)) (y 1) (y 2)) : EReal) := by
  funext y
  rw [eq_ix3 (n0 := 161) (n1 := 4096) (n2 := 1024) y]
  refine chosen_apply w be _ _ _ _ (fun b => ?_) hb (y 0) (y 1) (y 2)
  refine Eq.trans ?_ (wrapped (be (ix1 b)) (hb _))
  pointwise []

/-- The reference's result. -/
theorem result (be : IVec S161 32) (n : IVec S1 32) (x : FVec Ideal S82432x4096 .bf16) (w w' : FVec Ideal S2x64x4096x1024 .f32)
    (hb : ∀ j, (be j).toNat < 64) :
    truncf .bf16 (shapeCast S82432x1024 (select (broadcastInDim S161x512x1024 ![0, 1, 2] bcast_S161x1x1_S161x512x1024_0_1_2 (cmpi .slt (broadcastInDim S161x1x1 ![0] bcast_S161_S161x1x1_0 (iotaInDim S161 32 0)) (broadcastInDim S161x1x1 ![0, 1, 2] bcast_S1x1x1_S161x1x1_0_1_2 (broadcastInDim S1x1x1 ![2] bcast_S1_S1x1x1_2 n))))
      (mulf (mulf (Host.dotGeneral dot_S161x512x4096_S161x4096x1024_S161x512x1024_2_1_1_2_0_0 none (extf .f32 (shapeCast S161x512x4096 x shapeCasts_S82432x4096_S161x512x4096) bitsLt_bf16_f32) (Host.gather gather_S64x4096x1024_S161x1_S161x4096x1024_12_0_n_n_0_1_140961024 (shapeCast S64x4096x1024 (extractStridedSlice S1x64x4096x1024 ![0, 0, 0, 0] w slices_S2x64x4096x1024_S1x64x4096x1024_0_0_0_0) shapeCasts_S1x64x4096x1024_S64x4096x1024)
      (broadcastInDim S161x1 ![0] bcast_S161_S161x1_0 (select (cmpi .slt be (broadcastInDim S161 ![] bcast_S_S161 (constantI S_ 32 0#32))) (addi be (broadcastInDim S161 ![] bcast_S_S161 (constantI S_ 32 64#32))) be))))
        (Host.divf (broadcastInDim S161x512x1024 ![] bcast_S_S161x512x1024 (constant (F := Ideal) S_ .f32 0x3F800000#32)) (addf (broadcastInDim S161x512x1024 ![] bcast_S_S161x512x1024 (constant (F := Ideal) S_ .f32 0x3F800000#32)) (Host.exp (Host.negf (Host.dotGeneral dot_S161x512x4096_S161x4096x1024_S161x512x1024_2_1_1_2_0_0 none (extf .f32 (shapeCast S161x512x4096 x shapeCasts_S82432x4096_S161x512x4096) bitsLt_bf16_f32) (Host.gather gather_S64x4096x1024_S161x1_S161x4096x1024_12_0_n_n_0_1_140961024 (shapeCast S64x4096x1024 (extractStridedSlice S1x64x4096x1024 ![0, 0, 0, 0] w slices_S2x64x4096x1024_S1x64x4096x1024_0_0_0_0) shapeCasts_S1x64x4096x1024_S64x4096x1024)
      (broadcastInDim S161x1 ![0] bcast_S161_S161x1_0 (select (cmpi .slt be (broadcastInDim S161 ![] bcast_S_S161 (constantI S_ 32 0#32))) (addi be (broadcastInDim S161 ![] bcast_S_S161 (constantI S_ 32 64#32))) be)))))))))
        (Host.dotGeneral dot_S161x512x4096_S161x4096x1024_S161x512x1024_2_1_1_2_0_0 none (extf .f32 (shapeCast S161x512x4096 x shapeCasts_S82432x4096_S161x512x4096) bitsLt_bf16_f32) (Host.gather gather_S64x4096x1024_S161x1_S161x4096x1024_12_0_n_n_0_1_140961024 (shapeCast S64x4096x1024 (extractStridedSlice S1x64x4096x1024 ![0, 0, 0, 0] w' slices_S2x64x4096x1024_S1x64x4096x1024_0_0_0_0) shapeCasts_S1x64x4096x1024_S64x4096x1024)
      (broadcastInDim S161x1 ![0] bcast_S161_S161x1_0 (select (cmpi .slt be (broadcastInDim S161 ![] bcast_S_S161 (constantI S_ 32 0#32))) (addi be (broadcastInDim S161 ![] bcast_S_S161 (constantI S_ 32 64#32))) be)))))
      (broadcastInDim S161x512x1024 ![] bcast_S_S161x512x1024 (id (constant (F := Ideal) S_ .f32 0x00000000#32)))) shapeCasts_S161x512x1024_S82432x1024) bitsLt_bf16_f32
      = product be n x w w' := by
  rw [weights be hb w, weights be hb w']
  funext j
  rw [eq_ix2 (n0 := 82432) (n1 := 1024) j]
  refine (Cert.Lay.narrow_apply _ _ _).trans ((rows_apply _ _ (j 0) (j 1)).trans ?_)
  have hh : ∀ k : Fin 4096, shapeCast S161x512x4096 x shapeCasts_S82432x4096_S161x512x4096 (ix3 (blockOf (j 0)) (rowOf (j 0)) k)
      = x (ix2 (j 0) k) := fun k => blocks_apply x _ (j 0) k
  rw [show id (constant (F := Ideal) S_ .f32 0x00000000#32) = constant (F := Ideal) S_ .f32 0x00000000#32 from rfl]
  generalize shapeCast S161x512x4096 x shapeCasts_S82432x4096_S161x512x4096 = X at hh ⊢
  pointwise [product, isUsed, silu]
  refine congrArg₂ (fun a b : EReal => Scalar.select _ (silu a * b) (0 : EReal))
    (Finset.sum_congr rfl fun k _ => ?_) (Finset.sum_congr rfl fun k _ => ?_) <;>
  exact congrArg (fun a : EReal => a * _) (hh k)

/-- The two programs' results agree. -/
theorem algebraic : Cert.algebraic_UpIdeal_UpReferenceIdeal (hUpIdeal := Cert.UpIdeal.Gen.facts)
    (hUpReferenceIdeal := Cert.UpReferenceIdeal.Gen.facts) (hPre_up_experts := Cert.Experts.up_facts) := by
  intro m g m' g' hp hagree
  obtain ⟨T, hT⟩ := Cert.UpIdeal.Proof.tables m hp
  refine ⟨fun c => product T.expert T.used (m ((c.tc : Thread Cert.UpIdeal.nD Cert.UpIdeal.τ).loc Cert.UpIdeal.main_arg0)) (m ((c.tc : Thread Cert.UpIdeal.nD Cert.UpIdeal.τ).loc Cert.UpIdeal.main_arg4)) (m ((c.tc : Thread Cert.UpIdeal.nD Cert.UpIdeal.τ).loc Cert.UpIdeal.main_arg5)), ?_, ?_⟩
  · refine (θ_run _ _ _).mono (fun r hr c => ⟨((hr.1.1 c).1 (3 : Fin 4)).trans (Cert.UpIdeal.Proof.arr m T c), hr.2.1 c⟩)
      (θ_run_and (Cert.UpIdeal.Step.runs T m g hT) (Cert.UpIdeal.Step.framed T m g hT))
  · refine (θ_run _ _ _).mono (fun r h c => ⟨?_, (h c).2⟩) (Value.run m' g')
    obtain ⟨h0, h1, h2, h3, h4, h5⟩ := hagree c
    have e1 := h1.trans (hT.1 c)
    have e3 := h3.trans (hT.2.2 c)
    refine (h c).1.trans ((result _ _ _ _ _ fun j => ?_).trans ?_)
    · rw [e1]; exact T.range j
    · rw [h0, h4, h5, e1, e3]

end Cert.UpReferenceIdeal.Proof

end
-- ==== Proof.DownStep.lean ====
/- The experts' down-projections at any tables of blocks: a grid point is a block of rows against a slab of its expert's
   weights. The narrowed slab is kept between points; it is made at the block flagged as its expert's first and used again
   until the expert changes. Here: what the three control paths leave, the invariant, and the launch. -/
module

public import proofs.«01_k».proof.Defs
public import proofs.«01_k».proof.Proof.Gen.DownIdeal
public import proofs.«01_k».proof.Proof.Gen.DownIdeal.Launch
public import proofs.«01_k».proof.Proof.Gen.DownIdeal.Flash.Runs
public import Idealize.ShloMosaic.Lib.Pipeline.Quiescent
public import Idealize.ShloMosaic.Lib.Claim
public import Idealize.ShloMosaic.Lib.Pipeline.Kit
public import Idealize.ShloMosaic.Lib.Pipeline.ValueKit
public import Idealize.ShloMosaic.Lib.Pipeline.TableIdle
public import Idealize.ShloMosaic.Lib.Pipeline.FrameBody
public import Idealize.ShloMosaic.Lib.Tactic
public import Idealize.ShloMosaic.Lib.VecWindow
public import Idealize.ShloMosaic.PureOps.Ideal
public import Idealize.ShloMosaic.Adequacy
public import Idealize.ShloMosaic.Init

@[expose] public section

set_option maxRecDepth 16384

noncomputable section

namespace Cert.DownIdeal.Step

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra's type. -/
local notation "𝕄" => MT nD τ sig Unit (Elt Ideal) ℕ (UR sig nD τ) ℕ

/-- The staging cells' part of the resource algebra, which is all of it. -/
abbrev cells : Emb (UR sig nD τ) 𝕄 := emb₁

/-! ## The tables -/

/-- The tables the call is launched at: each block's expert, whether the block is its expert's first, and how many blocks
    are used; with what the precondition says of them. -/
structure Tables where
  expert : S161.Idx → Elt Ideal .i32
  first : S161.Idx → Elt Ideal .i32
  used : S1.Idx → Elt Ideal .i32
  range : ∀ j, BitVec.toNat (expert j) < 64
  head : first (ix1 0) = (1#32 : BitVec 32)
  change : ∀ k l : Fin 161, k.val = l.val + 1 → expert (ix1 k) = expert (ix1 l) ∨ first (ix1 k) = (1#32 : BitVec 32)

variable (T : Tables)

set_option backward.proofsInPublic true in
/-- The tables as the pipeline reads them. -/
def contents : pre0.Contents (Elt Ideal) :=
  fun | ⟨0, _⟩ => T.expert | ⟨1, _⟩ => T.first | ⟨2, _⟩ => T.used | ⟨_ + 3, h⟩ => absurd h (by simp)

/-- The word a load of one block's entry reads. -/
theorem entry_eq (i : grid0.Coords) (x : S161.Idx → BitVec 32)
    (h : ∀ a, (k0_off2 i) a + S1.size a ≤ S161.size a) :
    View.readAt (Elt Ideal) (tbM0_1).view (Rect.unit (s := S161) (k0_off2 i) S1.size h).toLoadRect x (Shape.Idx.first (numel1_S1.symm ▸ Nat.one_pos)) = x (ix1 (i 1)) := by
  show x _ = x _
  congr 1
  funext a
  apply Fin.ext
  match a with
  | ⟨0, _⟩ =>
    show (BitVec.ofNat 32 (i 1).val).toNat + 1 * 0 = (i 1).val
    rw [BitVec.toNat_ofNat, Nat.mod_eq_of_lt (Nat.lt_trans (i 1).isLt (by decide))]
    rfl

/-- The word a load of the number of used blocks reads. -/
theorem count_eq (x : S1.Idx → BitVec 32) :
    View.readAt (Elt Ideal) (tbM0_2).view (Rect.unit (s := S1) ![0] S1.size inb_S1_S1_0).toLoadRect x (Shape.Idx.first (numel1_S1.symm ▸ Nat.one_pos)) = x (ix1 0) := by
  show x _ = x _
  congr 1
  funext a
  apply Fin.ext
  match a with
  | ⟨0, _⟩ => rfl

/-- A slab's place in the weights. -/
theorem slab_eq (i : grid0.Coords) :
    cc0_transform_1 k0_off1_inb numel1_S1 (contents T) i = ![0, (T.expert (ix1 (i 1)) : BitVec 32).toNat, 0, (i 0).val] := by
  have hw : (contents T).at 0 (Rect.unit (s := S161) ![(Scalar.indexCast (BitVec.ofNat 32 (i 1).val) : BitVec 32).toNat] S1.size (k0_off1_inb i)) numel1_S1
      = (T.expert (ix1 (i 1)) : BitVec 32) := by
    show T.expert _ = T.expert _
    congr 1
    funext a
    apply Fin.ext
    match a with
    | ⟨0, _⟩ =>
      show (BitVec.ofNat 32 (i 1).val).toNat + 1 * 0 = (i 1).val
      rw [BitVec.toNat_ofNat, Nat.mod_eq_of_lt (Nat.lt_trans (i 1).isLt (by decide))]
      rfl
  have h0 : (BitVec.ofNat 32 (i 0).val).toNat = (i 0).val := by
    rw [BitVec.toNat_ofNat, Nat.mod_eq_of_lt (Nat.lt_trans (i 0).isLt (by decide))]
  unfold cc0_transform_1
  show ![(0#32).toNat, BitVec.toNat ((contents T).at 0 _ _), (0#32).toNat, (BitVec.ofNat 32 (i 0).val).toNat] = _
  rw [h0]
  exact congrArg (fun w : BitVec 32 => ![0, w.toNat, 0, (i 0).val]) hw

/-- Every slab lies inside the weights. -/
theorem inside : ok0 (F := Ideal) (contents T) := fun i => ⟨fun a => by
  rw [slab_eq]
  have h0 : (i 0).val < 2 := (i 0).isLt
  have h1 : (T.expert (ix1 (i 1)) : BitVec 32).toNat < 64 := T.range _
  match a with
  | ⟨0, _⟩ => show (0 + 1) * 1 ≤ 2; decide
  | ⟨1, _⟩ => show ((T.expert (ix1 (i 1)) : BitVec 32).toNat + 1) * 1 ≤ 64; omega
  | ⟨2, _⟩ => show (0 + 1) * 1024 ≤ 1024; decide
  | ⟨3, _⟩ => show ((i 0).val + 1) * 2048 ≤ 4096; omega, .inl rfl⟩

/-- The pipeline at the tables. -/
def adm : (pcfg0 (F := Ideal)).Adm := ⟨contents T, inside T⟩
abbrev cfgT : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- A grid point's coordinates: the half of the columns, and the block of rows. -/
abbrev crd (t : Fin (cfgT T).N) : grid0.Coords := grid0.coords t

abbrev rows (t : Fin (cfgT T).N) : Memref sig .tc .vmem S512x1024 .bf16 := spec0_0.stage ((cfgT T).slots t (0 : Fin 3))
abbrev rows_whole (t : Fin (cfgT T).N) : (rows T t).IsWhole := hstage0_0 (((cfgT T).slots t (0 : Fin 3)).cast nbuf0_0)
abbrev slab (t : Fin (cfgT T).N) : Memref sig .tc .vmem S1x1x1024x2048 .f32 := spec0_1.stage ((cfgT T).slots t (1 : Fin 3))
abbrev slab_whole (t : Fin (cfgT T).N) : (slab T t).IsWhole := hstage0_1 (((cfgT T).slots t (1 : Fin 3)).cast nbuf0_1)
abbrev outs (t : Fin (cfgT T).N) : Memref sig .tc .vmem S512x2048 .f32 := spec0_2.stage ((cfgT T).slots t (2 : Fin 3))
abbrev outs_whole (t : Fin (cfgT T).N) : (outs T t).IsWhole := hstage0_2 (((cfgT T).slots t (2 : Fin 3)).cast nbuf0_2)

/-- A window's block at a grid point, of the launch's memory. -/
def blk (c : Dev nD) (w : Fin (cfgT T).W) (t : Fin (cfgT T).N) :
    (((cfgT T).win w).xblock ((cfgT T).grid.coords t)).Idx → Elt Ideal ((cfgT T).win w).elt :=
  (((cfgT T).win w).blk t).view.read (Elt Ideal) (m (((cfgT T).win w).arr.view.loc (c : Thread nD τ)))

/-! ## The control at a grid point -/

/-- The block is used. -/
abbrev Used (i : grid0.Coords) : Prop := k0_cond1 i (View.readAt (Elt Ideal) (tbM0_2).view (Rect.unit (s := S1) ![0] S1.size inb_S1_S1_0).toLoadRect T.used (Shape.Idx.first (numel1_S1.symm ▸ Nat.one_pos))) = 1#1
/-- The block is used, as the body asks the second time. -/
abbrev Unused (i : grid0.Coords) : Prop := k0_cond3 i (View.readAt (Elt Ideal) (tbM0_2).view (Rect.unit (s := S1) ![0] S1.size inb_S1_S1_0).toLoadRect T.used (Shape.Idx.first (numel1_S1.symm ▸ Nat.one_pos))) = 1#1
/-- The block is flagged as its expert's first. -/
abbrev Flagged (i : grid0.Coords) : Prop := (Scalar.cmpi .ne (Scalar.extui (Scalar.cmpi .eq (View.readAt (Elt Ideal) (tbM0_1).view (Rect.unit (s := S161) (k0_off2 i) S1.size (k0_off2_inb i)).toLoadRect T.first (Shape.Idx.first (numel1_S1.symm ▸ Nat.one_pos))) 1#32)) 0#32) = 1#1

theorem cond1_iff (i : grid0.Coords) (w : BitVec 32) : k0_cond1 i w = 1#1 ↔ (BitVec.ofNat 32 (i 1).val).slt w = true := by
  show (IntOp.cmpi .ne (BitVec.setWidth 32 (BitVec.ofBool ((BitVec.ofNat 32 (i 1).val).slt w))) 0#32 = 1#1) ↔ _
  generalize (BitVec.ofNat 32 (i 1).val).slt w = p
  revert p
  decide

theorem cond3_iff (i : grid0.Coords) (w : BitVec 32) : k0_cond3 i w = 1#1 ↔ ¬ k0_cond1 i w = 1#1 := by
  rw [cond1_iff]
  show (IntOp.cmpi .ne (BitVec.setWidth 32 (BitVec.ofBool (w.sle (BitVec.ofNat 32 (i 1).val)))) 0#32 = 1#1) ↔ _
  rw [show w.sle (BitVec.ofNat 32 (i 1).val) = !((BitVec.ofNat 32 (i 1).val).slt w) from BitVec.sle_eq_not_slt]
  generalize (BitVec.ofNat 32 (i 1).val).slt w = p
  revert p
  decide

theorem flag_iff (v : BitVec 32) : Scalar.cmpi .ne (Scalar.extui (Scalar.cmpi .eq v 1#32) : BitVec 32) 0#32 = 1#1 ↔ v = 1#32 := by
  show (IntOp.cmpi .ne (BitVec.setWidth 32 (BitVec.ofBool (v == 1#32))) 0#32 = 1#1) ↔ _
  rw [← beq_iff_eq (a := v)]
  generalize (v == 1#32) = p
  clear v
  revert p
  decide

theorem flagged_iff (i : grid0.Coords) : Flagged T i ↔ T.first (ix1 (i 1)) = (1#32 : BitVec 32) := by
  unfold Flagged
  rw [entry_eq]
  exact flag_iff _

/-- The output's window is written at every grid point. -/
theorem not_idle (t : Fin (cfgT T).N) : (cfgT T).idle (2 : Fin 3) ((cfgT T).grid.coords t) = false := by
  show (!(k0_cond1 (crd T t) ((contents T).atD 2 ![0]) == 1#1) && !(k0_cond3 (crd T t) ((contents T).atD 2 ![0]) == 1#1)) = false
  generalize ((contents T).atD 2 ![0] : BitVec 32) = w
  have h := cond3_iff (crd T t) w
  by_cases h1 : k0_cond1 (crd T t) w = 1#1
  · rw [h1]; rfl
  · rw [h.mpr h1]; simp

/-! ## What the three paths leave -/

theorem made (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Ideal .bf16) (x1 : S1x1x1024x2048.Idx → Elt Ideal .f32) (h1 : Used T i) (hc : Flagged T i) (h3 : ¬ Unused T i) :
    out0_A_2 c i arg5 harg5 arg6 harg6 arg7 harg7 T.expert T.first T.used x0 x1 h1 hc h3 = k0_pay2 x0 (k0_pay1 x1) := by
  frame_out
  rw [View.read_rep, View.read_rep]

theorem made_scratch (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Ideal .bf16) (x1 : S1x1x1024x2048.Idx → Elt Ideal .f32) (h1 : Used T i) (hc : Flagged T i) (h3 : ¬ Unused T i) :
    scM0_0.view.read (Elt Ideal) (kernelRun0_A c i arg5 harg5 arg6 harg6 arg7 harg7 T.expert T.first T.used x0 x1 h1 hc h3).2.1 = k0_pay1 x1 := by
  unfold kernelRun0_A
  dsimp only
  unfold kernelRun0_A.sl.HS0_1
  exact (View.read_writes_full _ _ _ _ _).trans (congrArg (k0_pay1 (F := Ideal)) (View.readAt_rep_full _ _ _))

theorem kept (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Ideal .bf16) (x1 : S1x1x1024x2048.Idx → Elt Ideal .f32) (a : Buf (Elt Ideal) ((c : Thread nD τ).loc cc0_scratch0)) (h1 : Used T i) (hc : ¬ Flagged T i) (h3 : ¬ Unused T i) :
    out0_B_2 c i arg5 harg5 arg6 harg6 arg7 harg7 T.expert T.first T.used x0 x1 a h1 hc h3 = k0_pay2 x0 (scM0_0.view.read (Elt Ideal) a) := by
  frame_out
  rw [View.read_rep]

theorem kept_scratch (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Ideal .bf16) (x1 : S1x1x1024x2048.Idx → Elt Ideal .f32) (a : Buf (Elt Ideal) ((c : Thread nD τ).loc cc0_scratch0)) (h1 : Used T i) (hc : ¬ Flagged T i) (h3 : ¬ Unused T i) :
    (kernelRun0_B c i arg5 harg5 arg6 harg6 arg7 harg7 T.expert T.first T.used x0 x1 a h1 hc h3).2.1 = a := by
  unfold kernelRun0_B
  rfl

theorem zeroed (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Ideal .bf16) (x1 : S1x1x1024x2048.Idx → Elt Ideal .f32) (a : Buf (Elt Ideal) ((c : Thread nD τ).loc cc0_scratch0)) (h1 : ¬ Used T i) (h3 : Unused T i) :
    out0_C_2 c i arg5 harg5 arg6 harg6 arg7 harg7 T.expert T.first T.used x0 x1 a h1 h3 = k0_pay3 (F := Ideal) := by
  frame_out

/-! ## One point and the next -/

theorem crd_val : ∀ t : Fin grid0.N, (grid0.coords t 0).val = t.val / 161 ∧ (grid0.coords t 1).val = t.val % 161 := by
  decide +kernel

/-- A slab's block: its expert's rows, and its half of the columns. -/
theorem slab_at (c : Dev nD) (t : Fin (cfgT T).N) (y : S1x1x1024x2048.Idx) (e : Fin 64) (l : Fin 4096)
    (he : e.val = (T.expert (ix1 (crd T t 1)) : BitVec 32).toNat) (hl : l.val = 2048 * (crd T t 0).val + (y 3).val) :
    blk T m c (1 : Fin 3) t y = m ((c : Thread nD τ).loc main_arg4) (ix4 (0 : Fin 2) e (y 2) l) := by
  have h0 : (y 0).val < 1 := (y 0).isLt
  have h1 : (y 1).val < 1 := (y 1).isLt
  unfold blk
  rw [View.read_apply]
  show m ((c : Thread nD τ).loc main_arg4) _ = m ((c : Thread nD τ).loc main_arg4) _
  congr 1
  funext a
  apply Fin.ext
  match a with
  | ⟨0, _⟩ =>
    show cc0_transform_1 k0_off1_inb numel1_S1 (contents T) (crd T t) 0 * 1 + 1 * (y 0).val = 0
    rw [slab_eq]
    show 0 * 1 + 1 * (y 0).val = 0
    omega
  | ⟨1, _⟩ =>
    show cc0_transform_1 k0_off1_inb numel1_S1 (contents T) (crd T t) 1 * 1 + 1 * (y 1).val = e.val
    rw [slab_eq, he]
    show (T.expert (ix1 (crd T t 1)) : BitVec 32).toNat * 1 + 1 * (y 1).val = _
    omega
  | ⟨2, _⟩ =>
    show cc0_transform_1 k0_off1_inb numel1_S1 (contents T) (crd T t) 2 * 1024 + 1 * (y 2).val = (y 2).val
    rw [slab_eq]
    show 0 * 1024 + 1 * (y 2).val = (y 2).val
    omega
  | ⟨3, _⟩ =>
    show cc0_transform_1 k0_off1_inb numel1_S1 (contents T) (crd T t) 3 * 2048 + 1 * (y 3).val = l.val
    rw [slab_eq, hl]
    show (crd T t 0).val * 2048 + 1 * (y 3).val = _
    omega

/-- Two points of one expert and one half of the columns have one slab. -/
theorem same_slab (c : Dev nD) (s t : Fin (cfgT T).N) (h0 : (crd T s 0).val = (crd T t 0).val)
    (h1 : T.expert (ix1 (crd T s 1)) = T.expert (ix1 (crd T t 1))) : blk T m c (1 : Fin 3) s = blk T m c (1 : Fin 3) t := by
  funext y
  have hj : (crd T t 0).val < 2 := (crd T t 0).isLt
  have hy : (y 3).val < 2048 := (y 3).isLt
  exact (slab_at T m c s y ⟨(T.expert (ix1 (crd T s 1)) : BitVec 32).toNat, T.range _⟩
      ⟨2048 * (crd T t 0).val + (y 3).val, by omega⟩ rfl (by rw [h0])).trans
    (slab_at T m c t y ⟨(T.expert (ix1 (crd T s 1)) : BitVec 32).toNat, T.range _⟩
      ⟨2048 * (crd T t 0).val + (y 3).val, by omega⟩ (by rw [← h1]) rfl).symm

/-- Which blocks are used. -/
theorem used_iff (i : grid0.Coords) : Used T i ↔ (BitVec.ofNat 32 (i 1).val).slt (T.used (ix1 0)) = true := by
  unfold Used
  rw [count_eq]
  exact cond1_iff _ _

theorem slt_of_le {a b : ℕ} (w : BitVec 32) (h : a ≤ b) (hb : b < 161) (hs : (BitVec.ofNat 32 b).slt w = true) :
    (BitVec.ofNat 32 a).slt w = true := by
  rw [BitVec.slt_iff_toInt_lt] at hs ⊢
  have e : ∀ n < 161, (BitVec.ofNat 32 n).toInt = n := by decide +kernel
  rw [e b hb] at hs
  rw [e a (by omega)]
  omega

/-- Before a used block that is not flagged stands a used block of the same expert. -/
theorem before_it (c : Dev nD) (t : Fin (cfgT T).N) (h1 : Used T (crd T t)) (hc : ¬ Flagged T (crd T t)) :
    ∃ s : Fin (cfgT T).N, s.val + 1 = t.val ∧ Used T (crd T s) ∧ blk T m c (1 : Fin 3) s = blk T m c (1 : Fin 3) t := by
  obtain ⟨e0, e1⟩ := crd_val t
  have hN : t.val < 322 := t.isLt
  have hne : (crd T t 1).val ≠ 0 := fun h => hc ((flagged_iff T _).mpr (by
    have : crd T t 1 = (0 : Fin 161) := Fin.ext h
    rw [this]
    exact T.head))
  have hs : t.val - 1 < (cfgT T).N := Nat.lt_of_le_of_lt (Nat.sub_le _ _) t.isLt
  obtain ⟨f0, f1⟩ := crd_val ⟨t.val - 1, hs⟩
  have g0 : (crd T ⟨t.val - 1, hs⟩ 0).val = (crd T t 0).val := by
    show (grid0.coords ⟨t.val - 1, hs⟩ 0).val = (grid0.coords t 0).val
    have : (grid0.coords t 1).val ≠ 0 := hne
    rw [f0, e0]
    show (t.val - 1) / 161 = t.val / 161
    omega
  have g1 : (crd T t 1).val = (crd T ⟨t.val - 1, hs⟩ 1).val + 1 := by
    show (grid0.coords t 1).val = (grid0.coords ⟨t.val - 1, hs⟩ 1).val + 1
    have : (grid0.coords t 1).val ≠ 0 := hne
    rw [f1, e1]
    show t.val % 161 = (t.val - 1) % 161 + 1
    omega
  refine ⟨⟨t.val - 1, hs⟩, ?_, ?_, ?_⟩
  · have : (grid0.coords t 1).val ≠ 0 := hne
    show t.val - 1 + 1 = t.val
    omega
  · rw [used_iff] at h1 ⊢
    exact slt_of_le _ (by omega) (crd T t 1).isLt h1
  · refine same_slab T m c _ _ g0 ?_
    rcases T.change (crd T t 1) (crd T ⟨t.val - 1, hs⟩ 1) g1 with h | h
    · exact h.symm
    · exact absurd ((flagged_iff T _).mpr h) hc

/-! ## The pipeline's proof data -/

/-- What a point leaves in its block of the output. -/
def left (c : Dev nD) (t : Fin (cfgT T).N) : S512x2048.Idx → Elt Ideal .f32 :=
  open Classical in
  if Used T (crd T t) then k0_pay2 (F := Ideal) (blk T m c (0 : Fin 3) t) (k0_pay1 (F := Ideal) (blk T m c (1 : Fin 3) t)) else k0_pay3 (F := Ideal)

theorem left_used (c : Dev nD) (t : Fin (cfgT T).N) (h : Used T (crd T t)) :
    left T m c t = k0_pay2 (F := Ideal) (blk T m c (0 : Fin 3) t) (k0_pay1 (F := Ideal) (blk T m c (1 : Fin 3) t)) := if_pos h
theorem left_unused (c : Dev nD) (t : Fin (cfgT T).N) (h : ¬ Used T (crd T t)) : left T m c t = k0_pay3 (F := Ideal) := if_neg h

/-- The narrowed slab is the point before's, if that one was used. -/
def Ready (c : Dev nD) (t : Fin ((cfgT T).N + 1)) (a : Buf (Elt Ideal) ((c : Thread nD τ).loc cc0_scratch0)) : Prop :=
  ∀ s : Fin (cfgT T).N, s.val + 1 = t.val → Used T (crd T s) →
    scM0_0.view.read (Elt Ideal) a = k0_pay1 (F := Ideal) (blk T m c (1 : Fin 3) s)

theorem ready_succ (c : Dev nD) (t : Fin (cfgT T).N) (a : Buf (Elt Ideal) ((c : Thread nD τ).loc cc0_scratch0))
    (h : Used T (crd T t) → scM0_0.view.read (Elt Ideal) a = k0_pay1 (F := Ideal) (blk T m c (1 : Fin 3) t)) : Ready T m c t.succ a := by
  intro s hs hu
  have e : s = t := Fin.ext (by rw [Fin.val_succ] at hs; omega)
  subst e
  exact h hu

theorem ready_here (c : Dev nD) (t : Fin (cfgT T).N) (a : Buf (Elt Ideal) ((c : Thread nD τ).loc cc0_scratch0))
    (h : Ready T m c t.castSucc a) (h1 : Used T (crd T t)) (hc : ¬ Flagged T (crd T t)) :
    scM0_0.view.read (Elt Ideal) a = k0_pay1 (F := Ideal) (blk T m c (1 : Fin 3) t) := by
  obtain ⟨s, hs, hu, e⟩ := before_it T m c t h1 hc
  rw [← e]
  exact h s (hs.trans (Fin.val_castSucc t).symm) hu

/-- The invariant before a point: the narrowed slab, and the body's halves of the tables. -/
def Phi (c : Dev nD) (t : Fin ((cfgT T).N + 1)) : sProp 𝕄 :=
  iprop((∃ a, ⌜Ready T m c t a⌝ ∗ (scM0_0.view.loc (c : Thread nD τ) ↦{fullShare} a)) ∗ (tbM0_0.view.loc (c : Thread nD τ) ↦{fullShare.right} T.expert) ∗ (tbM0_1.view.loc (c : Thread nD τ) ↦{fullShare.right} T.first) ∗ (tbM0_2.view.loc (c : Thread nD τ) ↦{fullShare.right} T.used))

/-- The proof data. -/
def dats (_ : Fin 1) (c : Dev nD) : Dat τ (Elt Ideal) Unit ℕ (UR sig nD τ) ℕ (cfgT T) c where
  A w := m (((cfgT T).win w).arr.view.loc (c : Thread nD τ))
  after w t := match w with
    | ⟨0, _⟩ => blk T m c (0 : Fin 3) t
    | ⟨1, _⟩ => blk T m c (1 : Fin 3) t
    | ⟨2, _⟩ => left T m c t
  Φ t := Phi T m c t
  q _ := fullShare
  owed _ := 0

theorem after_rows (c : Dev nD) (t : Fin (cfgT T).N) : (dats T m 0 c).after (0 : Fin 3) t = blk T m c (0 : Fin 3) t := rfl
theorem after_slab (c : Dev nD) (t : Fin (cfgT T).N) : (dats T m 0 c).after (1 : Fin 3) t = blk T m c (1 : Fin 3) t := rfl
theorem after_outs (c : Dev nD) (t : Fin (cfgT T).N) : (dats T m 0 c).after (2 : Fin 3) t = left T m c t := rfl

theorem before_rows (c : Dev nD) (t : Fin (cfgT T).N) (d) : (dats T m 0 c).before (0 : Fin 3) t d = blk T m c (0 : Fin 3) t :=
  ((dats T m 0 c).before_in_eq_fetched (0 : Fin 3) rfl (fun _ => rfl) (fun _ _ _ => rfl) (fun t => by rw [after_rows]; unfold Dat.blockOf blk; rfl) t d).trans
    (by unfold Dat.fetched Dat.blockOf blk; rfl)
theorem before_slab (c : Dev nD) (t : Fin (cfgT T).N) (d) : (dats T m 0 c).before (1 : Fin 3) t d = blk T m c (1 : Fin 3) t :=
  ((dats T m 0 c).before_in_eq_fetched (1 : Fin 3) rfl (fun _ => rfl) (fun _ _ _ => rfl) (fun t => by rw [after_slab]; unfold Dat.blockOf blk; rfl) t d).trans
    (by unfold Dat.fetched Dat.blockOf blk; rfl)

/-! ## The body at a point -/

/-- The body at a point, as the pipeline calls it. -/
abbrev bodyAt (t : Fin (cfgT T).N) : Prog (TpuEff nD τ sig (Elt Ideal) Λ₀ .tc) PUnit :=
  cc0_moe_expert_down (crd T t) (Memref.whole main_arg1) (Memref.isWhole_whole _) (Memref.whole main_arg2) (Memref.isWhole_whole _) (Memref.whole main_arg3) (Memref.isWhole_whole _) (rows T t) (rows_whole T t) (slab T t) (slab_whole T t) (outs T t) (outs_whole T t) (Memref.whole cc0_scratch0) (Memref.isWhole_whole _)

set_option maxHeartbeats 4000000 in
/-- At every point the body turns the invariant and the windows' buffers into the next point's. -/
theorem body_at (c : Dev nD) (t : Fin (cfgT T).N) :
    iprop((dats T m 0 c).Φ t.castSucc ∗ (dats T m 0 c).owesAt () t.castSucc
        ∗ (∃ d, owns (c : Thread nD τ) (rows T t) fullShare ((dats T m 0 c).before (0 : Fin 3) t d))
        ∗ (∃ d, owns (c : Thread nD τ) (slab T t) fullShare ((dats T m 0 c).before (1 : Fin 3) t d))
        ∗ (∃ d, owns (c : Thread nD τ) (outs T t) fullShare ((dats T m 0 c).before (2 : Fin 3) t d)))
      ⊢ wp frame (wpE (defs₀ (F := Ideal)) Variants.none c none) Set.univ (bodyAt T t) fun _ =>
          iprop((dats T m 0 c).Φ t.succ ∗ (dats T m 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m 0 c).before w t d))
                  | true => owns (c : Thread nD τ) (((cfgT T).win w).stage ((cfgT T).slots t w)) fullShare ((dats T m 0 c).after w t)
                | false => owns (c : Thread nD τ) (((cfgT T).win w).stage ((cfgT T).slots t w)) fullShare ((dats T m 0 c).after w t)) := by
  rw [bigSep_W0]
  rewrite [not_idle]
  simp only [before_rows, before_slab, after_rows, after_slab, after_outs]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi
  by_cases q0 : Used T (crd T t)
  · have q3 : ¬ Unused T (crd T t) := fun h => (cond3_iff _ _).mp h q0
    by_cases q1 : Flagged T (crd T t)
    · iintro ⟨⟨⟨%a0, %ha0, HS0⟩, HT0, HT1, HT2⟩, Ho, ⟨%d0, H0⟩, ⟨%d1, H1⟩, ⟨%d2, H2⟩⟩
      iapply ((kernelRun0_A c (crd T t) (rows T t) (rows_whole T t) (slab T t) (slab_whole T t) (outs T t) (outs_whole T t) T.expert T.first T.used (blk T m c (0 : Fin 3) t) (blk T m c (1 : Fin 3) t) q0 q1 q3).2.2 a0 _)
      isplitl [H0]; · iapply rep_of_owns; iexact H0
      isplitl [H1]; · iapply rep_of_owns; iexact H1
      isplitl [HT0]; · iexact HT0
      isplitl [HT1]; · iexact HT1
      isplitl [HT2]; · iexact HT2
      isplitl [H2]; · iexists _; iexact H2
      isplitl [HS0]; · iexact HS0
      iintro ⟨H0, H1, HT0, HT1, HT2, ⟨%e2, H2⟩, HS0⟩
      isplitl [HS0 HT0 HT1 HT2]
      · isplitl [HS0]
        · iexists _; isplitr; swap
          · iexact HS0
          · ipureintro; exact ready_succ T m c t _ fun _ => made_scratch T c _ _ _ _ _ _ _ _ _ _ _ _
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      unfold owns; iexists _; isplitr; swap
      · iexact H2
      · ipureintro
        exact (View.read_writes_of_cover _ _ _ _ _ (cover0_A_2 c _ _ _ _ _ _ _ _ _ _ _ _ _ _ _)).trans
          ((made T c _ _ _ _ _ _ _ _ _ _ _ _).trans (left_used T m c t q0).symm)
    · iintro ⟨⟨⟨%a0, %ha0, HS0⟩, HT0, HT1, HT2⟩, Ho, ⟨%d0, H0⟩, ⟨%d1, H1⟩, ⟨%d2, H2⟩⟩
      have hr := ready_here T m c t a0 ha0 q0 q1
      iapply ((kernelRun0_B c (crd T t) (rows T t) (rows_whole T t) (slab T t) (slab_whole T t) (outs T t) (outs_whole T t) T.expert T.first T.used (blk T m c (0 : Fin 3) t) (blk T m c (1 : Fin 3) t) a0 q0 q1 q3).2.2 _)
      isplitl [H0]; · iapply rep_of_owns; iexact H0
      isplitl [H1]; · iapply rep_of_owns; iexact H1
      isplitl [HT0]; · iexact HT0
      isplitl [HT1]; · iexact HT1
      isplitl [HT2]; · iexact HT2
      isplitl [H2]; · iexists _; iexact H2
      isplitl [HS0]; · iexact HS0
      iintro ⟨H0, H1, HT0, HT1, HT2, ⟨%e2, H2⟩, HS0⟩
      isplitl [HS0 HT0 HT1 HT2]
      · isplitl [HS0]
        · iexists _; isplitr; swap
          · iexact HS0
          · ipureintro; exact ready_succ T m c t _ fun _ => (congrArg _ (kept_scratch T c _ _ _ _ _ _ _ _ _ _ _ _ _)).trans hr
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      unfold owns; iexists _; isplitr; swap
      · iexact H2
      · ipureintro
        exact (View.read_writes_of_cover _ _ _ _ _ (cover0_B_2 c _ _ _ _ _ _ _ _ _ _ _ _ _ _ _ _)).trans
          ((kept T c _ _ _ _ _ _ _ _ _ _ _ _ _).trans ((congrArg (k0_pay2 (F := Ideal) (blk T m c (0 : Fin 3) t)) hr).trans (left_used T m c t q0).symm))
  · have q3 : Unused T (crd T t) := (cond3_iff _ _).mpr q0
    iintro ⟨⟨⟨%a0, %ha0, HS0⟩, HT0, HT1, HT2⟩, Ho, ⟨%d0, H0⟩, ⟨%d1, H1⟩, ⟨%d2, H2⟩⟩
    iapply ((kernelRun0_C c (crd T t) (rows T t) (rows_whole T t) (slab T t) (slab_whole T t) (outs T t) (outs_whole T t) T.expert T.first T.used (blk T m c (0 : Fin 3) t) (blk T m c (1 : Fin 3) t) a0 q0 q3).2.2 _)
    isplitl [H0]; · iapply rep_of_owns; iexact H0
    isplitl [H1]; · iapply rep_of_owns; iexact H1
    isplitl [HT0]; · iexact HT0
    isplitl [HT1]; · iexact HT1
    isplitl [HT2]; · iexact HT2
    isplitl [H2]; · iexists _; iexact H2
    isplitl [HS0]; · iexact HS0
    iintro ⟨H0, H1, HT0, HT1, HT2, ⟨%e2, H2⟩, HS0⟩
    isplitl [HS0 HT0 HT1 HT2]
    · isplitl [HS0]
      · iexists _; isplitr; swap
        · iexact HS0
        · ipureintro; exact ready_succ T m c t _ fun h => absurd h q0
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    unfold owns; iexists _; isplitr; swap
    · iexact H2
    · ipureintro
      exact (View.read_writes_of_cover _ _ _ _ _ (cover0_C_2 c _ _ _ _ _ _ _ _ _ _ _ _ _ _ _)).trans
        ((zeroed T c _ _ _ _ _ _ _ _ _ _ _ _).trans (left_unused T m c t q0).symm)

theorem body_everywhere (c : Dev nD) : BodyObligation (dats T m 0 c) (defs₀ (F := Ideal)) Variants.none () Set.univ := fun t => by
  rw [bigSep_W0]
  exact body_at T m c t

/-! ## The launch -/

/-- The launch memory holds the tables. -/
def Launched : Prop :=
  (∀ c : Dev nD, m ((c : Thread nD τ).loc main_arg1) = T.expert)
  ∧ (∀ c : Dev nD, m ((c : Thread nD τ).loc main_arg2) = T.first)
  ∧ (∀ c : Dev nD, m ((c : Thread nD τ).loc main_arg3) = T.used)

/-- The element the launch starts from. -/
def start : UR sig nD τ :=
  initOf (Pipeline.cells (pcs T) ((launch0 (F := Ideal)).cellOf_inj fun _ => adm T))
    (Pipeline.launchToks (pcs T) ((launch0 (F := Ideal)).cellOf_inj fun _ => adm T))

theorem whole_share (c : Dev nD) (w : Fin (cfgT T).W) : (dats T m 0 c).share w = fullShare := by unfold Dat.share; split <;> rfl

/-- The three tables, one by one. -/
theorem tables_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m 0 c).Φ 0 := by
  rw [tables_eq, scopedRest0_eq, show (dats T m 0 c).Φ 0 = Phi T m c 0 from rfl]
  unfold Phi
  iintro ⟨-, ⟨HT0, HT1, HT2⟩, ⟨%a0, HS0⟩⟩
  isplitl [HS0]
  · iexists a0; isplitr; swap
    · iexact HS0
    · ipureintro; intro s hs; exact absurd hs (Nat.succ_ne_zero _)
  isplitl [HT0]
  · iexact HT0
  isplitl [HT1]
  · iexact HT1
  iexact HT2

theorem phi_last (c : Dev nD) : (dats T m 0 c).Φ (Fin.last (cfgT T).N) ⊢ iprop(BI.emp ∗ Pipeline.scopedRest spec0 c) := by
  rw [scopedRest0_eq, show (dats T m 0 c).Φ (Fin.last (cfgT T).N) = Phi T m c (Fin.last _) from rfl]
  unfold Phi
  iintro ⟨⟨%a0, -, HS0⟩, -, -, -⟩
  isplitr; · iempintro
  iexists a0; iexact HS0

/-- What the launch leaves: every array at its computed contents, every table as it was. -/
def Leaves : PUnit × MemSt nD τ sig (Elt Ideal) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

theorem at_launch (hp : Launched T m) (c : Dev nD) (j : Fin 3) : m ((c : Thread nD τ).loc (pre0.ref j)) = (adm T).1 j := by
  fin_cases j
  · exact hp.1 c
  · exact hp.2.1 c
  · exact hp.2.2 c

set_option backward.isDefEq.respectTransparency.types false in
set_option maxHeartbeats 4000000 in
theorem runs (hp : Launched T m) : θ_run (defs (F := Ideal)) (onTc (τ := τ) (main (F := Ideal))) ⟨m, fun _ => 0, ρ⟩ (fun r => Leaves T m r ∧ r.2.sem = fun _ => 0) :=
  Pipeline.θ_run_region_noSem_pf_quiescent pcfgs (fun _ => adm T) (dats T m) () ((launch0 (F := Ideal)).cellOf_inj fun _ => adm T) (0 : Fin 1)
    (launch0 (F := Ideal)).win.to₀ (launch0 (F := Ideal)).pre cells defs₀ Variants.none m ρ main
    (hbody := fun c => (body_everywhere T m c).loose) (hne := (launch0 (F := Ideal)).block_pos)
    (harr := (launch0 (F := Ideal)).arr_whole) (hstage := (launch0 (F := Ideal)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Ideal)).win.arr_inj c (launch0 (F := Ideal)).arr_whole
      (whole_share T m c) _ _ fun _ => rfl)
    (hpf := at_launch T m hp)
    (X := fun _ => iprop(emp)) (Y := fun _ => iprop(emp)) (Z := fun _ => iprop(emp))
    (hX := fun c => by rw [unscopedRestP0_eq]; iintro -; isplitr <;> iempintro)
    (hin := phi_first T m)
    (hout := phi_last T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem framed (hp : Launched T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 3)).trans ((dats T m 0 c).arrAt_in (0 : Fin 3) rfl _),
    ((h.1 c).2 0).trans (hp.1 c).symm, ((h.1 c).2 1).trans (hp.2.1 c).symm, ((h.1 c).2 2).trans (hp.2.2 c).symm,
    ((h.1 c).1 (1 : Fin 3)).trans ((dats T m 0 c).arrAt_in (1 : Fin 3) rfl _)⟩, h.2⟩) (runs T m ρ hp)

end Cert.DownIdeal.Step
-- ==== Proof.DownStepBits.lean ====
/- The experts' down-projections in the machine's floats, as Proof/DownStep.lean has them over the extended reals: a grid point is a block of rows against a slab of its expert's
   weights. The narrowed slab is kept between points; it is made at the block flagged as its expert's first and used again
   until the expert changes. Here: what the three control paths leave, the invariant, and the launch. -/
module

public import proofs.«01_k».proof.Defs
public import proofs.«01_k».proof.Proof.Gen.Down
public import proofs.«01_k».proof.Proof.Gen.Down.Launch
public import proofs.«01_k».proof.Proof.Gen.Down.Flash.Runs
public import Idealize.ShloMosaic.Lib.Pipeline.Quiescent
public import Idealize.ShloMosaic.Lib.Claim
public import Idealize.ShloMosaic.Lib.Pipeline.Kit
public import Idealize.ShloMosaic.Lib.Pipeline.ValueKit
public import Idealize.ShloMosaic.Lib.Pipeline.TableIdle
public import Idealize.ShloMosaic.Lib.Pipeline.FrameBody
public import Idealize.ShloMosaic.Lib.Tactic
public import Idealize.ShloMosaic.Lib.VecWindow
public import Idealize.ShloMosaic.Adequacy
public import Idealize.ShloMosaic.Init

@[expose] public section

set_option maxRecDepth 16384

noncomputable section

namespace Cert.Down.Step

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra's type. -/
local notation "𝕄" => MT nD τ sig Unit (Elt Bits) ℕ (UR sig nD τ) ℕ

/-- The staging cells' part of the resource algebra, which is all of it. -/
abbrev cells : Emb (UR sig nD τ) 𝕄 := emb₁

/-! ## The tables -/

/-- The tables the call is launched at: each block's expert, whether the block is its expert's first, and how many blocks
    are used; with what the precondition says of them. -/
structure Tables where
  expert : S161.Idx → Elt Bits .i32
  first : S161.Idx → Elt Bits .i32
  used : S1.Idx → Elt Bits .i32
  range : ∀ j, BitVec.toNat (expert j) < 64
  head : first (ix1 0) = (1#32 : BitVec 32)
  change : ∀ k l : Fin 161, k.val = l.val + 1 → expert (ix1 k) = expert (ix1 l) ∨ first (ix1 k) = (1#32 : BitVec 32)

variable (T : Tables)

set_option backward.proofsInPublic true in
/-- The tables as the pipeline reads them. -/
def contents : pre0.Contents (Elt Bits) :=
  fun | ⟨0, _⟩ => T.expert | ⟨1, _⟩ => T.first | ⟨2, _⟩ => T.used | ⟨_ + 3, h⟩ => absurd h (by simp)

/-- The word a load of one block's entry reads. -/
theorem entry_eq (i : grid0.Coords) (x : S161.Idx → BitVec 32)
    (h : ∀ a, (k0_off2 i) a + S1.size a ≤ S161.size a) :
    View.readAt (Elt Bits) (tbM0_1).view (Rect.unit (s := S161) (k0_off2 i) S1.size h).toLoadRect x (Shape.Idx.first (numel1_S1.symm ▸ Nat.one_pos)) = x (ix1 (i 1)) := by
  show x _ = x _
  congr 1
  funext a
  apply Fin.ext
  match a with
  | ⟨0, _⟩ =>
    show (BitVec.ofNat 32 (i 1).val).toNat + 1 * 0 = (i 1).val
    rw [BitVec.toNat_ofNat, Nat.mod_eq_of_lt (Nat.lt_trans (i 1).isLt (by decide))]
    rfl

/-- The word a load of the number of used blocks reads. -/
theorem count_eq (x : S1.Idx → BitVec 32) :
    View.readAt (Elt Bits) (tbM0_2).view (Rect.unit (s := S1) ![0] S1.size inb_S1_S1_0).toLoadRect x (Shape.Idx.first (numel1_S1.symm ▸ Nat.one_pos)) = x (ix1 0) := by
  show x _ = x _
  congr 1
  funext a
  apply Fin.ext
  match a with
  | ⟨0, _⟩ => rfl

/-- A slab's place in the weights. -/
theorem slab_eq (i : grid0.Coords) :
    cc0_transform_1 k0_off1_inb numel1_S1 (contents T) i = ![0, (T.expert (ix1 (i 1)) : BitVec 32).toNat, 0, (i 0).val] := by
  have hw : (contents T).at 0 (Rect.unit (s := S161) ![(Scalar.indexCast (BitVec.ofNat 32 (i 1).val) : BitVec 32).toNat] S1.size (k0_off1_inb i)) numel1_S1
      = (T.expert (ix1 (i 1)) : BitVec 32) := by
    show T.expert _ = T.expert _
    congr 1
    funext a
    apply Fin.ext
    match a with
    | ⟨0, _⟩ =>
      show (BitVec.ofNat 32 (i 1).val).toNat + 1 * 0 = (i 1).val
      rw [BitVec.toNat_ofNat, Nat.mod_eq_of_lt (Nat.lt_trans (i 1).isLt (by decide))]
      rfl
  have h0 : (BitVec.ofNat 32 (i 0).val).toNat = (i 0).val := by
    rw [BitVec.toNat_ofNat, Nat.mod_eq_of_lt (Nat.lt_trans (i 0).isLt (by decide))]
  unfold cc0_transform_1
  show ![(0#32).toNat, BitVec.toNat ((contents T).at 0 _ _), (0#32).toNat, (BitVec.ofNat 32 (i 0).val).toNat] = _
  rw [h0]
  exact congrArg (fun w : BitVec 32 => ![0, w.toNat, 0, (i 0).val]) hw

/-- Every slab lies inside the weights. -/
theorem inside : ok0 (F := Bits) (contents T) := fun i => ⟨fun a => by
  rw [slab_eq]
  have h0 : (i 0).val < 2 := (i 0).isLt
  have h1 : (T.expert (ix1 (i 1)) : BitVec 32).toNat < 64 := T.range _
  match a with
  | ⟨0, _⟩ => show (0 + 1) * 1 ≤ 2; decide
  | ⟨1, _⟩ => show ((T.expert (ix1 (i 1)) : BitVec 32).toNat + 1) * 1 ≤ 64; omega
  | ⟨2, _⟩ => show (0 + 1) * 1024 ≤ 1024; decide
  | ⟨3, _⟩ => show ((i 0).val + 1) * 2048 ≤ 4096; omega, .inl rfl⟩

/-- The pipeline at the tables. -/
def adm : (pcfg0 (F := Bits)).Adm := ⟨contents T, inside T⟩
abbrev cfgT : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- A grid point's coordinates: the half of the columns, and the block of rows. -/
abbrev crd (t : Fin (cfgT T).N) : grid0.Coords := grid0.coords t

abbrev rows (t : Fin (cfgT T).N) : Memref sig .tc .vmem S512x1024 .bf16 := spec0_0.stage ((cfgT T).slots t (0 : Fin 3))
abbrev rows_whole (t : Fin (cfgT T).N) : (rows T t).IsWhole := hstage0_0 (((cfgT T).slots t (0 : Fin 3)).cast nbuf0_0)
abbrev slab (t : Fin (cfgT T).N) : Memref sig .tc .vmem S1x1x1024x2048 .f32 := spec0_1.stage ((cfgT T).slots t (1 : Fin 3))
abbrev slab_whole (t : Fin (cfgT T).N) : (slab T t).IsWhole := hstage0_1 (((cfgT T).slots t (1 : Fin 3)).cast nbuf0_1)
abbrev outs (t : Fin (cfgT T).N) : Memref sig .tc .vmem S512x2048 .f32 := spec0_2.stage ((cfgT T).slots t (2 : Fin 3))
abbrev outs_whole (t : Fin (cfgT T).N) : (outs T t).IsWhole := hstage0_2 (((cfgT T).slots t (2 : Fin 3)).cast nbuf0_2)

/-- A window's block at a grid point, of the launch's memory. -/
def blk (c : Dev nD) (w : Fin (cfgT T).W) (t : Fin (cfgT T).N) :
    (((cfgT T).win w).xblock ((cfgT T).grid.coords t)).Idx → Elt Bits ((cfgT T).win w).elt :=
  (((cfgT T).win w).blk t).view.read (Elt Bits) (m (((cfgT T).win w).arr.view.loc (c : Thread nD τ)))

/-! ## The control at a grid point -/

/-- The block is used. -/
abbrev Used (i : grid0.Coords) : Prop := k0_cond1 i (View.readAt (Elt Bits) (tbM0_2).view (Rect.unit (s := S1) ![0] S1.size inb_S1_S1_0).toLoadRect T.used (Shape.Idx.first (numel1_S1.symm ▸ Nat.one_pos))) = 1#1
/-- The block is used, as the body asks the second time. -/
abbrev Unused (i : grid0.Coords) : Prop := k0_cond3 i (View.readAt (Elt Bits) (tbM0_2).view (Rect.unit (s := S1) ![0] S1.size inb_S1_S1_0).toLoadRect T.used (Shape.Idx.first (numel1_S1.symm ▸ Nat.one_pos))) = 1#1
/-- The block is flagged as its expert's first. -/
abbrev Flagged (i : grid0.Coords) : Prop := (Scalar.cmpi .ne (Scalar.extui (Scalar.cmpi .eq (View.readAt (Elt Bits) (tbM0_1).view (Rect.unit (s := S161) (k0_off2 i) S1.size (k0_off2_inb i)).toLoadRect T.first (Shape.Idx.first (numel1_S1.symm ▸ Nat.one_pos))) 1#32)) 0#32) = 1#1

theorem cond1_iff (i : grid0.Coords) (w : BitVec 32) : k0_cond1 i w = 1#1 ↔ (BitVec.ofNat 32 (i 1).val).slt w = true := by
  show (IntOp.cmpi .ne (BitVec.setWidth 32 (BitVec.ofBool ((BitVec.ofNat 32 (i 1).val).slt w))) 0#32 = 1#1) ↔ _
  generalize (BitVec.ofNat 32 (i 1).val).slt w = p
  revert p
  decide

theorem cond3_iff (i : grid0.Coords) (w : BitVec 32) : k0_cond3 i w = 1#1 ↔ ¬ k0_cond1 i w = 1#1 := by
  rw [cond1_iff]
  show (IntOp.cmpi .ne (BitVec.setWidth 32 (BitVec.ofBool (w.sle (BitVec.ofNat 32 (i 1).val)))) 0#32 = 1#1) ↔ _
  rw [show w.sle (BitVec.ofNat 32 (i 1).val) = !((BitVec.ofNat 32 (i 1).val).slt w) from BitVec.sle_eq_not_slt]
  generalize (BitVec.ofNat 32 (i 1).val).slt w = p
  revert p
  decide

theorem flag_iff (v : BitVec 32) : Scalar.cmpi .ne (Scalar.extui (Scalar.cmpi .eq v 1#32) : BitVec 32) 0#32 = 1#1 ↔ v = 1#32 := by
  show (IntOp.cmpi .ne (BitVec.setWidth 32 (BitVec.ofBool (v == 1#32))) 0#32 = 1#1) ↔ _
  rw [← beq_iff_eq (a := v)]
  generalize (v == 1#32) = p
  clear v
  revert p
  decide

theorem flagged_iff (i : grid0.Coords) : Flagged T i ↔ T.first (ix1 (i 1)) = (1#32 : BitVec 32) := by
  unfold Flagged
  rw [entry_eq]
  exact flag_iff _

/-- The output's window is written at every grid point. -/
theorem not_idle (t : Fin (cfgT T).N) : (cfgT T).idle (2 : Fin 3) ((cfgT T).grid.coords t) = false := by
  show (!(k0_cond1 (crd T t) ((contents T).atD 2 ![0]) == 1#1) && !(k0_cond3 (crd T t) ((contents T).atD 2 ![0]) == 1#1)) = false
  generalize ((contents T).atD 2 ![0] : BitVec 32) = w
  have h := cond3_iff (crd T t) w
  by_cases h1 : k0_cond1 (crd T t) w = 1#1
  · rw [h1]; rfl
  · rw [h.mpr h1]; simp

/-! ## What the three paths leave -/

theorem made (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Bits .bf16) (x1 : S1x1x1024x2048.Idx → Elt Bits .f32) (h1 : Used T i) (hc : Flagged T i) (h3 : ¬ Unused T i) :
    out0_A_2 c i arg5 harg5 arg6 harg6 arg7 harg7 T.expert T.first T.used x0 x1 h1 hc h3 = k0_pay2 x0 (k0_pay1 x1) := by
  frame_out
  rw [View.read_rep, View.read_rep]

theorem made_scratch (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Bits .bf16) (x1 : S1x1x1024x2048.Idx → Elt Bits .f32) (h1 : Used T i) (hc : Flagged T i) (h3 : ¬ Unused T i) :
    scM0_0.view.read (Elt Bits) (kernelRun0_A c i arg5 harg5 arg6 harg6 arg7 harg7 T.expert T.first T.used x0 x1 h1 hc h3).2.1 = k0_pay1 x1 := by
  unfold kernelRun0_A
  dsimp only
  unfold kernelRun0_A.sl.HS0_1
  exact (View.read_writes_full _ _ _ _ _).trans (congrArg (k0_pay1 (F := Bits)) (View.readAt_rep_full _ _ _))

theorem kept (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Bits .bf16) (x1 : S1x1x1024x2048.Idx → Elt Bits .f32) (a : Buf (Elt Bits) ((c : Thread nD τ).loc cc0_scratch0)) (h1 : Used T i) (hc : ¬ Flagged T i) (h3 : ¬ Unused T i) :
    out0_B_2 c i arg5 harg5 arg6 harg6 arg7 harg7 T.expert T.first T.used x0 x1 a h1 hc h3 = k0_pay2 x0 (scM0_0.view.read (Elt Bits) a) := by
  frame_out
  rw [View.read_rep]

theorem kept_scratch (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Bits .bf16) (x1 : S1x1x1024x2048.Idx → Elt Bits .f32) (a : Buf (Elt Bits) ((c : Thread nD τ).loc cc0_scratch0)) (h1 : Used T i) (hc : ¬ Flagged T i) (h3 : ¬ Unused T i) :
    (kernelRun0_B c i arg5 harg5 arg6 harg6 arg7 harg7 T.expert T.first T.used x0 x1 a h1 hc h3).2.1 = a := by
  unfold kernelRun0_B
  rfl

theorem zeroed (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S512x2048 .f32) (harg7 : arg7.IsWhole)
    (x0 : S512x1024.Idx → Elt Bits .bf16) (x1 : S1x1x1024x2048.Idx → Elt Bits .f32) (a : Buf (Elt Bits) ((c : Thread nD τ).loc cc0_scratch0)) (h1 : ¬ Used T i) (h3 : Unused T i) :
    out0_C_2 c i arg5 harg5 arg6 harg6 arg7 harg7 T.expert T.first T.used x0 x1 a h1 h3 = k0_pay3 (F := Bits) := by
  frame_out

/-! ## One point and the next -/

theorem crd_val : ∀ t : Fin grid0.N, (grid0.coords t 0).val = t.val / 161 ∧ (grid0.coords t 1).val = t.val % 161 := by
  decide +kernel

/-- A slab's block: its expert's rows, and its half of the columns. -/
theorem slab_at (c : Dev nD) (t : Fin (cfgT T).N) (y : S1x1x1024x2048.Idx) (e : Fin 64) (l : Fin 4096)
    (he : e.val = (T.expert (ix1 (crd T t 1)) : BitVec 32).toNat) (hl : l.val = 2048 * (crd T t 0).val + (y 3).val) :
    blk T m c (1 : Fin 3) t y = m ((c : Thread nD τ).loc main_arg4) (ix4 (0 : Fin 2) e (y 2) l) := by
  have h0 : (y 0).val < 1 := (y 0).isLt
  have h1 : (y 1).val < 1 := (y 1).isLt
  unfold blk
  rw [View.read_apply]
  show m ((c : Thread nD τ).loc main_arg4) _ = m ((c : Thread nD τ).loc main_arg4) _
  congr 1
  funext a
  apply Fin.ext
  match a with
  | ⟨0, _⟩ =>
    show cc0_transform_1 k0_off1_inb numel1_S1 (contents T) (crd T t) 0 * 1 + 1 * (y 0).val = 0
    rw [slab_eq]
    show 0 * 1 + 1 * (y 0).val = 0
    omega
  | ⟨1, _⟩ =>
    show cc0_transform_1 k0_off1_inb numel1_S1 (contents T) (crd T t) 1 * 1 + 1 * (y 1).val = e.val
    rw [slab_eq, he]
    show (T.expert (ix1 (crd T t 1)) : BitVec 32).toNat * 1 + 1 * (y 1).val = _
    omega
  | ⟨2, _⟩ =>
    show cc0_transform_1 k0_off1_inb numel1_S1 (contents T) (crd T t) 2 * 1024 + 1 * (y 2).val = (y 2).val
    rw [slab_eq]
    show 0 * 1024 + 1 * (y 2).val = (y 2).val
    omega
  | ⟨3, _⟩ =>
    show cc0_transform_1 k0_off1_inb numel1_S1 (contents T) (crd T t) 3 * 2048 + 1 * (y 3).val = l.val
    rw [slab_eq, hl]
    show (crd T t 0).val * 2048 + 1 * (y 3).val = _
    omega

/-- Two points of one expert and one half of the columns have one slab. -/
theorem same_slab (c : Dev nD) (s t : Fin (cfgT T).N) (h0 : (crd T s 0).val = (crd T t 0).val)
    (h1 : T.expert (ix1 (crd T s 1)) = T.expert (ix1 (crd T t 1))) : blk T m c (1 : Fin 3) s = blk T m c (1 : Fin 3) t := by
  funext y
  have hj : (crd T t 0).val < 2 := (crd T t 0).isLt
  have hy : (y 3).val < 2048 := (y 3).isLt
  exact (slab_at T m c s y ⟨(T.expert (ix1 (crd T s 1)) : BitVec 32).toNat, T.range _⟩
      ⟨2048 * (crd T t 0).val + (y 3).val, by omega⟩ rfl (by rw [h0])).trans
    (slab_at T m c t y ⟨(T.expert (ix1 (crd T s 1)) : BitVec 32).toNat, T.range _⟩
      ⟨2048 * (crd T t 0).val + (y 3).val, by omega⟩ (by rw [← h1]) rfl).symm

/-- Which blocks are used. -/
theorem used_iff (i : grid0.Coords) : Used T i ↔ (BitVec.ofNat 32 (i 1).val).slt (T.used (ix1 0)) = true := by
  unfold Used
  rw [count_eq]
  exact cond1_iff _ _

theorem slt_of_le {a b : ℕ} (w : BitVec 32) (h : a ≤ b) (hb : b < 161) (hs : (BitVec.ofNat 32 b).slt w = true) :
    (BitVec.ofNat 32 a).slt w = true := by
  rw [BitVec.slt_iff_toInt_lt] at hs ⊢
  have e : ∀ n < 161, (BitVec.ofNat 32 n).toInt = n := by decide +kernel
  rw [e b hb] at hs
  rw [e a (by omega)]
  omega

/-- Before a used block that is not flagged stands a used block of the same expert. -/
theorem before_it (c : Dev nD) (t : Fin (cfgT T).N) (h1 : Used T (crd T t)) (hc : ¬ Flagged T (crd T t)) :
    ∃ s : Fin (cfgT T).N, s.val + 1 = t.val ∧ Used T (crd T s) ∧ blk T m c (1 : Fin 3) s = blk T m c (1 : Fin 3) t := by
  obtain ⟨e0, e1⟩ := crd_val t
  have hN : t.val < 322 := t.isLt
  have hne : (crd T t 1).val ≠ 0 := fun h => hc ((flagged_iff T _).mpr (by
    have : crd T t 1 = (0 : Fin 161) := Fin.ext h
    rw [this]
    exact T.head))
  have hs : t.val - 1 < (cfgT T).N := Nat.lt_of_le_of_lt (Nat.sub_le _ _) t.isLt
  obtain ⟨f0, f1⟩ := crd_val ⟨t.val - 1, hs⟩
  have g0 : (crd T ⟨t.val - 1, hs⟩ 0).val = (crd T t 0).val := by
    show (grid0.coords ⟨t.val - 1, hs⟩ 0).val = (grid0.coords t 0).val
    have : (grid0.coords t 1).val ≠ 0 := hne
    rw [f0, e0]
    show (t.val - 1) / 161 = t.val / 161
    omega
  have g1 : (crd T t 1).val = (crd T ⟨t.val - 1, hs⟩ 1).val + 1 := by
    show (grid0.coords t 1).val = (grid0.coords ⟨t.val - 1, hs⟩ 1).val + 1
    have : (grid0.coords t 1).val ≠ 0 := hne
    rw [f1, e1]
    show t.val % 161 = (t.val - 1) % 161 + 1
    omega
  refine ⟨⟨t.val - 1, hs⟩, ?_, ?_, ?_⟩
  · have : (grid0.coords t 1).val ≠ 0 := hne
    show t.val - 1 + 1 = t.val
    omega
  · rw [used_iff] at h1 ⊢
    exact slt_of_le _ (by omega) (crd T t 1).isLt h1
  · refine same_slab T m c _ _ g0 ?_
    rcases T.change (crd T t 1) (crd T ⟨t.val - 1, hs⟩ 1) g1 with h | h
    · exact h.symm
    · exact absurd ((flagged_iff T _).mpr h) hc

/-! ## The pipeline's proof data -/

/-- What a point leaves in its block of the output. -/
def left (c : Dev nD) (t : Fin (cfgT T).N) : S512x2048.Idx → Elt Bits .f32 :=
  open Classical in
  if Used T (crd T t) then k0_pay2 (F := Bits) (blk T m c (0 : Fin 3) t) (k0_pay1 (F := Bits) (blk T m c (1 : Fin 3) t)) else k0_pay3 (F := Bits)

theorem left_used (c : Dev nD) (t : Fin (cfgT T).N) (h : Used T (crd T t)) :
    left T m c t = k0_pay2 (F := Bits) (blk T m c (0 : Fin 3) t) (k0_pay1 (F := Bits) (blk T m c (1 : Fin 3) t)) := if_pos h
theorem left_unused (c : Dev nD) (t : Fin (cfgT T).N) (h : ¬ Used T (crd T t)) : left T m c t = k0_pay3 (F := Bits) := if_neg h

/-- The narrowed slab is the point before's, if that one was used. -/
def Ready (c : Dev nD) (t : Fin ((cfgT T).N + 1)) (a : Buf (Elt Bits) ((c : Thread nD τ).loc cc0_scratch0)) : Prop :=
  ∀ s : Fin (cfgT T).N, s.val + 1 = t.val → Used T (crd T s) →
    scM0_0.view.read (Elt Bits) a = k0_pay1 (F := Bits) (blk T m c (1 : Fin 3) s)

theorem ready_succ (c : Dev nD) (t : Fin (cfgT T).N) (a : Buf (Elt Bits) ((c : Thread nD τ).loc cc0_scratch0))
    (h : Used T (crd T t) → scM0_0.view.read (Elt Bits) a = k0_pay1 (F := Bits) (blk T m c (1 : Fin 3) t)) : Ready T m c t.succ a := by
  intro s hs hu
  have e : s = t := Fin.ext (by rw [Fin.val_succ] at hs; omega)
  subst e
  exact h hu

theorem ready_here (c : Dev nD) (t : Fin (cfgT T).N) (a : Buf (Elt Bits) ((c : Thread nD τ).loc cc0_scratch0))
    (h : Ready T m c t.castSucc a) (h1 : Used T (crd T t)) (hc : ¬ Flagged T (crd T t)) :
    scM0_0.view.read (Elt Bits) a = k0_pay1 (F := Bits) (blk T m c (1 : Fin 3) t) := by
  obtain ⟨s, hs, hu, e⟩ := before_it T m c t h1 hc
  rw [← e]
  exact h s (hs.trans (Fin.val_castSucc t).symm) hu

/-- The invariant before a point: the narrowed slab, and the body's halves of the tables. -/
def Phi (c : Dev nD) (t : Fin ((cfgT T).N + 1)) : sProp 𝕄 :=
  iprop((∃ a, ⌜Ready T m c t a⌝ ∗ (scM0_0.view.loc (c : Thread nD τ) ↦{fullShare} a)) ∗ (tbM0_0.view.loc (c : Thread nD τ) ↦{fullShare.right} T.expert) ∗ (tbM0_1.view.loc (c : Thread nD τ) ↦{fullShare.right} T.first) ∗ (tbM0_2.view.loc (c : Thread nD τ) ↦{fullShare.right} T.used))

/-- The proof data. -/
def dats (_ : Fin 1) (c : Dev nD) : Dat τ (Elt Bits) Unit ℕ (UR sig nD τ) ℕ (cfgT T) c where
  A w := m (((cfgT T).win w).arr.view.loc (c : Thread nD τ))
  after w t := match w with
    | ⟨0, _⟩ => blk T m c (0 : Fin 3) t
    | ⟨1, _⟩ => blk T m c (1 : Fin 3) t
    | ⟨2, _⟩ => left T m c t
  Φ t := Phi T m c t
  q _ := fullShare
  owed _ := 0

theorem after_rows (c : Dev nD) (t : Fin (cfgT T).N) : (dats T m 0 c).after (0 : Fin 3) t = blk T m c (0 : Fin 3) t := rfl
theorem after_slab (c : Dev nD) (t : Fin (cfgT T).N) : (dats T m 0 c).after (1 : Fin 3) t = blk T m c (1 : Fin 3) t := rfl
theorem after_outs (c : Dev nD) (t : Fin (cfgT T).N) : (dats T m 0 c).after (2 : Fin 3) t = left T m c t := rfl

theorem before_rows (c : Dev nD) (t : Fin (cfgT T).N) (d) : (dats T m 0 c).before (0 : Fin 3) t d = blk T m c (0 : Fin 3) t :=
  ((dats T m 0 c).before_in_eq_fetched (0 : Fin 3) rfl (fun _ => rfl) (fun _ _ _ => rfl) (fun t => by rw [after_rows]; unfold Dat.blockOf blk; rfl) t d).trans
    (by unfold Dat.fetched Dat.blockOf blk; rfl)
theorem before_slab (c : Dev nD) (t : Fin (cfgT T).N) (d) : (dats T m 0 c).before (1 : Fin 3) t d = blk T m c (1 : Fin 3) t :=
  ((dats T m 0 c).before_in_eq_fetched (1 : Fin 3) rfl (fun _ => rfl) (fun _ _ _ => rfl) (fun t => by rw [after_slab]; unfold Dat.blockOf blk; rfl) t d).trans
    (by unfold Dat.fetched Dat.blockOf blk; rfl)

/-! ## The body at a point -/

/-- The body at a point, as the pipeline calls it. -/
abbrev bodyAt (t : Fin (cfgT T).N) : Prog (TpuEff nD τ sig (Elt Bits) Λ₀ .tc) PUnit :=
  cc0_moe_expert_down (crd T t) (Memref.whole main_arg1) (Memref.isWhole_whole _) (Memref.whole main_arg2) (Memref.isWhole_whole _) (Memref.whole main_arg3) (Memref.isWhole_whole _) (rows T t) (rows_whole T t) (slab T t) (slab_whole T t) (outs T t) (outs_whole T t) (Memref.whole cc0_scratch0) (Memref.isWhole_whole _)

set_option maxHeartbeats 4000000 in
/-- At every point the body turns the invariant and the windows' buffers into the next point's. -/
theorem body_at (c : Dev nD) (t : Fin (cfgT T).N) :
    iprop((dats T m 0 c).Φ t.castSucc ∗ (dats T m 0 c).owesAt () t.castSucc
        ∗ (∃ d, owns (c : Thread nD τ) (rows T t) fullShare ((dats T m 0 c).before (0 : Fin 3) t d))
        ∗ (∃ d, owns (c : Thread nD τ) (slab T t) fullShare ((dats T m 0 c).before (1 : Fin 3) t d))
        ∗ (∃ d, owns (c : Thread nD τ) (outs T t) fullShare ((dats T m 0 c).before (2 : Fin 3) t d)))
      ⊢ wp frame (wpE (defs₀ (F := Bits)) Variants.none c none) Set.univ (bodyAt T t) fun _ =>
          iprop((dats T m 0 c).Φ t.succ ∗ (dats T m 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m 0 c).before w t d))
                  | true => owns (c : Thread nD τ) (((cfgT T).win w).stage ((cfgT T).slots t w)) fullShare ((dats T m 0 c).after w t)
                | false => owns (c : Thread nD τ) (((cfgT T).win w).stage ((cfgT T).slots t w)) fullShare ((dats T m 0 c).after w t)) := by
  rw [bigSep_W0]
  rewrite [not_idle]
  simp only [before_rows, before_slab, after_rows, after_slab, after_outs]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi
  by_cases q0 : Used T (crd T t)
  · have q3 : ¬ Unused T (crd T t) := fun h => (cond3_iff _ _).mp h q0
    by_cases q1 : Flagged T (crd T t)
    · iintro ⟨⟨⟨%a0, %ha0, HS0⟩, HT0, HT1, HT2⟩, Ho, ⟨%d0, H0⟩, ⟨%d1, H1⟩, ⟨%d2, H2⟩⟩
      iapply ((kernelRun0_A c (crd T t) (rows T t) (rows_whole T t) (slab T t) (slab_whole T t) (outs T t) (outs_whole T t) T.expert T.first T.used (blk T m c (0 : Fin 3) t) (blk T m c (1 : Fin 3) t) q0 q1 q3).2.2 a0 _)
      isplitl [H0]; · iapply rep_of_owns; iexact H0
      isplitl [H1]; · iapply rep_of_owns; iexact H1
      isplitl [HT0]; · iexact HT0
      isplitl [HT1]; · iexact HT1
      isplitl [HT2]; · iexact HT2
      isplitl [H2]; · iexists _; iexact H2
      isplitl [HS0]; · iexact HS0
      iintro ⟨H0, H1, HT0, HT1, HT2, ⟨%e2, H2⟩, HS0⟩
      isplitl [HS0 HT0 HT1 HT2]
      · isplitl [HS0]
        · iexists _; isplitr; swap
          · iexact HS0
          · ipureintro; exact ready_succ T m c t _ fun _ => made_scratch T c _ _ _ _ _ _ _ _ _ _ _ _
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      unfold owns; iexists _; isplitr; swap
      · iexact H2
      · ipureintro
        exact (View.read_writes_of_cover _ _ _ _ _ (cover0_A_2 c _ _ _ _ _ _ _ _ _ _ _ _ _ _ _)).trans
          ((made T c _ _ _ _ _ _ _ _ _ _ _ _).trans (left_used T m c t q0).symm)
    · iintro ⟨⟨⟨%a0, %ha0, HS0⟩, HT0, HT1, HT2⟩, Ho, ⟨%d0, H0⟩, ⟨%d1, H1⟩, ⟨%d2, H2⟩⟩
      have hr := ready_here T m c t a0 ha0 q0 q1
      iapply ((kernelRun0_B c (crd T t) (rows T t) (rows_whole T t) (slab T t) (slab_whole T t) (outs T t) (outs_whole T t) T.expert T.first T.used (blk T m c (0 : Fin 3) t) (blk T m c (1 : Fin 3) t) a0 q0 q1 q3).2.2 _)
      isplitl [H0]; · iapply rep_of_owns; iexact H0
      isplitl [H1]; · iapply rep_of_owns; iexact H1
      isplitl [HT0]; · iexact HT0
      isplitl [HT1]; · iexact HT1
      isplitl [HT2]; · iexact HT2
      isplitl [H2]; · iexists _; iexact H2
      isplitl [HS0]; · iexact HS0
      iintro ⟨H0, H1, HT0, HT1, HT2, ⟨%e2, H2⟩, HS0⟩
      isplitl [HS0 HT0 HT1 HT2]
      · isplitl [HS0]
        · iexists _; isplitr; swap
          · iexact HS0
          · ipureintro; exact ready_succ T m c t _ fun _ => (congrArg _ (kept_scratch T c _ _ _ _ _ _ _ _ _ _ _ _ _)).trans hr
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      unfold owns; iexists _; isplitr; swap
      · iexact H2
      · ipureintro
        exact (View.read_writes_of_cover _ _ _ _ _ (cover0_B_2 c _ _ _ _ _ _ _ _ _ _ _ _ _ _ _ _)).trans
          ((kept T c _ _ _ _ _ _ _ _ _ _ _ _ _).trans ((congrArg (k0_pay2 (F := Bits) (blk T m c (0 : Fin 3) t)) hr).trans (left_used T m c t q0).symm))
  · have q3 : Unused T (crd T t) := (cond3_iff _ _).mpr q0
    iintro ⟨⟨⟨%a0, %ha0, HS0⟩, HT0, HT1, HT2⟩, Ho, ⟨%d0, H0⟩, ⟨%d1, H1⟩, ⟨%d2, H2⟩⟩
    iapply ((kernelRun0_C c (crd T t) (rows T t) (rows_whole T t) (slab T t) (slab_whole T t) (outs T t) (outs_whole T t) T.expert T.first T.used (blk T m c (0 : Fin 3) t) (blk T m c (1 : Fin 3) t) a0 q0 q3).2.2 _)
    isplitl [H0]; · iapply rep_of_owns; iexact H0
    isplitl [H1]; · iapply rep_of_owns; iexact H1
    isplitl [HT0]; · iexact HT0
    isplitl [HT1]; · iexact HT1
    isplitl [HT2]; · iexact HT2
    isplitl [H2]; · iexists _; iexact H2
    isplitl [HS0]; · iexact HS0
    iintro ⟨H0, H1, HT0, HT1, HT2, ⟨%e2, H2⟩, HS0⟩
    isplitl [HS0 HT0 HT1 HT2]
    · isplitl [HS0]
      · iexists _; isplitr; swap
        · iexact HS0
        · ipureintro; exact ready_succ T m c t _ fun h => absurd h q0
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    unfold owns; iexists _; isplitr; swap
    · iexact H2
    · ipureintro
      exact (View.read_writes_of_cover _ _ _ _ _ (cover0_C_2 c _ _ _ _ _ _ _ _ _ _ _ _ _ _ _)).trans
        ((zeroed T c _ _ _ _ _ _ _ _ _ _ _ _).trans (left_unused T m c t q0).symm)

theorem body_everywhere (c : Dev nD) : BodyObligation (dats T m 0 c) (defs₀ (F := Bits)) Variants.none () Set.univ := fun t => by
  rw [bigSep_W0]
  exact body_at T m c t

/-! ## The launch -/

/-- The launch memory holds the tables. -/
def Launched : Prop :=
  (∀ c : Dev nD, m ((c : Thread nD τ).loc main_arg1) = T.expert)
  ∧ (∀ c : Dev nD, m ((c : Thread nD τ).loc main_arg2) = T.first)
  ∧ (∀ c : Dev nD, m ((c : Thread nD τ).loc main_arg3) = T.used)

/-- The element the launch starts from. -/
def start : UR sig nD τ :=
  initOf (Pipeline.cells (pcs T) ((launch0 (F := Bits)).cellOf_inj fun _ => adm T))
    (Pipeline.launchToks (pcs T) ((launch0 (F := Bits)).cellOf_inj fun _ => adm T))

theorem whole_share (c : Dev nD) (w : Fin (cfgT T).W) : (dats T m 0 c).share w = fullShare := by unfold Dat.share; split <;> rfl

/-- The three tables, one by one. -/
theorem tables_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m 0 c).Φ 0 := by
  rw [tables_eq, scopedRest0_eq, show (dats T m 0 c).Φ 0 = Phi T m c 0 from rfl]
  unfold Phi
  iintro ⟨-, ⟨HT0, HT1, HT2⟩, ⟨%a0, HS0⟩⟩
  isplitl [HS0]
  · iexists a0; isplitr; swap
    · iexact HS0
    · ipureintro; intro s hs; exact absurd hs (Nat.succ_ne_zero _)
  isplitl [HT0]
  · iexact HT0
  isplitl [HT1]
  · iexact HT1
  iexact HT2

theorem phi_last (c : Dev nD) : (dats T m 0 c).Φ (Fin.last (cfgT T).N) ⊢ iprop(BI.emp ∗ Pipeline.scopedRest spec0 c) := by
  rw [scopedRest0_eq, show (dats T m 0 c).Φ (Fin.last (cfgT T).N) = Phi T m c (Fin.last _) from rfl]
  unfold Phi
  iintro ⟨⟨%a0, -, HS0⟩, -, -, -⟩
  isplitr; · iempintro
  iexists a0; iexact HS0

/-- What the launch leaves: every array at its computed contents, every table as it was. -/
def Leaves : PUnit × MemSt nD τ sig (Elt Bits) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

theorem at_launch (hp : Launched T m) (c : Dev nD) (j : Fin 3) : m ((c : Thread nD τ).loc (pre0.ref j)) = (adm T).1 j := by
  fin_cases j
  · exact hp.1 c
  · exact hp.2.1 c
  · exact hp.2.2 c

set_option backward.isDefEq.respectTransparency.types false in
set_option maxHeartbeats 4000000 in
theorem runs (hp : Launched T m) : θ_run (defs (F := Bits)) (onTc (τ := τ) (main (F := Bits))) ⟨m, fun _ => 0, ρ⟩ (fun r => Leaves T m r ∧ r.2.sem = fun _ => 0) :=
  Pipeline.θ_run_region_noSem_pf_quiescent pcfgs (fun _ => adm T) (dats T m) () ((launch0 (F := Bits)).cellOf_inj fun _ => adm T) (0 : Fin 1)
    (launch0 (F := Bits)).win.to₀ (launch0 (F := Bits)).pre cells defs₀ Variants.none m ρ main
    (hbody := fun c => (body_everywhere T m c).loose) (hne := (launch0 (F := Bits)).block_pos)
    (harr := (launch0 (F := Bits)).arr_whole) (hstage := (launch0 (F := Bits)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Bits)).win.arr_inj c (launch0 (F := Bits)).arr_whole
      (whole_share T m c) _ _ fun _ => rfl)
    (hpf := at_launch T m hp)
    (X := fun _ => iprop(emp)) (Y := fun _ => iprop(emp)) (Z := fun _ => iprop(emp))
    (hX := fun c => by rw [unscopedRestP0_eq]; iintro -; isplitr <;> iempintro)
    (hin := phi_first T m)
    (hout := phi_last T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem framed (hp : Launched T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 3)).trans ((dats T m 0 c).arrAt_in (0 : Fin 3) rfl _),
    ((h.1 c).2 0).trans (hp.1 c).symm, ((h.1 c).2 1).trans (hp.2.1 c).symm, ((h.1 c).2 2).trans (hp.2.2 c).symm,
    ((h.1 c).1 (1 : Fin 3)).trans ((dats T m 0 c).arrAt_in (1 : Fin 3) rfl _)⟩, h.2⟩) (runs T m ρ hp)

end Cert.Down.Step
-- ==== Proof.Down.lean ====
/- The experts' down-projections: every block of 512 rows times its expert's weights; the blocks past the used ones are
   set to zero. -/
module

public import proofs.«01_k».proof.Defs
public import proofs.«01_k».proof.Proof.Experts
public import proofs.«01_k».proof.Proof.DownStep
public import proofs.«01_k».proof.Proof.DownStepBits
public import proofs.«01_k».proof.Proof.Gen.Down
public import proofs.«01_k».proof.Proof.Gen.DownIdeal
public import proofs.«01_k».proof.Proof.Gen.DownReferenceIdeal
public import proofs.«01_k».proof.Proof.Gen.DownReferenceIdeal.Run
public import Idealize.ShloMosaic.Lib.Pointwise
public import Idealize.ShloMosaic.Lib.Pipeline.ValueKit
public import Idealize.ShloMosaic.Lib.Pipeline.Covers
public import Idealize.ShloMosaic.Adequacy
public import Idealize.ShloMosaic.Init
public import Idealize.ShloMosaic.Lib.Quiescent

@[expose] public section

set_option maxRecDepth 16384

noncomputable section

namespace Cert.Down.Proof

open Idealize.ShloMosaic Idealize.ShloMosaic.TcCoe Cert.Down Cert.Down.Gen
open Idealize.SL.Sem

/-- The tables the kernel is launched at. -/
theorem tables (m : (ℓ : Loc nD τ sig) → Buf (Elt Bits) ℓ) (h : Cert.Pre_Down (hPre_down_experts := Cert.Experts.down_facts) m) :
    ∃ T : Step.Tables, Step.Launched T m := by
  have t := Cert.Experts.down_tables _ _ _ _ _ (h (0 : Fin 1))
  refine ⟨⟨_, _, m (((show Dev nD from (0 : Fin 1)).tc : Thread nD τ).loc main_arg3), t.range, t.head, t.change⟩, fun c => ?_, fun c => ?_, fun c => ?_⟩ <;>
    (obtain rfl : c = (0 : Fin 1) := Subsingleton.elim _ _; rfl)

theorem frame : Cert.quiescent_Down (hDown := Cert.Down.Gen.facts) (hPre_down_experts := Cert.Experts.down_facts) := fun m g h =>
  (tables m h).elim fun T hT => Step.framed T m g hT

end Cert.Down.Proof

namespace Cert.DownIdeal.Proof

open Idealize.ShloMosaic Idealize.ShloMosaic.TcCoe Cert.DownIdeal Cert.DownIdeal.Gen Cert.Experts
open Idealize.SL.Sem

variable (m : (ℓ : Loc nD τ sig) → Buf (Elt Ideal) ℓ)

/-- The tables the idealized kernel is launched at. -/
theorem tables (h : Cert.Pre_DownIdeal (hPre_down_experts := Cert.Experts.down_facts) m) :
    ∃ T : Step.Tables, Step.Launched T m := by
  have t := Cert.Experts.down_tables _ _ _ _ _ (h (0 : Fin 1))
  refine ⟨⟨_, _, m (((show Dev nD from (0 : Fin 1)).tc : Thread nD τ).loc main_arg3), t.range, t.head, t.change⟩, fun c => ?_, fun c => ?_, fun c => ?_⟩ <;>
    (obtain rfl : c = (0 : Fin 1) := Subsingleton.elim _ _; rfl)

theorem frame : Cert.quiescent_DownIdeal (hDownIdeal := Cert.DownIdeal.Gen.facts) (hPre_down_experts := Cert.Experts.down_facts) :=
  fun m g h => (tables m h).elim fun T hT => Step.framed T m g hT

/-- What both programs compute: a row times its block's expert's weights, or zero. -/
def product (be : IVec S161 32) (n : IVec S1 32) (h : FVec Ideal S82432x1024 .bf16) (w : FVec Ideal S2x64x1024x4096 .f32) :
    FVec Ideal S82432x4096 .f32 := fun j =>
  Scalar.select (isUsed n (blockOf (j 0)))
    (∑ k : Fin 1024, (h (ix2 (j 0) k) : EReal) * w (ix4 (0 : Fin 2) (slabOf be (blockOf (j 0))) k (j 1))) (0 : EReal)

/-- A used block's product at a row and a column. -/
theorem used_apply (x0 : FVec Ideal S512x1024 .bf16) (x1 : FVec Ideal S1x1x1024x2048 .f32) (r : Fin 512) (l : Fin 2048) :
    (k0_pay2 (F := Ideal) x0 (k0_pay1 (F := Ideal) x1) (ix2 r l) : EReal)
      = ∑ k : Fin 1024, (x0 (ix2 r k) : EReal) * x1 (ix4 (0 : Fin 1) (0 : Fin 1) k l) := by
  pointwise [k0_pay2, k0_pay1]

theorem unused_apply (r : Fin 512) (l : Fin 2048) : (k0_pay3 (F := Ideal) (ix2 r l) : EReal) = 0 := by
  pointwise [k0_pay3]

variable (T : Step.Tables)

/-- A block of rows. -/
theorem rows_at (c : Dev nD) (t : Fin (Step.cfgT T).N) (r : Fin 512) (k : Fin 1024) (R : Fin 82432)
    (hR : R.val = (grid0.coords t 1).val * 512 + r.val) :
    (Step.blk T m c (0 : Fin 3) t (ix2 r k) : EReal) = m ((c.tc : Thread nD τ).loc main_arg0) (ix2 R k) := by
  unfold Step.blk
  rw [View.read_apply]
  show m ((c.tc : Thread nD τ).loc main_arg0) _ = m ((c.tc : Thread nD τ).loc main_arg0) _
  congr 1
  funext a
  apply Fin.ext
  have e1 : (BitVec.ofNat 32 (grid0.coords t 1).val).toNat = (grid0.coords t 1).val := by
    rw [BitVec.toNat_ofNat, Nat.mod_eq_of_lt (Nat.lt_trans (grid0.coords t 1).isLt (by decide))]
  match a with
  | ⟨0, _⟩ =>
    show (BitVec.ofNat 32 (grid0.coords t 1).val).toNat * 512 + 1 * r.val = R.val
    rw [e1, hR]
    omega
  | ⟨1, _⟩ =>
    show 0 * 1024 + 1 * k.val = k.val
    omega

/-- What a point leaves at a row and a column of its block. -/
theorem left_apply (c : Dev nD) (t : Fin (Step.cfgT T).N) (r : Fin 512) (l : Fin 2048) (R : Fin 82432) (L : Fin 4096)
    (hR : R.val = (grid0.coords t 1).val * 512 + r.val) (hL : L.val = (grid0.coords t 0).val * 2048 + l.val) :
    (Step.left T m c t (ix2 r l) : EReal)
      = product T.expert T.used (m ((c.tc : Thread nD τ).loc main_arg0)) (m ((c.tc : Thread nD τ).loc main_arg4)) (ix2 R L) := by
  have hb : blockOf R = grid0.coords t 1 := Fin.ext (by
    show R.val / 512 = (grid0.coords t 1).val
    omega)
  have hu : Step.Used T (grid0.coords t) ↔ isUsed T.used (blockOf R) = 1#1 := by
    rw [Step.used_iff, hb]
    show _ ↔ BitVec.ofBool ((BitVec.ofNat 32 (grid0.coords t 1).val).slt (T.used (ix1 0))) = 1#1
    generalize (BitVec.ofNat 32 (grid0.coords t 1).val).slt (T.used (ix1 0)) = p
    revert p
    decide
  show _ = Scalar.select (isUsed T.used (blockOf R)) (∑ k : Fin 1024, (show EReal from m ((c.tc : Thread nD τ).loc main_arg0) (ix2 R k)) *
    (show EReal from m ((c.tc : Thread nD τ).loc main_arg4) (ix4 (0 : Fin 2) (slabOf T.expert (blockOf R)) k L))) (0 : EReal)
  by_cases h : Step.Used T (grid0.coords t)
  · rw [Step.left_used T m c t h, hu.mp h]
    refine Eq.trans ?_ (if_pos rfl).symm
    refine (used_apply _ _ r l).trans (Finset.sum_congr rfl fun k _ => congrArg₂ (fun a b : EReal => a * b) (rows_at m T c t r k R hR) ?_)
    exact Step.slab_at T m c t (ix4 (0 : Fin 1) (0 : Fin 1) k l) (slabOf T.expert (blockOf R)) L
      (by rw [slabOf_val _ T.range, hb]) (by rw [hL]; show _ = 2048 * (grid0.coords t 0).val + l.val; omega)
  · rw [Step.left_unused T m c t h, show isUsed T.used (blockOf R) = 0#1 from by
      rcases BitVec.eq_zero_or_eq_one (isUsed T.used (blockOf R)) with e | e
      · exact e
      · exact absurd (hu.mpr e) h]
    exact (unused_apply r l).trans (if_neg (by decide)).symm

/-- The row and the column of the result that a point's block holds at its own row and column. -/
def rowAt (t : Fin grid0.N) (r : Fin 512) : Fin 82432 :=
  ⟨(grid0.coords t 1).val * 512 + r.val, by have h : (grid0.coords t 1).val < 161 := (grid0.coords t 1).isLt; omega⟩
def columnAt (t : Fin grid0.N) (l : Fin 2048) : Fin 4096 :=
  ⟨(grid0.coords t 0).val * 2048 + l.val, by have h : (grid0.coords t 0).val < 2 := (grid0.coords t 0).isLt; omega⟩

/-- The blocks the points leave cover the result. -/
theorem covers : ((Step.cfgT T).win (2 : Fin 3)).Covers :=
  Pipeline.Window.covers_of_indexMap_surj _ rfl (fun a => by match a with | ⟨0, _⟩ => exact Nat.zero_lt_succ _ | ⟨1, _⟩ => exact Nat.zero_lt_succ _) fun β => by
    have b0 : (β 0).val < 161 := lt_of_lt_of_eq (β 0).isLt (by unfold Pipeline.Window.nblk; exact show (82432 + (512 - 1)) / 512 = 161 by norm_num)
    have b1 : (β 1).val < 2 := lt_of_lt_of_eq (β 1).isLt (by unfold Pipeline.Window.nblk; exact show (4096 + (2048 - 1)) / 2048 = 2 by norm_num)
    refine ⟨fun a => match a with | ⟨0, _⟩ => ⟨(β 1).val, b1⟩ | ⟨1, _⟩ => ⟨(β 0).val, b0⟩, fun a => ?_⟩
    match a with
    | ⟨0, _⟩ =>
      show (BitVec.ofNat 32 (β 0).val).toNat = (β 0).val
      rw [BitVec.toNat_ofNat, Nat.mod_eq_of_lt (Nat.lt_trans b0 (by decide))]
    | ⟨1, _⟩ =>
      show (BitVec.ofNat 32 (β 1).val).toNat = (β 1).val
      rw [BitVec.toNat_ofNat, Nat.mod_eq_of_lt (Nat.lt_trans b1 (by decide))]

/-- The launch's result array. -/
theorem arr (c : Dev nD) :
    (Step.dats T m 0 c).arrAt (2 : Fin 3) (Step.cfgT T).N
      = product T.expert T.used (m ((c.tc : Thread nD τ).loc main_arg0)) (m ((c.tc : Thread nD τ).loc main_arg4)) := by
  refine (Step.dats T m 0 c).arrAt_eq_of_covers (2 : Fin 3) _ (covers T) fun t hf y => ?_
  rw [Step.after_outs]
  refine ((congrArg _ (eq_ix2 (n0 := 512) (n1 := 2048) y)).trans (left_apply m T c t (y 0) (y 1) (rowAt t (y 0)) (columnAt t (y 1)) rfl rfl)).trans ?_
  refine congrArg _ ?_
  funext a
  apply Fin.ext
  have e0 : (BitVec.ofNat 32 (grid0.coords t 0).val).toNat = (grid0.coords t 0).val := by
    rw [BitVec.toNat_ofNat, Nat.mod_eq_of_lt (Nat.lt_trans (grid0.coords t 0).isLt (by decide))]
  have e1 : (BitVec.ofNat 32 (grid0.coords t 1).val).toNat = (grid0.coords t 1).val := by
    rw [BitVec.toNat_ofNat, Nat.mod_eq_of_lt (Nat.lt_trans (grid0.coords t 1).isLt (by decide))]
  match a with
  | ⟨0, _⟩ =>
    show (grid0.coords t 1).val * 512 + (y 0).val = (BitVec.ofNat 32 (grid0.coords t 1).val).toNat * 512 + 1 * (y 0).val
    rw [e1, one_mul]
  | ⟨1, _⟩ =>
    show (grid0.coords t 0).val * 2048 + (y 1).val = (BitVec.ofNat 32 (grid0.coords t 0).val).toNat * 2048 + 1 * (y 1).val
    rw [e0, one_mul]

end Cert.DownIdeal.Proof

/-! ## The reference -/

namespace Cert.DownReferenceIdeal.Proof

open Idealize.ShloMosaic Cert.DownReferenceIdeal Cert.DownReferenceIdeal.Gen Cert.Experts Cert.DownIdeal.Proof
open Idealize.SL.Sem

theorem frame : Cert.quiescent_DownReferenceIdeal (hDownReferenceIdeal := Cert.DownReferenceIdeal.Gen.facts) := fun m g _ =>
  (θ_run _ _ _).mono (fun r h => ⟨fun c => (h c).2, sem_eq_zero_of_no_sems (by decide) r.2⟩) (Value.run m g)

/-- The reference's result. -/
theorem result (be : IVec S161 32) (n : IVec S1 32) (h : FVec Ideal S82432x1024 .bf16) (w : FVec Ideal S2x64x1024x4096 .f32)
    (hb : ∀ j, (be j).toNat < 64) :
    shapeCast S82432x4096 (select (broadcastInDim S161x512x4096 ![0, 1, 2] bcast_S161x1x1_S161x512x4096_0_1_2 (cmpi .slt (broadcastInDim S161x1x1 ![0] bcast_S161_S161x1x1_0 (iotaInDim S161 32 0)) (broadcastInDim S161x1x1 ![0, 1, 2] bcast_S1x1x1_S161x1x1_0_1_2 (broadcastInDim S1x1x1 ![2] bcast_S1_S1x1x1_2 n))))
      (Host.dotGeneral dot_S161x512x1024_S161x1024x4096_S161x512x4096_2_1_1_2_0_0 none (extf .f32 (shapeCast S161x512x1024 h shapeCasts_S82432x1024_S161x512x1024) bitsLt_bf16_f32)
        (Host.gather gather_S64x1024x4096_S161x1_S161x1024x4096_12_0_n_n_0_1_110244096 (shapeCast S64x1024x4096 (extractStridedSlice S1x64x1024x4096 ![0, 0, 0, 0] w slices_S2x64x1024x4096_S1x64x1024x4096_0_0_0_0) shapeCasts_S1x64x1024x4096_S64x1024x4096)
          (broadcastInDim S161x1 ![0] bcast_S161_S161x1_0 (select (cmpi .slt be (broadcastInDim S161 ![] bcast_S_S161 (constantI S_ 32 0#32))) (addi be (broadcastInDim S161 ![] bcast_S_S161 (constantI S_ 32 64#32))) be))))
      (broadcastInDim S161x512x4096 ![] bcast_S_S161x512x4096 (id (constant (F := Ideal) S_ .f32 0x00000000#32)))) shapeCasts_S161x512x4096_S82432x4096
      = product be n h w := by
  rw [show Host.gather gather_S64x1024x4096_S161x1_S161x1024x4096_12_0_n_n_0_1_110244096 (shapeCast S64x1024x4096 (extractStridedSlice S1x64x1024x4096 ![0, 0, 0, 0] w slices_S2x64x1024x4096_S1x64x1024x4096_0_0_0_0) shapeCasts_S1x64x1024x4096_S64x1024x4096)
          (broadcastInDim S161x1 ![0] bcast_S161_S161x1_0 (select (cmpi .slt be (broadcastInDim S161 ![] bcast_S_S161 (constantI S_ 32 0#32))) (addi be (broadcastInDim S161 ![] bcast_S_S161 (constantI S_ 32 64#32))) be))
      = fun y => (w (ix4 (0 : Fin 2) (slabOf be (y 0)) (y 1) (y 2)) : EReal) from by
    funext y
    rw [eq_ix3 (n0 := 161) (n1 := 1024) (n2 := 4096) y]
    refine chosen_apply w be _ _ _ _ (fun b => ?_) hb (y 0) (y 1) (y 2)
    refine Eq.trans ?_ (wrapped (be (ix1 b)) (hb _))
    pointwise []]
  funext j
  rw [eq_ix2 (n0 := 82432) (n1 := 4096) j]
  refine (rows_apply _ _ (j 0) (j 1)).trans ?_
  have hh : ∀ k : Fin 1024, shapeCast S161x512x1024 h shapeCasts_S82432x1024_S161x512x1024 (ix3 (blockOf (j 0)) (rowOf (j 0)) k)
      = h (ix2 (j 0) k) := fun k => blocks_apply h _ (j 0) k
  rw [show id (constant (F := Ideal) S_ .f32 0x00000000#32) = constant (F := Ideal) S_ .f32 0x00000000#32 from rfl]
  generalize shapeCast S161x512x1024 h shapeCasts_S82432x1024_S161x512x1024 = H at hh ⊢
  pointwise [product, isUsed]
  exact congrArg (fun s : EReal => Scalar.select _ s (0 : EReal)) (Finset.sum_congr rfl fun k _ => congrArg (fun a : EReal => a * _) (hh k))

/-- The two programs' results agree. -/
theorem algebraic : Cert.algebraic_DownIdeal_DownReferenceIdeal (hDownIdeal := Cert.DownIdeal.Gen.facts)
    (hDownReferenceIdeal := Cert.DownReferenceIdeal.Gen.facts) (hPre_down_experts := Cert.Experts.down_facts) := by
  intro m g m' g' hp hagree
  obtain ⟨T, hT⟩ := Cert.DownIdeal.Proof.tables m hp
  refine ⟨fun c => product T.expert T.used (m ((c.tc : Thread Cert.DownIdeal.nD Cert.DownIdeal.τ).loc Cert.DownIdeal.main_arg0)) (m ((c.tc : Thread Cert.DownIdeal.nD Cert.DownIdeal.τ).loc Cert.DownIdeal.main_arg4)), ?_, ?_⟩
  · refine (θ_run _ _ _).mono (fun r hr c => ⟨((hr.1.1 c).1 (2 : Fin 3)).trans (Cert.DownIdeal.Proof.arr m T c), hr.2.1 c⟩)
      (θ_run_and (Cert.DownIdeal.Step.runs T m g hT) (Cert.DownIdeal.Step.framed T m g hT))
  · refine (θ_run _ _ _).mono (fun r h c => ⟨?_, (h c).2⟩) (Value.run m' g')
    obtain ⟨h0, h1, h2, h3, h4⟩ := hagree c
    have e1 := h1.trans (hT.1 c)
    have e3 := h3.trans (hT.2.2 c)
    refine (h c).1.trans ((result _ _ _ _ fun j => ?_).trans ?_)
    · rw [e1]; exact T.range j
    · rw [h0, h4, e1, e3]

end Cert.DownReferenceIdeal.Proof

end
-- ==== Proof.HeadsPoint.lean ====
/- One grid point of the heads' program: what its stores write, as functions of the point's blocks. -/
module

public import proofs.«01_k».proof.Proof.Layout
public import proofs.«01_k».proof.Proof.Gen.HeadsIdeal
public import proofs.«01_k».proof.Proof.Gen.HeadsIdeal.Frame
public import Idealize.ShloMosaic.Lib.Pipeline.ValueKit

@[expose] public section

set_option maxRecDepth 16384

noncomputable section

namespace Cert.HeadsIdeal.Proof

open Idealize.ShloMosaic Idealize.ShloMosaic.TcCoe Cert.HeadsIdeal Cert.HeadsIdeal.Gen Cert.Lay

/-- The reciprocal root of the mean of 192 squares whose sum is `s`. -/
def root (s : EReal) : EReal := Ideal.rsqrt (s * ((192⁻¹ : ℝ) : EReal) + Ideal.ofBits .f32 0x358637BD#32)

/-- A head's last 128 lanes `c` turned by the tables: lane `j` meets the lanes 32 after and 32 before it. -/
def turned (c co sa sb : Fin 128 → EReal) (j : Fin 128) : EReal :=
  c j * co j + c ⟨(j.val + 128 - 96) % 128, by omega⟩ * sa j + c ⟨(j.val + 128 - 32) % 128, by omega⟩ * sb j

/-- The 256 lanes of a head: scaled by `s` and the gain, the last 128 turned. -/
def lanes (p g : Fin 256 → EReal) (s : EReal) (co sa sb : Fin 128 → EReal) (l : Fin 256) : EReal :=
  if h : l.val < 128 then p l * s * g l else
    turned (fun j => p ⟨128 + j.val, by omega⟩ * s * g ⟨128 + j.val, by omega⟩) co sa sb ⟨l.val - 128, by omega⟩

/-- The lanes of the head that holds lane `n` of the queries' product `p`. -/
def headOf (p : Fin 4096 → EReal) (n : Fin 4096) (l : Fin 256) : EReal := p ⟨n.val / 256 * 256 + l.val, by omega⟩

/-- Lane `n` of the queries whose product is `p`. -/
def query (p : Fin 4096 → EReal) (g : Fin 256 → EReal) (co sa sb : Fin 128 → EReal) (n : Fin 4096) : EReal :=
  lanes (headOf p n) g (root (∑ l : Fin 256, headOf p n l * headOf p n l) * Ideal.ofBits .f32 0x3D93CD3A#32) co sa sb
    ⟨n.val % 256, by omega⟩

/-- The 128 lanes of the head of the keys' product `p` to which lane `n` of the keys belongs. -/
def ownOf (p : Fin 2048 → EReal) (n : Fin 4096) (l : Fin 128) : EReal := p ⟨n.val / 256 * 128 + l.val, by omega⟩

/-- Lane `n` of the keys whose product is `p` and whose shared lanes are `e`. -/
def key (p : Fin 2048 → EReal) (e : Fin 128 → EReal) (g : Fin 256 → EReal) (co sa sb : Fin 128 → EReal) (n : Fin 4096) : EReal :=
  lanes (fun l => if h : l.val < 128 then ownOf p n ⟨l.val, h⟩ else e ⟨l.val - 128, by omega⟩) g
    (root ((∑ l : Fin 128, ownOf p n l * ownOf p n l) + ∑ l : Fin 128, e l * e l)) co sa sb ⟨n.val % 256, by omega⟩

theorem part_eq : (Named.named κ "part" 0x3BAAAAAB#32 : Ideal .f32) = ((192⁻¹ : ℝ) : EReal) := rfl

theorem lanes_low (p g : Fin 256 → EReal) (s : EReal) (co sa sb : Fin 128 → EReal) (l : Fin 256) (h : l.val < 128) :
    lanes p g s co sa sb l = p l * s * g l := dif_pos h

theorem lanes_high (p g : Fin 256 → EReal) (s : EReal) (co sa sb : Fin 128 → EReal) (l : Fin 256) (j : Fin 128)
    (h : l.val = 128 + j.val) :
    lanes p g s co sa sb l = turned (fun j => p ⟨128 + j.val, by omega⟩ * s * g ⟨128 + j.val, by omega⟩) co sa sb j := by
  unfold lanes
  rw [dif_neg (by omega)]
  congr 1
  exact Fin.ext (by show l.val - 128 = j.val; omega)

theorem headOf_eq (p : Fin 4096 → EReal) (n : Fin 4096) (o : ℕ) (ho : o + 256 ≤ 4096) (hd : o % 256 = 0)
    (h : n.val / 256 = o / 256) (l : Fin 256) : headOf p n l = p ⟨o + l.val, by omega⟩ :=
  congrArg p (Fin.ext (by show n.val / 256 * 256 + l.val = o + l.val; omega))

theorem ownOf_eq (p : Fin 2048 → EReal) (n : Fin 4096) (o : ℕ) (ho : o + 128 ≤ 2048) (hd : o % 128 = 0)
    (h : n.val / 256 = o / 128) (l : Fin 128) : ownOf p n l = p ⟨o + l.val, by omega⟩ :=
  congrArg p (Fin.ext (by show n.val / 256 * 128 + l.val = o + l.val; omega))

/-- What a query head is scaled by. -/
theorem scale_query (v : FVec Ideal S256x4096 .f32) (o : ℕ) (ho : o + 256 ≤ 4096) (hs : S256x4096.Slices ![0, o] S256x256)
    (hr hc hd he) (r : Fin 256) :
    ((mulf (rsqrt (addf (mulf (shapeCast S256x1 (multiReduction FKind.add [1] S256
          (mulf (extractStridedSlice S256x256 ![0, o] v hs) (extractStridedSlice S256x256 ![0, o] v hs)) 0#32 hr hc hd) he)
        (broadcast S256x1 (Named.named κ "part" 1001040555#32))) (broadcast S256x1 (FloatOps.ofBits FTy.f32 897988541#32))))
        (broadcast S256x1 (FloatOps.ofBits FTy.f32 1033096506#32))) : FVec Ideal S256x1 .f32) (ix2 r 0) =
    root (∑ l : Fin 256, (v (ix2 r ⟨o + l.val, by omega⟩) : EReal) * v (ix2 r ⟨o + l.val, by omega⟩)) *
      Ideal.ofBits .f32 0x3D93CD3A#32 := by
  pointwise [root]
  rw [← part_eq]

/-- What a key head is scaled by. -/
theorem scale_key (v : FVec Ideal S256x2048 .f32) (e : FVec Ideal S256x128 .f32) (o : ℕ) (ho : o + 128 ≤ 2048)
    (hs : S256x2048.Slices ![0, o] S256x128) (hr hc hd he) (r : Fin 256) :
    ((rsqrt (addf (mulf (addf (shapeCast S256x1 (multiReduction FKind.add [1] S256
          (mulf (extractStridedSlice S256x128 ![0, o] v hs) (extractStridedSlice S256x128 ![0, o] v hs)) 0#32 hr hc hd) he)
          (shapeCast S256x1 (multiReduction FKind.add [1] S256 (mulf e e) 0#32 hr hc hd) he))
        (broadcast S256x1 (Named.named κ "part" 1001040555#32))) (broadcast S256x1 (FloatOps.ofBits FTy.f32 897988541#32)))) : FVec Ideal S256x1 .f32) (ix2 r 0) =
    root ((∑ l : Fin 128, (v (ix2 r ⟨o + l.val, by omega⟩) : EReal) * v (ix2 r ⟨o + l.val, by omega⟩)) +
      ∑ l : Fin 128, (e (ix2 r l) : EReal) * e (ix2 r l)) := by
  pointwise [root]
  rw [← part_eq]

/-- A slice scaled by a column and by part of the gain. -/
theorem scaled (a : FVec Ideal S256x128 .f32) (s : FVec Ideal S256x1 .f32) (g : FVec Ideal S1x256 .f32) (d : ℕ) (hd : d + 128 ≤ 256)
    (hb hg ht) (r : Fin 256) (j : Fin 128) :
    ((mulf (mulf a (broadcastTo S256x128 s hb)) (broadcastTo S256x128 (extractStridedSlice S1x128 ![0, d] g hg) ht) :
      FVec Ideal S256x128 .f32) (ix2 r j) : EReal) = a (ix2 r j) * s (ix2 r 0) * g (ix2 0 ⟨d + j.val, by omega⟩) := by
  pointwise

theorem turn (c t u w : FVec Ideal S256x128 .f32) (h h') (r : Fin 256) (j : Fin 128) :
    ((addf (addf (mulf c t) (mulf (dynamicRotate 1 96#32 none c h) u)) (mulf (dynamicRotate 1 32#32 none c h') w) :
      FVec Ideal S256x128 .f32) (ix2 r j) : EReal) =
    turned (fun l => c (ix2 r l)) (fun l => t (ix2 r l)) (fun l => u (ix2 r l)) (fun l => w (ix2 r l)) j := by
  pointwise [turned]

theorem slice_query (v : FVec Ideal S256x4096 .f32) (o d : ℕ) (ho : o + 256 ≤ 4096) (hd : d + 128 ≤ 256)
    (hs : S256x4096.Slices ![0, o] S256x256) (hi : S256x256.Slices ![0, d] S256x128) (r : Fin 256) (j : Fin 128) :
    extractStridedSlice S256x128 ![0, d] (extractStridedSlice S256x256 ![0, o] v hs) hi (ix2 r j) =
      v (ix2 r ⟨o + (d + j.val), by omega⟩) := by
  pointwise

theorem slice_key (v : FVec Ideal S256x2048 .f32) (o : ℕ) (ho : o + 128 ≤ 2048) (hs : S256x2048.Slices ![0, o] S256x128)
    (r : Fin 256) (j : Fin 128) : extractStridedSlice S256x128 ![0, o] v hs (ix2 r j) = v (ix2 r ⟨o + j.val, by omega⟩) := by
  pointwise

/-- The first half of a query head. -/
theorem query_low (v : FVec Ideal S256x4096 .f32) (g : FVec Ideal S1x256 .f32) (co sa sb : Fin 128 → EReal) (o : ℕ) (hs : S256x4096.Slices ![0, o] S256x256)
    (hr hc hd he hb hg hi ht) (p : Fin 256 → Fin 4096 → EReal) (hp : ∀ r n, (v (ix2 r n) : EReal) = p r n)
    (x : S256x128.Idx) (y : S256x4096.Idx) (h0 : (y 0 : ℕ) = x 0) (h1 : (y 1 : ℕ) = o + x 1) (ho : o + 256 ≤ 4096)
    (hm : o % 256 = 0)
    (hx : FTy.bits .bf16 < FTy.bits .f32) :
    (truncf FTy.bf16 (mulf (mulf (extractStridedSlice S256x128 ![0, 0] (extractStridedSlice S256x256 ![0, o] v hs) hi) (broadcastTo S256x128
        (mulf (rsqrt (addf (mulf (shapeCast S256x1 (multiReduction FKind.add [1] S256
          (mulf (extractStridedSlice S256x256 ![0, o] v hs) (extractStridedSlice S256x256 ![0, o] v hs)) 0#32 hr hc hd) he)
        (broadcast S256x1 (Named.named κ "part" 1001040555#32))) (broadcast S256x1 (FloatOps.ofBits FTy.f32 897988541#32))))
        (broadcast S256x1 (FloatOps.ofBits FTy.f32 1033096506#32))) hb))
        (broadcastTo S256x128 (extractStridedSlice S1x128 ![0, 0] g hg) ht)) hx x : EReal) =
    query (p (y 0)) (fun l => g (ix2 0 l)) co sa sb (y 1) := by
  obtain ⟨r, j, rfl⟩ : ∃ (r : Fin 256) (j : Fin 128), x = ix2 r j := ⟨_, _, Lay.eq_ix2 x⟩
  rw [show y 0 = r from Fin.ext h0, narrow_apply]
  generalize hn : y 1 = n
  replace h1 : n.val = o + j.val := hn ▸ h1
  have hh : ∀ l : Fin 256, headOf (p r) n l = v (ix2 r ⟨o + l.val, by omega⟩) := fun l =>
    (headOf_eq _ _ o ho hm (by omega) l).trans (hp _ _).symm
  rw [scaled _ _ _ 0 (by omega), slice_query v o 0 ho (by omega), scale_query v o ho]
  unfold query
  rw [show (⟨n.val % 256, by omega⟩ : Fin 256) = ⟨0 + j.val, by omega⟩ from Fin.ext (by show n.val % 256 = 0 + j.val; omega)]
  rw [lanes_low _ _ _ _ _ _ _ (by show 0 + j.val < 128; omega)]
  simp only [hh]

/-- The turned half of a query head. -/
theorem query_high (v : FVec Ideal S256x4096 .f32) (g : FVec Ideal S1x256 .f32) (t u w : FVec Ideal S256x128 .f32) (o : ℕ) (hs : S256x4096.Slices ![0, o] S256x256)
    (hr hc hd he hb hg hi ht ha hz) (p : Fin 256 → Fin 4096 → EReal) (hp : ∀ r n, (v (ix2 r n) : EReal) = p r n)
    (x : S256x128.Idx) (y : S256x4096.Idx) (h0 : (y 0 : ℕ) = x 0) (h1 : (y 1 : ℕ) = o + 128 + x 1) (ho : o + 256 ≤ 4096)
    (hm : o % 256 = 0)
    (hx : FTy.bits .bf16 < FTy.bits .f32) :
    (truncf FTy.bf16 (addf (addf (mulf (mulf (mulf (extractStridedSlice S256x128 ![0, 128] (extractStridedSlice S256x256 ![0, o] v hs) hi) (broadcastTo S256x128
        (mulf (rsqrt (addf (mulf (shapeCast S256x1 (multiReduction FKind.add [1] S256
          (mulf (extractStridedSlice S256x256 ![0, o] v hs) (extractStridedSlice S256x256 ![0, o] v hs)) 0#32 hr hc hd) he)
        (broadcast S256x1 (Named.named κ "part" 1001040555#32))) (broadcast S256x1 (FloatOps.ofBits FTy.f32 897988541#32))))
        (broadcast S256x1 (FloatOps.ofBits FTy.f32 1033096506#32))) hb))
        (broadcastTo S256x128 (extractStridedSlice S1x128 ![0, 128] g hg) ht)) t) (mulf (dynamicRotate 1 96#32 none (mulf (mulf (extractStridedSlice S256x128 ![0, 128] (extractStridedSlice S256x256 ![0, o] v hs) hi) (broadcastTo S256x128
        (mulf (rsqrt (addf (mulf (shapeCast S256x1 (multiReduction FKind.add [1] S256
          (mulf (extractStridedSlice S256x256 ![0, o] v hs) (extractStridedSlice S256x256 ![0, o] v hs)) 0#32 hr hc hd) he)
        (broadcast S256x1 (Named.named κ "part" 1001040555#32))) (broadcast S256x1 (FloatOps.ofBits FTy.f32 897988541#32))))
        (broadcast S256x1 (FloatOps.ofBits FTy.f32 1033096506#32))) hb))
        (broadcastTo S256x128 (extractStridedSlice S1x128 ![0, 128] g hg) ht)) ha) u))
        (mulf (dynamicRotate 1 32#32 none (mulf (mulf (extractStridedSlice S256x128 ![0, 128] (extractStridedSlice S256x256 ![0, o] v hs) hi) (broadcastTo S256x128
        (mulf (rsqrt (addf (mulf (shapeCast S256x1 (multiReduction FKind.add [1] S256
          (mulf (extractStridedSlice S256x256 ![0, o] v hs) (extractStridedSlice S256x256 ![0, o] v hs)) 0#32 hr hc hd) he)
        (broadcast S256x1 (Named.named κ "part" 1001040555#32))) (broadcast S256x1 (FloatOps.ofBits FTy.f32 897988541#32))))
        (broadcast S256x1 (FloatOps.ofBits FTy.f32 1033096506#32))) hb))
        (broadcastTo S256x128 (extractStridedSlice S1x128 ![0, 128] g hg) ht)) hz) w)) hx x : EReal) =
    query (p (y 0)) (fun l => g (ix2 0 l)) (fun l => t (ix2 (y 0) l)) (fun l => u (ix2 (y 0) l)) (fun l => w (ix2 (y 0) l)) (y 1) := by
  obtain ⟨r, j, rfl⟩ : ∃ (r : Fin 256) (j : Fin 128), x = ix2 r j := ⟨_, _, Lay.eq_ix2 x⟩
  rw [show y 0 = r from Fin.ext h0, narrow_apply]
  generalize hn : y 1 = n
  replace h1 : n.val = o + 128 + j.val := hn ▸ h1
  have hh : ∀ l : Fin 256, headOf (p r) n l = v (ix2 r ⟨o + l.val, by omega⟩) := fun l =>
    (headOf_eq _ _ o ho hm (by omega) l).trans (hp _ _).symm
  rw [turn]
  unfold query
  rw [lanes_high _ _ _ _ _ _ _ j (by show n.val % 256 = 128 + j.val; omega)]
  refine congrArg (fun c => turned c _ _ _ _) (funext fun l => ?_)
  rw [scaled _ _ _ 128 (by omega), slice_query v o 128 ho (by omega), scale_query v o ho]
  simp only [hh]

/-- The first half of a key head. -/
theorem key_low (v : FVec Ideal S256x2048 .f32) (e : FVec Ideal S256x128 .f32) (g : FVec Ideal S1x256 .f32) (co sa sb : Fin 128 → EReal) (o q : ℕ)
    (hs : S256x2048.Slices ![0, o] S256x128) (hr hc hd he hb hg ht) (p : Fin 256 → Fin 2048 → EReal)
    (hp : ∀ r n, (v (ix2 r n) : EReal) = p r n) (x : S256x128.Idx) (y : S256x4096.Idx) (h0 : (y 0 : ℕ) = x 0)
    (h1 : (y 1 : ℕ) = q + x 1) (hq : q = 2 * o) (ho : o + 128 ≤ 2048) (hm : o % 128 = 0)
    (hx : FTy.bits .bf16 < FTy.bits .f32) :
    (truncf FTy.bf16 (mulf (mulf (extractStridedSlice S256x128 ![0, o] v hs) (broadcastTo S256x128
        (rsqrt (addf (mulf (addf (shapeCast S256x1 (multiReduction FKind.add [1] S256
          (mulf (extractStridedSlice S256x128 ![0, o] v hs) (extractStridedSlice S256x128 ![0, o] v hs)) 0#32 hr hc hd) he)
          (shapeCast S256x1 (multiReduction FKind.add [1] S256 (mulf e e) 0#32 hr hc hd) he))
        (broadcast S256x1 (Named.named κ "part" 1001040555#32))) (broadcast S256x1 (FloatOps.ofBits FTy.f32 897988541#32)))) hb))
        (broadcastTo S256x128 (extractStridedSlice S1x128 ![0, 0] g hg) ht)) hx x : EReal) =
    key (p (y 0)) (fun l => e (ix2 (y 0) l)) (fun l => g (ix2 0 l)) co sa sb (y 1) := by
  obtain ⟨r, j, rfl⟩ : ∃ (r : Fin 256) (j : Fin 128), x = ix2 r j := ⟨_, _, Lay.eq_ix2 x⟩
  rw [show y 0 = r from Fin.ext h0, narrow_apply]
  generalize hn : y 1 = n
  replace h1 : n.val = q + j.val := hn ▸ h1
  have hh : ∀ l : Fin 128, ownOf (p r) n l = v (ix2 r ⟨o + l.val, by omega⟩) := fun l =>
    (ownOf_eq _ _ o ho hm (by omega) l).trans (hp _ _).symm
  rw [scaled _ _ _ 0 (by omega), slice_key v o ho, scale_key v e o ho]
  unfold key
  rw [show (⟨n.val % 256, by omega⟩ : Fin 256) = ⟨0 + j.val, by omega⟩ from Fin.ext (by show n.val % 256 = 0 + j.val; omega)]
  rw [lanes_low _ _ _ _ _ _ _ (by show 0 + j.val < 128; omega), dif_pos (by show 0 + j.val < 128; omega)]
  simp only [hh]
  simp only [Nat.zero_add]

/-- The turned half of a key head. -/
theorem key_high (v : FVec Ideal S256x2048 .f32) (e : FVec Ideal S256x128 .f32) (g : FVec Ideal S1x256 .f32) (t u w : FVec Ideal S256x128 .f32) (o q : ℕ)
    (hs : S256x2048.Slices ![0, o] S256x128) (hr hc hd he hb hg ht ha hz) (p : Fin 256 → Fin 2048 → EReal)
    (hp : ∀ r n, (v (ix2 r n) : EReal) = p r n) (x : S256x128.Idx) (y : S256x4096.Idx) (h0 : (y 0 : ℕ) = x 0)
    (h1 : (y 1 : ℕ) = q + 128 + x 1) (hq : q = 2 * o) (ho : o + 128 ≤ 2048) (hm : o % 128 = 0)
    (hx : FTy.bits .bf16 < FTy.bits .f32) :
    (truncf FTy.bf16 (addf (addf (mulf (mulf (mulf e (broadcastTo S256x128
        (rsqrt (addf (mulf (addf (shapeCast S256x1 (multiReduction FKind.add [1] S256
          (mulf (extractStridedSlice S256x128 ![0, o] v hs) (extractStridedSlice S256x128 ![0, o] v hs)) 0#32 hr hc hd) he)
          (shapeCast S256x1 (multiReduction FKind.add [1] S256 (mulf e e) 0#32 hr hc hd) he))
        (broadcast S256x1 (Named.named κ "part" 1001040555#32))) (broadcast S256x1 (FloatOps.ofBits FTy.f32 897988541#32)))) hb))
        (broadcastTo S256x128 (extractStridedSlice S1x128 ![0, 128] g hg) ht)) t) (mulf (dynamicRotate 1 96#32 none (mulf (mulf e (broadcastTo S256x128
        (rsqrt (addf (mulf (addf (shapeCast S256x1 (multiReduction FKind.add [1] S256
          (mulf (extractStridedSlice S256x128 ![0, o] v hs) (extractStridedSlice S256x128 ![0, o] v hs)) 0#32 hr hc hd) he)
          (shapeCast S256x1 (multiReduction FKind.add [1] S256 (mulf e e) 0#32 hr hc hd) he))
        (broadcast S256x1 (Named.named κ "part" 1001040555#32))) (broadcast S256x1 (FloatOps.ofBits FTy.f32 897988541#32)))) hb))
        (broadcastTo S256x128 (extractStridedSlice S1x128 ![0, 128] g hg) ht)) ha) u))
        (mulf (dynamicRotate 1 32#32 none (mulf (mulf e (broadcastTo S256x128
        (rsqrt (addf (mulf (addf (shapeCast S256x1 (multiReduction FKind.add [1] S256
          (mulf (extractStridedSlice S256x128 ![0, o] v hs) (extractStridedSlice S256x128 ![0, o] v hs)) 0#32 hr hc hd) he)
          (shapeCast S256x1 (multiReduction FKind.add [1] S256 (mulf e e) 0#32 hr hc hd) he))
        (broadcast S256x1 (Named.named κ "part" 1001040555#32))) (broadcast S256x1 (FloatOps.ofBits FTy.f32 897988541#32)))) hb))
        (broadcastTo S256x128 (extractStridedSlice S1x128 ![0, 128] g hg) ht)) hz) w)) hx x : EReal) =
    key (p (y 0)) (fun l => e (ix2 (y 0) l)) (fun l => g (ix2 0 l)) (fun l => t (ix2 (y 0) l)) (fun l => u (ix2 (y 0) l)) (fun l => w (ix2 (y 0) l)) (y 1) := by
  obtain ⟨r, j, rfl⟩ : ∃ (r : Fin 256) (j : Fin 128), x = ix2 r j := ⟨_, _, Lay.eq_ix2 x⟩
  rw [show y 0 = r from Fin.ext h0, narrow_apply]
  generalize hn : y 1 = n
  replace h1 : n.val = q + 128 + j.val := hn ▸ h1
  have hh : ∀ l : Fin 128, ownOf (p r) n l = v (ix2 r ⟨o + l.val, by omega⟩) := fun l =>
    (ownOf_eq _ _ o ho hm (by omega) l).trans (hp _ _).symm
  rw [turn]
  unfold key
  rw [lanes_high _ _ _ _ _ _ _ j (by show n.val % 256 = 128 + j.val; omega)]
  refine congrArg (fun c => turned c _ _ _ _) (funext fun l => ?_)
  rw [scaled _ _ _ 128 (by omega), scale_key v e o ho, dif_neg (by show ¬ 128 + l.val < 128; omega)]
  simp only [hh]
  congr 3
  congr 1
  exact Fin.ext (by show l.val = 128 + l.val - 128; omega)

/-- Entry `n` of row `r` of the queries' product. -/
def rowQ {R : ℕ} (a : FVec Ideal ⟨2, ![R, 1024]⟩ .bf16) (b : FVec Ideal S1024x4096 .bf16) (r : Fin R) (n : Fin 4096) : EReal :=
  ∑ k : Fin 1024, (a (ix2 r k) : EReal) * b (ix2 k n)

/-- Entry `n` of row `r` of the keys' or the values' product. -/
def rowK {R : ℕ} (a : FVec Ideal ⟨2, ![R, 512]⟩ .bf16) (b : FVec Ideal S512x2048 .bf16) (r : Fin R) (n : Fin 2048) : EReal :=
  ∑ k : Fin 512, (a (ix2 r k) : EReal) * b (ix2 k n)

theorem product_q (a : FVec Ideal S256x1024 .bf16) (b : FVec Ideal S1024x4096 .bf16) (r : Fin 256) (n : Fin 4096) :
    (matmul dot_S256x1024_S1024x4096_S256x4096_1_0_0_1_n_n none a b
      (constant S256x4096 FTy.f32 0#32) (ix2 r n) : EReal) = rowQ a b r n := by
  pointwise [rowQ]

theorem product_k (a : FVec Ideal S256x512 .bf16) (b : FVec Ideal S512x2048 .bf16) (r : Fin 256) (n : Fin 2048) :
    (matmul dot_S256x512_S512x2048_S256x2048_1_0_0_1_n_n none a b
      (constant S256x2048 FTy.f32 0#32) (ix2 r n) : EReal) = rowK a b r n := by
  pointwise [rowK]

section

variable (x0 : FVec Ideal S256x1024 .bf16) (x1 : FVec Ideal S256x512 .bf16) (x2 x3 x4 x5 : FVec Ideal S256x128 .f32)
  (x6 : FVec Ideal S1024x4096 .bf16) (x7 x8 : FVec Ideal S512x2048 .bf16) (x9 x10 : FVec Ideal S1x256 .f32)

/-- A point's queries. -/
theorem block_q (y : S256x4096.Idx) : (out0_11 (F := Ideal) x0 x1 x2 x3 x4 x5 x6 x7 x8 x9 x10 y : EReal) =
    query (rowQ x0 x6 (y 0)) (fun l => x9 (ix2 0 l)) (fun l => x3 (ix2 (y 0) l)) (fun l => x4 (ix2 (y 0) l))
      (fun l => x5 (ix2 (y 0) l)) (y 1) := by
  canon_tiles x h
  all_goals (open_payloads; simp only [shapeCast_self])
  all_goals first
    | (apply query_low (p := rowQ x0 x6) (hp := product_q x0 x6) (h0 := h0) <;> first | exact h1 | exact h1.trans (Nat.zero_add _).symm | decide)
    | (apply query_high (p := rowQ x0 x6) (hp := product_q x0 x6) (h0 := h0) <;> first | exact h1 | exact h1.trans (Nat.zero_add _).symm | decide)

/-- A point's keys. -/
theorem block_k (y : S256x4096.Idx) : (out0_12 (F := Ideal) x0 x1 x2 x3 x4 x5 x6 x7 x8 x9 x10 y : EReal) =
    key (rowK x1 x7 (y 0)) (fun l => x2 (ix2 (y 0) l)) (fun l => x10 (ix2 0 l)) (fun l => x3 (ix2 (y 0) l))
      (fun l => x4 (ix2 (y 0) l)) (fun l => x5 (ix2 (y 0) l)) (y 1) := by
  canon_tiles x h
  all_goals (open_payloads; simp only [shapeCast_self])
  all_goals first
    | (apply key_low (p := rowK x1 x7) (hp := product_k x1 x7) (h0 := h0) <;> first | exact h1 | exact h1.trans (Nat.zero_add _).symm | decide)
    | (apply key_high (p := rowK x1 x7) (hp := product_k x1 x7) (h0 := h0) <;> first | exact h1 | exact h1.trans (Nat.zero_add _).symm | decide)

/-- A point's values. -/
theorem block_v (y : S256x2048.Idx) : (out0_13 (F := Ideal) x0 x1 x2 x3 x4 x5 x6 x7 x8 x9 x10 y : EReal) =
    rowK x1 x8 (y 0) (y 1) := by
  refine (congrArg _ (Lay.eq_ix2 (p := 256) (q := 2048) y)).trans ?_
  frame_out
  pointwise [k0_pay6, k0_pay3, rowK]

end

end Cert.HeadsIdeal.Proof
-- ==== Proof.HeadsTurn.lean ====
/- A head of 192 lanes whose last 64 are turned in pairs 32 apart, and the padded head of 256 lanes that holds it. -/
module

public import proofs.«01_k».proof.Proof.HeadsPoint

@[expose] public section

set_option maxRecDepth 16384

noncomputable section

namespace Cert.HeadsIdeal.Proof

open Idealize.ShloMosaic Cert.HeadsIdeal Cert.Lay

/-- A count as a number. -/
def count (n : ℕ) : EReal := (FloatOps.sitofp .f32 (BitVec.ofNat 32 n) : Ideal .f32)

/-- Position `i`'s angle of pair `j`. -/
def angle (i : ℕ) (j : Fin 32) : EReal :=
  count i * Ideal.pow (Ideal.ofBits .f32 0x461C4000#32) (Ideal.div (-count j.val) (Ideal.ofBits .f32 0x42000000#32))

/-- Lanes `c` of a head, the last 64 turned by position `i`'s angles. -/
def tail (c : Fin 192 → EReal) (i : ℕ) (l : Fin 192) : EReal :=
  if l.val < 128 then c l
  else if h : l.val - 128 < 32 then
    c ⟨128 + (l.val - 128), by omega⟩ * Ideal.cos (angle i ⟨l.val - 128, h⟩) -
      c ⟨128 + (32 + (l.val - 128)), by omega⟩ * Ideal.sin (angle i ⟨l.val - 128, h⟩)
  else c ⟨128 + (32 + (l.val - 128 - 32)), by omega⟩ * Ideal.cos (angle i ⟨l.val - 128 - 32, by omega⟩) +
    c ⟨128 + (l.val - 128 - 32), by omega⟩ * Ideal.sin (angle i ⟨l.val - 128 - 32, by omega⟩)

/-- A finite scale that is not negative may be taken out. -/
theorem tail_scale (c : Fin 192 → EReal) (i : ℕ) (l : Fin 192) (s : EReal) (h0 : 0 ≤ s) (h1 : s ≠ ⊤) :
    tail (fun l => c l * s) i l = tail c i l * s := by
  unfold tail
  split
  · rfl
  split
  · rw [sub_eq_add_neg, sub_eq_add_neg, EReal.right_distrib_of_nonneg_of_ne_top h0 h1, EReal.neg_mul]
    congr 1
    · show c _ * s * _ = _; ac_rfl
    · congr 1; show c _ * s * _ = _; ac_rfl
  · rw [EReal.right_distrib_of_nonneg_of_ne_top h0 h1]
    congr 1 <;> (show c _ * s * _ = _; ac_rfl)

theorem tail_congr (c d : Fin 192 → EReal) (i : ℕ) (l : Fin 192) (h : ∀ l, c l = d l) : tail c i l = tail d i l := by rw [funext h]

/-- The tables hold position `i`'s angles. -/
structure Tables (co sa sb : Fin 128 → EReal) (i : ℕ) : Prop where
  cos_low : ∀ j : Fin 32, co ⟨j.val, by omega⟩ = Ideal.cos (angle i j)
  cos_high : ∀ j : Fin 32, co ⟨32 + j.val, by omega⟩ = Ideal.cos (angle i j)
  ahead_low : ∀ j : Fin 32, sa ⟨j.val, by omega⟩ = -Ideal.sin (angle i j)
  ahead_high : ∀ j : Fin 32, sa ⟨32 + j.val, by omega⟩ = 0
  behind_low : ∀ j : Fin 32, sb ⟨j.val, by omega⟩ = 0
  behind_high : ∀ j : Fin 32, sb ⟨32 + j.val, by omega⟩ = Ideal.sin (angle i j)

/-- The first 192 lanes of a padded head. -/
theorem lanes_tail (p g : Fin 256 → EReal) (s : EReal) (co sa sb : Fin 128 → EReal) (i : ℕ) (T : Tables co sa sb i) (l : Fin 192) :
    lanes p g s co sa sb ⟨l.val, by omega⟩ = tail (fun l => p ⟨l.val, by omega⟩ * s * g ⟨l.val, by omega⟩) i l := by
  unfold tail
  split
  · next h => exact lanes_low _ _ _ _ _ _ _ h
  split
  · next h h' =>
    rw [lanes_high p g s co sa sb _ ⟨l.val - 128, by omega⟩ (by show l.val = 128 + (l.val - 128); omega)]
    unfold turned
    have e1 := T.cos_low ⟨l.val - 128, h'⟩
    have e2 := T.ahead_low ⟨l.val - 128, h'⟩
    have e3 := T.behind_low ⟨l.val - 128, h'⟩
    simp only at e1 e2 e3
    rw [e1, e2, e3, mul_zero, add_zero, sub_eq_add_neg, mul_comm _ (-_), EReal.neg_mul, mul_comm (Ideal.sin _)]
    have b : (⟨128 + (l.val - 128 + 128 - 96) % 128, by omega⟩ : Fin 256) = ⟨128 + (32 + (l.val - 128)), by omega⟩ :=
      Fin.ext (by show 128 + (l.val - 128 + 128 - 96) % 128 = 128 + (32 + (l.val - 128)); omega)
    simp only [b]
  · next h h' =>
    rw [lanes_high p g s co sa sb _ ⟨l.val - 128, by omega⟩ (by show l.val = 128 + (l.val - 128); omega)]
    unfold turned
    have e1 := T.cos_high ⟨l.val - 128 - 32, by omega⟩
    have e2 := T.ahead_high ⟨l.val - 128 - 32, by omega⟩
    have e3 := T.behind_high ⟨l.val - 128 - 32, by omega⟩
    have q : (⟨32 + (l.val - 128 - 32), by omega⟩ : Fin 128) = ⟨l.val - 128, by omega⟩ :=
      Fin.ext (by show 32 + (l.val - 128 - 32) = l.val - 128; omega)
    simp only [q] at e1 e2 e3
    rw [e1, e2, e3, mul_zero, add_zero]
    have a : (⟨128 + (l.val - 128), by omega⟩ : Fin 256) = ⟨128 + (32 + (l.val - 128 - 32)), by omega⟩ :=
      Fin.ext (by show 128 + (l.val - 128) = 128 + (32 + (l.val - 128 - 32)); omega)
    have b : (⟨128 + (l.val - 128 + 128 - 32) % 128, by omega⟩ : Fin 256) = ⟨128 + (l.val - 128 - 32), by omega⟩ :=
      Fin.ext (by show 128 + (l.val - 128 + 128 - 32) % 128 = 128 + (l.val - 128 - 32); omega)
    simp only [a, b]

theorem word192 : Ideal.ofBits .f32 0x43400000#32 = ((192 : ℝ) : EReal) := by
  simp [Ideal.ofBits, Ideal.ieee, -EReal.coe_mul]; norm_num

/-- The queries' scale is a real number that is not negative. -/
theorem scale_real : ∃ r : ℝ, 0 ≤ r ∧ Ideal.ofBits .f32 0x3D93CD3A#32 = (r : EReal) :=
  ⟨9686330 * 2 ^ (-27 : ℤ), by positivity, by simp [Ideal.ofBits, Ideal.ieee, -EReal.coe_mul]⟩

/-- The mean of 192 squares: a division by 192. -/
theorem root_eq (s : EReal) :
    root s = Ideal.rsqrt (Ideal.div s (Ideal.ofBits .f32 0x43400000#32) + Ideal.ofBits .f32 0x358637BD#32) := by
  rw [word192, Ideal.div_coe (by norm_num : (192 : ℝ) ≠ 0), one_div]
  rfl

/-- Squares of a padded head. -/
theorem sum_pad (p : Fin 256 → EReal) (q : Fin 192 → EReal) (h : ∀ l : Fin 192, p ⟨l.val, by omega⟩ = q l)
    (h0 : ∀ l : Fin 64, p ⟨192 + l.val, by omega⟩ = 0) : ∑ l, p l * p l = ∑ l, q l * q l := by
  rw [show (∑ l, p l * p l) = ∑ l : Fin (192 + 64), p l * p l from rfl, Fin.sum_univ_add]
  have z : ∑ l : Fin 64, p (Fin.natAdd 192 l) * p (Fin.natAdd 192 l) = 0 :=
    Finset.sum_eq_zero fun l _ => by rw [show p (Fin.natAdd 192 l) = 0 from h0 l, mul_zero]
  rw [z, add_zero]
  exact Finset.sum_congr rfl fun l _ => by rw [show p (Fin.castAdd 64 l) = q l from h l]

/-- Squares of a head whose last lanes are shared. -/
theorem sum_own (p e : Fin 128 → EReal) (q : Fin 192 → EReal) (h : ∀ l : Fin 128, p l = q ⟨l.val, by omega⟩)
    (he : ∀ l : Fin 64, e ⟨l.val, by omega⟩ = q ⟨128 + l.val, by omega⟩) (h0 : ∀ l : Fin 64, e ⟨64 + l.val, by omega⟩ = 0) :
    (∑ l, p l * p l) + ∑ l, e l * e l = ∑ l, q l * q l := by
  rw [show (∑ l, q l * q l) = ∑ l : Fin (128 + 64), q l * q l from rfl, Fin.sum_univ_add,
    show (∑ l, e l * e l) = ∑ l : Fin (64 + 64), e l * e l from rfl, Fin.sum_univ_add]
  have z : ∑ l : Fin 64, e (Fin.natAdd 64 l) * e (Fin.natAdd 64 l) = 0 :=
    Finset.sum_eq_zero fun l _ => by rw [show e (Fin.natAdd 64 l) = 0 from h0 l, mul_zero]
  rw [z, add_zero]
  congr 1
  · exact Finset.sum_congr rfl fun l _ => by rw [h l]; rfl
  · exact Finset.sum_congr rfl fun l _ => by rw [show e (Fin.castAdd 64 l) = q (Fin.natAdd 128 l) from he l]

end Cert.HeadsIdeal.Proof
-- ==== Proof.HeadsHost.lean ====
/- The arrays that the heads' launch reads, as the host makes them of the arguments, and its blocks of them. -/
module

public import proofs.«01_k».proof.Proof.HeadsTurn

@[expose] public section

set_option maxRecDepth 16384

noncomputable section

namespace Cert.HeadsIdeal.Proof

open Idealize.ShloMosaic Idealize.ShloMosaic.TcCoe Cert.HeadsIdeal Cert.HeadsIdeal.Gen Cert.Lay

/-- The number with which the host pads. -/
def fill : FVec Ideal S_ .f32 := sitofp .f32 (constantI S_ 32 0#32)

/-- The query columns of the tokens, below rows of zeros. -/
def belowQ (x : FVec Ideal S2x8208x1024 .f32) : FVec Ideal S25600x1024 .bf16 :=
  truncf .bf16 (pad S25600x1024 ![8704, 0] ![0, 0] ![0, 0] (shapeCast S16896x1024 (pad S2x8448x1024 ![0, 0, 0] ![0, 240, 0] ![0, 0, 0] x
    fill pads_S2x8208x1024_S2x8448x1024_000_02400_000 h_S_) shapeCasts_S2x8448x1024_S16896x1024)
    fill pads_S16896x1024_S25600x1024_870400_000 h_S_) bitsLt_bf16_f32

theorem belowQ_apply (x : FVec Ideal S2x8208x1024 .f32) (b : Fin 2) (i : Fin 8208) (k : Fin 1024) :
    (belowQ x (ix2 (sampleAt b i) k) : EReal) = x (ix3 b i k) := by
  unfold belowQ
  refine (narrow_apply _ _ _).trans ((pad_apply_of_inside _ _ _ _ _ _ _ _ (ix2 (sampleRow b i) k) fun a => ?_).trans
    (laid_apply _ _ _ _ _ (by decide) b i k _ rfl))
  match a with
  | ⟨0, _⟩ => show 8704 + (b.val * 8448 + i.val) = 8704 + (b.val * 8448 + i.val) * 1; omega
  | ⟨1, _⟩ => show k.val = 0 + k.val * 1; omega

/-- The key-value columns. -/
def belowK (x : FVec Ideal S2x8208x512 .f32) : FVec Ideal S25600x512 .bf16 :=
  truncf .bf16 (pad S25600x512 ![8704, 0] ![0, 0] ![0, 0] (shapeCast S16896x512 (pad S2x8448x512 ![0, 0, 0] ![0, 240, 0] ![0, 0, 0] x
    fill pads_S2x8208x512_S2x8448x512_000_02400_000 h_S_) shapeCasts_S2x8448x512_S16896x512)
    fill pads_S16896x512_S25600x512_870400_000 h_S_) bitsLt_bf16_f32

theorem belowK_apply (x : FVec Ideal S2x8208x512 .f32) (b : Fin 2) (i : Fin 8208) (k : Fin 512) :
    (belowK x (ix2 (sampleAt b i) k) : EReal) = x (ix3 b i k) := by
  unfold belowK
  refine (narrow_apply _ _ _).trans ((pad_apply_of_inside _ _ _ _ _ _ _ _ (ix2 (sampleRow b i) k) fun a => ?_).trans
    (laid_apply _ _ _ _ _ (by decide) b i k _ rfl))
  match a with
  | ⟨0, _⟩ => show 8704 + (b.val * 8448 + i.val) = 8704 + (b.val * 8448 + i.val) * 1; omega
  | ⟨1, _⟩ => show k.val = 0 + k.val * 1; omega

/-- The shared key lanes, below rows of zeros and beside lanes of zeros. -/
def shared (x : FVec Ideal S2x8208x64 .f32) : FVec Ideal S25600x128 .f32 :=
  pad S25600x128 ![0, 0] ![0, 64] ![0, 0] (pad S25600x64 ![8704, 0] ![0, 0] ![0, 0] (shapeCast S16896x64
    (pad S2x8448x64 ![0, 0, 0] ![0, 240, 0] ![0, 0, 0] x fill pads_S2x8208x64_S2x8448x64_000_02400_000 h_S_)
    shapeCasts_S2x8448x64_S16896x64) fill pads_S16896x64_S25600x64_870400_000 h_S_) fill pads_S25600x64_S25600x128_000_0640 h_S_

theorem shared_low (x : FVec Ideal S2x8208x64 .f32) (b : Fin 2) (i : Fin 8208) (k : Fin 64) :
    (shared x (ix2 (sampleAt b i) ⟨k.val, by omega⟩) : EReal) = x (ix3 b i k) := by
  unfold shared
  refine (pad_apply_of_inside _ _ _ _ _ _ _ _ (ix2 (sampleAt b i) k) fun a => ?_).trans
    ((pad_apply_of_inside _ _ _ _ _ _ _ _ (ix2 (sampleRow b i) k) fun a => ?_).trans (laid_apply _ _ _ _ _ (by decide) b i k _ rfl))
  · match a with
    | ⟨0, _⟩ => show (sampleAt b i).val = 0 + (sampleAt b i).val * 1; omega
    | ⟨1, _⟩ => show k.val = 0 + k.val * 1; omega
  · match a with
    | ⟨0, _⟩ => show 8704 + (b.val * 8448 + i.val) = 8704 + (b.val * 8448 + i.val) * 1; omega
    | ⟨1, _⟩ => show k.val = 0 + k.val * 1; omega

theorem shared_high (x : FVec Ideal S2x8208x64 .f32) (r : Fin 25600) (k : Fin 64) :
    (shared x (ix2 r ⟨64 + k.val, by omega⟩) : EReal) = 0 := by
  pointwise [shared, fill]
  exact fill_zero (fun a => a.elim0)

/-- The query weights with 64 columns of zeros behind each head. -/
def columnsQ (w : FVec Ideal S1024x3072 .f32) : FVec Ideal S1024x4096 .bf16 :=
  truncf .bf16 (shapeCast S1024x4096 (pad S1024x16x256 ![0, 0, 0] ![0, 0, 64] ![0, 0, 0] (shapeCast S1024x16x192 w
    shapeCasts_S1024x3072_S1024x16x192) fill pads_S1024x16x192_S1024x16x256_000_000_0640 h_S_) shapeCasts_S1024x16x256_S1024x4096)
    bitsLt_bf16_f32

theorem columnsQ_low (w : FVec Ideal S1024x3072 .f32) (k : Fin 1024) (h : Fin 16) (l : Fin 192) :
    (columnsQ w (ix2 k ⟨h.val * 256 + l.val, by omega⟩) : EReal) = w (ix2 k ⟨h.val * 192 + l.val, by omega⟩) := by
  have e : (h.val * 256 + l.val) % 256 = l.val := by omega
  pointwise [columnsQ, fill]
  simp only [e, l.isLt, dite_true]

theorem columnsQ_high (w : FVec Ideal S1024x3072 .f32) (k : Fin 1024) (h : Fin 16) (l : Fin 64) :
    (columnsQ w (ix2 k ⟨h.val * 256 + (192 + l.val), by omega⟩) : EReal) = 0 := by
  have e : (h.val * 256 + (192 + l.val)) % 256 = 192 + l.val := by omega
  have n : ¬ 192 + l.val < 192 := by omega
  pointwise [columnsQ, fill]
  simp only [e, n, dite_false]
  exact fill_zero (fun a => a.elim0)

/-- Weights of the shorter heads, narrowed. -/
def columns (w : FVec Ideal S512x2048 .f32) : FVec Ideal S512x2048 .bf16 := truncf .bf16 w bitsLt_bf16_f32

/-- A gain beside zeros. -/
def gain (g : FVec Ideal S192 .f32) : FVec Ideal S1x256 .f32 :=
  shapeCast S1x256 (pad S256 ![0] ![64] ![0] g fill pads_S192_S256_0640 h_S_) shapeCasts_S256_S1x256

theorem gain_apply (g : FVec Ideal S192 .f32) (l : Fin 192) : (gain g (ix2 0 ⟨l.val, by omega⟩) : EReal) = g (ix1 l) := by
  pointwise [gain, fill]

/-- The angles of the padded positions. -/
def angles : FVec Ideal S8448x32 .f32 :=
  mulf (broadcastInDim S8448x32 ![0, 1] bcast_S8448x1_S8448x32_0_1 (broadcastInDim S8448x1 ![0] bcast_S8448_S8448x1_0
      (sitofp .f32 (iotaInDim S8448 32 0))))
    (broadcastInDim S8448x32 ![0, 1] bcast_S1x32_S8448x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table's two ranges of 32 lanes beside 64 lanes of zeros, once for each sequence. -/
def table (x y : FVec Ideal S8448x32 .f32) : FVec Ideal S16896x128 .f32 :=
  shapeCast S16896x128 (broadcastInDim S2x8448x1x128 ![0, 1, 2, 3] bcast_S1x8448x1x128_S2x8448x1x128_0_1_2_3
    (shapeCast S1x8448x1x128 (concatenate S8448x128 1 [⟨S8448x32, x⟩, ⟨S8448x32, y⟩, ⟨S8448x64,
      broadcastInDim S8448x64 ![] bcast_S_S8448x64 (constant S_ .f32 0x00000000#32)⟩]
      concatenates_S8448x32_S8448x32_S8448x64_S8448x128_d1) shapeCasts_S8448x128_S1x8448x1x128))
    shapeCasts_S2x8448x1x128_S16896x128

def zeros : FVec Ideal S8448x32 .f32 := broadcastInDim S8448x32 ![] bcast_S_S8448x32 (constant S_ .f32 0x00000000#32)
def cosines : FVec Ideal S16896x128 .f32 := table (Host.cos angles) (Host.cos angles)
def ahead : FVec Ideal S16896x128 .f32 := table (Host.negf (Host.sin angles)) zeros
def behind : FVec Ideal S16896x128 .f32 := table zeros (Host.sin angles)

theorem table_low (x y : FVec Ideal S8448x32 .f32) (b : Fin 2) (i : Fin 8208) (j : Fin 32) :
    (table x y (ix2 (sampleRow b i) ⟨j.val, by omega⟩) : EReal) = x (ix2 ⟨i.val, by omega⟩ j) := by
  have e : (b.val * 8448 + i.val) % 8448 = i.val := by omega
  pointwise [table, sampleRow]
  simp only [e]

theorem table_high (x y : FVec Ideal S8448x32 .f32) (b : Fin 2) (i : Fin 8208) (j : Fin 32) :
    (table x y (ix2 (sampleRow b i) ⟨32 + j.val, by omega⟩) : EReal) = y (ix2 ⟨i.val, by omega⟩ j) := by
  have e : (b.val * 8448 + i.val) % 8448 = i.val := by omega
  pointwise [table, sampleRow]
  simp only [e]

theorem angles_apply (i : Fin 8448) (j : Fin 32) : (angles (ix2 i j) : EReal) = angle i.val j := by
  pointwise [angles, angle]
  rfl

theorem zeros_apply (i : Fin 8448) (j : Fin 32) : (zeros (ix2 i j) : EReal) = 0 := by
  pointwise [zeros]

/-- The tables at a token. -/
theorem tables (b : Fin 2) (i : Fin 8208) : Tables (fun l => cosines (ix2 (sampleRow b i) l)) (fun l => ahead (ix2 (sampleRow b i) l))
    (fun l => behind (ix2 (sampleRow b i) l)) i.val where
  cos_low j := (table_low _ _ b i j).trans (congrArg Ideal.cos (angles_apply _ j))
  cos_high j := (table_high _ _ b i j).trans (congrArg Ideal.cos (angles_apply _ j))
  ahead_low j := (table_low _ _ b i j).trans (congrArg (fun x => -Ideal.sin x) (angles_apply _ j))
  ahead_high j := (table_high _ _ b i j).trans (zeros_apply _ j)
  behind_low j := (table_low _ _ b i j).trans (zeros_apply _ j)
  behind_high j := (table_high _ _ b i j).trans (congrArg Ideal.sin (angles_apply _ j))

/-- A padded head's result at a token. -/
theorem cut_heads (o : FVec Ideal S16896x4096 .bf16) (b : Fin 2) (i : Fin 8208) (h : Fin 16) (l : Fin 192) :
    (extractStridedSlice S2x8208x16x192 ![0, 0, 0, 0] (shapeCast S2x8208x16x256 (extf .f32 (extractStridedSlice S2x8208x4096 ![0, 0, 0]
      (shapeCast S2x8448x4096 o shapeCasts_S16896x4096_S2x8448x4096) slices_S2x8448x4096_S2x8208x4096_0_0_0) bitsLt_bf16_f32)
      shapeCasts_S2x8208x4096_S2x8208x16x256) slices_S2x8208x16x256_S2x8208x16x192_0_0_0_0 (ix4 b i h l) : EReal) =
      o (ix2 (sampleRow b i) ⟨h.val * 256 + l.val, by omega⟩) := by
  pointwise [sampleRow]

/-- A value head's result at a token. -/
theorem cut_values (o : FVec Ideal S16896x2048 .bf16) (b : Fin 2) (i : Fin 8208) (h : Fin 16) (l : Fin 128) :
    (shapeCast S2x8208x16x128 (extf .f32 (extractStridedSlice S2x8208x2048 ![0, 0, 0]
      (shapeCast S2x8448x2048 o shapeCasts_S16896x2048_S2x8448x2048) slices_S2x8448x2048_S2x8208x2048_0_0_0) bitsLt_bf16_f32)
      shapeCasts_S2x8208x2048_S2x8208x16x128 (ix4 b i h l) : EReal) =
      o (ix2 (sampleRow b i) ⟨h.val * 128 + l.val, by omega⟩) := by
  pointwise [sampleRow]

theorem idx0 : ∀ t : Fin grid0.N, win0_0.index t = ![(grid0.coords t 0).val + 34, 0] := by decide +kernel
theorem idx1 : ∀ t : Fin grid0.N, win0_1.index t = ![(grid0.coords t 0).val + 34, 0] := by decide +kernel
theorem idx2 : ∀ t : Fin grid0.N, win0_2.index t = ![(grid0.coords t 0).val + 34, 0] := by decide +kernel
theorem idx3 : ∀ t : Fin grid0.N, win0_3.index t = ![(grid0.coords t 0).val, 0] := by decide +kernel
theorem idx4 : ∀ t : Fin grid0.N, win0_4.index t = ![(grid0.coords t 0).val, 0] := by decide +kernel
theorem idx5 : ∀ t : Fin grid0.N, win0_5.index t = ![(grid0.coords t 0).val, 0] := by decide +kernel
theorem idx11 : ∀ t : Fin grid0.N, win0_11.index t = ![(grid0.coords t 0).val, 0] := by decide +kernel
theorem idx12 : ∀ t : Fin grid0.N, win0_12.index t = ![(grid0.coords t 0).val, 0] := by decide +kernel
theorem idx13 : ∀ t : Fin grid0.N, win0_13.index t = ![(grid0.coords t 0).val, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel

variable (m : (ℓ : Loc nD τ sig) → Buf (Elt Ideal) ℓ)

theorem V_belowQ (c : Dev nD) : V m c main_v15 = belowQ (m ((c.tc : Thread nD τ).loc main_arg0)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem belowQ_at (c : Dev nD) (t : Fin cfg0.N) (r : Fin 256) (R : Fin 25600) (l : Fin 1024)
    (hr : R.val = ((grid0.coords t 0).val + 34) * 256 + r.val) :
    (iblk m c 0 t (ix2 r l) : EReal) = (belowQ (m ((c.tc : Thread nD τ).loc main_arg0)) : FVec Ideal S25600x1024 .bf16) (ix2 R l) := by
  rw [← V_belowQ]
  unfold iblk
  rw [View.read_apply]
  show V m c main_v15 _ = V m c main_v15 _
  congr 1
  funext a
  apply Fin.ext
  match a with
  | ⟨0, _⟩ =>
    show win0_0.index t 0 * 256 + 1 * r.val = R.val
    rw [idx0, hr]
    show ((grid0.coords t 0).val + 34) * 256 + 1 * r.val = _
    omega
  | ⟨1, _⟩ =>
    show win0_0.index t 1 * 1024 + 1 * l.val = l.val
    rw [idx0]
    show 0 * 1024 + 1 * l.val = l.val
    omega

theorem V_belowK (c : Dev nD) : V m c main_v19 = belowK (m ((c.tc : Thread nD τ).loc main_arg1)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem belowK_at (c : Dev nD) (t : Fin cfg0.N) (r : Fin 256) (R : Fin 25600) (l : Fin 512)
    (hr : R.val = ((grid0.coords t 0).val + 34) * 256 + r.val) :
    (iblk m c 1 t (ix2 r l) : EReal) = (belowK (m ((c.tc : Thread nD τ).loc main_arg1)) : FVec Ideal S25600x512 .bf16) (ix2 R l) := by
  rw [← V_belowK]
  unfold iblk
  rw [View.read_apply]
  show V m c main_v19 _ = V m c main_v19 _
  congr 1
  funext a
  apply Fin.ext
  match a with
  | ⟨0, _⟩ =>
    show win0_1.index t 0 * 256 + 1 * r.val = R.val
    rw [idx1, hr]
    show ((grid0.coords t 0).val + 34) * 256 + 1 * r.val = _
    omega
  | ⟨1, _⟩ =>
    show win0_1.index t 1 * 512 + 1 * l.val = l.val
    rw [idx1]
    show 0 * 512 + 1 * l.val = l.val
    omega

theorem V_shared (c : Dev nD) : V m c main_v11 = shared (m ((c.tc : Thread nD τ).loc main_arg2)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem shared_at (c : Dev nD) (t : Fin cfg0.N) (r : Fin 256) (R : Fin 25600) (l : Fin 128)
    (hr : R.val = ((grid0.coords t 0).val + 34) * 256 + r.val) :
    (iblk m c 2 t (ix2 r l) : EReal) = (shared (m ((c.tc : Thread nD τ).loc main_arg2)) : FVec Ideal S25600x128 .f32) (ix2 R l) := by
  rw [← V_shared]
  unfold iblk
  rw [View.read_apply]
  show V m c main_v11 _ = V m c main_v11 _
  congr 1
  funext a
  apply Fin.ext
  match a with
  | ⟨0, _⟩ =>
    show win0_2.index t 0 * 256 + 1 * r.val = R.val
    rw [idx2, hr]
    show ((grid0.coords t 0).val + 34) * 256 + 1 * r.val = _
    omega
  | ⟨1, _⟩ =>
    show win0_2.index t 1 * 128 + 1 * l.val = l.val
    rw [idx2]
    show 0 * 128 + 1 * l.val = l.val
    omega

theorem V_cosines (c : Dev nD) : V m c main_v42 = cosines := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem cosines_at (c : Dev nD) (t : Fin cfg0.N) (r : Fin 256) (R : Fin 16896) (l : Fin 128)
    (hr : R.val = (grid0.coords t 0).val * 256 + r.val) :
    (iblk m c 3 t (ix2 r l) : EReal) = (cosines : FVec Ideal S16896x128 .f32) (ix2 R l) := by
  rw [← V_cosines]
  unfold iblk
  rw [View.read_apply]
  show V m c main_v42 _ = V m c main_v42 _
  congr 1
  funext a
  apply Fin.ext
  match a with
  | ⟨0, _⟩ =>
    show win0_3.index t 0 * 256 + 1 * r.val = R.val
    rw [idx3, hr]
    show (grid0.coords t 0).val * 256 + 1 * r.val = _
    omega
  | ⟨1, _⟩ =>
    show win0_3.index t 1 * 128 + 1 * l.val = l.val
    rw [idx3]
    show 0 * 128 + 1 * l.val = l.val
    omega

theorem V_ahead (c : Dev nD) : V m c main_v45 = ahead := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem ahead_at (c : Dev nD) (t : Fin cfg0.N) (r : Fin 256) (R : Fin 16896) (l : Fin 128)
    (hr : R.val = (grid0.coords t 0).val * 256 + r.val) :
    (iblk m c 4 t (ix2 r l) : EReal) = (ahead : FVec Ideal S16896x128 .f32) (ix2 R l) := by
  rw [← V_ahead]
  unfold iblk
  rw [View.read_apply]
  show V m c main_v45 _ = V m c main_v45 _
  congr 1
  funext a
  apply Fin.ext
  match a with
  | ⟨0, _⟩ =>
    show win0_4.index t 0 * 256 + 1 * r.val = R.val
    rw [idx4, hr]
    show (grid0.coords t 0).val * 256 + 1 * r.val = _
    omega
  | ⟨1, _⟩ =>
    show win0_4.index t 1 * 128 + 1 * l.val = l.val
    rw [idx4]
    show 0 * 128 + 1 * l.val = l.val
    omega

theorem V_behind (c : Dev nD) : V m c main_v48 = behind := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem behind_at (c : Dev nD) (t : Fin cfg0.N) (r : Fin 256) (R : Fin 16896) (l : Fin 128)
    (hr : R.val = (grid0.coords t 0).val * 256 + r.val) :
    (iblk m c 5 t (ix2 r l) : EReal) = (behind : FVec Ideal S16896x128 .f32) (ix2 R l) := by
  rw [← V_behind]
  unfold iblk
  rw [View.read_apply]
  show V m c main_v48 _ = V m c main_v48 _
  congr 1
  funext a
  apply Fin.ext
  match a with
  | ⟨0, _⟩ =>
    show win0_5.index t 0 * 256 + 1 * r.val = R.val
    rw [idx5, hr]
    show (grid0.coords t 0).val * 256 + 1 * r.val = _
    omega
  | ⟨1, _⟩ =>
    show win0_5.index t 1 * 128 + 1 * l.val = l.val
    rw [idx5]
    show 0 * 128 + 1 * l.val = l.val
    omega

theorem V_columnsQ (c : Dev nD) : V m c main_v3 = columnsQ (m ((c.tc : Thread nD τ).loc main_arg3)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem columnsQ_at (c : Dev nD) (t : Fin cfg0.N) (r : Fin 1024) (l : Fin 4096)
    :
    (iblk m c 6 t (ix2 r l) : EReal) = (columnsQ (m ((c.tc : Thread nD τ).loc main_arg3)) : FVec Ideal S1024x4096 .bf16) (ix2 r l) := by
  rw [← V_columnsQ]
  unfold iblk
  rw [View.read_apply]
  show V m c main_v3 _ = V m c main_v3 _
  congr 1
  funext a
  apply Fin.ext
  match a with
  | ⟨0, _⟩ =>
    show win0_6.index t 0 * 1024 + 1 * r.val = r.val
    rw [idx6]
    show 0 * 1024 + 1 * r.val = r.val
    omega
  | ⟨1, _⟩ =>
    show win0_6.index t 1 * 4096 + 1 * l.val = l.val
    rw [idx6]
    show 0 * 4096 + 1 * l.val = l.val
    omega

theorem V_columnsK (c : Dev nD) : V m c main_v49 = columns (m ((c.tc : Thread nD τ).loc main_arg4)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem columnsK_at (c : Dev nD) (t : Fin cfg0.N) (r : Fin 512) (l : Fin 2048)
    :
    (iblk m c 7 t (ix2 r l) : EReal) = (columns (m ((c.tc : Thread nD τ).loc main_arg4)) : FVec Ideal S512x2048 .bf16) (ix2 r l) := by
  rw [← V_columnsK]
  unfold iblk
  rw [View.read_apply]
  show V m c main_v49 _ = V m c main_v49 _
  congr 1
  funext a
  apply Fin.ext
  match a with
  | ⟨0, _⟩ =>
    show win0_7.index t 0 * 512 + 1 * r.val = r.val
    rw [idx7]
    show 0 * 512 + 1 * r.val = r.val
    omega
  | ⟨1, _⟩ =>
    show win0_7.index t 1 * 2048 + 1 * l.val = l.val
    rw [idx7]
    show 0 * 2048 + 1 * l.val = l.val
    omega

theorem V_columnsV (c : Dev nD) : V m c main_v50 = columns (m ((c.tc : Thread nD τ).loc main_arg5)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem columnsV_at (c : Dev nD) (t : Fin cfg0.N) (r : Fin 512) (l : Fin 2048)
    :
    (iblk m c 8 t (ix2 r l) : EReal) = (columns (m ((c.tc : Thread nD τ).loc main_arg5)) : FVec Ideal S512x2048 .bf16) (ix2 r l) := by
  rw [← V_columnsV]
  unfold iblk
  rw [View.read_apply]
  show V m c main_v50 _ = V m c main_v50 _
  congr 1
  funext a
  apply Fin.ext
  match a with
  | ⟨0, _⟩ =>
    show win0_8.index t 0 * 512 + 1 * r.val = r.val
    rw [idx8]
    show 0 * 512 + 1 * r.val = r.val
    omega
  | ⟨1, _⟩ =>
    show win0_8.index t 1 * 2048 + 1 * l.val = l.val
    rw [idx8]
    show 0 * 2048 + 1 * l.val = l.val
    omega

theorem V_gainQ (c : Dev nD) : V m c main_v5 = gain (m ((c.tc : Thread nD τ).loc main_arg6)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem gainQ_at (c : Dev nD) (t : Fin cfg0.N) (r : Fin 1) (l : Fin 256)
    :
    (iblk m c 9 t (ix2 r l) : EReal) = (gain (m ((c.tc : Thread nD τ).loc main_arg6)) : FVec Ideal S1x256 .f32) (ix2 r l) := by
  rw [← V_gainQ]
  unfold iblk
  rw [View.read_apply]
  show V m c main_v5 _ = V m c main_v5 _
  congr 1
  funext a
  apply Fin.ext
  match a with
  | ⟨0, _⟩ =>
    show win0_9.index t 0 * 1 + 1 * r.val = r.val
    rw [idx9]
    show 0 * 1 + 1 * r.val = r.val
    omega
  | ⟨1, _⟩ =>
    show win0_9.index t 1 * 256 + 1 * l.val = l.val
    rw [idx9]
    show 0 * 256 + 1 * l.val = l.val
    omega

theorem V_gainK (c : Dev nD) : V m c main_v7 = gain (m ((c.tc : Thread nD τ).loc main_arg7)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results <;> rfl

theorem gainK_at (c : Dev nD) (t : Fin cfg0.N) (r : Fin 1) (l : Fin 256)
    :
    (iblk m c 10 t (ix2 r l) : EReal) = (gain (m ((c.tc : Thread nD τ).loc main_arg7)) : FVec Ideal S1x256 .f32) (ix2 r l) := by
  rw [← V_gainK]
  unfold iblk
  rw [View.read_apply]
  show V m c main_v7 _ = V m c main_v7 _
  congr 1
  funext a
  apply Fin.ext
  match a with
  | ⟨0, _⟩ =>
    show win0_10.index t 0 * 1 + 1 * r.val = r.val
    rw [idx10]
    show 0 * 1 + 1 * r.val = r.val
    omega
  | ⟨1, _⟩ =>
    show win0_10.index t 1 * 256 + 1 * l.val = l.val
    rw [idx10]
    show 0 * 256 + 1 * l.val = l.val
    omega

end Cert.HeadsIdeal.Proof
-- ==== Proof.HeadsReference.lean ====
/- The reference's heads, entry by entry. -/
module

public import proofs.«01_k».proof.Proof.HeadsTurn
public import proofs.«01_k».proof.Proof.Gen.HeadsReferenceIdeal
public import proofs.«01_k».proof.Proof.Gen.HeadsReferenceIdeal.Run

@[expose] public section

set_option maxRecDepth 16384

noncomputable section

namespace Cert.HeadsReferenceIdeal.Proof

open Idealize.ShloMosaic Cert.HeadsReferenceIdeal Cert.HeadsReferenceIdeal.Gen Cert.HeadsReferenceIdeal.Value Cert.Lay
open Cert.HeadsIdeal.Proof (tail angle count)
open Idealize.SL.Sem

/-- A head's lanes over their root mean square, times the gain. -/
def normedHead (p g : Fin 192 → EReal) (l : Fin 192) : EReal :=
  p l * Ideal.rsqrt (Ideal.div (∑ x : Fin 192, p x * p x) (Ideal.ofBits .f32 0x43400000#32) + Ideal.ofBits .f32 0x358637BD#32) * g l

/-- Lane `l` of head `h` of a token's query product. -/
def productQ (a : FVec Ideal S2x8208x1024 .f32) (w : FVec Ideal S1024x3072 .f32) (b : Fin 2) (i : Fin 8208) (h : Fin 16)
    (l : Fin 192) : EReal := ∑ k : Fin 1024, (a (ix3 b i k) : EReal) * w (ix2 k ⟨h.val * 192 + l.val, by omega⟩)

/-- Lane `l` of head `h` of a token's key or value product. -/
def productK (a : FVec Ideal S2x8208x512 .f32) (w : FVec Ideal S512x2048 .f32) (b : Fin 2) (i : Fin 8208) (h : Fin 16)
    (l : Fin 128) : EReal := ∑ k : Fin 512, (a (ix3 b i k) : EReal) * w (ix2 k ⟨h.val * 128 + l.val, by omega⟩)

/-- A key head's lanes: its own and then the shared ones. -/
def joined (a : FVec Ideal S2x8208x512 .f32) (w : FVec Ideal S512x2048 .f32) (e : FVec Ideal S2x8208x64 .f32) (b : Fin 2)
    (i : Fin 8208) (h : Fin 16) (l : Fin 192) : EReal :=
  if q : l.val < 128 then productK a w b i h ⟨l.val, q⟩ else e (ix3 b i ⟨l.val - 128, by omega⟩)

variable (m : (ℓ : Loc nD τ sig) → Buf (Elt Ideal) ℓ) (c : Dev nD)

theorem query_at (b : Fin 2) (i : Fin 8208) (h : Fin 16) (l : Fin 192) :
    (res_main_v67 m c (ix4 b i h l) : EReal) =
      tail (normedHead (productQ (m ((c.tc : Thread nD τ).loc main_arg0)) (m ((c.tc : Thread nD τ).loc main_arg3)) b i h)
        (fun l => m ((c.tc : Thread nD τ).loc main_arg6) (ix1 l))) i.val l * Ideal.ofBits .f32 0x3D93CD3A#32 := by
  pointwise [res_main_v67, tail, angle, normedHead, productQ]
  rfl

theorem key_at (b : Fin 2) (i : Fin 8208) (h : Fin 16) (l : Fin 192) :
    (res_main_v84 m c (ix4 b i h l) : EReal) =
      tail (normedHead (joined (m ((c.tc : Thread nD τ).loc main_arg1)) (m ((c.tc : Thread nD τ).loc main_arg4))
        (m ((c.tc : Thread nD τ).loc main_arg2)) b i h) (fun l => m ((c.tc : Thread nD τ).loc main_arg7) (ix1 l))) i.val l := by
  pointwise [res_main_v84, tail, angle, normedHead, joined, productK]
  rfl

theorem value_at (a : FVec Ideal S2x8208x512 .f32) (w : FVec Ideal S512x2048 .f32) (b : Fin 2) (i : Fin 8208) (h : Fin 16) (l : Fin 128) :
    (shapeCast S2x8208x16x128 (Host.dotGeneral dot_S2x8208x512_S512x2048_S2x8208x2048_2_0_01_1_n_n none a w)
      shapeCasts_S2x8208x2048_S2x8208x16x128 (ix4 b i h l) : EReal) = productK a w b i h l := by
  pointwise [productK]

end Cert.HeadsReferenceIdeal.Proof
-- ==== Proof.Heads.lean ====
/- The heads of the latent attention: the queries' and keys' products, their norms and rotary angles, and the values. -/
module

public import proofs.«01_k».proof.Defs
public import proofs.«01_k».proof.Proof.HeadsPoint
public import proofs.«01_k».proof.Proof.HeadsTurn
public import proofs.«01_k».proof.Proof.HeadsHost
public import proofs.«01_k».proof.Proof.HeadsReference
public import proofs.«01_k».proof.Proof.Gen.Heads
public import proofs.«01_k».proof.Proof.Gen.Heads.Frame
public import Idealize.ShloMosaic.Adequacy
public import Idealize.ShloMosaic.Init
public import Idealize.ShloMosaic.Lib.Quiescent

@[expose] public section

set_option maxRecDepth 16384

noncomputable section

namespace Cert.HeadsIdeal.Proof

open Idealize.ShloMosaic Idealize.ShloMosaic.TcCoe Cert.HeadsIdeal Cert.HeadsIdeal.Gen Cert.Lay
open Cert.HeadsReferenceIdeal.Proof (normedHead productQ productK joined)
open Idealize.SL.Sem

/-- The constant printed as a name is the reciprocal of 192. -/
theorem preserves : Cert.preserves_Heads_HeadsIdeal := IdealRules.named_const.statement _ _ _ _ _ rfl

theorem query_congr {p p' : Fin 4096 → EReal} {g g' : Fin 256 → EReal} {co co' sa sa' sb sb' : Fin 128 → EReal} {n n' : Fin 4096}
    (hp : ∀ k, p k = p' k) (hg : ∀ k, g k = g' k) (hc : ∀ k, co k = co' k) (ha : ∀ k, sa k = sa' k) (hb : ∀ k, sb k = sb' k)
    (hn : n = n') : query p g co sa sb n = query p' g' co' sa' sb' n' := by
  rw [funext hp, funext hg, funext hc, funext ha, funext hb, hn]

theorem key_congr {p p' : Fin 2048 → EReal} {e e' : Fin 128 → EReal} {g g' : Fin 256 → EReal} {co co' sa sa' sb sb' : Fin 128 → EReal}
    {n n' : Fin 4096} (hp : ∀ k, p k = p' k) (he : ∀ k, e k = e' k) (hg : ∀ k, g k = g' k) (hc : ∀ k, co k = co' k)
    (ha : ∀ k, sa k = sa' k) (hb : ∀ k, sb k = sb' k) (hn : n = n') : key p e g co sa sb n = key p' e' g' co' sa' sb' n' := by
  rw [funext hp, funext he, funext hg, funext hc, funext ha, funext hb, hn]

theorem rowQ_congr {R S : ℕ} (a : FVec Ideal ⟨2, ![R, 1024]⟩ .bf16) (a' : FVec Ideal ⟨2, ![S, 1024]⟩ .bf16) (w w' : FVec Ideal S1024x4096 .bf16)
    (r : Fin R) (s : Fin S) (h : ∀ k, (a (ix2 r k) : EReal) = a' (ix2 s k)) (hw : ∀ k n, (w (ix2 k n) : EReal) = w' (ix2 k n)) (n : Fin 4096) :
    rowQ a w r n = rowQ a' w' s n :=
  Finset.sum_congr rfl fun k _ => congrArg₂ (fun a b : EReal => a * b) (h k) (hw k n)

theorem rowK_congr {R S : ℕ} (a : FVec Ideal ⟨2, ![R, 512]⟩ .bf16) (a' : FVec Ideal ⟨2, ![S, 512]⟩ .bf16) (w w' : FVec Ideal S512x2048 .bf16)
    (r : Fin R) (s : Fin S) (h : ∀ k, (a (ix2 r k) : EReal) = a' (ix2 s k)) (hw : ∀ k n, (w (ix2 k n) : EReal) = w' (ix2 k n)) {n n' : Fin 2048}
    (hn : n = n') : rowK a w r n = rowK a' w' s n' := by
  subst hn
  exact Finset.sum_congr rfl fun k _ => congrArg₂ (fun a b : EReal => a * b) (h k) (hw k n)

/-- The row of the launch's arguments that holds the token of row `r` of its results. -/
def below (r : Fin 16896) : Fin 25600 := ⟨8704 + r.val, by omega⟩

/-- The launch's queries. -/
def queries (a : FVec Ideal S2x8208x1024 .f32) (w : FVec Ideal S1024x3072 .f32) (g : FVec Ideal S192 .f32) : FVec Ideal S16896x4096 .bf16 :=
  fun y => query (rowQ (belowQ a) (columnsQ w) (below (y 0))) (fun l => gain g (ix2 0 l)) (fun l => cosines (ix2 (y 0) l))
    (fun l => ahead (ix2 (y 0) l)) (fun l => behind (ix2 (y 0) l)) (y 1)

/-- The launch's keys. -/
def keys (a : FVec Ideal S2x8208x512 .f32) (e : FVec Ideal S2x8208x64 .f32) (w : FVec Ideal S512x2048 .f32) (g : FVec Ideal S192 .f32) :
    FVec Ideal S16896x4096 .bf16 :=
  fun y => key (rowK (belowK a) (columns w) (below (y 0))) (fun l => shared e (ix2 (below (y 0)) l)) (fun l => gain g (ix2 0 l))
    (fun l => cosines (ix2 (y 0) l)) (fun l => ahead (ix2 (y 0) l)) (fun l => behind (ix2 (y 0) l)) (y 1)

/-- The launch's values. -/
def values (a : FVec Ideal S2x8208x512 .f32) (w : FVec Ideal S512x2048 .f32) : FVec Ideal S16896x2048 .bf16 :=
  fun y => rowK (belowK a) (columns w) (below (y 0)) (y 1)

variable (m : (ℓ : Loc nD τ sig) → Buf (Elt Ideal) ℓ)

/-- The launch's queries. -/
theorem arr_queries (c : Dev nD) : (dats m 0 c).arrAt 11 cfg0.N = queries (m ((c.tc : Thread nD τ).loc main_arg0)) (m ((c.tc : Thread nD τ).loc main_arg3)) (m ((c.tc : Thread nD τ).loc main_arg6)) := by
  refine (dats m 0 c).arrAt_eq_of_covers 11 _ (by decide +kernel) fun t hf y => ?_
  blk_simp
  rw [after0_11]
  refine (block_q _ _ _ _ _ _ _ _ _ _ _ y).trans ?_
  have e0 : ((win0_11.blk t).view.emb y 0).val = (grid0.coords t 0).val * 256 + (y 0).val := by
    show win0_11.index t 0 * 256 + 1 * (y 0).val = _
    rw [idx11]
    show (grid0.coords t 0).val * 256 + 1 * (y 0).val = _
    rw [one_mul]
  have e1 : ((win0_11.blk t).view.emb y 1).val = (y 1).val := by
    show win0_11.index t 1 * 4096 + 1 * (y 1).val = _
    rw [idx11]
    show 0 * 4096 + 1 * (y 1).val = _
    omega
  have e2 : (below ((win0_11.blk t).view.emb y 0)).val = ((grid0.coords t 0).val + 34) * 256 + (y 0).val := by
    show 8704 + ((win0_11.blk t).view.emb y 0).val = _
    rw [e0]
    ring
  exact query_congr (rowQ_congr _ _ _ _ _ _ (fun k => belowQ_at m c t _ _ k e2) (fun k n => columnsQ_at m c t k n))
    (fun l => gainQ_at m c t 0 l) (fun l => cosines_at m c t _ _ l e0) (fun l => ahead_at m c t _ _ l e0)
    (fun l => behind_at m c t _ _ l e0) (Fin.ext e1.symm)

/-- The launch's array among the values that the last host lines read. -/
theorem launched_queries (c : Dev nD) :
    Pipeline.withArrays (cfgs 0).spec c (V0 m c) (fun w => (dats m 0 c).arrAt w (cfgs 0).N) (Proc.devRef .tc main_v51_0)
      = queries (m ((c.tc : Thread nD τ).loc main_arg0)) (m ((c.tc : Thread nD τ).loc main_arg3)) (m ((c.tc : Thread nD τ).loc main_arg6)) :=
  (Pipeline.withArrays_arr spec0 winFacts0.arr_inj c (V0 m c) (fun w => (dats m 0 c).arrAt w cfg0.N) 11).trans (arr_queries m c)

/-- The launch's keys. -/
theorem arr_keys (c : Dev nD) : (dats m 0 c).arrAt 12 cfg0.N = keys (m ((c.tc : Thread nD τ).loc main_arg1)) (m ((c.tc : Thread nD τ).loc main_arg2)) (m ((c.tc : Thread nD τ).loc main_arg4)) (m ((c.tc : Thread nD τ).loc main_arg7)) := by
  refine (dats m 0 c).arrAt_eq_of_covers 12 _ (by decide +kernel) fun t hf y => ?_
  blk_simp
  rw [after0_12]
  refine (block_k _ _ _ _ _ _ _ _ _ _ _ y).trans ?_
  have e0 : ((win0_12.blk t).view.emb y 0).val = (grid0.coords t 0).val * 256 + (y 0).val := by
    show win0_12.index t 0 * 256 + 1 * (y 0).val = _
    rw [idx12]
    show (grid0.coords t 0).val * 256 + 1 * (y 0).val = _
    rw [one_mul]
  have e1 : ((win0_12.blk t).view.emb y 1).val = (y 1).val := by
    show win0_12.index t 1 * 4096 + 1 * (y 1).val = _
    rw [idx12]
    show 0 * 4096 + 1 * (y 1).val = _
    omega
  have e2 : (below ((win0_12.blk t).view.emb y 0)).val = ((grid0.coords t 0).val + 34) * 256 + (y 0).val := by
    show 8704 + ((win0_12.blk t).view.emb y 0).val = _
    rw [e0]
    ring
  exact key_congr (fun n => rowK_congr _ _ _ _ _ _ (fun k => belowK_at m c t _ _ k e2) (fun k n => columnsK_at m c t k n) rfl)
    (fun l => shared_at m c t _ _ l e2) (fun l => gainK_at m c t 0 l) (fun l => cosines_at m c t _ _ l e0) (fun l => ahead_at m c t _ _ l e0)
    (fun l => behind_at m c t _ _ l e0) (Fin.ext e1.symm)

/-- The launch's array among the values that the last host lines read. -/
theorem launched_keys (c : Dev nD) :
    Pipeline.withArrays (cfgs 0).spec c (V0 m c) (fun w => (dats m 0 c).arrAt w (cfgs 0).N) (Proc.devRef .tc main_v51_1)
      = keys (m ((c.tc : Thread nD τ).loc main_arg1)) (m ((c.tc : Thread nD τ).loc main_arg2)) (m ((c.tc : Thread nD τ).loc main_arg4)) (m ((c.tc : Thread nD τ).loc main_arg7)) :=
  (Pipeline.withArrays_arr spec0 winFacts0.arr_inj c (V0 m c) (fun w => (dats m 0 c).arrAt w cfg0.N) 12).trans (arr_keys m c)

/-- The launch's values. -/
theorem arr_values (c : Dev nD) : (dats m 0 c).arrAt 13 cfg0.N = values (m ((c.tc : Thread nD τ).loc main_arg1)) (m ((c.tc : Thread nD τ).loc main_arg5)) := by
  refine (dats m 0 c).arrAt_eq_of_covers 13 _ (by decide +kernel) fun t hf y => ?_
  blk_simp
  rw [after0_13]
  refine (block_v _ _ _ _ _ _ _ _ _ _ _ y).trans ?_
  have e0 : ((win0_13.blk t).view.emb y 0).val = (grid0.coords t 0).val * 256 + (y 0).val := by
    show win0_13.index t 0 * 256 + 1 * (y 0).val = _
    rw [idx13]
    show (grid0.coords t 0).val * 256 + 1 * (y 0).val = _
    rw [one_mul]
  have e1 : ((win0_13.blk t).view.emb y 1).val = (y 1).val := by
    show win0_13.index t 1 * 2048 + 1 * (y 1).val = _
    rw [idx13]
    show 0 * 2048 + 1 * (y 1).val = _
    omega
  have e2 : (below ((win0_13.blk t).view.emb y 0)).val = ((grid0.coords t 0).val + 34) * 256 + (y 0).val := by
    show 8704 + ((win0_13.blk t).view.emb y 0).val = _
    rw [e0]
    ring
  exact rowK_congr _ _ _ _ _ _ (fun k => belowK_at m c t _ _ k e2) (fun k n => columnsV_at m c t k n) (Fin.ext e1.symm)

/-- The launch's array among the values that the last host lines read. -/
theorem launched_values (c : Dev nD) :
    Pipeline.withArrays (cfgs 0).spec c (V0 m c) (fun w => (dats m 0 c).arrAt w (cfgs 0).N) (Proc.devRef .tc main_v51_2)
      = values (m ((c.tc : Thread nD τ).loc main_arg1)) (m ((c.tc : Thread nD τ).loc main_arg5)) :=
  (Pipeline.withArrays_arr spec0 winFacts0.arr_inj c (V0 m c) (fun w => (dats m 0 c).arrAt w cfg0.N) 13).trans (arr_values m c)

theorem rowQ_low (a : FVec Ideal S2x8208x1024 .f32) (w : FVec Ideal S1024x3072 .f32) (b : Fin 2) (i : Fin 8208) (h : Fin 16) (l : Fin 192) :
    rowQ (belowQ a) (columnsQ w) (sampleAt b i) ⟨h.val * 256 + l.val, by omega⟩ = productQ a w b i h l :=
  Finset.sum_congr rfl fun k _ => congrArg₂ (fun a b : EReal => a * b) (belowQ_apply a b i k) (columnsQ_low w k h l)

theorem rowQ_high (a : FVec Ideal S2x8208x1024 .f32) (w : FVec Ideal S1024x3072 .f32) (r : Fin 25600) (h : Fin 16) (l : Fin 64) :
    rowQ (belowQ a) (columnsQ w) r ⟨h.val * 256 + (192 + l.val), by omega⟩ = 0 :=
  Finset.sum_eq_zero fun k _ => (congrArg (fun b : EReal => (belowQ a (ix2 r k) : EReal) * b) (columnsQ_high w k h l)).trans (mul_zero _)

theorem rowK_apply (a : FVec Ideal S2x8208x512 .f32) (w : FVec Ideal S512x2048 .f32) (b : Fin 2) (i : Fin 8208) (h : Fin 16) (l : Fin 128) :
    rowK (belowK a) (columns w) (sampleAt b i) ⟨h.val * 128 + l.val, by omega⟩ = productK a w b i h l :=
  Finset.sum_congr rfl fun k _ => congrArg₂ (fun a b : EReal => a * b) (belowK_apply a b i k) (narrow_apply _ _ _)

/-- A query lane over the root of its head's mean square, times the gain, turned and scaled. -/
def headsQ (a : FVec Ideal S2x8208x1024 .f32) (w : FVec Ideal S1024x3072 .f32) (g : FVec Ideal S192 .f32) : FVec Ideal S2x8208x16x192 .f32 :=
  fun y => tail (normedHead (productQ a w (y 0) (y 1) (y 2)) (fun l => g (ix1 l))) (y 1).val (y 3) * Ideal.ofBits .f32 0x3D93CD3A#32

/-- A key lane over the root of its head's mean square, times the gain, turned. -/
def headsK (a : FVec Ideal S2x8208x512 .f32) (e : FVec Ideal S2x8208x64 .f32) (w : FVec Ideal S512x2048 .f32) (g : FVec Ideal S192 .f32) :
    FVec Ideal S2x8208x16x192 .f32 :=
  fun y => tail (normedHead (joined a w e (y 0) (y 1) (y 2)) (fun l => g (ix1 l))) (y 1).val (y 3)

/-- A value lane. -/
def headsV (a : FVec Ideal S2x8208x512 .f32) (w : FVec Ideal S512x2048 .f32) : FVec Ideal S2x8208x16x128 .f32 :=
  fun y => productK a w (y 0) (y 1) (y 2) (y 3)

theorem queries_token (a : FVec Ideal S2x8208x1024 .f32) (w : FVec Ideal S1024x3072 .f32) (g : FVec Ideal S192 .f32)
    (b : Fin 2) (i : Fin 8208) (h : Fin 16) (l : Fin 192) :
    (queries a w g (ix2 (sampleRow b i) ⟨h.val * 256 + l.val, by omega⟩) : EReal) = headsQ a w g (ix4 b i h l) := by
  show query (rowQ (belowQ a) (columnsQ w) (sampleAt b i)) (fun l => gain g (ix2 0 l)) (fun l => cosines (ix2 (sampleRow b i) l))
      (fun l => ahead (ix2 (sampleRow b i) l)) (fun l => behind (ix2 (sampleRow b i) l)) ⟨h.val * 256 + l.val, by omega⟩ =
    tail (normedHead (productQ a w b i h) (fun l => g (ix1 l))) i.val l * Ideal.ofBits .f32 0x3D93CD3A#32
  unfold query
  rw [funext (headOf_eq (rowQ (belowQ a) (columnsQ w) (sampleAt b i)) ⟨h.val * 256 + l.val, by omega⟩ (h.val * 256) (by omega) (by omega)
      (by show (h.val * 256 + l.val) / 256 = h.val * 256 / 256; omega)),
    sum_pad _ (productQ a w b i h) (rowQ_low a w b i h) (rowQ_high a w _ h),
    show (⟨(h.val * 256 + l.val) % 256, by omega⟩ : Fin 256) = ⟨l.val, by omega⟩ from Fin.ext (by show (h.val * 256 + l.val) % 256 = l.val; omega),
    lanes_tail _ _ _ _ _ _ i.val (tables b i) l, root_eq]
  obtain ⟨k, hk, e⟩ := scale_real
  rw [e]
  refine (tail_congr _ _ _ _ fun l => ?_).trans (tail_scale _ _ _ _ (EReal.coe_nonneg.mpr hk) (EReal.coe_ne_top k))
  refine (congrArg₂ (fun p g : EReal => p * _ * g) (rowQ_low a w b i h l) (gain_apply g l)).trans ?_
  show productQ a w b i h l * (_ * _) * _ = productQ a w b i h l * _ * _ * _
  rw [← mul_assoc, mul_right_comm]

theorem keys_token (a : FVec Ideal S2x8208x512 .f32) (e : FVec Ideal S2x8208x64 .f32) (w : FVec Ideal S512x2048 .f32) (g : FVec Ideal S192 .f32)
    (b : Fin 2) (i : Fin 8208) (h : Fin 16) (l : Fin 192) :
    (keys a e w g (ix2 (sampleRow b i) ⟨h.val * 256 + l.val, by omega⟩) : EReal) = headsK a e w g (ix4 b i h l) := by
  show key (rowK (belowK a) (columns w) (sampleAt b i)) (fun l => shared e (ix2 (sampleAt b i) l)) (fun l => gain g (ix2 0 l))
      (fun l => cosines (ix2 (sampleRow b i) l)) (fun l => ahead (ix2 (sampleRow b i) l)) (fun l => behind (ix2 (sampleRow b i) l))
      ⟨h.val * 256 + l.val, by omega⟩ = tail (normedHead (joined a w e b i h) (fun l => g (ix1 l))) i.val l
  have own : ∀ l : Fin 128, rowK (belowK a) (columns w) (sampleAt b i) ⟨h.val * 128 + l.val, by omega⟩ = joined a w e b i h ⟨l.val, by omega⟩ :=
    fun l => (rowK_apply a w b i h l).trans (by simp only [joined, l.isLt, dite_true])
  have rest : ∀ l : Fin 64, (shared e (ix2 (sampleAt b i) ⟨l.val, by omega⟩) : EReal) = joined a w e b i h ⟨128 + l.val, by omega⟩ :=
    fun l => (shared_low e b i l).trans (Eq.symm ((dif_neg (by show ¬ 128 + l.val < 128; omega)).trans
      (congrArg (fun x => e (ix3 b i x)) (Fin.ext (by show 128 + l.val - 128 = l.val; omega)))))
  unfold key
  rw [funext (ownOf_eq (rowK (belowK a) (columns w) (sampleAt b i)) ⟨h.val * 256 + l.val, by omega⟩ (h.val * 128) (by omega) (by omega)
      (by show (h.val * 256 + l.val) / 256 = h.val * 128 / 128; omega)),
    sum_own _ _ (joined a w e b i h) own rest (shared_high e _),
    show (⟨(h.val * 256 + l.val) % 256, by omega⟩ : Fin 256) = ⟨l.val, by omega⟩ from Fin.ext (by show (h.val * 256 + l.val) % 256 = l.val; omega),
    lanes_tail _ _ _ _ _ _ i.val (tables b i) l, root_eq]
  refine tail_congr _ _ _ _ fun l => ?_
  refine congrArg₂ (fun p g : EReal => p * _ * g) ?_ (gain_apply g l)
  by_cases q : l.val < 128
  · exact (dif_pos q).trans (own ⟨l.val, q⟩)
  · refine (dif_neg q).trans ((rest ⟨l.val - 128, by omega⟩).trans (congrArg _ (Fin.ext ?_)))
    show 128 + (l.val - 128) = l.val
    omega

/-- The program's queries. -/
theorem final_queries (c : Dev nD) :
    Pipeline.afterTail₀ cfgs (dats m) 0 (V0 m) [hostOps1] c main_v56 = headsQ (m ((c.tc : Thread nD τ).loc main_arg0)) (m ((c.tc : Thread nD τ).loc main_arg3)) (m ((c.tc : Thread nD τ).loc main_arg6)) := by
  unfold Pipeline.afterTail₀
  simp only [hostOps1, List.flatten_cons, List.flatten_nil, List.append_nil, List.cons_append, List.nil_append]
  after_results
  rw [launched_queries]
  funext y
  rw [eq_ix4 (n0 := 2) (n1 := 8208) (n2 := 16) (n3 := 192) y]
  refine (cut_heads _ _ _ _ _).trans ?_
  exact queries_token _ _ _ _ _ _ _

/-- The program's keys. -/
theorem final_keys (c : Dev nD) :
    Pipeline.afterTail₀ cfgs (dats m) 0 (V0 m) [hostOps1] c main_v61 = headsK (m ((c.tc : Thread nD τ).loc main_arg1)) (m ((c.tc : Thread nD τ).loc main_arg2)) (m ((c.tc : Thread nD τ).loc main_arg4)) (m ((c.tc : Thread nD τ).loc main_arg7)) := by
  unfold Pipeline.afterTail₀
  simp only [hostOps1, List.flatten_cons, List.flatten_nil, List.append_nil, List.cons_append, List.nil_append]
  after_results
  rw [launched_keys]
  funext y
  rw [eq_ix4 (n0 := 2) (n1 := 8208) (n2 := 16) (n3 := 192) y]
  refine (cut_heads _ _ _ _ _).trans ?_
  exact keys_token _ _ _ _ _ _ _ _

/-- The program's values. -/
theorem final_values (c : Dev nD) :
    Pipeline.afterTail₀ cfgs (dats m) 0 (V0 m) [hostOps1] c main_v65 = headsV (m ((c.tc : Thread nD τ).loc main_arg1)) (m ((c.tc : Thread nD τ).loc main_arg5)) := by
  unfold Pipeline.afterTail₀
  simp only [hostOps1, List.flatten_cons, List.flatten_nil, List.append_nil, List.cons_append, List.nil_append]
  after_results
  rw [launched_values]
  funext y
  rw [eq_ix4 (n0 := 2) (n1 := 8208) (n2 := 16) (n3 := 128) y]
  refine (cut_values _ _ _ _ _).trans ?_
  exact rowK_apply _ _ _ _ _ _

end Cert.HeadsIdeal.Proof

namespace Cert.HeadsReferenceIdeal.Proof

open Idealize.ShloMosaic Cert.HeadsReferenceIdeal Cert.HeadsReferenceIdeal.Gen Cert.HeadsReferenceIdeal.Value Cert.Lay
open Cert.HeadsIdeal.Proof (headsQ headsK headsV final_queries final_keys final_values)
open Idealize.SL.Sem

theorem result_Q (m : (ℓ : Loc nD τ sig) → Buf (Elt Ideal) ℓ) (c : Dev nD) :
    res_main_v67 m c = headsQ (m ((c.tc : Thread nD τ).loc main_arg0)) (m ((c.tc : Thread nD τ).loc main_arg3)) (m ((c.tc : Thread nD τ).loc main_arg6)) := by
  funext y
  rw [eq_ix4 (n0 := 2) (n1 := 8208) (n2 := 16) (n3 := 192) y]
  exact query_at m c _ _ _ _

theorem result_K (m : (ℓ : Loc nD τ sig) → Buf (Elt Ideal) ℓ) (c : Dev nD) :
    res_main_v84 m c = headsK (m ((c.tc : Thread nD τ).loc main_arg1)) (m ((c.tc : Thread nD τ).loc main_arg2)) (m ((c.tc : Thread nD τ).loc main_arg4)) (m ((c.tc : Thread nD τ).loc main_arg7)) := by
  funext y
  rw [eq_ix4 (n0 := 2) (n1 := 8208) (n2 := 16) (n3 := 192) y]
  exact key_at m c _ _ _ _

theorem result_V (a : FVec Ideal S2x8208x512 .f32) (w : FVec Ideal S512x2048 .f32) :
    shapeCast S2x8208x16x128 (Host.dotGeneral dot_S2x8208x512_S512x2048_S2x8208x2048_2_0_01_1_n_n none a w)
      shapeCasts_S2x8208x2048_S2x8208x16x128 = headsV a w := by
  funext y
  rw [eq_ix4 (n0 := 2) (n1 := 8208) (n2 := 16) (n3 := 128) y]
  exact value_at _ _ _ _ _ _

/-- The reference's run leaves its arguments, and it has no semaphore. -/
theorem frame : Cert.quiescent_HeadsReferenceIdeal (hHeadsReferenceIdeal := Cert.HeadsReferenceIdeal.Gen.facts) := fun m g _ =>
  (θ_run _ _ _).mono (fun r h => ⟨fun c => (h c).2.2.2, sem_eq_zero_of_no_sems (by decide) r.2⟩) (Value.run m g)

/-- The two programs' results agree. -/
theorem algebraic : Cert.algebraic_HeadsIdeal_HeadsReferenceIdeal (hHeadsIdeal := Cert.HeadsIdeal.Gen.facts)
    (hHeadsReferenceIdeal := Cert.HeadsReferenceIdeal.Gen.facts) := by
  intro m g m' g' _ hagree
  refine ⟨fun c => headsQ (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg6)),
    fun c => headsK (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg7)),
    fun c => headsV (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg5)), ?_, ?_⟩
  · refine (θ_run _ _ _).mono (fun r hr c => ⟨?_, ?_, ?_, hr.2 c⟩)
      (θ_run_and (Cert.HeadsIdeal.Gen.run_main m g) (Cert.HeadsIdeal.Gen.unchanged m g))
    · exact ((hr.1 c).2 Cert.HeadsIdeal.main_v56 (by decide)).trans (final_queries m c)
    · exact ((hr.1 c).2 Cert.HeadsIdeal.main_v61 (by decide)).trans (final_keys m c)
    · exact ((hr.1 c).2 Cert.HeadsIdeal.main_v65 (by decide)).trans (final_values m c)
  · refine (θ_run _ _ _).mono (fun r h c => ⟨?_, ?_, ?_, (h c).2.2.2⟩) (Value.run m' g')
    · obtain ⟨h0, h1, h2, h3, h4, h5, h6, h7⟩ := hagree c
      refine ((h c).1.trans (result_Q m' c)).trans ?_
      rw [h0, h3, h6]
    · obtain ⟨h0, h1, h2, h3, h4, h5, h6, h7⟩ := hagree c
      refine ((h c).2.1.trans (result_K m' c)).trans ?_
      rw [h1, h2, h4, h7]
    · obtain ⟨h0, h1, h2, h3, h4, h5, h6, h7⟩ := hagree c
      refine ((h c).2.2.1.trans (result_V _ _)).trans ?_
      rw [h1, h5]

end Cert.HeadsReferenceIdeal.Proof

end
-- ==== Proof.Norm.lean ====
/- The norm before the mixers: every token over its root mean square, times the gain. -/
module

public import proofs.«01_k».proof.Defs
public import proofs.«01_k».proof.Proof.Layout
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormReferenceIdeal
public import proofs.«01_k».proof.Proof.Gen.NormReferenceIdeal.Run
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.NormIdeal.Proof

open Idealize.ShloMosaic Idealize.ShloMosaic.TcCoe Cert.NormIdeal Cert.NormIdeal.Gen Cert.Lay
open Idealize.SL.Sem

/-- Both batches' tokens as rows. -/
def tokens (x : FVec Ideal S2x4112x4096 .f32) (y : FVec Ideal S2x8208x4096 .f32) : FVec Ideal S25600x4096 .f32 :=
  concatenate S25600x4096 0
    [⟨S8704x4096, shapeCast S8704x4096 (pad S2x4352x4096 ![0, 0, 0] ![0, 240, 0] ![0, 0, 0] x
      (sitofp .f32 (constantI S_ 32 0#32)) pads_S2x4112x4096_S2x4352x4096_000_02400_000 h_S_) shapeCasts_S2x4352x4096_S8704x4096⟩,
      ⟨S16896x4096, shapeCast S16896x4096 (pad S2x8448x4096 ![0, 0, 0] ![0, 240, 0] ![0, 0, 0] y
        (sitofp .f32 (constantI S_ 32 0#32)) pads_S2x8208x4096_S2x8448x4096_000_02400_000 h_S_) shapeCasts_S2x8448x4096_S16896x4096⟩]
    concatenates_S8704x4096_S16896x4096_S25600x4096_d0

theorem tokens_prompt_apply (x : FVec Ideal S2x4112x4096 .f32) (y : FVec Ideal S2x8208x4096 .f32) (b : Fin 2) (i : Fin 4112)
    (k : Fin 4096) : (tokens x y (ix2 (promptAt b i) k) : EReal) = x (ix3 b i k) :=
  tokens_prompt x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

theorem tokens_sample_apply (x : FVec Ideal S2x4112x4096 .f32) (y : FVec Ideal S2x8208x4096 .f32) (b : Fin 2) (i : Fin 8208)
    (k : Fin 4096) : (tokens x y (ix2 (sampleAt b i) k) : EReal) = y (ix3 b i k) :=
  tokens_sample x y _ _ pads_S2x4112x4096_S2x4352x4096_000_02400_000 pads_S2x8208x4096_S2x8448x4096_000_02400_000 h_S_ h_S_
    shapeCasts_S2x4352x4096_S8704x4096 shapeCasts_S2x8448x4096_S16896x4096 concatenates_S8704x4096_S16896x4096_S25600x4096_d0 b i k

/-- Rows over their root mean squares, times the gain. -/
def norms {R : ℕ} (a : FVec Ideal ⟨2, ![R, 4096]⟩ .f32) (g : FVec Ideal S1x4096 .f32) : FVec Ideal ⟨2, ![R, 4096]⟩ .bf16 := fun j =>
  normed (fun l : Fin 4096 => a (ix2 (j 0) l)) 0x45800000#32 (fun l => g (ix2 0 l)) (j 1)

/-- What both programs compute of a batch. -/
def normOf {T : ℕ} (x : FVec Ideal ⟨3, ![2, T, 4096]⟩ .f32) (g : FVec Ideal S4096 .f32) : FVec Ideal ⟨3, ![2, T, 4096]⟩ .f32 := fun j =>
  normed (fun l : Fin 4096 => x (ix3 (j 0) (j 1) l)) 0x45800000#32 (fun l => g (ix1 l)) (j 2)

theorem block (x0 : FVec Ideal S256x4096 .f32) (x1 : FVec Ideal S1x4096 .f32) (r : Fin 256) (l : Fin 4096) :
    (out0_2 (F := Ideal) x0 x1 (ix2 r l) : EReal) = norms x0 x1 (ix2 r l) := by
  frame_out
  pointwise [k0_pay1, norms, normed]

theorem gain_apply (g : FVec Ideal S4096 .f32) (l : Fin 4096) :
    (shapeCast S1x4096 g shapeCasts_S4096_S1x4096 (ix2 0 l) : EReal) = g (ix1 l) := by
  pointwise

theorem idx0 : ∀ t : Fin grid0.N, win0_0.index t = ![(grid0.coords t 0).val, 0] := by decide +kernel
theorem idx2 : ∀ t : Fin grid0.N, win0_2.index t = ![(grid0.coords t 0).val, 0] := by decide +kernel
theorem idx1 : ∀ t : Fin grid0.N, win0_1.index t = ![0, 0] := by decide +kernel

variable (m : (ℓ : Loc nD τ sig) → Buf (Elt Ideal) ℓ)

theorem V_tokens (c : Dev nD) : V m c main_v4 = tokens (m ((c.tc : Thread nD τ).loc main_arg0)) (m ((c.tc : Thread nD τ).loc main_arg1)) := by
  simp only [V, V0, hostOps0, hostOps0_1, hostOps0_2, hostOps0_3, hostOps0_4,
    List.flatten_cons, List.flatten_nil, List.append_nil, List.cons_append, List.nil_append]
  after_results <;> rfl

theorem tokens_at (c : Dev nD) (t : Fin cfg0.N) (r : Fin 256) (R : Fin 25600) (l : Fin 4096)
    (hr : R.val = (grid0.coords t 0).val * 256 + r.val) :
    (iblk m c 0 t (ix2 r l) : EReal) = (tokens (m ((c.tc : Thread nD τ).loc main_arg0)) (m ((c.tc : Thread nD τ).loc main_arg1))) (ix2 R l) := by
  rw [← V_tokens]
  unfold iblk
  rw [View.read_apply]
  show V m c main_v4 _ = V m c main_v4 _
  congr 1
  funext a
  apply Fin.ext
  match a with
  | ⟨0, _⟩ =>
    show win0_0.index t 0 * 256 + 1 * r.val = R.val
    rw [idx0, hr]
    show (grid0.coords t 0).val * 256 + 1 * r.val = _
    omega
  | ⟨1, _⟩ =>
    show win0_0.index t 1 * 4096 + 1 * l.val = l.val
    rw [idx0]
    show 0 * 4096 + 1 * l.val = l.val
    omega

theorem V_gain (c : Dev nD) : V m c main_v5 = shapeCast S1x4096 (m ((c.tc : Thread nD τ).loc main_arg2)) shapeCasts_S4096_S1x4096 := by
  simp only [V, V0, hostOps0, hostOps0_1, hostOps0_2, hostOps0_3, hostOps0_4,
    List.flatten_cons, List.flatten_nil, List.append_nil, List.cons_append, List.nil_append]
  after_results <;> rfl

theorem gain_at (c : Dev nD) (t : Fin cfg0.N) (r : Fin 1) (l : Fin 4096)
    :
    (iblk m c 1 t (ix2 r l) : EReal) = (shapeCast S1x4096 (m ((c.tc : Thread nD τ).loc main_arg2)) shapeCasts_S4096_S1x4096) (ix2 r l) := by
  rw [← V_gain]
  unfold iblk
  rw [View.read_apply]
  show V m c main_v5 _ = V m c main_v5 _
  congr 1
  funext a
  apply Fin.ext
  match a with
  | ⟨0, _⟩ =>
    show win0_1.index t 0 * 1 + 1 * r.val = r.val
    rw [idx1]
    show 0 * 1 + 1 * r.val = r.val
    omega
  | ⟨1, _⟩ =>
    show win0_1.index t 1 * 4096 + 1 * l.val = l.val
    rw [idx1]
    show 0 * 4096 + 1 * l.val = l.val
    omega

/-- The launch's array. -/
theorem arr (c : Dev nD) : (dats m 0 c).arrAt 2 cfg0.N = norms (tokens (m ((c.tc : Thread nD τ).loc main_arg0)) (m ((c.tc : Thread nD τ).loc main_arg1))) (shapeCast S1x4096 (m ((c.tc : Thread nD τ).loc main_arg2)) shapeCasts_S4096_S1x4096) := by
  refine (dats m 0 c).arrAt_eq_of_covers 2 _ (by decide +kernel) fun t hf y => ?_
  blk_simp
  rw [after0_2]
  refine ((congrArg _ (Lay.eq_ix2 (p := 256) (q := 4096) y)).trans (block _ _ (y 0) (y 1))).trans ?_
  have e0 : ((win0_2.blk t).view.emb y 0).val = (grid0.coords t 0).val * 256 + (y 0).val := by
    show win0_2.index t 0 * 256 + 1 * (y 0).val = _
    rw [idx2]
    show (grid0.coords t 0).val * 256 + 1 * (y 0).val = _
    rw [one_mul]
  have e1 : ((win0_2.blk t).view.emb y 1).val = (y 1).val := by
    show win0_2.index t 1 * 4096 + 1 * (y 1).val = _
    rw [idx2]
    show 0 * 4096 + 1 * (y 1).val = _
    omega
  exact normed_congr (fun l => tokens_at m c t _ _ l e0) (fun l => gain_at m c t 0 l) (Fin.ext e1.symm)

/-- The launch's array among the values that the last host lines read. -/
theorem launched (c : Dev nD) :
    Pipeline.withArrays (cfgs 0).spec c (V0 m c) (fun w => (dats m 0 c).arrAt w (cfgs 0).N) (Proc.devRef .tc main_v6)
      = norms (tokens (m ((c.tc : Thread nD τ).loc main_arg0)) (m ((c.tc : Thread nD τ).loc main_arg1))) (shapeCast S1x4096 (m ((c.tc : Thread nD τ).loc main_arg2)) shapeCasts_S4096_S1x4096) :=
  (Pipeline.withArrays_arr spec0 winFacts0.arr_inj c (V0 m c) (fun w => (dats m 0 c).arrAt w cfg0.N) 2).trans (arr m c)

/-- The norms of the prompt batch. -/
theorem final_prompt (c : Dev nD) :
    Pipeline.afterTail₀ cfgs (dats m) 0 (V0 m) [hostOps1] c main_v10 = normOf (m ((c.tc : Thread nD τ).loc main_arg0)) (m ((c.tc : Thread nD τ).loc main_arg2)) := by
  unfold Pipeline.afterTail₀
  simp only [hostOps1, List.flatten_cons, List.flatten_nil, List.append_nil, List.cons_append, List.nil_append]
  after_results
  rw [launched]
  funext y
  rw [Lay.eq_ix3 (p := 2) (q := 4112) (r := 4096) y]
  refine (wide_apply _ _ _).trans ((cut_prompt _ _ _ _ _ _ _).trans ?_)
  exact normed_congr (fun l => tokens_prompt_apply _ _ _ _ l) (fun l => gain_apply _ l) rfl
/-- The norms of the sample batch. -/
theorem final_sample (c : Dev nD) :
    Pipeline.afterTail₀ cfgs (dats m) 0 (V0 m) [hostOps1] c main_v14 = normOf (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched]
  funext y
  rw [Lay.eq_ix3 (p := 2) (q := 8208) (r := 4096) y]
  refine (wide_apply _ _ _).trans ((cut_sample _ _ _ _ _ _ _).trans ?_)
  exact normed_congr (fun l => tokens_sample_apply _ _ _ _ l) (fun l => gain_apply _ l) rfl
end Cert.NormIdeal.Proof

/-! ## The reference -/

namespace Cert.NormReferenceIdeal.Proof

open Idealize.ShloMosaic Cert.NormReferenceIdeal Cert.NormReferenceIdeal.Gen Cert.Lay Cert.NormIdeal.Proof
open Idealize.SL.Sem

/-- The reference's run leaves its arguments, and it has no semaphore. -/
theorem frame : Cert.quiescent_NormReferenceIdeal (hNormReferenceIdeal := Cert.NormReferenceIdeal.Gen.facts) := fun m g _ =>
  (θ_run _ _ _).mono (fun r h => ⟨fun c => (h c).2.2, sem_eq_zero_of_no_sems (by decide) r.2⟩) (Value.run m g)

/-- The two programs' results agree. -/
theorem algebraic : Cert.algebraic_NormIdeal_NormReferenceIdeal (hNormIdeal := Cert.NormIdeal.Gen.facts)
    (hNormReferenceIdeal := Cert.NormReferenceIdeal.Gen.facts) := by
  intro m g m' g' _ hagree
  refine ⟨fun c => normOf (m ((c.tc : Thread Cert.NormIdeal.nD Cert.NormIdeal.τ).loc Cert.NormIdeal.main_arg0)) (m ((c.tc : Thread Cert.NormIdeal.nD Cert.NormIdeal.τ).loc Cert.NormIdeal.main_arg2)),
    fun c => normOf (m ((c.tc : Thread Cert.NormIdeal.nD Cert.NormIdeal.τ).loc Cert.NormIdeal.main_arg1)) (m ((c.tc : Thread Cert.NormIdeal.nD Cert.NormIdeal.τ).loc Cert.NormIdeal.main_arg2)), ?_, ?_⟩
  · refine (θ_run _ _ _).mono (fun r hr c => ⟨?_, ?_, hr.2 c⟩)
      (θ_run_and (Cert.NormIdeal.Gen.run_main m g) (Cert.NormIdeal.Gen.unchanged m g))
    · exact ((hr.1 c).2 Cert.NormIdeal.main_v10 (by decide)).trans (final_prompt m c)
    · exact ((hr.1 c).2 Cert.NormIdeal.main_v14 (by decide)).trans (final_sample m c)
  · refine (θ_run _ _ _).mono (fun r h c => ⟨?_, ?_, (h c).2.2⟩) (Value.run m' g')
    · obtain ⟨h0, h1, h2⟩ := hagree c
      refine (h c).1.trans ?_
      rw [h0, h2]
      funext y
      rw [Lay.eq_ix3 (p := 2) (q := 4112) (r := 4096) y]
      pointwise [normOf, normed]
    · obtain ⟨h0, h1, h2⟩ := hagree c
      refine (h c).2.1.trans ?_
      rw [h1, h2]
      funext y
      rw [Lay.eq_ix3 (p := 2) (q := 8208) (r := 4096) y]
      pointwise [normOf, normed]

end Cert.NormReferenceIdeal.Proof

end
-- ==== Proof.Conv.lean ====
/- The short convolution of the Hyena columns: three taps along the sequence, zeros beyond its ends, and the bias. -/
module

public import proofs.«01_k».proof.Defs
public import proofs.«01_k».proof.Proof.Layout
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvReferenceIdeal
public import proofs.«01_k».proof.Proof.Gen.ConvReferenceIdeal.Run
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.ConvIdeal.Proof

open Idealize.ShloMosaic Idealize.ShloMosaic.TcCoe Cert.ConvIdeal Cert.ConvIdeal.Gen Cert.Lay
open Idealize.SL.Sem

/-- Three neighbours under three weights, and the bias. -/
def tap (p c n : EReal) (w : Fin 3 → EReal) (b : EReal) : EReal := p * w 0 + c * w 1 + n * w 2 + b

theorem tap_congr {p q c d n o b e : EReal} {w v : Fin 3 → EReal} (hp : p = q) (hc : c = d) (hn : n = o) (hw : ∀ a, w a = v a)
    (hb : b = e) : tap p c n w b = tap q d o v e := by
  rw [hp, hc, hn, funext hw, hb]

/-- Column `k` of the third `j` of the columns. -/
def col (j : Fin 3) (k : Fin 2048) : Fin 6144 := ⟨j.val * 2048 + k.val, by omega⟩

/-- The launch's array: zero at the rows that pad a sequence, the taps at the others. -/
def tapsAt (x : FVec Ideal S25600x6144 .f32) (w : FVec Ideal S3x6144 .f32) (b : FVec Ideal S1x6144 .f32)
    (j : Fin 3) (r : Fin 16896) (k : Fin 2048) : EReal :=
  if h : r.val % 8448 < 8208 then
    tap (x (ix2 ⟨8703 + r.val, by omega⟩ (col j k))) (x (ix2 ⟨8704 + r.val, by omega⟩ (col j k)))
      (x (ix2 ⟨8705 + r.val, by omega⟩ (col j k))) (fun a => w (ix2 a (col j k))) (b (ix2 0 (col j k)))
  else 0

def taps (x : FVec Ideal S25600x6144 .f32) (w : FVec Ideal S3x6144 .f32) (b : FVec Ideal S1x6144 .f32) : FVec Ideal S3x16896x2048 .f32 :=
  fun y => tapsAt x w b (y 0) (y 1) (y 2)

/-- What both programs compute of the third `j` of the columns. -/
def convOf (j : Fin 3) (x : FVec Ideal S2x8208x6144 .f32) (w : FVec Ideal S3x6144 .f32) (b : FVec Ideal S6144 .f32) :
    FVec Ideal S2x8208x2048 .f32 := fun y =>
  let i : Fin 8208 := y 1
  tap (if h : 0 < i.val then x (ix3 (y 0) ⟨i.val - 1, by omega⟩ (col j (y 2))) else 0) (x (ix3 (y 0) i (col j (y 2))))
    (if h : i.val + 1 < 8208 then x (ix3 (y 0) ⟨i.val + 1, h⟩ (col j (y 2))) else 0) (fun a => w (ix2 a (col j (y 2))))
    (b (ix1 (col j (y 2))))

/-! ## One grid point -/

theorem first_word (r : Fin 256) : IntOp.cmpi CmpIPredicate.eq (BitVec.ofNat 32 r.val) 0#32 = if r.val = 0 then 1#1 else 0#1 := by
  revert r
  decide +kernel

theorem last_word (r : Fin 256) : IntOp.cmpi CmpIPredicate.eq (BitVec.ofNat 32 r.val) 255#32 = if r.val = 255 then 1#1 else 0#1 := by
  revert r
  decide +kernel

/-- The row of its sequence at which a block begins, as the program computes it. -/
theorem start_word (i : Fin 66) :
    Scalar.muli
      (Scalar.select
        (Scalar.andi
          (Scalar.xori
            (Scalar.cmpi CmpIPredicate.slt
              (Scalar.remsi (BitVec.ofNat 32 i.val) (Scalar.select (Scalar.cmpi CmpIPredicate.eq 33#32 0#32) 1#32 33#32)) 0#32)
            (Scalar.cmpi CmpIPredicate.slt (Scalar.select (Scalar.cmpi CmpIPredicate.eq 33#32 0#32) 1#32 33#32) 0#32))
          (Scalar.cmpi CmpIPredicate.ne
            (Scalar.remsi (BitVec.ofNat 32 i.val) (Scalar.select (Scalar.cmpi CmpIPredicate.eq 33#32 0#32) 1#32 33#32)) 0#32))
        (Scalar.addi
          (Scalar.remsi (BitVec.ofNat 32 i.val) (Scalar.select (Scalar.cmpi CmpIPredicate.eq 33#32 0#32) 1#32 33#32))
          (Scalar.select (Scalar.cmpi CmpIPredicate.eq 33#32 0#32) 1#32 33#32))
        (Scalar.remsi (BitVec.ofNat 32 i.val) (Scalar.select (Scalar.cmpi CmpIPredicate.eq 33#32 0#32) 1#32 33#32)))
      256#32 = BitVec.ofNat 32 (i.val % 33 * 256) := by
  revert i
  decide +kernel

theorem kept_word (s : Fin 33) (r : Fin 256) :
    IntOp.cmpi CmpIPredicate.slt (IntOp.addi (BitVec.ofNat 32 (s.val * 256)) (BitVec.ofNat 32 r.val)) 8208#32 =
      if s.val * 256 + r.val < 8208 then 1#1 else 0#1 := by
  revert s r
  decide +kernel

theorem select_ite {α : Type} (p : Prop) [Decidable p] (a b : α) :
    Scalar.select (if p then 1#1 else 0#1) a b = if p then a else b := by
  unfold Scalar.select
  by_cases h : p
  · rw [if_pos h, if_pos h]; rfl
  · rw [if_neg h, if_neg h]; rfl

/-- The neighbours of row `r` of a block `x`, from the block and the rows before and after it. -/
def before (x : FVec Ideal S256x2048 .f32) (p : FVec Ideal S1x2048 .f32) (r : Fin 256) (k : Fin 2048) : EReal :=
  if r.val = 0 then p (ix2 0 k) else x (ix2 ⟨(r.val + 256 - 1) % 256, by omega⟩ k)
def after (x : FVec Ideal S256x2048 .f32) (n : FVec Ideal S1x2048 .f32) (r : Fin 256) (k : Fin 2048) : EReal :=
  if r.val = 255 then n (ix2 0 k) else x (ix2 ⟨(r.val + 256 - 255) % 256, by omega⟩ k)

theorem taps_apply (x0 : FVec Ideal S256x2048 .f32) (x1 x2 : FVec Ideal S1x2048 .f32) (x3 : FVec Ideal S3x2048 .f32)
    (x4 : FVec Ideal S1x2048 .f32) (r : Fin 256) (k : Fin 2048) :
    (k0_pay2 (F := Ideal) x0 x1 x2 x3 x4 (ix2 r k) : EReal) =
      tap (before x0 x1 r k) (x0 (ix2 r k)) (after x0 x2 r k) (fun a => x3 (ix2 a k)) (x4 (ix2 0 k)) := by
  pointwise [k0_pay2]
  rw [first_word, last_word, select_ite, select_ite]
  rfl

theorem kept_apply (i : Fin 66) (v : FVec Ideal S256x2048 .f32) (r : Fin 256) (k : Fin 2048) :
    (k0_pay1 (F := Ideal) (BitVec.ofNat 32 i.val) (iota .tc S256x1 32 [0] iota_S256x1_d0_w32) v
      (Scalar.select (Scalar.cmpi .eq 33#32 0#32) 1#32 33#32) (ix3 0 r k) : EReal) =
      if i.val % 33 * 256 + r.val < 8208 then v (ix2 r k) else 0 := by
  pointwise [k0_pay1]
  rw [start_word, kept_word ⟨i.val % 33, by omega⟩ r, select_ite]

theorem row_apply (x : FVec Ideal S8x2048 .f32) (o : Fin 8) (h) (k : Fin 2048) :
    ((View.ld (Val := Elt Ideal) (e' := .f32) x (Rect.unit (s := S8x2048) ![o.val, 0] S1x2048.size h) : FVec Ideal S1x2048 .f32) (ix2 0 k) : EReal)
      = x (ix2 o k) := by
  refine congrArg x (funext fun a => Fin.ext ?_)
  match a with
  | ⟨0, _⟩ => show o.val + 1 * 0 = o.val; omega
  | ⟨1, _⟩ => show 0 + 1 * k.val = k.val; omega

theorem block (i : grid0.Coords) (x0 : FVec Ideal S256x2048 .f32) (x1 x2 : FVec Ideal S8x2048 .f32) (x3 : FVec Ideal S3x2048 .f32)
    (x4 : FVec Ideal S1x2048 .f32) (r : Fin 256) (k : Fin 2048) :
    (out0_5 (F := Ideal) i x0 x1 x2 x3 x4 (ix3 0 r k) : EReal) =
      if (i 0).val % 33 * 256 + r.val < 8208 then
        tap (before x0 (View.ld (Val := Elt Ideal) (e' := .f32) x1 r0_1 : FVec Ideal S1x2048 .f32) r k) (x0 (ix2 r k)) (after x0 (View.ld (Val := Elt Ideal) (e' := .f32) x2 r0_2 : FVec Ideal S1x2048 .f32) r k) (fun a => x3 (ix2 a k)) (x4 (ix2 0 k))
      else 0 := by
  frame_out
  exact (kept_apply (i 0) _ r k).trans (by rw [taps_apply])

/-! ## The launch -/

/-- The batch's tokens as rows, below the rows of the other batch, which are zero. -/
def rows (x : FVec Ideal S2x8208x6144 .f32) : FVec Ideal S25600x6144 .f32 :=
  pad S25600x6144 ![8704, 0] ![0, 0] ![0, 0]
    (shapeCast S16896x6144 (pad S2x8448x6144 ![0, 0, 0] ![0, 240, 0] ![0, 0, 0] x
      (sitofp .f32 (constantI S_ 32 0#32)) pads_S2x8208x6144_S2x8448x6144_000_02400_000 h_S_) shapeCasts_S2x8448x6144_S16896x6144)
    (sitofp .f32 (constantI S_ 32 0#32)) pads_S16896x6144_S25600x6144_870400_000 h_S_

theorem rows_inside (x : FVec Ideal S2x8208x6144 .f32) (R : Fin 25600) (r : Fin 16896) (hR : R.val = 8704 + r.val) (n : Fin 6144) :
    rows x (ix2 R n) = shapeCast S16896x6144 (pad S2x8448x6144 ![0, 0, 0] ![0, 240, 0] ![0, 0, 0] x
      (sitofp .f32 (constantI S_ 32 0#32)) pads_S2x8208x6144_S2x8448x6144_000_02400_000 h_S_) shapeCasts_S2x8448x6144_S16896x6144 (ix2 r n) :=
  pad_apply_of_inside _ _ _ _ _ _ _ _ _ fun a => by
    match a with
    | ⟨0, _⟩ => show R.val = 8704 + r.val * 1; omega
    | ⟨1, _⟩ => show n.val = 0 + n.val * 1; omega

/-- A token's row. -/
theorem rows_token (x : FVec Ideal S2x8208x6144 .f32) (b : Fin 2) (i : Fin 8208) (n : Fin 6144) (R : Fin 25600)
    (hR : R.val = 8704 + (b.val * 8448 + i.val)) : (rows x (ix2 R n) : EReal) = x (ix3 b i n) :=
  (rows_inside x R (sampleRow b i) hR n).trans (laid_apply x _ _ _ _ (by decide) b i n _ rfl)

/-- A row between the sequences. -/
theorem rows_between (x : FVec Ideal S2x8208x6144 .f32) (b : Fin 2) (e : ℕ) (he : 8208 ≤ e) (he' : e < 8448) (n : Fin 6144)
    (R : Fin 25600) (hR : R.val = 8704 + (b.val * 8448 + e)) : (rows x (ix2 R n) : EReal) = 0 := by
  rw [rows_inside x R ⟨b.val * 8448 + e, by omega⟩ hR n, shapeCast_apply _ _ _ (ix3 b ⟨e, he'⟩ n) (by
    rw [rowMajor_val3 _ (8448 * 6144) 6144 rfl rfl, rowMajor_val2 _ 6144 rfl]
    show b.val * (8448 * 6144) + e * 6144 + n.val = (b.val * 8448 + e) * 6144 + n.val
    ring)]
  refine (pad_apply_of_not_inside _ _ _ _ _ _ _ _ 1 fun h => ?_).trans (fill_zero _)
  have h2 : (e - 0) / (0 + 1) < 8208 := h.2.2
  omega

/-- The row before the first sequence. -/
theorem rows_above (x : FVec Ideal S2x8208x6144 .f32) (n : Fin 6144) (R : Fin 25600) (hR : R.val = 8703) :
    (rows x (ix2 R n) : EReal) = 0 := by
  refine (pad_apply_of_not_inside _ _ _ _ _ _ _ _ 0 fun h => ?_).trans (fill_zero _)
  have h1 : 8704 ≤ R.val := h.1
  omega

theorem bias_apply (b : FVec Ideal S6144 .f32) (n : Fin 6144) :
    (shapeCast S1x6144 b shapeCasts_S6144_S1x6144 (ix2 0 n) : EReal) = b (ix1 n) := by
  pointwise

/-- A token of the launch's array. -/
theorem taps_token (x : FVec Ideal S2x8208x6144 .f32) (w : FVec Ideal S3x6144 .f32) (b : FVec Ideal S6144 .f32) (j : Fin 3)
    (s : Fin 2) (i : Fin 8208) (k : Fin 2048) :
    taps (rows x) w (shapeCast S1x6144 b shapeCasts_S6144_S1x6144) (ix3 j (sampleRow s i) k) = convOf j x w b (ix3 s i k) := by
  have hr : (sampleRow s i).val = s.val * 8448 + i.val := rfl
  show tapsAt _ _ _ j (sampleRow s i) k = _
  unfold tapsAt
  rw [dif_pos (by rw [hr]; omega)]
  show _ = tap (if h : 0 < i.val then x (ix3 s ⟨i.val - 1, by omega⟩ (col j k)) else 0) (x (ix3 s i (col j k)))
    (if h : i.val + 1 < 8208 then x (ix3 s ⟨i.val + 1, h⟩ (col j k)) else 0) (fun a => w (ix2 a (col j k))) (b (ix1 (col j k)))
  refine tap_congr ?_ ?_ ?_ (fun a => rfl) (bias_apply b _)
  · by_cases h : 0 < i.val
    · rw [dif_pos h]
      exact rows_token x s ⟨i.val - 1, by omega⟩ _ _ (by show 8703 + (sampleRow s i).val = 8704 + (s.val * 8448 + (i.val - 1)); omega)
    · rw [dif_neg h]
      by_cases hs : s.val = 0
      · exact rows_above x _ _ (by show 8703 + (sampleRow s i).val = 8703; omega)
      · exact rows_between x 0 8447 (by decide) (by decide) _ _
          (by show 8703 + (sampleRow s i).val = 8704 + (0 * 8448 + 8447); omega)
  · exact rows_token x s i _ _ (by show 8704 + (sampleRow s i).val = 8704 + (s.val * 8448 + i.val); omega)
  · by_cases h : i.val + 1 < 8208
    · rw [dif_pos h]
      exact rows_token x s ⟨i.val + 1, h⟩ _ _ (by show 8705 + (sampleRow s i).val = 8704 + (s.val * 8448 + (i.val + 1)); omega)
    · rw [dif_neg h]
      exact rows_between x s 8208 (by decide) (by decide) _ _
        (by show 8705 + (sampleRow s i).val = 8704 + (s.val * 8448 + 8208); omega)

theorem idx0 : ∀ t : Fin grid0.N, win0_0.index t = ![(34 + (grid0.coords t 0).val), (grid0.coords t 1).val] := by decide +kernel
theorem idx1 : ∀ t : Fin grid0.N, win0_1.index t = ![(34 + (grid0.coords t 0).val) * 32 - 1, (grid0.coords t 1).val] := by decide +kernel
theorem idx2 : ∀ t : Fin grid0.N, win0_2.index t = ![min ((34 + (grid0.coords t 0).val + 1) * 32) 3199, (grid0.coords t 1).val] := by decide +kernel
theorem idx3 : ∀ t : Fin grid0.N, win0_3.index t = ![0, (grid0.coords t 1).val] := by decide +kernel
theorem idx4 : ∀ t : Fin grid0.N, win0_4.index t = ![0, (grid0.coords t 1).val] := by decide +kernel
theorem idx5 : ∀ t : Fin grid0.N, win0_5.index t = ![(grid0.coords t 1).val, (grid0.coords t 0).val, 0] := by decide +kernel

variable (m : (ℓ : Loc nD τ sig) → Buf (Elt Ideal) ℓ)

theorem V_rows (c : Dev nD) : V m c main_v2 = rows (m ((c.tc : Thread nD τ).loc main_arg0)) := by
  simp only [V, V0, hostOps0, hostOps0_1, hostOps0_2, hostOps0_3, hostOps0_4,
    List.flatten_cons, List.flatten_nil, List.append_nil, List.cons_append, List.nil_append]
  after_results <;> rfl

theorem V_bias (c : Dev nD) : V m c main_v3 = shapeCast S1x6144 (m ((c.tc : Thread nD τ).loc main_arg2)) shapeCasts_S6144_S1x6144 := by
  simp only [V, V0, hostOps0, hostOps0_1, hostOps0_2, hostOps0_3, hostOps0_4,
    List.flatten_cons, List.flatten_nil, List.append_nil, List.cons_append, List.nil_append]
  after_results <;> rfl

theorem V_weights (c : Dev nD) : V m c main_arg1 = (m ((c.tc : Thread nD τ).loc main_arg1)) := by
  simp only [V, V0, hostOps0, hostOps0_1, hostOps0_2, hostOps0_3, hostOps0_4,
    List.flatten_cons, List.flatten_nil, List.append_nil, List.cons_append, List.nil_append]
  after_results <;> rfl

theorem current_at (c : Dev nD) (t : Fin cfg0.N) (r : Fin 256) (R : Fin 25600) (l : Fin 2048) (L : Fin 6144)
    (hr : R.val = (34 + (grid0.coords t 0).val) * 256 + r.val) (hl : L.val = (grid0.coords t 1).val * 2048 + l.val) :
    (iblk m c 0 t (ix2 r l) : EReal) = (rows (m ((c.tc : Thread nD τ).loc main_arg0))) (ix2 R L) := by
  rw [← V_rows]
  unfold iblk
  rw [View.read_apply]
  show V m c main_v2 _ = V m c main_v2 _
  congr 1
  funext a
  apply Fin.ext
  match a with
  | ⟨0, _⟩ =>
    show win0_0.index t 0 * 256 + 1 * r.val = R.val
    rw [idx0, hr]
    show (34 + (grid0.coords t 0).val) * 256 + 1 * r.val = _
    omega
  | ⟨1, _⟩ =>
    show win0_0.index t 1 * 2048 + 1 * l.val = L.val
    rw [idx0, hl]
    show (grid0.coords t 1).val * 2048 + 1 * l.val = _
    omega

theorem before_at (c : Dev nD) (t : Fin cfg0.N) (r : Fin 8) (R : Fin 25600) (l : Fin 2048) (L : Fin 6144)
    (hr : R.val = ((34 + (grid0.coords t 0).val) * 32 - 1) * 8 + r.val) (hl : L.val = (grid0.coords t 1).val * 2048 + l.val) :
    (iblk m c 1 t (ix2 r l) : EReal) = (rows (m ((c.tc : Thread nD τ).loc main_arg0))) (ix2 R L) := by
  rw [← V_rows]
  unfold iblk
  rw [View.read_apply]
  show V m c main_v2 _ = V m c main_v2 _
  congr 1
  funext a
  apply Fin.ext
  match a with
  | ⟨0, _⟩ =>
    show win0_1.index t 0 * 8 + 1 * r.val = R.val
    rw [idx1, hr]
    show ((34 + (grid0.coords t 0).val) * 32 - 1) * 8 + 1 * r.val = _
    omega
  | ⟨1, _⟩ =>
    show win0_1.index t 1 * 2048 + 1 * l.val = L.val
    rw [idx1, hl]
    show (grid0.coords t 1).val * 2048 + 1 * l.val = _
    omega

theorem after_at (c : Dev nD) (t : Fin cfg0.N) (r : Fin 8) (R : Fin 25600) (l : Fin 2048) (L : Fin 6144)
    (hr : R.val = (min ((34 + (grid0.coords t 0).val + 1) * 32) 3199) * 8 + r.val) (hl : L.val = (grid0.coords t 1).val * 2048 + l.val) :
    (iblk m c 2 t (ix2 r l) : EReal) = (rows (m ((c.tc : Thread nD τ).loc main_arg0))) (ix2 R L) := by
  rw [← V_rows]
  unfold iblk
  rw [View.read_apply]
  show V m c main_v2 _ = V m c main_v2 _
  congr 1
  funext a
  apply Fin.ext
  match a with
  | ⟨0, _⟩ =>
    show win0_2.index t 0 * 8 + 1 * r.val = R.val
    rw [idx2, hr]
    show (min ((34 + (grid0.coords t 0).val + 1) * 32) 3199) * 8 + 1 * r.val = _
    omega
  | ⟨1, _⟩ =>
    show win0_2.index t 1 * 2048 + 1 * l.val = L.val
    rw [idx2, hl]
    show (grid0.coords t 1).val * 2048 + 1 * l.val = _
    omega

theorem weights_at (c : Dev nD) (t : Fin cfg0.N) (r : Fin 3) (l : Fin 2048) (L : Fin 6144)
    (hl : L.val = (grid0.coords t 1).val * 2048 + l.val) :
    (iblk m c 3 t (ix2 r l) : EReal) = (m ((c.tc : Thread nD τ).loc main_arg1)) (ix2 r L) := by
  rw [← V_weights m c]
  unfold iblk
  rw [View.read_apply]
  show V m c main_arg1 _ = V m c main_arg1 _
  congr 1
  funext a
  apply Fin.ext
  match a with
  | ⟨0, _⟩ =>
    show win0_3.index t 0 * 3 + 1 * r.val = r.val
    rw [idx3]
    show 0 * 3 + 1 * r.val = r.val
    omega
  | ⟨1, _⟩ =>
    show win0_3.index t 1 * 2048 + 1 * l.val = L.val
    rw [idx3, hl]
    show (grid0.coords t 1).val * 2048 + 1 * l.val = _
    omega

theorem bias_at (c : Dev nD) (t : Fin cfg0.N) (r : Fin 1) (l : Fin 2048) (L : Fin 6144)
    (hl : L.val = (grid0.coords t 1).val * 2048 + l.val) :
    (iblk m c 4 t (ix2 r l) : EReal) = (shapeCast S1x6144 (m ((c.tc : Thread nD τ).loc main_arg2)) shapeCasts_S6144_S1x6144) (ix2 r L) := by
  rw [← V_bias]
  unfold iblk
  rw [View.read_apply]
  show V m c main_v3 _ = V m c main_v3 _
  congr 1
  funext a
  apply Fin.ext
  match a with
  | ⟨0, _⟩ =>
    show win0_4.index t 0 * 1 + 1 * r.val = r.val
    rw [idx4]
    show 0 * 1 + 1 * r.val = r.val
    omega
  | ⟨1, _⟩ =>
    show win0_4.index t 1 * 2048 + 1 * l.val = L.val
    rw [idx4, hl]
    show (grid0.coords t 1).val * 2048 + 1 * l.val = _
    omega

/-- A grid point's rows are the launch's array's. -/
theorem point (c : Dev nD) (t : Fin cfg0.N) (q : Fin 256) (k : Fin 2048) (j : Fin 3) (r : Fin 16896) (K : Fin 2048)
    (e0 : j.val = (grid0.coords t 1).val) (e1 : r.val = (grid0.coords t 0).val * 256 + q.val) (e2 : K.val = k.val) :
    (out0_5 (F := Ideal) (grid0.coords t) (iblk m c 0 t) (iblk m c 1 t) (iblk m c 2 t) (iblk m c 3 t) (iblk m c 4 t) (ix3 0 q k) : EReal) =
      tapsAt (rows (m ((c.tc : Thread nD τ).loc main_arg0))) (m ((c.tc : Thread nD τ).loc main_arg1)) (shapeCast S1x6144 (m ((c.tc : Thread nD τ).loc main_arg2)) shapeCasts_S6144_S1x6144) j r K := by
  obtain rfl : K = k := Fin.ext e2
  have hn : (col j K).val = (grid0.coords t 1).val * 2048 + K.val := by rw [← e0]; rfl
  have hi : (grid0.coords t 0).val < 66 := (grid0.coords t 0).isLt
  refine (block _ _ _ _ _ _ q K).trans ?_
  unfold tapsAt
  by_cases h : (grid0.coords t 0).val % 33 * 256 + q.val < 8208
  · have h' : r.val % 8448 < 8208 := by omega
    rw [if_pos h, dif_pos h']
    refine tap_congr ?_ (current_at m c t q _ K _ (by show 8704 + r.val = _; omega) hn) ?_
      (fun a => weights_at m c t a K _ hn) (bias_at m c t 0 K _ hn)
    · unfold before
      by_cases hq : q.val = 0
      · rw [if_pos hq]
        exact (row_apply _ 7 _ K).trans (before_at m c t 7 _ K _ (by show 8703 + r.val = ((34 + (grid0.coords t 0).val) * 32 - 1) * 8 + 7; omega) hn)
      · rw [if_neg hq]
        exact current_at m c t _ _ K _ (by show 8703 + r.val = (34 + (grid0.coords t 0).val) * 256 + (q.val + 256 - 1) % 256; omega) hn
    · unfold after
      by_cases hq : q.val = 255
      · rw [if_pos hq]
        exact (row_apply _ 0 _ K).trans (after_at m c t 0 _ K _ (by show 8705 + r.val = (min ((34 + (grid0.coords t 0).val + 1) * 32) 3199) * 8 + 0; omega) hn)
      · rw [if_neg hq]
        exact current_at m c t _ _ K _ (by show 8705 + r.val = (34 + (grid0.coords t 0).val) * 256 + (q.val + 256 - 255) % 256; omega) hn
  · rw [if_neg h, dif_neg (by omega)]

/-- The launch's array. -/
theorem arr (c : Dev nD) : (dats m 0 c).arrAt 5 cfg0.N = taps (rows (m ((c.tc : Thread nD τ).loc main_arg0))) (m ((c.tc : Thread nD τ).loc main_arg1)) (shapeCast S1x6144 (m ((c.tc : Thread nD τ).loc main_arg2)) shapeCasts_S6144_S1x6144) := by
  refine (dats m 0 c).arrAt_eq_of_covers 5 _ (by decide +kernel) fun t hf y => ?_
  blk_simp
  rw [after0_5]
  have hy : y = ix3 (n0 := 1) (n1 := 256) (n2 := 2048) 0 (y 1) (y 2) := by
    funext a
    match a with
    | ⟨0, _⟩ => exact Subsingleton.elim (α := Fin 1) _ _
    | ⟨1, _⟩ => rfl
    | ⟨2, _⟩ => rfl
  have hz : (y 0).val = 0 := by
    have : (y 0).val < 1 := (y 0).isLt
    omega
  have e0 : ((win0_5.blk t).view.emb y 0).val = (grid0.coords t 1).val := by
    show win0_5.index t 0 * 1 + 1 * (y 0).val = _
    rw [idx5, hz]
    show (grid0.coords t 1).val * 1 + 1 * 0 = _
    omega
  have e1 : ((win0_5.blk t).view.emb y 1).val = (grid0.coords t 0).val * 256 + (y 1).val := by
    show win0_5.index t 1 * 256 + 1 * (y 1).val = _
    rw [idx5]
    show (grid0.coords t 0).val * 256 + 1 * (y 1).val = _
    rw [one_mul]
  have e2 : ((win0_5.blk t).view.emb y 2).val = (y 2).val := by
    show win0_5.index t 2 * 2048 + 1 * (y 2).val = _
    rw [idx5]
    show 0 * 2048 + 1 * (y 2).val = _
    omega
  exact (congrArg _ hy).trans (point m c t (y 1) (y 2) _ _ _ e0 e1 e2)

/-- The launch's array among the values that the last host lines read. -/
theorem launched (c : Dev nD) :
    Pipeline.withArrays (cfgs 0).spec c (V0 m c) (fun w => (dats m 0 c).arrAt w (cfgs 0).N) (Proc.devRef .tc main_v4)
      = taps (rows (m ((c.tc : Thread nD τ).loc main_arg0))) (m ((c.tc : Thread nD τ).loc main_arg1)) (shapeCast S1x6144 (m ((c.tc : Thread nD τ).loc main_arg2)) shapeCasts_S6144_S1x6144) :=
  ((dats m 0 c).withArrays_arrAt launch₀0.sharedIn (V0 m c) (A_eq m c) 5).trans (arr m c)

/-- A third of the launch's array, cut to the batch's tokens. -/
theorem third_apply (o : FVec Ideal S3x16896x2048 .f32) (j : Fin 3) (h : S3x16896x2048.Slices ![j.val, 0, 0] S1x16896x2048)
    (hs : S1x16896x2048.ShapeCasts S16896x2048) (ht : S16896x2048.ShapeCasts S2x8448x2048)
    (hc : S2x8448x2048.Slices ![0, 0, 0] S2x8208x2048) (b : Fin 2) (i : Fin 8208) (k : Fin 2048) :
    extractStridedSlice S2x8208x2048 ![0, 0, 0] (shapeCast S2x8448x2048 (shapeCast S16896x2048
      (extractStridedSlice S1x16896x2048 ![j.val, 0, 0] o h) hs) ht) hc (ix3 b i k) = o (ix3 j (sampleRow b i) k) := by
  refine (cut_apply _ ht hc (by decide) b i k (sampleRow b i) rfl).trans ?_
  rw [shapeCast_apply _ _ _ (ix3 0 (sampleRow b i) k) (by
    rw [rowMajor_val3 _ (16896 * 2048) 2048 rfl rfl, rowMajor_val2 _ 2048 rfl]
    show 0 * (16896 * 2048) + (sampleRow b i).val * 2048 + k.val = (sampleRow b i).val * 2048 + k.val
    ring)]
  exact extractStridedSlice_apply _ _ _ _ (ix3 j (sampleRow b i) k) fun a => by
    match a with
    | ⟨0, _⟩ => show j.val = j.val + 0; omega
    | ⟨1, _⟩ => show (sampleRow b i).val = 0 + (sampleRow b i).val; omega
    | ⟨2, _⟩ => show k.val = 0 + k.val; omega

/-- Third 0 of the columns. -/
theorem final0 (c : Dev nD) :
    Pipeline.afterTail₀ cfgs (dats m) 0 (V0 m) [hostOps1] c main_v8 = convOf 0 (m ((c.tc : Thread nD τ).loc main_arg0)) (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched]
  funext y
  rw [Lay.eq_ix3 (p := 2) (q := 8208) (r := 2048) y]
  exact (third_apply _ 0 _ _ _ _ (y 0) (y 1) (y 2)).trans (taps_token _ _ _ 0 (y 0) (y 1) (y 2))
/-- Third 1 of the columns. -/
theorem final1 (c : Dev nD) :
    Pipeline.afterTail₀ cfgs (dats m) 0 (V0 m) [hostOps1] c main_v12 = convOf 1 (m ((c.tc : Thread nD τ).loc main_arg0)) (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched]
  funext y
  rw [Lay.eq_ix3 (p := 2) (q := 8208) (r := 2048) y]
  exact (third_apply _ 1 _ _ _ _ (y 0) (y 1) (y 2)).trans (taps_token _ _ _ 1 (y 0) (y 1) (y 2))
/-- Third 2 of the columns. -/
theorem final2 (c : Dev nD) :
    Pipeline.afterTail₀ cfgs (dats m) 0 (V0 m) [hostOps1] c main_v16 = convOf 2 (m ((c.tc : Thread nD τ).loc main_arg0)) (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched]
  funext y
  rw [Lay.eq_ix3 (p := 2) (q := 8208) (r := 2048) y]
  exact (third_apply _ 2 _ _ _ _ (y 0) (y 1) (y 2)).trans (taps_token _ _ _ 2 (y 0) (y 1) (y 2))
end Cert.ConvIdeal.Proof

/-! ## The reference -/

namespace Cert.ConvReferenceIdeal.Proof

open Idealize.ShloMosaic Cert.ConvReferenceIdeal Cert.ConvReferenceIdeal.Gen Cert.Lay Cert.ConvIdeal.Proof
open Idealize.SL.Sem

/-- The reference's run leaves its arguments, and it has no semaphore. -/
theorem frame : Cert.quiescent_ConvReferenceIdeal (hConvReferenceIdeal := Cert.ConvReferenceIdeal.Gen.facts) := fun m g _ =>
  (θ_run _ _ _).mono (fun r h => ⟨fun c => (h c).2.2.2, sem_eq_zero_of_no_sems (by decide) r.2⟩) (Value.run m g)

/-- The padded sequence one position back, here, and one ahead. -/
theorem padded_inside (x : FVec Ideal S2x8208x6144 .f32) (b : Fin 2) (e : Fin 8210) (i : Fin 8208) (n : Fin 6144) (h : e.val = 1 + i.val) :
    (pad S2x8210x6144 ![0, 1, 0] ![0, 1, 0] ![0, 0, 0] x (sitofp (F := Ideal) .f32 (constantI S_ 32 0#32)) pads_S2x8208x6144_S2x8210x6144_000_110_000 h_S_ (ix3 b e n) : EReal) = x (ix3 b i n) :=
  pad_apply_of_inside _ _ _ _ _ _ _ _ _ fun a => by
    match a with
    | ⟨0, _⟩ => show b.val = 0 + b.val * 1; omega
    | ⟨1, _⟩ => show e.val = 1 + i.val * 1; omega
    | ⟨2, _⟩ => show n.val = 0 + n.val * 1; omega

theorem padded_outside (x : FVec Ideal S2x8208x6144 .f32) (b : Fin 2) (e : Fin 8210) (n : Fin 6144) (h : e.val = 0 ∨ e.val = 8209) :
    (pad S2x8210x6144 ![0, 1, 0] ![0, 1, 0] ![0, 0, 0] x (sitofp (F := Ideal) .f32 (constantI S_ 32 0#32)) pads_S2x8208x6144_S2x8210x6144_000_110_000 h_S_ (ix3 b e n) : EReal) = 0 := by
  refine (pad_apply_of_not_inside _ _ _ _ _ _ _ _ 1 fun hh => ?_).trans (fill_zero _)
  have h1 : 1 ≤ e.val := hh.1
  have h2 : (e.val - 1) / (0 + 1) < 8208 := hh.2.2
  omega

theorem padded_before (x : FVec Ideal S2x8208x6144 .f32) (b : Fin 2) (e : Fin 8210) (i : Fin 8208) (n : Fin 6144) (h : e.val = i.val) :
    (pad S2x8210x6144 ![0, 1, 0] ![0, 1, 0] ![0, 0, 0] x (sitofp (F := Ideal) .f32 (constantI S_ 32 0#32)) pads_S2x8208x6144_S2x8210x6144_000_110_000 h_S_ (ix3 b e n) : EReal) = if h : 0 < i.val then x (ix3 b ⟨i.val - 1, by omega⟩ n) else 0 := by
  by_cases hi : 0 < i.val
  · rw [dif_pos hi]
    exact padded_inside x b e _ n (by show e.val = 1 + (i.val - 1); omega)
  · rw [dif_neg hi]
    exact padded_outside x b e n (by omega)

theorem padded_here (x : FVec Ideal S2x8208x6144 .f32) (b : Fin 2) (e : Fin 8210) (i : Fin 8208) (n : Fin 6144) (h : e.val = 1 + i.val) :
    (pad S2x8210x6144 ![0, 1, 0] ![0, 1, 0] ![0, 0, 0] x (sitofp (F := Ideal) .f32 (constantI S_ 32 0#32)) pads_S2x8208x6144_S2x8210x6144_000_110_000 h_S_ (ix3 b e n) : EReal) = x (ix3 b i n) := padded_inside x b e i n h

theorem padded_after (x : FVec Ideal S2x8208x6144 .f32) (b : Fin 2) (e : Fin 8210) (i : Fin 8208) (n : Fin 6144) (h : e.val = 2 + i.val) :
    (pad S2x8210x6144 ![0, 1, 0] ![0, 1, 0] ![0, 0, 0] x (sitofp (F := Ideal) .f32 (constantI S_ 32 0#32)) pads_S2x8208x6144_S2x8210x6144_000_110_000 h_S_ (ix3 b e n) : EReal) = if h : i.val + 1 < 8208 then x (ix3 b ⟨i.val + 1, h⟩ n) else 0 := by
  by_cases hi : i.val + 1 < 8208
  · rw [dif_pos hi]
    exact padded_inside x b e _ n (by show e.val = 1 + (i.val + 1); omega)
  · rw [dif_neg hi]
    exact padded_outside x b e n (by omega)

/-- The two programs' results agree. -/
theorem algebraic : Cert.algebraic_ConvIdeal_ConvReferenceIdeal (hConvIdeal := Cert.ConvIdeal.Gen.facts)
    (hConvReferenceIdeal := Cert.ConvReferenceIdeal.Gen.facts) := by
  intro m g m' g' _ hagree
  refine ⟨fun c => convOf 0 (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)),
    fun c => convOf 1 (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)),
    fun c => convOf 2 (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)), ?_, ?_⟩
  · refine (θ_run _ _ _).mono (fun r hr c => ⟨?_, ?_, ?_, hr.2 c⟩)
      (θ_run_and (Cert.ConvIdeal.Gen.run_main m g) (Cert.ConvIdeal.Gen.unchanged m g))
    · exact ((hr.1 c).2 Cert.ConvIdeal.main_v8 (by decide)).trans (final0 m c)
    · exact ((hr.1 c).2 Cert.ConvIdeal.main_v12 (by decide)).trans (final1 m c)
    · exact ((hr.1 c).2 Cert.ConvIdeal.main_v16 (by decide)).trans (final2 m c)
  · refine (θ_run _ _ _).mono (fun r h c => ⟨?_, ?_, ?_, (h c).2.2.2⟩) (Value.run m' g')
    · obtain ⟨h0, h1, h2⟩ := hagree c
      refine (h c).1.trans ?_
      rw [h0, h1, h2]
      funext y
      obtain ⟨b, i, k, rfl⟩ : ∃ (b : Fin 2) (i : Fin 8208) (k : Fin 2048), y = ix3 b i k := ⟨_, _, _, Lay.eq_ix3 y⟩
      generalize hP : pad S2x8210x6144 ![0, 1, 0] ![0, 1, 0] ![0, 0, 0] (m ((c.tc : Thread Cert.ConvIdeal.nD Cert.ConvIdeal.τ).loc Cert.ConvIdeal.main_arg0)) (sitofp (F := Ideal) .f32 (constantI S_ 32 0#32)) pads_S2x8208x6144_S2x8210x6144_000_110_000 h_S_ = P
      pointwise [convOf, tap, col]
      subst hP
      rw [padded_before _ b ⟨i.val, by omega⟩ i _ rfl, padded_here _ b ⟨1 + i.val, by omega⟩ i _ rfl,
        padded_after _ b ⟨2 + i.val, by omega⟩ i _ rfl]
    · obtain ⟨h0, h1, h2⟩ := hagree c
      refine (h c).2.1.trans ?_
      rw [h0, h1, h2]
      funext y
      obtain ⟨b, i, k, rfl⟩ : ∃ (b : Fin 2) (i : Fin 8208) (k : Fin 2048), y = ix3 b i k := ⟨_, _, _, Lay.eq_ix3 y⟩
      generalize hP : pad S2x8210x6144 ![0, 1, 0] ![0, 1, 0] ![0, 0, 0] (m ((c.tc : Thread Cert.ConvIdeal.nD Cert.ConvIdeal.τ).loc Cert.ConvIdeal.main_arg0)) (sitofp (F := Ideal) .f32 (constantI S_ 32 0#32)) pads_S2x8208x6144_S2x8210x6144_000_110_000 h_S_ = P
      pointwise [convOf, tap, col]
      subst hP
      rw [padded_before _ b ⟨i.val, by omega⟩ i _ rfl, padded_here _ b ⟨1 + i.val, by omega⟩ i _ rfl,
        padded_after _ b ⟨2 + i.val, by omega⟩ i _ rfl]
    · obtain ⟨h0, h1, h2⟩ := hagree c
      refine (h c).2.2.1.trans ?_
      rw [h0, h1, h2]
      funext y
      obtain ⟨b, i, k, rfl⟩ : ∃ (b : Fin 2) (i : Fin 8208) (k : Fin 2048), y = ix3 b i k := ⟨_, _, _, Lay.eq_ix3 y⟩
      generalize hP : pad S2x8210x6144 ![0, 1, 0] ![0, 1, 0] ![0, 0, 0] (m ((c.tc : Thread Cert.ConvIdeal.nD Cert.ConvIdeal.τ).loc Cert.ConvIdeal.main_arg0)) (sitofp (F := Ideal) .f32 (constantI S_ 32 0#32)) pads_S2x8208x6144_S2x8210x6144_000_110_000 h_S_ = P
      pointwise [convOf, tap, col]
      subst hP
      rw [padded_before _ b ⟨i.val, by omega⟩ i _ rfl, padded_here _ b ⟨1 + i.val, by omega⟩ i _ rfl,
        padded_after _ b ⟨2 + i.val, by omega⟩ i _ rfl]

end Cert.ConvReferenceIdeal.Proof

end
-- ==== Proof.Router.lean ====
/- The norm before the experts and the router's logits. The call splits the normed rows and the router's weights into a rounded
   part and the rest; in the reals the rest of a number is zero, and the three products are one. -/
module

public import proofs.«01_k».proof.Defs
public import proofs.«01_k».proof.Proof.Layout
public import proofs.«01_k».proof.Proof.Norm
public import proofs.«01_k».proof.Proof.Pre
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterReferenceIdeal
public import proofs.«01_k».proof.Proof.Gen.RouterReferenceIdeal.Run
public import Idealize.ShloMosaic.Lib.Pipeline.ValueKit
public import Idealize.ShloMosaic.Adequacy
public import Idealize.ShloMosaic.Init
public import Idealize.ShloMosaic.Lib.Quiescent
public import Idealize.ShloMosaic.Lib.ReduceAll

@[expose] public section

set_option maxRecDepth 16384

noncomputable section

namespace Cert.Pre_numbers.Att

open Idealize.ShloMosaic Cert.Pre_numbers

theorem facts : Cert.Pre_numbers.Facts where
  bcast_S_S4096 := by decide
  reducesTo_S4096_S_d0 := by decide
  h_S_ := by decide
  bcast_S_S4096x8 := by decide
  reducesTo_S4096x8_S_d0_1 := by decide
  bcast_S_S4096x64 := by decide
  reducesTo_S4096x64_S_d0_1 := by decide

attribute [local instance] facts

/-- What the precondition says: the gain's and the weights' entries are real numbers. -/
theorem reals (x : FVec Ideal S2x4112x4096 .f32) (y : FVec Ideal S2x8208x4096 .f32) (g : FVec Ideal S4096 .f32)
    (w : FVec Ideal S4096x8 .f32) (u : FVec Ideal S4096x64 .f32) (h : Cert.Pre_numbers.fn (F := Ideal) x y g w u = fun _ => 1#1) :
    (∀ i, ∃ r : ℝ, g i = r) ∧ (∀ i, ∃ r : ℝ, w i = r) ∧ ∀ i, ∃ r : ℝ, u i = r := by
  have h0 := congrFun h (Shape.Idx.first Facts.h_S_)
  dsimp only [Cert.Pre_numbers.fn] at h0
  have hs : ∀ a b : BitVec 1, IntOp.andi a b = 1#1 → a = 1#1 ∧ b = 1#1 := by decide
  obtain ⟨h1, h3⟩ := hs _ _ h0
  obtain ⟨h1, h2⟩ := hs _ _ h1
  refine ⟨fun i => ?_, fun i => ?_, fun i => ?_⟩
  · refine Cert.Pre_finite.Att.real_of_lt ?_
    rw [← Cert.Pre_finite.Att.inf_eq]
    exact Host.reduce_andi_all _ _ _ _ _ h1 i
  · refine Cert.Pre_finite.Att.real_of_lt ?_
    rw [← Cert.Pre_finite.Att.inf_eq]
    exact Host.reduce_andi_all _ _ _ _ _ h2 i
  · refine Cert.Pre_finite.Att.real_of_lt ?_
    rw [← Cert.Pre_finite.Att.inf_eq]
    exact Host.reduce_andi_all _ _ _ _ _ h3 i

end Cert.Pre_numbers.Att

namespace Cert.RouterIdeal.Proof

open Idealize.ShloMosaic Idealize.ShloMosaic.TcCoe Cert.RouterIdeal Cert.RouterIdeal.Gen Cert.Lay
open Cert.NormIdeal.Proof (tokens tokens_prompt_apply tokens_sample_apply normOf gain_apply)
open Idealize.SL.Sem

/-! ## A normed row is a row of numbers -/

theorem square_nonneg (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

theorem sum_coe {K : ℕ} (f : Fin K → ℝ) : ∑ x : Fin K, ((f x : ℝ) : EReal) = ((∑ x : Fin K, f x : ℝ) : EReal) := by
  induction (Finset.univ : Finset (Fin K)) using Finset.induction_on with
  | empty => simp
  | insert a s ha ih => rw [Finset.sum_insert ha, Finset.sum_insert ha, ih, EReal.coe_add]

theorem lanes_eq : Ideal.ofBits .f32 0x45800000#32 = ((4096 : ℝ) : EReal) := by
  simp [Ideal.ofBits, Ideal.ieee, -EReal.coe_mul]; norm_num

theorem guard_eq : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A lane over its row's root mean square is a number: the factor of a row with an infinite lane is zero. -/
theorem lane_real (p : Fin 4096 → EReal) (l : Fin 4096) : ∃ r : ℝ,
    p l * Ideal.rsqrt (Ideal.div (∑ x : Fin 4096, p x * p x) (Ideal.ofBits .f32 0x45800000#32) + Ideal.ofBits .f32 0x358637BD#32) = r := by
  obtain ⟨e, he, hg⟩ := guard_eq
  rw [hg, lanes_eq, Ideal.div_coe (by norm_num)]
  by_cases h : ∀ x, ∃ r : ℝ, p x = r
  · choose q hq using h
    have hS : ∑ x : Fin 4096, p x * p x = ((∑ x : Fin 4096, q x * q x : ℝ) : EReal) := by
      rw [← sum_coe]
      exact Finset.sum_congr rfl fun x _ => by rw [hq, EReal.coe_mul]
    have h0 : (0 : ℝ) ≤ ∑ x : Fin 4096, q x * q x := Finset.sum_nonneg fun x _ => mul_self_nonneg _
    have h1 : 0 < (∑ x : Fin 4096, q x * q x) * (1 / 4096) + e := by positivity
    rw [hS, hq l, ← EReal.coe_mul, ← EReal.coe_add, Ideal.rsqrt_coe, if_neg (not_lt.mpr h1.le), if_neg h1.ne', ← EReal.coe_mul]
    exact ⟨_, rfl⟩
  · push Not at h
    obtain ⟨x, hx⟩ := h
    have hxx : p x * p x = ⊤ := by
      induction hp : p x with
      | bot => exact EReal.bot_mul_bot
      | top => exact EReal.top_mul_top
      | coe r => exact absurd hp (hx r)
    have hS : ∑ x : Fin 4096, p x * p x = ⊤ :=
      top_le_iff.mp (hxx ▸ Finset.single_le_sum (f := fun x => p x * p x) (fun y _ => square_nonneg (p y)) (Finset.mem_univ x))
    rw [hS, EReal.top_mul_coe_of_pos (by norm_num), EReal.top_add_coe, Ideal.rsqrt_top, mul_zero]
    exact ⟨0, rfl⟩

theorem normed_real (p g : Fin 4096 → EReal) (hg : ∀ l, ∃ r : ℝ, g l = r) (l : Fin 4096) : ∃ r : ℝ, normed p 0x45800000#32 g l = r := by
  obtain ⟨r, hr⟩ := lane_real p l
  obtain ⟨s, hs⟩ := hg l
  exact ⟨r * s, by rw [normed, hr, hs, EReal.coe_mul]⟩

/-- A row's product with the weights' rounded part and with the rest, and the row's rest's product with the rounded part. -/
def three (h u v : Fin 4096 → EReal) : EReal := ∑ k, h k * u k + ∑ k, h k * v k + ∑ k, (h k - h k) * u k

theorem three_congr {h h' u u' v v' : Fin 4096 → EReal} (hh : ∀ k, h k = h' k) (hu : ∀ k, u k = u' k) (hv : ∀ k, v k = v' k) :
    three h u v = three h' u' v' := by
  rw [funext hh, funext hu, funext hv]

theorem rest_zero {a : EReal} (h : ∃ r : ℝ, a = r) : a - a = 0 := by
  obtain ⟨r, rfl⟩ := h
  rw [← EReal.coe_sub, sub_self, EReal.coe_zero]

theorem three_eq (h u : Fin 4096 → EReal) (hh : ∀ k, ∃ r : ℝ, h k = r) (hu : ∀ k, ∃ r : ℝ, u k = r) :
    three h u (fun k => u k - u k) = ∑ k, h k * u k := by
  unfold three
  simp only [rest_zero (hh _), rest_zero (hu _), mul_zero, zero_mul, Finset.sum_const_zero, add_zero]

/-! ## The launch -/

/-- Rows over their root mean squares, times the gain. -/
def norms {R : ℕ} (a : FVec Ideal ⟨2, ![R, 4096]⟩ .f32) (g : FVec Ideal S1x4096 .f32) : FVec Ideal ⟨2, ![R, 4096]⟩ .f32 := fun j =>
  normed (fun l : Fin 4096 => a (ix2 (j 0) l)) 0x45800000#32 (fun l => g (ix2 0 l)) (j 1)

/-- The rows' products with the two parts of the weights. -/
def logits {R : ℕ} (a : FVec Ideal ⟨2, ![R, 4096]⟩ .f32) (g : FVec Ideal S1x4096 .f32) (u v : FVec Ideal S4096x128 .bf16) :
    FVec Ideal ⟨2, ![R, 128]⟩ .f32 := fun j =>
  three (normed (fun l : Fin 4096 => a (ix2 (j 0) l)) 0x45800000#32 (fun l => g (ix2 0 l)))
    (fun k => u (ix2 k (j 1))) (fun k => v (ix2 k (j 1)))

/-- What both programs compute of a batch: its normed tokens times the router's weights. -/
def logitsOf {T n : ℕ} (x : FVec Ideal ⟨3, ![2, T, 4096]⟩ .f32) (g : FVec Ideal S4096 .f32) (w : FVec Ideal ⟨2, ![4096, n]⟩ .f32) :
    FVec Ideal ⟨3, ![2, T, n]⟩ .f32 := fun j =>
  ∑ k : Fin 4096, normed (fun l : Fin 4096 => x (ix3 (j 0) (j 1) l)) 0x45800000#32 (fun l => g (ix1 l)) k * (w (ix2 k (j 2)) : EReal)

/-- The weights side by side, with columns of zeros up to 128; their rounded part and the rest. -/
def weights (w : FVec Ideal S4096x8 .f32) (u : FVec Ideal S4096x64 .f32) : FVec Ideal S4096x128 .f32 :=
  pad S4096x128 ![0, 0] ![0, 56] ![0, 0]
    (concatenate S4096x72 1 [⟨S4096x8, w⟩, ⟨S4096x64, u⟩] concatenates_S4096x8_S4096x64_S4096x72_d1)
    (sitofp .f32 (constantI S_ 32 0#32)) pads_S4096x72_S4096x128_000_0560 h_S_
def high (w : FVec Ideal S4096x8 .f32) (u : FVec Ideal S4096x64 .f32) : FVec Ideal S4096x128 .bf16 :=
  truncf .bf16 (weights w u) bitsLt_bf16_f32
def low (w : FVec Ideal S4096x8 .f32) (u : FVec Ideal S4096x64 .f32) : FVec Ideal S4096x128 .bf16 :=
  truncf .bf16 (subf (weights w u) (extf .f32 (high w u) bitsLt_bf16_f32)) bitsLt_bf16_f32

theorem weights_group (w : FVec Ideal S4096x8 .f32) (u : FVec Ideal S4096x64 .f32) (k : Fin 4096) (n : Fin 8) (n' : Fin 128)
    (h : n'.val = 0 + n.val) : (weights w u (ix2 k n') : EReal) = w (ix2 k n) := by
  refine (pad_apply_of_inside _ _ _ _ _ pads_S4096x72_S4096x128_000_0560 _ _ (ix2 k ⟨n.val, by omega⟩) fun a => ?_).trans
    (concatenate_pair_apply_left (t := S4096x72) (s₁ := S4096x8) (s₂ := S4096x64) (1 : Fin 2) w u concatenates_S4096x8_S4096x64_S4096x72_d1
      (ix2 k ⟨n.val, by omega⟩) rfl (ix2 k n) fun a => ?_)
  · match a with
    | ⟨0, _⟩ => show k.val = 0 + k.val * 1; omega
    | ⟨1, _⟩ => show n'.val = 0 + n.val * 1; omega
  · match a with
    | ⟨0, _⟩ => rfl
    | ⟨1, _⟩ => rfl

theorem weights_expert (w : FVec Ideal S4096x8 .f32) (u : FVec Ideal S4096x64 .f32) (k : Fin 4096) (n : Fin 64) (n' : Fin 128)
    (h : n'.val = 8 + n.val) : (weights w u (ix2 k n') : EReal) = u (ix2 k n) := by
  refine (pad_apply_of_inside _ _ _ _ _ pads_S4096x72_S4096x128_000_0560 _ _ (ix2 k ⟨8 + n.val, by omega⟩) fun a => ?_).trans
    (concatenate_pair_apply_right (t := S4096x72) (s₁ := S4096x8) (s₂ := S4096x64) (1 : Fin 2) w u concatenates_S4096x8_S4096x64_S4096x72_d1
      (ix2 k ⟨8 + n.val, by omega⟩) rfl rfl (ix2 k n) (fun a ha => ?_) ?_)
  · match a with
    | ⟨0, _⟩ => show k.val = 0 + k.val * 1; omega
    | ⟨1, _⟩ => show n'.val = 0 + (8 + n.val) * 1; omega
  · match a, ha with
    | ⟨0, _⟩, _ => rfl
    | ⟨1, _⟩, ha => exact absurd rfl ha
  · show n.val + 8 = 8 + n.val
    omega

theorem block_norm (x0 : FVec Ideal S256x4096 .f32) (x1 : FVec Ideal S1x4096 .f32) (x2 x3 : FVec Ideal S4096x128 .bf16) (r : Fin 256)
    (l : Fin 4096) : (out0_4 (F := Ideal) x0 x1 x2 x3 (ix2 r l) : EReal) = norms x0 x1 (ix2 r l) := by
  frame_out
  pointwise [k0_pay1, norms, normed]

theorem block_logit (x0 : FVec Ideal S256x4096 .f32) (x1 : FVec Ideal S1x4096 .f32) (x2 x3 : FVec Ideal S4096x128 .bf16) (r : Fin 256)
    (l : Fin 128) : (out0_5 (F := Ideal) x0 x1 x2 x3 (ix2 r l) : EReal) = logits x0 x1 x2 x3 (ix2 r l) := by
  frame_out
  pointwise [k0_pay2, k0_pay1, logits, three, normed]

theorem idx0 : ∀ t : Fin grid0.N, win0_0.index t = ![(grid0.coords t 0).val, 0] := by decide +kernel
theorem idx4 : ∀ t : Fin grid0.N, win0_4.index t = ![(grid0.coords t 0).val, 0] := by decide +kernel
theorem idx5 : ∀ t : Fin grid0.N, win0_5.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel

variable (m : (ℓ : Loc nD τ sig) → Buf (Elt Ideal) ℓ)

theorem V_tokens (c : Dev nD) : V m c main_v4 = tokens (m ((c.tc : Thread nD τ).loc main_arg0)) (m ((c.tc : Thread nD τ).loc main_arg1)) := by
  simp only [V, V0, hostOps0, hostOps0_1, hostOps0_2, hostOps0_3, hostOps0_4, hostOps0_5, hostOps0_6,
    List.flatten_cons, List.flatten_nil, List.append_nil, List.cons_append, List.nil_append]
  after_results <;> rfl

theorem tokens_at (c : Dev nD) (t : Fin cfg0.N) (r : Fin 256) (R : Fin 25600) (l : Fin 4096)
    (hr : R.val = (grid0.coords t 0).val * 256 + r.val) :
    (iblk m c 0 t (ix2 r l) : EReal) = (tokens (m ((c.tc : Thread nD τ).loc main_arg0)) (m ((c.tc : Thread nD τ).loc main_arg1))) (ix2 R l) := by
  rw [← V_tokens]
  unfold iblk
  rw [View.read_apply]
  show V m c main_v4 _ = V m c main_v4 _
  congr 1
  funext a
  apply Fin.ext
  match a with
  | ⟨0, _⟩ =>
    show win0_0.index t 0 * 256 + 1 * r.val = R.val
    rw [idx0, hr]
    show (grid0.coords t 0).val * 256 + 1 * r.val = _
    omega
  | ⟨1, _⟩ =>
    show win0_0.index t 1 * 4096 + 1 * l.val = l.val
    rw [idx0]
    show 0 * 4096 + 1 * l.val = l.val
    omega

theorem V_gain (c : Dev nD) : V m c main_v11 = shapeCast S1x4096 (m ((c.tc : Thread nD τ).loc main_arg2)) shapeCasts_S4096_S1x4096 := by
  simp only [V, V0, hostOps0, hostOps0_1, hostOps0_2, hostOps0_3, hostOps0_4, hostOps0_5, hostOps0_6,
    List.flatten_cons, List.flatten_nil, List.append_nil, List.cons_append, List.nil_append]
  after_results <;> rfl

theorem gain_at (c : Dev nD) (t : Fin cfg0.N) (r : Fin 1) (l : Fin 4096)
    :
    (iblk m c 1 t (ix2 r l) : EReal) = (shapeCast S1x4096 (m ((c.tc : Thread nD τ).loc main_arg2)) shapeCasts_S4096_S1x4096) (ix2 r l) := by
  rw [← V_gain]
  unfold iblk
  rw [View.read_apply]
  show V m c main_v11 _ = V m c main_v11 _
  congr 1
  funext a
  apply Fin.ext
  match a with
  | ⟨0, _⟩ =>
    show win0_1.index t 0 * 1 + 1 * r.val = r.val
    rw [idx1]
    show 0 * 1 + 1 * r.val = r.val
    omega
  | ⟨1, _⟩ =>
    show win0_1.index t 1 * 4096 + 1 * l.val = l.val
    rw [idx1]
    show 0 * 4096 + 1 * l.val = l.val
    omega

theorem V_high (c : Dev nD) : V m c main_v7 = high (m ((c.tc : Thread nD τ).loc main_arg3)) (m ((c.tc : Thread nD τ).loc main_arg4)) := by
  simp only [V, V0, hostOps0, hostOps0_1, hostOps0_2, hostOps0_3, hostOps0_4, hostOps0_5, hostOps0_6,
    List.flatten_cons, List.flatten_nil, List.append_nil, List.cons_append, List.nil_append]
  after_results <;> rfl

theorem high_at (c : Dev nD) (t : Fin cfg0.N) (r : Fin 4096) (l : Fin 128)
    :
    (iblk m c 2 t (ix2 r l) : EReal) = (high (m ((c.tc : Thread nD τ).loc main_arg3)) (m ((c.tc : Thread nD τ).loc main_arg4))) (ix2 r l) := by
  rw [← V_high]
  unfold iblk
  rw [View.read_apply]
  show V m c main_v7 _ = V m c main_v7 _
  congr 1
  funext a
  apply Fin.ext
  match a with
  | ⟨0, _⟩ =>
    show win0_2.index t 0 * 4096 + 1 * r.val = r.val
    rw [idx2]
    show 0 * 4096 + 1 * r.val = r.val
    omega
  | ⟨1, _⟩ =>
    show win0_2.index t 1 * 128 + 1 * l.val = l.val
    rw [idx2]
    show 0 * 128 + 1 * l.val = l.val
    omega

theorem V_low (c : Dev nD) : V m c main_v10 = low (m ((c.tc : Thread nD τ).loc main_arg3)) (m ((c.tc : Thread nD τ).loc main_arg4)) := by
  simp only [V, V0, hostOps0, hostOps0_1, hostOps0_2, hostOps0_3, hostOps0_4, hostOps0_5, hostOps0_6,
    List.flatten_cons, List.flatten_nil, List.append_nil, List.cons_append, List.nil_append]
  after_results <;> rfl

theorem low_at (c : Dev nD) (t : Fin cfg0.N) (r : Fin 4096) (l : Fin 128)
    :
    (iblk m c 3 t (ix2 r l) : EReal) = (low (m ((c.tc : Thread nD τ).loc main_arg3)) (m ((c.tc : Thread nD τ).loc main_arg4))) (ix2 r l) := by
  rw [← V_low]
  unfold iblk
  rw [View.read_apply]
  show V m c main_v10 _ = V m c main_v10 _
  congr 1
  funext a
  apply Fin.ext
  match a with
  | ⟨0, _⟩ =>
    show win0_3.index t 0 * 4096 + 1 * r.val = r.val
    rw [idx3]
    show 0 * 4096 + 1 * r.val = r.val
    omega
  | ⟨1, _⟩ =>
    show win0_3.index t 1 * 128 + 1 * l.val = l.val
    rw [idx3]
    show 0 * 128 + 1 * l.val = l.val
    omega

/-- The launch's normed rows. -/
theorem arr_norm (c : Dev nD) : (dats m 0 c).arrAt 4 cfg0.N = norms (tokens (m ((c.tc : Thread nD τ).loc main_arg0)) (m ((c.tc : Thread nD τ).loc main_arg1))) (shapeCast S1x4096 (m ((c.tc : Thread nD τ).loc main_arg2)) shapeCasts_S4096_S1x4096) := by
  refine (dats m 0 c).arrAt_eq_of_covers 4 _ (by decide +kernel) fun t hf y => ?_
  blk_simp
  rw [after0_4]
  refine ((congrArg _ (Lay.eq_ix2 (p := 256) (q := 4096) y)).trans (block_norm _ _ _ _ (y 0) (y 1))).trans ?_
  have e0 : ((win0_4.blk t).view.emb y 0).val = (grid0.coords t 0).val * 256 + (y 0).val := by
    show win0_4.index t 0 * 256 + 1 * (y 0).val = _
    rw [idx4]
    show (grid0.coords t 0).val * 256 + 1 * (y 0).val = _
    rw [one_mul]
  have e1 : ((win0_4.blk t).view.emb y 1).val = (y 1).val := by
    show win0_4.index t 1 * 4096 + 1 * (y 1).val = _
    rw [idx4]
    show 0 * 4096 + 1 * (y 1).val = _
    omega
  exact normed_congr (fun l => tokens_at m c t _ _ l e0) (fun l => gain_at m c t 0 l) (Fin.ext e1.symm)

/-- The launch's logits. -/
theorem arr_logit (c : Dev nD) : (dats m 0 c).arrAt 5 cfg0.N = logits (tokens (m ((c.tc : Thread nD τ).loc main_arg0)) (m ((c.tc : Thread nD τ).loc main_arg1))) (shapeCast S1x4096 (m ((c.tc : Thread nD τ).loc main_arg2)) shapeCasts_S4096_S1x4096) (high (m ((c.tc : Thread nD τ).loc main_arg3)) (m ((c.tc : Thread nD τ).loc main_arg4))) (low (m ((c.tc : Thread nD τ).loc main_arg3)) (m ((c.tc : Thread nD τ).loc main_arg4))) := by
  refine (dats m 0 c).arrAt_eq_of_covers 5 _ (by decide +kernel) fun t hf y => ?_
  blk_simp
  rw [after0_5]
  refine ((congrArg _ (Lay.eq_ix2 (p := 256) (q := 128) y)).trans (block_logit _ _ _ _ (y 0) (y 1))).trans ?_
  have e0 : ((win0_5.blk t).view.emb y 0).val = (grid0.coords t 0).val * 256 + (y 0).val := by
    show win0_5.index t 0 * 256 + 1 * (y 0).val = _
    rw [idx5]
    show (grid0.coords t 0).val * 256 + 1 * (y 0).val = _
    rw [one_mul]
  have e1 : ((win0_5.blk t).view.emb y 1).val = (y 1).val := by
    show win0_5.index t 1 * 128 + 1 * (y 1).val = _
    rw [idx5]
    show 0 * 128 + 1 * (y 1).val = _
    omega
  have e : (y 1 : Fin 128) = (win0_5.blk t).view.emb y 1 := Fin.ext e1.symm
  exact three_congr (fun k => normed_congr (fun l => tokens_at m c t _ _ l e0) (fun l => gain_at m c t 0 l) rfl)
    (fun k => (high_at m c t k _).trans (congrArg (fun n : Fin 128 => ((high (m ((c.tc : Thread nD τ).loc main_arg3)) (m ((c.tc : Thread nD τ).loc main_arg4))) (ix2 k n) : EReal)) e))
    (fun k => (low_at m c t k _).trans (congrArg (fun n : Fin 128 => ((low (m ((c.tc : Thread nD τ).loc main_arg3)) (m ((c.tc : Thread nD τ).loc main_arg4))) (ix2 k n) : EReal)) e))

/-- The launch's array among the values that the last host lines read. -/
theorem launched_norm (c : Dev nD) :
    Pipeline.withArrays (cfgs 0).spec c (V0 m c) (fun w => (dats m 0 c).arrAt w (cfgs 0).N) (Proc.devRef .tc main_v12_0)
      = norms (tokens (m ((c.tc : Thread nD τ).loc main_arg0)) (m ((c.tc : Thread nD τ).loc main_arg1))) (shapeCast S1x4096 (m ((c.tc : Thread nD τ).loc main_arg2)) shapeCasts_S4096_S1x4096) :=
  (Pipeline.withArrays_arr spec0 winFacts0.arr_inj c (V0 m c) (fun w => (dats m 0 c).arrAt w cfg0.N) 4).trans (arr_norm m c)

/-- The launch's array among the values that the last host lines read. -/
theorem launched_logit (c : Dev nD) :
    Pipeline.withArrays (cfgs 0).spec c (V0 m c) (fun w => (dats m 0 c).arrAt w (cfgs 0).N) (Proc.devRef .tc main_v12_1)
      = logits (tokens (m ((c.tc : Thread nD τ).loc main_arg0)) (m ((c.tc : Thread nD τ).loc main_arg1))) (shapeCast S1x4096 (m ((c.tc : Thread nD τ).loc main_arg2)) shapeCasts_S4096_S1x4096) (high (m ((c.tc : Thread nD τ).loc main_arg3)) (m ((c.tc : Thread nD τ).loc main_arg4))) (low (m ((c.tc : Thread nD τ).loc main_arg3)) (m ((c.tc : Thread nD τ).loc main_arg4))) :=
  (Pipeline.withArrays_arr spec0 winFacts0.arr_inj c (V0 m c) (fun w => (dats m 0 c).arrAt w cfg0.N) 5).trans (arr_logit m c)

/-- The norms of the prompt batch. -/
theorem norm_prompt (c : Dev nD) :
    Pipeline.afterTail₀ cfgs (dats m) 0 (V0 m) [hostOps1] c main_v15 = normOf (m ((c.tc : Thread nD τ).loc main_arg0)) (m ((c.tc : Thread nD τ).loc main_arg2)) := by
  unfold Pipeline.afterTail₀
  simp only [hostOps1, List.flatten_cons, List.flatten_nil, List.append_nil, List.cons_append, List.nil_append]
  after_results
  rw [launched_norm]
  funext y
  rw [Lay.eq_ix3 (p := 2) (q := 4112) (r := 4096) y]
  refine (cut_prompt _ _ _ _ _ _ _).trans ?_
  exact normed_congr (fun l => tokens_prompt_apply _ _ _ _ l) (fun l => gain_apply _ l) rfl

/-- The norms of the sample batch. -/
theorem norm_sample (c : Dev nD) :
    Pipeline.afterTail₀ cfgs (dats m) 0 (V0 m) [hostOps1] c main_v18 = normOf (m ((c.tc : Thread nD τ).loc main_arg1)) (m ((c.tc : Thread nD τ).loc main_arg2)) := by
  unfold Pipeline.afterTail₀
  simp only [hostOps1, List.flatten_cons, List.flatten_nil, List.append_nil, List.cons_append, List.nil_append]
  after_results
  rw [launched_norm]
  funext y
  rw [Lay.eq_ix3 (p := 2) (q := 8208) (r := 4096) y]
  refine (cut_sample _ _ _ _ _ _ _).trans ?_
  exact normed_congr (fun l => tokens_sample_apply _ _ _ _ l) (fun l => gain_apply _ l) rfl

theorem logit_group_prompt (x : FVec Ideal S2x4112x4096 .f32) (y : FVec Ideal S2x8208x4096 .f32) (g : FVec Ideal S4096 .f32)
    (w : FVec Ideal S4096x8 .f32) (u : FVec Ideal S4096x64 .f32) (hg : ∀ i, ∃ r : ℝ, g i = r) (hw : ∀ i, ∃ r : ℝ, w i = r)
    (b : Fin 2) (i : Fin 4112) (n : Fin 8) (n' : Fin 128) (h : n'.val = 0 + n.val) :
    (logits (tokens x y) (shapeCast S1x4096 g shapeCasts_S4096_S1x4096) (high w u) (low w u) (ix2 (promptAt b i) n') : EReal) =
      logitsOf x g w (ix3 b i n) := by
  refine (three_congr (fun k => normed_congr (fun l => tokens_prompt_apply x y b i l) (fun l => gain_apply g l) rfl)
    (fun k => weights_group w u k n n' h) (v' := fun k => (w (ix2 k n) : EReal) - w (ix2 k n)) fun k => ?_).trans
    (three_eq _ _ (fun k => normed_real _ _ (fun l => hg _) k) (fun k => hw _))
  show (weights w u (ix2 k n') : EReal) - weights w u (ix2 k n') = _
  rw [weights_group w u k n n' h]

theorem logit_expert_prompt (x : FVec Ideal S2x4112x4096 .f32) (y : FVec Ideal S2x8208x4096 .f32) (g : FVec Ideal S4096 .f32)
    (w : FVec Ideal S4096x8 .f32) (u : FVec Ideal S4096x64 .f32) (hg : ∀ i, ∃ r : ℝ, g i = r) (hw : ∀ i, ∃ r : ℝ, u i = r)
    (b : Fin 2) (i : Fin 4112) (n : Fin 64) (n' : Fin 128) (h : n'.val = 8 + n.val) :
    (logits (tokens x y) (shapeCast S1x4096 g shapeCasts_S4096_S1x4096) (high w u) (low w u) (ix2 (promptAt b i) n') : EReal) =
      logitsOf x g u (ix3 b i n) := by
  refine (three_congr (fun k => normed_congr (fun l => tokens_prompt_apply x y b i l) (fun l => gain_apply g l) rfl)
    (fun k => weights_expert w u k n n' h) (v' := fun k => (u (ix2 k n) : EReal) - u (ix2 k n)) fun k => ?_).trans
    (three_eq _ _ (fun k => normed_real _ _ (fun l => hg _) k) (fun k => hw _))
  show (weights w u (ix2 k n') : EReal) - weights w u (ix2 k n') = _
  rw [weights_expert w u k n n' h]

theorem logit_group_sample (x : FVec Ideal S2x4112x4096 .f32) (y : FVec Ideal S2x8208x4096 .f32) (g : FVec Ideal S4096 .f32)
    (w : FVec Ideal S4096x8 .f32) (u : FVec Ideal S4096x64 .f32) (hg : ∀ i, ∃ r : ℝ, g i = r) (hw : ∀ i, ∃ r : ℝ, w i = r)
    (b : Fin 2) (i : Fin 8208) (n : Fin 8) (n' : Fin 128) (h : n'.val = 0 + n.val) :
    (logits (tokens x y) (shapeCast S1x4096 g shapeCasts_S4096_S1x4096) (high w u) (low w u) (ix2 (sampleAt b i) n') : EReal) =
      logitsOf y g w (ix3 b i n) := by
  refine (three_congr (fun k => normed_congr (fun l => tokens_sample_apply x y b i l) (fun l => gain_apply g l) rfl)
    (fun k => weights_group w u k n n' h) (v' := fun k => (w (ix2 k n) : EReal) - w (ix2 k n)) fun k => ?_).trans
    (three_eq _ _ (fun k => normed_real _ _ (fun l => hg _) k) (fun k => hw _))
  show (weights w u (ix2 k n') : EReal) - weights w u (ix2 k n') = _
  rw [weights_group w u k n n' h]

theorem logit_expert_sample (x : FVec Ideal S2x4112x4096 .f32) (y : FVec Ideal S2x8208x4096 .f32) (g : FVec Ideal S4096 .f32)
    (w : FVec Ideal S4096x8 .f32) (u : FVec Ideal S4096x64 .f32) (hg : ∀ i, ∃ r : ℝ, g i = r) (hw : ∀ i, ∃ r : ℝ, u i = r)
    (b : Fin 2) (i : Fin 8208) (n : Fin 64) (n' : Fin 128) (h : n'.val = 8 + n.val) :
    (logits (tokens x y) (shapeCast S1x4096 g shapeCasts_S4096_S1x4096) (high w u) (low w u) (ix2 (sampleAt b i) n') : EReal) =
      logitsOf y g u (ix3 b i n) := by
  refine (three_congr (fun k => normed_congr (fun l => tokens_sample_apply x y b i l) (fun l => gain_apply g l) rfl)
    (fun k => weights_expert w u k n n' h) (v' := fun k => (u (ix2 k n) : EReal) - u (ix2 k n)) fun k => ?_).trans
    (three_eq _ _ (fun k => normed_real _ _ (fun l => hg _) k) (fun k => hw _))
  show (weights w u (ix2 k n') : EReal) - weights w u (ix2 k n') = _
  rw [weights_expert w u k n n' h]

/-- A slice of an array's last columns. -/
theorem lanes_apply {T n o : ℕ} (x : FVec Ideal ⟨3, ![2, T, 128]⟩ .f32) (h : (⟨3, ![2, T, 128]⟩ : Shape).Slices ![0, 0, o] ⟨3, ![2, T, n]⟩)
    (b : Fin 2) (i : Fin T) (k : Fin n) (k' : Fin 128) (hk : k'.val = o + k.val) :
    (extractStridedSlice ⟨3, ![2, T, n]⟩ ![0, 0, o] x h (ix3 b i k) : EReal) = x (ix3 b i k') :=
  extractStridedSlice_apply _ _ _ _ (ix3 b i k') (fun a => by
    match a with
    | ⟨0, _⟩ => exact (Nat.zero_add _).symm
    | ⟨1, _⟩ => exact (Nat.zero_add _).symm
    | ⟨2, _⟩ => exact hk)

/-- The group logits of the prompt batch. -/
theorem group_prompt (c : Dev nD)
    (hg : ∀ i, ∃ r : ℝ, (((m ((c.tc : Thread nD τ).loc main_arg2)) : FVec Ideal S4096 .f32) i : EReal) = (r : EReal))
    (hw : ∀ i, ∃ r : ℝ, (((m ((c.tc : Thread nD τ).loc main_arg3)) : FVec Ideal S4096x8 .f32) i : EReal) = (r : EReal)) :
    Pipeline.afterTail₀ cfgs (dats m) 0 (V0 m) [hostOps1] c main_v25 = logitsOf (m ((c.tc : Thread nD τ).loc main_arg0)) (m ((c.tc : Thread nD τ).loc main_arg2)) (m ((c.tc : Thread nD τ).loc main_arg3)) := by
  unfold Pipeline.afterTail₀
  simp only [hostOps1, List.flatten_cons, List.flatten_nil, List.append_nil, List.cons_append, List.nil_append]
  after_results
  rw [launched_logit]
  funext y
  rw [Lay.eq_ix3 (p := 2) (q := 4112) (r := 8) y]
  have h2 : (y 2).val < 8 := (y 2).isLt
  refine (lanes_apply _ _ _ _ _ ⟨0 + (y 2).val, by omega⟩ rfl).trans ((cut_prompt _ _ _ _ _ _ _).trans ?_)
  exact logit_group_prompt _ _ _ _ _ hg hw _ _ _ _ rfl

/-- The group logits of the sample batch. -/
theorem group_sample (c : Dev nD)
    (hg : ∀ i, ∃ r : ℝ, (((m ((c.tc : Thread nD τ).loc main_arg2)) : FVec Ideal S4096 .f32) i : EReal) = (r : EReal))
    (hw : ∀ i, ∃ r : ℝ, (((m ((c.tc : Thread nD τ).loc main_arg3)) : FVec Ideal S4096x8 .f32) i : EReal) = (r : EReal)) :
    Pipeline.afterTail₀ cfgs (dats m) 0 (V0 m) [hostOps1] c main_v26 = logitsOf (m ((c.tc : Thread nD τ).loc main_arg1)) (m ((c.tc : Thread nD τ).loc main_arg2)) (m ((c.tc : Thread nD τ).loc main_arg3)) := by
  unfold Pipeline.afterTail₀
  simp only [hostOps1, List.flatten_cons, List.flatten_nil, List.append_nil, List.cons_append, List.nil_append]
  after_results
  rw [launched_logit]
  funext y
  rw [Lay.eq_ix3 (p := 2) (q := 8208) (r := 8) y]
  have h2 : (y 2).val < 8 := (y 2).isLt
  refine (lanes_apply _ _ _ _ _ ⟨0 + (y 2).val, by omega⟩ rfl).trans ((cut_sample _ _ _ _ _ _ _).trans ?_)
  exact logit_group_sample _ _ _ _ _ hg hw _ _ _ _ rfl

/-- The expert logits of the prompt batch. -/
theorem expert_prompt (c : Dev nD)
    (hg : ∀ i, ∃ r : ℝ, (((m ((c.tc : Thread nD τ).loc main_arg2)) : FVec Ideal S4096 .f32) i : EReal) = (r : EReal))
    (hw : ∀ i, ∃ r : ℝ, (((m ((c.tc : Thread nD τ).loc main_arg4)) : FVec Ideal S4096x64 .f32) i : EReal) = (r : EReal)) :
    Pipeline.afterTail₀ cfgs (dats m) 0 (V0 m) [hostOps1] c main_v27 = logitsOf (m ((c.tc : Thread nD τ).loc main_arg0)) (m ((c.tc : Thread nD τ).loc main_arg2)) (m ((c.tc : Thread nD τ).loc main_arg4)) := by
  unfold Pipeline.afterTail₀
  simp only [hostOps1, List.flatten_cons, List.flatten_nil, List.append_nil, List.cons_append, List.nil_append]
  after_results
  rw [launched_logit]
  funext y
  rw [Lay.eq_ix3 (p := 2) (q := 4112) (r := 64) y]
  have h2 : (y 2).val < 64 := (y 2).isLt
  refine (lanes_apply _ _ _ _ _ ⟨8 + (y 2).val, by omega⟩ rfl).trans ((cut_prompt _ _ _ _ _ _ _).trans ?_)
  exact logit_expert_prompt _ _ _ _ _ hg hw _ _ _ _ rfl

/-- The expert logits of the sample batch. -/
theorem expert_sample (c : Dev nD)
    (hg : ∀ i, ∃ r : ℝ, (((m ((c.tc : Thread nD τ).loc main_arg2)) : FVec Ideal S4096 .f32) i : EReal) = (r : EReal))
    (hw : ∀ i, ∃ r : ℝ, (((m ((c.tc : Thread nD τ).loc main_arg4)) : FVec Ideal S4096x64 .f32) i : EReal) = (r : EReal)) :
    Pipeline.afterTail₀ cfgs (dats m) 0 (V0 m) [hostOps1] c main_v28 = logitsOf (m ((c.tc : Thread nD τ).loc main_arg1)) (m ((c.tc : Thread nD τ).loc main_arg2)) (m ((c.tc : Thread nD τ).loc main_arg4)) := by
  unfold Pipeline.afterTail₀
  simp only [hostOps1, List.flatten_cons, List.flatten_nil, List.append_nil, List.cons_append, List.nil_append]
  after_results
  rw [launched_logit]
  funext y
  rw [Lay.eq_ix3 (p := 2) (q := 8208) (r := 64) y]
  have h2 : (y 2).val < 64 := (y 2).isLt
  refine (lanes_apply _ _ _ _ _ ⟨8 + (y 2).val, by omega⟩ rfl).trans ((cut_sample _ _ _ _ _ _ _).trans ?_)
  exact logit_expert_sample _ _ _ _ _ hg hw _ _ _ _ rfl

end Cert.RouterIdeal.Proof

/-! ## The reference -/

namespace Cert.RouterReferenceIdeal.Proof

open Idealize.ShloMosaic Cert.RouterReferenceIdeal Cert.RouterReferenceIdeal.Gen Cert.Lay Cert.RouterIdeal.Proof
open Cert.NormIdeal.Proof (normOf)
open Idealize.SL.Sem

/-- The reference's run leaves its arguments, and it has no semaphore. -/
theorem frame : Cert.quiescent_RouterReferenceIdeal (hRouterReferenceIdeal := Cert.RouterReferenceIdeal.Gen.facts) := fun m g _ =>
  (θ_run _ _ _).mono (fun r h => ⟨fun c => (h c).2.2.2.2.2.2, sem_eq_zero_of_no_sems (by decide) r.2⟩) (Value.run m g)

/-- The two programs' results agree. -/
theorem algebraic : Cert.algebraic_RouterIdeal_RouterReferenceIdeal_pre_numbers (hRouterIdeal := Cert.RouterIdeal.Gen.facts)
    (hRouterReferenceIdeal := Cert.RouterReferenceIdeal.Gen.facts) (hPre_numbers := Cert.Pre_numbers.Att.facts) := by
  intro m g m' g' hpre hagree
  refine ⟨fun c => normOf (m ((c.tc : Thread Cert.RouterIdeal.nD Cert.RouterIdeal.τ).loc Cert.RouterIdeal.main_arg0)) (m ((c.tc : Thread Cert.RouterIdeal.nD Cert.RouterIdeal.τ).loc Cert.RouterIdeal.main_arg2)),
    fun c => normOf (m ((c.tc : Thread Cert.RouterIdeal.nD Cert.RouterIdeal.τ).loc Cert.RouterIdeal.main_arg1)) (m ((c.tc : Thread Cert.RouterIdeal.nD Cert.RouterIdeal.τ).loc Cert.RouterIdeal.main_arg2)),
    fun c => logitsOf (m ((c.tc : Thread Cert.RouterIdeal.nD Cert.RouterIdeal.τ).loc Cert.RouterIdeal.main_arg0)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)),
    fun c => logitsOf (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)),
    fun c => logitsOf (m ((c.tc : Thread Cert.RouterIdeal.nD Cert.RouterIdeal.τ).loc Cert.RouterIdeal.main_arg0)) (m ((c.tc : Thread Cert.RouterIdeal.nD Cert.RouterIdeal.τ).loc Cert.RouterIdeal.main_arg2)) (m ((c.tc : Thread Cert.RouterIdeal.nD Cert.RouterIdeal.τ).loc Cert.RouterIdeal.main_arg4)),
    fun c => logitsOf (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg4)), ?_, ?_⟩
  · refine (θ_run _ _ _).mono (fun r hr c => ?_)
      (θ_run_and (Cert.RouterIdeal.Gen.run_main m g) (Cert.RouterIdeal.Gen.unchanged m g))
    obtain ⟨hg, hw, hu⟩ := Cert.Pre_numbers.Att.reals _ _ _ _ _ (hpre c)
    refine ⟨?_, ?_, ?_, ?_, ?_, ?_, hr.2 c⟩
    · exact ((hr.1 c).2 Cert.RouterIdeal.main_v15 (by decide)).trans (norm_prompt m c)
    · exact ((hr.1 c).2 Cert.RouterIdeal.main_v18 (by decide)).trans (norm_sample m c)
    · exact ((hr.1 c).2 Cert.RouterIdeal.main_v25 (by decide)).trans (group_prompt m c hg hw)
    · exact ((hr.1 c).2 Cert.RouterIdeal.main_v26 (by decide)).trans (group_sample m c hg hw)
    · exact ((hr.1 c).2 Cert.RouterIdeal.main_v27 (by decide)).trans (expert_prompt m c hg hu)
    · exact ((hr.1 c).2 Cert.RouterIdeal.main_v28 (by decide)).trans (expert_sample m c hg hu)
  · refine (θ_run _ _ _).mono (fun r h c => ⟨?_, ?_, ?_, ?_, ?_, ?_, (h c).2.2.2.2.2.2⟩) (Value.run m' g')
    · obtain ⟨h0, h1, h2, h3, h4⟩ := hagree c
      refine (h c).1.trans ?_
      rw [h0, h2]
      funext y
      obtain ⟨s, i, n, rfl⟩ : ∃ (s : Fin 2) (i : Fin 4112) (n : Fin 4096), y = ix3 s i n := ⟨_, _, _, Lay.eq_ix3 y⟩
      pointwise [normOf, normed]
    · obtain ⟨h0, h1, h2, h3, h4⟩ := hagree c
      refine (h c).2.1.trans ?_
      rw [h1, h2]
      funext y
      obtain ⟨s, i, n, rfl⟩ : ∃ (s : Fin 2) (i : Fin 8208) (n : Fin 4096), y = ix3 s i n := ⟨_, _, _, Lay.eq_ix3 y⟩
      pointwise [normOf, normed]
    · obtain ⟨h0, h1, h2, h3, h4⟩ := hagree c
      refine (h c).2.2.1.trans ?_
      rw [h0, h2, h3]
      funext y
      obtain ⟨s, i, n, rfl⟩ : ∃ (s : Fin 2) (i : Fin 4112) (n : Fin 8), y = ix3 s i n := ⟨_, _, _, Lay.eq_ix3 y⟩
      pointwise [logitsOf, normed]
    · obtain ⟨h0, h1, h2, h3, h4⟩ := hagree c
      refine (h c).2.2.2.1.trans ?_
      rw [h1, h2, h3]
      funext y
      obtain ⟨s, i, n, rfl⟩ : ∃ (s : Fin 2) (i : Fin 8208) (n : Fin 8), y = ix3 s i n := ⟨_, _, _, Lay.eq_ix3 y⟩
      pointwise [logitsOf, normed]
    · obtain ⟨h0, h1, h2, h3, h4⟩ := hagree c
      refine (h c).2.2.2.2.1.trans ?_
      rw [h0, h2, h4]
      funext y
      obtain ⟨s, i, n, rfl⟩ : ∃ (s : Fin 2) (i : Fin 4112) (n : Fin 64), y = ix3 s i n := ⟨_, _, _, Lay.eq_ix3 y⟩
      pointwise [logitsOf, normed]
    · obtain ⟨h0, h1, h2, h3, h4⟩ := hagree c
      refine (h c).2.2.2.2.2.1.trans ?_
      rw [h1, h2, h4]
      funext y
      obtain ⟨s, i, n, rfl⟩ : ∃ (s : Fin 2) (i : Fin 8208) (n : Fin 64), y = ix3 s i n := ⟨_, _, _, Lay.eq_ix3 y⟩
      pointwise [logitsOf, normed]

end Cert.RouterReferenceIdeal.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Tie
public import proofs.«01_k».proof.Proof.Gen.Wide
public import proofs.«01_k».proof.Proof.Gen.Wide.Frame
public import proofs.«01_k».proof.Proof.Wide
public import proofs.«01_k».proof.Proof.Gen.Out
public import proofs.«01_k».proof.Proof.Gen.Out.Frame
public import proofs.«01_k».proof.Proof.Out
public import proofs.«01_k».proof.Proof.Gen.Latent
public import proofs.«01_k».proof.Proof.Gen.Latent.Frame
public import proofs.«01_k».proof.Proof.Latent
public import proofs.«01_k».proof.Proof.Up
public import proofs.«01_k».proof.Proof.Down
public import proofs.«01_k».proof.Proof.Gen.Heads
public import proofs.«01_k».proof.Proof.Gen.Heads.Frame
public import proofs.«01_k».proof.Proof.Heads
public import proofs.«01_k».proof.Proof.Gen.Norm
public import proofs.«01_k».proof.Proof.Gen.Norm.Frame
public import proofs.«01_k».proof.Proof.Norm
public import proofs.«01_k».proof.Proof.Gen.Conv
public import proofs.«01_k».proof.Proof.Gen.Conv.Frame
public import proofs.«01_k».proof.Proof.Conv
public import proofs.«01_k».proof.Proof.Gen.Router
public import proofs.«01_k».proof.Proof.Gen.Router.Frame
public import proofs.«01_k».proof.Proof.Router
public import Idealize.ShloMosaic.Adequacy
public import Idealize.ShloMosaic.Init
public import Idealize.ShloMosaic.Lib.Quiescent

@[expose] public section

noncomputable section

namespace Cert.Proof

open Idealize.ShloMosaic Idealize.SL.Sem

/-- The reference's run leaves its arguments, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

/-- The two programs' results agree. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Att.facts) := by
  intro m g m' g' hpre hagree
  refine ⟨fun c => Cert.ReferenceIdeal.Att.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r hr c => ⟨?_, hr.2 c⟩)
      (θ_run_and (Cert.KernelIdeal.Gen.run_main m g) (Cert.KernelIdeal.Gen.unchanged m g))
    have h := hr.1
    obtain ⟨⟨Q, hQ⟩, K, hK⟩ := Cert.Pre_finite.Att.reals _ _ _ (hpre c)
    obtain ⟨s, hs⟩ := Cert.Att.scale_real
    have e := (h c).2 Cert.KernelIdeal.main_v13 (by decide)
    rw [e, Cert.KernelIdeal.Att.final m c (fun b i h j => Cert.Att.padScore_ne_top hQ hK hs b i h j)]
    exact Cert.Att.results_eq hQ hK hs _
  · refine (θ_run _ _ _).mono (fun r h c => ⟨?_, (h c).2⟩) (Cert.ReferenceIdeal.Value.run m' g')
    obtain ⟨h0, h1, h2⟩ := hagree c
    refine (h c).1.trans ?_
    rw [h0, h1, h2]
    rfl

theorem claim : Cert.Claim :=
  ⟨Cert.Kernel.Gen.facts,
    Cert.KernelIdeal.Gen.facts,
    Cert.ReferenceIdeal.Gen.facts,
    Cert.Wide.Gen.facts,
    Cert.WideIdeal.Gen.facts,
    Cert.WideReferenceIdeal.Gen.facts,
    Cert.Out.Gen.facts,
    Cert.OutIdeal.Gen.facts,
    Cert.OutReferenceIdeal.Gen.facts,
    Cert.Latent.Gen.facts,
    Cert.LatentIdeal.Gen.facts,
    Cert.LatentReferenceIdeal.Gen.facts,
    Cert.Up.Gen.facts,
    Cert.UpIdeal.Gen.facts,
    Cert.UpReferenceIdeal.Gen.facts,
    Cert.Down.Gen.facts,
    Cert.DownIdeal.Gen.facts,
    Cert.DownReferenceIdeal.Gen.facts,
    Cert.Heads.Gen.facts,
    Cert.HeadsIdeal.Gen.facts,
    Cert.HeadsReferenceIdeal.Gen.facts,
    Cert.Norm.Gen.facts,
    Cert.NormIdeal.Gen.facts,
    Cert.NormReferenceIdeal.Gen.facts,
    Cert.Conv.Gen.facts,
    Cert.ConvIdeal.Gen.facts,
    Cert.ConvReferenceIdeal.Gen.facts,
    Cert.Router.Gen.facts,
    Cert.RouterIdeal.Gen.facts,
    Cert.RouterReferenceIdeal.Gen.facts,
    Cert.Pre_finite.Att.facts,
    Cert.Experts.up_facts,
    Cert.Experts.down_facts,
    Cert.Pre_numbers.Att.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Wide.Gen.frame m g,
    fun m g _ => Cert.WideIdeal.Gen.frame m g,
    Cert.WideReferenceIdeal.Proof.frame,
    fun m g _ => Cert.Out.Gen.frame m g,
    fun m g _ => Cert.OutIdeal.Gen.frame m g,
    Cert.OutReferenceIdeal.Proof.frame,
    fun m g _ => Cert.Latent.Gen.frame m g,
    fun m g _ => Cert.LatentIdeal.Gen.frame m g,
    Cert.LatentReferenceIdeal.Proof.frame,
    Cert.Up.Proof.frame,
    Cert.UpIdeal.Proof.frame,
    Cert.UpReferenceIdeal.Proof.frame,
    fun m g _ => Cert.UpReferenceIdeal.Proof.frame m g trivial,
    Cert.Down.Proof.frame,
    Cert.DownIdeal.Proof.frame,
    Cert.DownReferenceIdeal.Proof.frame,
    fun m g _ => Cert.DownReferenceIdeal.Proof.frame m g trivial,
    fun m g _ => Cert.Heads.Gen.frame m g,
    fun m g _ => Cert.HeadsIdeal.Gen.frame m g,
    Cert.HeadsReferenceIdeal.Proof.frame,
    fun m g _ => Cert.Norm.Gen.frame m g,
    fun m g _ => Cert.NormIdeal.Gen.frame m g,
    Cert.NormReferenceIdeal.Proof.frame,
    fun m g _ => Cert.Conv.Gen.frame m g,
    fun m g _ => Cert.ConvIdeal.Gen.frame m g,
    Cert.ConvReferenceIdeal.Proof.frame,
    fun m g _ => Cert.Router.Gen.frame m g,
    fun m g _ => Cert.RouterIdeal.Gen.frame m g,
    fun m g _ => Cert.RouterIdeal.Gen.frame m g,
    Cert.RouterReferenceIdeal.Proof.frame,
    fun m g _ => Cert.RouterReferenceIdeal.Proof.frame m g trivial,
    IdealRules.named_const.statement Cert.KernelIdeal.κ "mask" .f32 0xF149F2CA#32 ⊥ rfl,
    algebraic,
    trivial,
    Cert.WideReferenceIdeal.Proof.algebraic,
    trivial,
    Cert.OutReferenceIdeal.Proof.algebraic,
    trivial,
    Cert.LatentReferenceIdeal.Proof.algebraic,
    trivial,
    Cert.UpReferenceIdeal.Proof.algebraic,
    trivial,
    Cert.DownReferenceIdeal.Proof.algebraic,
    Cert.HeadsIdeal.Proof.preserves,
    Cert.HeadsReferenceIdeal.Proof.algebraic,
    trivial,
    Cert.NormReferenceIdeal.Proof.algebraic,
    trivial,
    Cert.ConvReferenceIdeal.Proof.algebraic,
    trivial,
    Cert.RouterReferenceIdeal.Proof.algebraic⟩

end Cert.Proof

end
